-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v101_0)) (v1 : (c : Dev Cert.KernelIdeal.nD) → Buf (Elt Ideal) ((c.tc : Thread Cert.KernelIdeal.nD Cert.KernelIdeal.τ).loc Cert.KernelIdeal.main_v101_1)) (v2 : (c : Dev Cert.KernelIdeal.nD) → Buf (Elt Ideal) ((c.tc : Thread Cert.KernelIdeal.nD Cert.KernelIdeal.τ).loc Cert.KernelIdeal.main_v101_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101_0) = v0 c
          ∧ r.2.mem ((c.tc : Thread Cert.KernelIdeal.nD Cert.KernelIdeal.τ).loc Cert.KernelIdeal.main_v101_1) = v1 c
          ∧ r.2.mem ((c.tc : Thread Cert.KernelIdeal.nD Cert.KernelIdeal.τ).loc Cert.KernelIdeal.main_v101_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_v150) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v17)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v15)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S4096x4096 : Shape := ⟨2, ![4096, 4096]⟩
abbrev S4096x1024 : Shape := ⟨2, ![4096, 1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x4096 .f32) (main_arg1 : FVec F S4096x1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x4096 : Shape := ⟨2, ![4096, 4096]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S1x4096x4096 : Shape := ⟨3, ![1, 4096, 4096]⟩
abbrev S3x4096x4096 : Shape := ⟨3, ![3, 4096, 4096]⟩
abbrev S3x1x4096x4096 : Shape := ⟨4, ![3, 1, 4096, 4096]⟩
abbrev S3x8x4096x4096 : Shape := ⟨4, ![3, 8, 4096, 4096]⟩
abbrev S3x8x4096 : Shape := ⟨3, ![3, 8, 4096]⟩
abbrev S3x8x4096x1 : Shape := ⟨4, ![3, 8, 4096, 1]⟩
abbrev S8x128x3x4096 : Shape := ⟨4, ![8, 128, 3, 4096]⟩
abbrev S3x4096x8x128 : Shape := ⟨4, ![3, 4096, 8, 128]⟩
abbrev S8x4096 : Shape := ⟨2, ![8, 4096]⟩
abbrev S1x8x4096 : Shape := ⟨3, ![1, 8, 4096]⟩
abbrev S3x4096x8 : Shape := ⟨3, ![3, 4096, 8]⟩
abbrev S3x4096x8x1 : Shape := ⟨4, ![3, 4096, 8, 1]⟩
abbrev S4096x8 : Shape := ⟨2, ![4096, 8]⟩
abbrev S4096x8x1 : Shape := ⟨3, ![4096, 8, 1]⟩
abbrev S4096x128 : Shape := ⟨2, ![4096, 128]⟩
abbrev S6144x128 : Shape := ⟨2, ![6144, 128]⟩
abbrev S2048x128 : Shape := ⟨2, ![2048, 128]⟩
abbrev S128x128 : Shape := ⟨2, ![128, 128]⟩
abbrev S256x256 : Shape := ⟨2, ![256, 256]⟩
abbrev S256x128 : Shape := ⟨2, ![256, 128]⟩
abbrev S256x1 : Shape := ⟨2, ![256, 1]⟩
abbrev S128x256 : Shape := ⟨2, ![128, 256]⟩
abbrev S128x1 : Shape := ⟨2, ![128, 1]⟩

abbrev nBuf : Space → Nat
  | .hbm => 129
  | .vmem => 23
  | .smem => 0
  | _ => 0

abbrev hbmTy0_0 (i : Nat) : BufTy := match i % 128 with
  | 0 => ⟨S4096x4096, .f32⟩
  | 1 => ⟨S4096x1024, .f32⟩
  | 2 => ⟨S4096x1024, .f32⟩
  | 3 => ⟨S4096x8x128, .f32⟩
  | 4 => ⟨S4096x1024, .f32⟩
  | 5 => ⟨S4096x8x128, .f32⟩
  | 6 => ⟨S4096x1024, .f32⟩
  | 7 => ⟨S4096x8x128, .f32⟩
  | 8 => ⟨S8x4096x4096, .f32⟩
  | 9 => ⟨S_, .f32⟩
  | 10 => ⟨S8x4096x4096, .f32⟩
  | 11 => ⟨S8x4096x4096, .f32⟩
  | 12 => ⟨S4096x4096, .i32⟩
  | 13 => ⟨S4096x4096, .i32⟩
  | 14 => ⟨S4096x4096, .i32⟩
  | 15 => ⟨S_, .i32⟩
  | 16 => ⟨S4096x4096, .i32⟩
  | 17 => ⟨S4096x4096, .i1⟩
  | 18 => ⟨S_, .i32⟩
  | 19 => ⟨S4096x4096, .i32⟩
  | 20 => ⟨S4096x4096, .i1⟩
  | 21 => ⟨S4096x4096, .i1⟩
  | 22 => ⟨S_, .i32⟩
  | 23 => ⟨S4096x4096, .i32⟩
  | 24 => ⟨S4096x4096, .i32⟩
  | 25 => ⟨S_, .i32⟩
  | 26 => ⟨S4096x4096, .i32⟩
  | 27 => ⟨S4096x4096, .i1⟩
  | 28 => ⟨S4096x4096, .i1⟩
  | 29 => ⟨S_, .i32⟩
  | 30 => ⟨S4096x4096, .i32⟩
  | 31 => ⟨S4096x4096, .i1⟩
  | 32 => ⟨S_, .i32⟩
  | 33 => ⟨S4096x4096, .i32⟩
  | 34 => ⟨S4096x4096, .i1⟩
  | 35 => ⟨S4096x4096, .i1⟩
  | 36 => ⟨S_, .i32⟩
  | 37 => ⟨S4096x4096, .i32⟩
  | 38 => ⟨S4096x4096, .i32⟩
  | 39 => ⟨S_, .i32⟩
  | 40 => ⟨S4096x4096, .i32⟩
  | 41 => ⟨S4096x4096, .i1⟩
  | 42 => ⟨S4096x4096, .i1⟩
  | 43 => ⟨S_, .i32⟩
  | 44 => ⟨S4096x4096, .i32⟩
  | 45 => ⟨S4096x4096, .i1⟩
  | 46 => ⟨S_, .i32⟩
  | 47 => ⟨S4096x4096, .i32⟩
  | 48 => ⟨S4096x4096, .i1⟩
  | 49 => ⟨S4096x4096, .i1⟩
  | 50 => ⟨S_, .i32⟩
  | 51 => ⟨S4096x4096, .i32⟩
  | 52 => ⟨S4096x4096, .i32⟩
  | 53 => ⟨S_, .i32⟩
  | 54 => ⟨S4096x4096, .i32⟩
  | 55 => ⟨S4096x4096, .i1⟩
  | 56 => ⟨S4096x4096, .i1⟩
  | 57 => ⟨S1x4096x4096, .i1⟩
  | 58 => ⟨S1x4096x4096, .i1⟩
  | 59 => ⟨S1x4096x4096, .i1⟩
  | 60 => ⟨S3x4096x4096, .i1⟩
  | 61 => ⟨S3x1x4096x4096, .i1⟩
  | 62 => ⟨S3x8x4096x4096, .i1⟩
  | 63 => ⟨S3x8x4096x4096, .f32⟩
  | 64 => ⟨S_, .f32⟩
  | 65 => ⟨S3x8x4096x4096, .f32⟩
  | 66 => ⟨S3x8x4096x4096, .f32⟩
  | 67 => ⟨S_, .f32⟩
  | 68 => ⟨S3x8x4096, .f32⟩
  | 69 => ⟨S3x8x4096x1, .f32⟩
  | 70 => ⟨S3x8x4096x4096, .f32⟩
  | 71 => ⟨S3x8x4096x4096, .f32⟩
  | 72 => ⟨S3x8x4096x4096, .f32⟩
  | 73 => ⟨S_, .f32⟩
  | 74 => ⟨S3x8x4096, .f32⟩
  | 75 => ⟨S3x8x4096, .f32⟩
  | 76 => ⟨S3x8x4096, .f32⟩
  | 77 => ⟨S3x8x4096, .f32⟩
  | 78 => ⟨S3x8x4096x1, .f32⟩
  | 79 => ⟨S3x8x4096x4096, .f32⟩
  | 80 => ⟨S3x8x4096x4096, .f32⟩
  | 81 => ⟨S3x8x4096x4096, .f32⟩
  | 82 => ⟨S8x128x3x4096, .f32⟩
  | 83 => ⟨S3x4096x8x128, .f32⟩
  | 84 => ⟨S_, .f32⟩
  | 85 => ⟨S8x4096, .f32⟩
  | 86 => ⟨S_, .f32⟩
  | 87 => ⟨S8x4096, .f32⟩
  | 88 => ⟨S8x4096, .f32⟩
  | 89 => ⟨S1x8x4096, .f32⟩
  | 90 => ⟨S3x8x4096, .f32⟩
  | 91 => ⟨S3x8x4096, .f32⟩
  | 92 => ⟨S3x8x4096, .f32⟩
  | 93 => ⟨S_, .f32⟩
  | 94 => ⟨S8x4096, .f32⟩
  | 95 => ⟨S1x8x4096, .f32⟩
  | 96 => ⟨S3x8x4096, .f32⟩
  | 97 => ⟨S3x8x4096, .f32⟩
  | 98 => ⟨S3x4096x8, .f32⟩
  | 99 => ⟨S3x4096x8x1, .f32⟩
  | 100 => ⟨S3x4096x8x128, .f32⟩
  | 101 => ⟨S3x4096x8x128, .f32⟩
  | 102 => ⟨S_, .f32⟩
  | 103 => ⟨S4096x8x128, .f32⟩
  | 104 => ⟨S_, .f32⟩
  | 105 => ⟨S8x4096, .f32⟩
  | 106 => ⟨S1x8x4096, .f32⟩
  | 107 => ⟨S3x8x4096, .f32⟩
  | 108 => ⟨S3x8x4096, .f32⟩
  | 109 => ⟨S3x8x4096, .f32⟩
  | 110 => ⟨S_, .f32⟩
  | 111 => ⟨S8x4096, .f32⟩
  | 112 => ⟨S8x4096, .f32⟩
  | 113 => ⟨S8x4096, .f32⟩
  | 114 => ⟨S8x4096, .f32⟩
  | 115 => ⟨S4096x8, .f32⟩
  | 116 => ⟨S4096x8x128, .f32⟩
  | 117 => ⟨S4096x8x128, .f32⟩
  | 118 => ⟨S_, .f32⟩
  | 119 => ⟨S4096x8, .f32⟩
  | 120 => ⟨S4096x8x1, .f32⟩
  | 121 => ⟨S4096x8x128, .f32⟩
  | 122 => ⟨S4096x1024, .f32⟩
  | 123 => ⟨S4096x8x1, .f32⟩
  | 124 => ⟨S4096x8x128, .f32⟩
  | 125 => ⟨S4096x1024, .f32⟩
  | 126 => ⟨S4096x1024, .bf16⟩
  | 127 => ⟨S4096x1024, .bf16⟩
  | _ => ⟨S4096x4096, .f32⟩

abbrev hbmTy0_1 (i : Nat) : BufTy := match i % 128 with
  | 0 => ⟨S4096x1024, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .f32⟩
  | .local _ .vmem, ⟨19, _⟩ => ⟨S6144x128, .f32⟩
  | .local _ .vmem, ⟨20, _⟩ => ⟨S6144x128, .f32⟩
  | .local _ .vmem, ⟨21, _⟩ => ⟨S6144x128, .f32⟩
  | .local _ .vmem, ⟨22, _⟩ => ⟨S6144x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_9 : Ref sig .tc := ⟨.hbm, 50, rfl⟩
abbrev main_v37 : Ref sig .tc := ⟨.hbm, 51, rfl⟩
abbrev main_v38 : Ref sig .tc := ⟨.hbm, 52, rfl⟩
abbrev main_c_10 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_11 : Ref sig .tc := ⟨.hbm, 64, rfl⟩
abbrev main_v49 : Ref sig .tc := ⟨.hbm, 65, rfl⟩
abbrev main_v50 : Ref sig .tc := ⟨.hbm, 66, rfl⟩
abbrev main_cst_12 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_13 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_cst_15 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_17 : Ref sig .tc := ⟨.hbm, 102, rfl⟩
abbrev main_v81 : Ref sig .tc := ⟨.hbm, 103, rfl⟩
abbrev main_cst_18 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_19 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_20 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101_0 : Ref sig .tc := ⟨.hbm, 126, rfl⟩
abbrev main_v101_1 : Ref sig .tc := ⟨.hbm, 127, rfl⟩
abbrev main_v101_2 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v4 : BitVec 32 := Scalar.addi c0_i32 c32_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c128_i32 : BitVec 32 := 128#32
  let v30 : BitVec 32 := Scalar.muli arg15 c128_i32
  v30
def k0_off1 (k0_t1 : Fin k0_t1_loop.trips) : Fin 2 → Nat :=
  let c0_i32 : BitVec 32 := 0#32
  let c1_i32 : BitVec 32 := 1#32
  let arg15 : BitVec 32 := Scf.iv c0_i32 c1_i32 k0_t1
  let c128_i32 : BitVec 32 := 128#32
  let v30 : BitVec 32 := Scalar.muli arg15 c128_i32
  let v31 : BitVec 32 := v30
  let v32 : Index := Scalar.indexCast v31
  let c0_36 : Index := 0#32
  ![v32.toNat, 0]
def k0_mult2 (k0_t1 : Fin k0_t1_loop.trips) : BitVec 32 :=
  let c2048_i32 : BitVec 32 := 2048#32
  let c0_i32 : BitVec 32 := 0#32
  let c1_i32 : BitVec 32 := 1#32
  let arg15 : BitVec 32 := Scf.iv c0_i32 c1_i32 k0_t1
  let c128_i32_37 : BitVec 32 := 128#32
  let v34 : BitVec 32 := Scalar.muli arg15 c128_i32_37
  let v35 : BitVec 32 := Scalar.addi c2048_i32 v34
  v35
def k0_off2 (k0_t1 : Fin k0_t1_loop.trips) : Fin 2 → Nat :=
  let c2048_i32 : BitVec 32 := 2048#32
  let c0_i32 : BitVec 32 := 0#32
  let c1_i32 : BitVec 32 := 1#32
  let arg15 : BitVec 32 := Scf.iv c0_i32 c1_i32 k0_t1
  let c128_i32_37 : BitVec 32 := 128#32
  let v34 : BitVec 32 := Scalar.muli arg15 c128_i32_37
  let v35 : BitVec 32 := Scalar.addi c2048_i32 v34
  let v36 : BitVec 32 := v35
  let v37 : Index := Scalar.indexCast v36
  let c0_38 : Index := 0#32
  ![v37.toNat, 0]
@[reducible] def k0_t2_loop : Scf.Loop 32 :=
  let c0_i32_5 : BitVec 32 := 0#32
  let c32_i32_6 : BitVec 32 := 32#32
  let v9 : BitVec 32 := Scalar.addi c0_i32_5 c32_i32_6
  let c1_i32_7 : BitVec 32 := 1#32
  ⟨c0_i32_5, v9, c1_i32_7⟩
def k0_mult3 (k0_t2 : Fin k0_t2_loop.trips) : BitVec 32 :=
  let c0_i32_5 : BitVec 32 := 0#32
  let c1_i32_7 : BitVec 32 := 1#32
  let arg15 : BitVec 32 := Scf.iv c0_i32_5 c1_i32_7 k0_t2
  let c128_i32 : BitVec 32 := 128#32
  let v30 : BitVec 32 := Scalar.muli arg15 c128_i32
  v30
def k0_off3 (k0_t2 : Fin k0_t2_loop.trips) : Fin 2 → Nat :=
  let c0_i32_5 : BitVec 32 := 0#32
  let c1_i32_7 : BitVec 32 := 1#32
  let arg15 : BitVec 32 := Scf.iv c0_i32_5 c1_i32_7 k0_t2
  let c128_i32 : BitVec 32 := 128#32
  let v30 : BitVec 32 := Scalar.muli arg15 c128_i32
  let v31 : BitVec 32 := v30
  let v32 : Index := Scalar.indexCast v31
  let c0_36 : Index := 0#32
  ![v32.toNat, 0]
def k0_mult4 (k0_t2 : Fin k0_t2_loop.trips) : BitVec 32 :=
  let c2048_i32 : BitVec 32 := 2048#32
  let c0_i32_5 : BitVec 32 := 0#32
  let c1_i32_7 : BitVec 32 := 1#32
  let arg15 : BitVec 32 := Scf.iv c0_i32_5 c1_i32_7 k0_t2
  let c128_i32_37 : BitVec 32 := 128#32
  let v34 : BitVec 32 := Scalar.muli arg15 c128_i32_37
  let v35 : BitVec 32 := Scalar.addi c2048_i32 v34
  v35
def k0_off4 (k0_t2 : Fin k0_t2_loop.trips) : Fin 2 → Nat :=
  let c2048_i32 : BitVec 32 := 2048#32
  let c0_i32_5 : BitVec 32 := 0#32
  let c1_i32_7 : BitVec 32 := 1#32
  let arg15 : BitVec 32 := Scf.iv c0_i32_5 c1_i32_7 k0_t2
  let c128_i32_37 : BitVec 32 := 128#32
  let v34 : BitVec 32 := Scalar.muli arg15 c128_i32_37
  let v35 : BitVec 32 := Scalar.addi c2048_i32 v34
  let v36 : BitVec 32 := v35
  let v37 : Index := Scalar.indexCast v36
  let c0_38 : Index := 0#32
  ![v37.toNat, 0]
@[reducible] def k0_t3_loop : Scf.Loop 32 :=
  let c0_i32_15 : BitVec 32 := 0#32
  let c8_i32 : BitVec 32 := 8#32
  let v18 : BitVec 32 := Scalar.addi c0_i32_15 c8_i32
  let c1_i32_16 : BitVec 32 := 1#32
  ⟨c0_i32_15, v18, c1_i32_16⟩
def k0_off5 (k0_t3 : Fin k0_t3_loop.trips) (c0_i32_36 : BitVec 32) : Fin 2 → Nat :=
  let c0_i32_15 : BitVec 32 := 0#32
  let c1_i32_16 : BitVec 32 := 1#32
  let arg15 : BitVec 32 := Scf.iv c0_i32_15 c1_i32_16 k0_t3
  let v30 : BitVec 32 := Scalar.addi arg15 c0_i32_36
  let v48 : Index := Scalar.indexCast v30
  let c0_40 : Index := 0#32
  ![v48.toNat, 0]
def k0_off6 (k0_t3 : Fin k0_t3_loop.trips) (c0_i32_36 : BitVec 32) : Fin 2 → Nat :=
  let c2048_i32 : BitVec 32 := 2048#32
  let c0_i32_15 : BitVec 32 := 0#32
  let c1_i32_16 : BitVec 32 := 1#32
  let arg15 : BitVec 32 := Scf.iv c0_i32_15 c1_i32_16 k0_t3
  let v30 : BitVec 32 := Scalar.addi arg15 c0_i32_36
  let v33 : BitVec 32 := Scalar.addi c2048_i32 v30
  let v60 : Index := Scalar.indexCast v33
  let c0_44 : Index := 0#32
  ![v60.toNat, 0]
@[reducible] def k0_t4_loop : Scf.Loop 32 :=
  let c0_i32_18 : BitVec 32 := 0#32
  let c4_i32 : BitVec 32 := 4#32
  let v19 : BitVec 32 := Scalar.addi c0_i32_18 c4_i32
  let c1_i32_19 : BitVec 32 := 1#32
  ⟨c0_i32_18, v19, c1_i32_19⟩
def k0_off7 (k0_t4 : Fin k0_t4_loop.trips) (c0_i32_36 : BitVec 32) : Fin 2 → Nat :=
  let c0_i32_18 : BitVec 32 := 0#32
  let c1_i32_19 : BitVec 32 := 1#32
  let arg15 : BitVec 32 := Scf.iv c0_i32_18 c1_i32_19 k0_t4
  let v30 : BitVec 32 := Scalar.addi arg15 c0_i32_36
  let c0_i32_38 : BitVec 32 := 0#32
  let v32 : BitVec 1 := Scalar.cmpi .sgt v30 c0_i32_38
  let v33 : BitVec 32 := Scalar.extui v32
  let c0_i32_39 : BitVec 32 := 0#32
  let v34 : BitVec 1 := Scalar.cmpi .slt v30 c0_i32_39
  let v35 : BitVec 32 := Scalar.extui v34
  let v36 : BitVec 32 := Scalar.subi v33 v35
  let c8_i32_37 : BitVec 32 := 8#32
  let c0_i32_40 : BitVec 32 := 0#32
  let v37 : BitVec 1 := Scalar.cmpi .sgt c8_i32_37 c0_i32_40
  let v38 : BitVec 32 := Scalar.extui v37
  let c0_i32_41 : BitVec 32 := 0#32
  let v39 : BitVec 1 := Scalar.cmpi .slt c8_i32_37 c0_i32_41
  let v40 : BitVec 32 := Scalar.extui v39
  let v41 : BitVec 32 := Scalar.subi v38 v40
  let v42 : BitVec 1 := Scalar.cmpi .ne v36 v41
  let v43 : BitVec 32 := Scalar.remsi v30 c8_i32_37
  let c0_i32_42 : BitVec 32 := 0#32
  let v44 : BitVec 1 := Scalar.cmpi .ne v43 c0_i32_42
  let v45 : BitVec 1 := Scalar.andi v42 v44
  let v31 : BitVec 32 := Scalar.divsi v30 c8_i32_37
  let c1_i32_43 : BitVec 32 := 1#32
  let v46 : BitVec 32 := Scalar.subi v31 c1_i32_43
  let v47 : BitVec 32 := Scalar.select v45 v46 v31
  let c8_i32_44 : BitVec 32 := 8#32
  let c0_i32_45 : BitVec 32 := 0#32
  let v48 : BitVec 1 := Scalar.cmpi .eq c8_i32_44 c0_i32_45
  let c1_i32_46 : BitVec 32 := 1#32
  let v49 : BitVec 32 := Scalar.select v48 c1_i32_46 c8_i32_44
  let v50 : BitVec 32 := Scalar.remsi v30 v49
  let c0_i32_48 : BitVec 32 := 0#32
  let v52 : BitVec 1 := Scalar.cmpi .slt v50 c0_i32_48
  let c0_i32_49 : BitVec 32 := 0#32
  let v53 : BitVec 1 := Scalar.cmpi .slt v49 c0_i32_49
  let v54 : BitVec 1 := Scalar.xori v52 v53
  let c0_i32_47 : BitVec 32 := 0#32
  let v51 : BitVec 1 := Scalar.cmpi .ne v50 c0_i32_47
  let v55 : BitVec 1 := Scalar.andi v54 v51
  let v56 : BitVec 32 := Scalar.addi v50 v49
  let v57 : BitVec 32 := Scalar.select v55 v56 v50
  let c512_i32 : BitVec 32 := 512#32
  let v58 : BitVec 32 := Scalar.muli v57 c512_i32
  let v59 : BitVec 32 := Scalar.addi v47 v58
  let v406 : Index := Scalar.indexCast v59
  let c0_188 : Index := 0#32
  ![v406.toNat, 0]
def k0_off8 (k0_t4 : Fin k0_t4_loop.trips) (c0_i32_36 : BitVec 32) : Fin 2 → Nat :=
  let c0_i32_18 : BitVec 32 := 0#32
  let c1_i32_19 : BitVec 32 := 1#32
  let arg15 : BitVec 32 := Scf.iv c0_i32_18 c1_i32_19 k0_t4
  let v30 : BitVec 32 := Scalar.addi arg15 c0_i32_36
  let c0_i32_38 : BitVec 32 := 0#32
  let v32 : BitVec 1 := Scalar.cmpi .sgt v30 c0_i32_38
  let v33 : BitVec 32 := Scalar.extui v32
  let c0_i32_39 : BitVec 32 := 0#32
  let v34 : BitVec 1 := Scalar.cmpi .slt v30 c0_i32_39
  let v35 : BitVec 32 := Scalar.extui v34
  let v36 : BitVec 32 := Scalar.subi v33 v35
  let c8_i32_37 : BitVec 32 := 8#32
  let c0_i32_40 : BitVec 32 := 0#32
  let v37 : BitVec 1 := Scalar.cmpi .sgt c8_i32_37 c0_i32_40
  let v38 : BitVec 32 := Scalar.extui v37
  let c0_i32_41 : BitVec 32 := 0#32
  let v39 : BitVec 1 := Scalar.cmpi .slt c8_i32_37 c0_i32_41
  let v40 : BitVec 32 := Scalar.extui v39
  let v41 : BitVec 32 := Scalar.subi v38 v40
  let v42 : BitVec 1 := Scalar.cmpi .ne v36 v41
  let v43 : BitVec 32 := Scalar.remsi v30 c8_i32_37
  let c0_i32_42 : BitVec 32 := 0#32
  let v44 : BitVec 1 := Scalar.cmpi .ne v43 c0_i32_42
  let v45 : BitVec 1 := Scalar.andi v42 v44
  let v31 : BitVec 32 := Scalar.divsi v30 c8_i32_37
  let c1_i32_43 : BitVec 32 := 1#32
  let v46 : BitVec 32 := Scalar.subi v31 c1_i32_43
  let v47 : BitVec 32 := Scalar.select v45 v46 v31
  let c8_i32_44 : BitVec 32 := 8#32
  let c0_i32_45 : BitVec 32 := 0#32
  let v48 : BitVec 1 := Scalar.cmpi .eq c8_i32_44 c0_i32_45
  let c1_i32_46 : BitVec 32 := 1#32
  let v49 : BitVec 32 := Scalar.select v48 c1_i32_46 c8_i32_44
  let v50 : BitVec 32 := Scalar.remsi v30 v49
  let c0_i32_48 : BitVec 32 := 0#32
  let v52 : BitVec 1 := Scalar.cmpi .slt v50 c0_i32_48
  let c0_i32_49 : BitVec 32 := 0#32
  let v53 : BitVec 1 := Scalar.cmpi .slt v49 c0_i32_49
  let v54 : BitVec 1 := Scalar.xori v52 v53
  let c0_i32_47 : BitVec 32 := 0#32
  let v51 : BitVec 1 := Scalar.cmpi .ne v50 c0_i32_47
  let v55 : BitVec 1 := Scalar.andi v54 v51
  let v56 : BitVec 32 := Scalar.addi v50 v49
  let v57 : BitVec 32 := Scalar.select v55 v56 v50
  let c512_i32 : BitVec 32 := 512#32
  let v58 : BitVec 32 := Scalar.muli v57 c512_i32
  let v59 : BitVec 32 := Scalar.addi v47 v58
  let c1536_i32 : BitVec 32 := 1536#32
  let v60 : BitVec 32 := Scalar.addi v59 c1536_i32
  let v454 : Index := Scalar.indexCast v60
  let c0_204 : Index := 0#32
  ![v454.toNat, 0]
@[reducible] def k0_t5_loop : Scf.Loop 32 :=
  let c0_i32_21 : BitVec 32 := 0#32
  let c4_i32_22 : BitVec 32 := 4#32
  let v20 : BitVec 32 := Scalar.addi c0_i32_21 c4_i32_22
  let c1_i32_23 : BitVec 32 := 1#32
  ⟨c0_i32_21, v20, c1_i32_23⟩
def k0_mult5 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c0_i32_36 : BitVec 32 := 0#32
  let v30 : BitVec 32 := Scalar.addi arg15 c0_i32_36
  let c0_i32_38 : BitVec 32 := 0#32
  let v32 : BitVec 1 := Scalar.cmpi .sgt v30 c0_i32_38
  let v33 : BitVec 32 := Scalar.extui v32
  let c0_i32_39 : BitVec 32 := 0#32
  let v34 : BitVec 1 := Scalar.cmpi .slt v30 c0_i32_39
  let v35 : BitVec 32 := Scalar.extui v34
  let v36 : BitVec 32 := Scalar.subi v33 v35
  let c32_i32_37 : BitVec 32 := 32#32
  let c0_i32_40 : BitVec 32 := 0#32
  let v37 : BitVec 1 := Scalar.cmpi .sgt c32_i32_37 c0_i32_40
  let v38 : BitVec 32 := Scalar.extui v37
  let c0_i32_41 : BitVec 32 := 0#32
  let v39 : BitVec 1 := Scalar.cmpi .slt c32_i32_37 c0_i32_41
  let v40 : BitVec 32 := Scalar.extui v39
  let v41 : BitVec 32 := Scalar.subi v38 v40
  let v42 : BitVec 1 := Scalar.cmpi .ne v36 v41
  let v43 : BitVec 32 := Scalar.remsi v30 c32_i32_37
  let c0_i32_42 : BitVec 32 := 0#32
  let v44 : BitVec 1 := Scalar.cmpi .ne v43 c0_i32_42
  let v45 : BitVec 1 := Scalar.andi v42 v44
  let v31 : BitVec 32 := Scalar.divsi v30 c32_i32_37
  let c1_i32_43 : BitVec 32 := 1#32
  let v46 : BitVec 32 := Scalar.subi v31 c1_i32_43
  let v47 : BitVec 32 := Scalar.select v45 v46 v31
  let c32_i32_44 : BitVec 32 := 32#32
  let c0_i32_45 : BitVec 32 := 0#32
  let v48 : BitVec 1 := Scalar.cmpi .eq c32_i32_44 c0_i32_45
  let c1_i32_46 : BitVec 32 := 1#32
  let v49 : BitVec 32 := Scalar.select v48 c1_i32_46 c32_i32_44
  let v50 : BitVec 32 := Scalar.remsi v30 v49
  let c0_i32_48 : BitVec 32 := 0#32
  let v52 : BitVec 1 := Scalar.cmpi .slt v50 c0_i32_48
  let c0_i32_49 : BitVec 32 := 0#32
  let v53 : BitVec 1 := Scalar.cmpi .slt v49 c0_i32_49
  let v54 : BitVec 1 := Scalar.xori v52 v53
  let c0_i32_47 : BitVec 32 := 0#32
  let v51 : BitVec 1 := Scalar.cmpi .ne v50 c0_i32_47
  let v55 : BitVec 1 := Scalar.andi v54 v51
  let v56 : BitVec 32 := Scalar.addi v50 v49
  let v57 : BitVec 32 := Scalar.select v55 v56 v50
  let c128_i32 : BitVec 32 := 128#32
  let v58 : BitVec 32 := Scalar.muli v57 c128_i32
  let v59 : BitVec 32 := Scalar.addi v47 v58
  v59
def k0_mult6 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c0_i32_36 : BitVec 32 := 0#32
  let v30 : BitVec 32 := Scalar.addi arg15 c0_i32_36
  let c0_i32_38 : BitVec 32 := 0#32
  let v32 : BitVec 1 := Scalar.cmpi .sgt v30 c0_i32_38
  let v33 : BitVec 32 := Scalar.extui v32
  let c0_i32_39 : BitVec 32 := 0#32
  let v34 : BitVec 1 := Scalar.cmpi .slt v30 c0_i32_39
  let v35 : BitVec 32 := Scalar.extui v34
  let v36 : BitVec 32 := Scalar.subi v33 v35
  let c32_i32_37 : BitVec 32 := 32#32
  let c0_i32_40 : BitVec 32 := 0#32
  let v37 : BitVec 1 := Scalar.cmpi .sgt c32_i32_37 c0_i32_40
  let v38 : BitVec 32 := Scalar.extui v37
  let c0_i32_41 : BitVec 32 := 0#32
  let v39 : BitVec 1 := Scalar.cmpi .slt c32_i32_37 c0_i32_41
  let v40 : BitVec 32 := Scalar.extui v39
  let v41 : BitVec 32 := Scalar.subi v38 v40
  let v42 : BitVec 1 := Scalar.cmpi .ne v36 v41
  let v43 : BitVec 32 := Scalar.remsi v30 c32_i32_37
  let c0_i32_42 : BitVec 32 := 0#32
  let v44 : BitVec 1 := Scalar.cmpi .ne v43 c0_i32_42
  let v45 : BitVec 1 := Scalar.andi v42 v44
  let v31 : BitVec 32 := Scalar.divsi v30 c32_i32_37
  let c1_i32_43 : BitVec 32 := 1#32
  let v46 : BitVec 32 := Scalar.subi v31 c1_i32_43
  let v47 : BitVec 32 := Scalar.select v45 v46 v31
  let c32_i32_44 : BitVec 32 := 32#32
  let c0_i32_45 : BitVec 32 := 0#32
  let v48 : BitVec 1 := Scalar.cmpi .eq c32_i32_44 c0_i32_45
  let c1_i32_46 : BitVec 32 := 1#32
  let v49 : BitVec 32 := Scalar.select v48 c1_i32_46 c32_i32_44
  let v50 : BitVec 32 := Scalar.remsi v30 v49
  let c0_i32_48 : BitVec 32 := 0#32
  let v52 : BitVec 1 := Scalar.cmpi .slt v50 c0_i32_48
  let c0_i32_49 : BitVec 32 := 0#32
  let v53 : BitVec 1 := Scalar.cmpi .slt v49 c0_i32_49
  let v54 : BitVec 1 := Scalar.xori v52 v53
  let c0_i32_47 : BitVec 32 := 0#32
  let v51 : BitVec 1 := Scalar.cmpi .ne v50 c0_i32_47
  let v55 : BitVec 1 := Scalar.andi v54 v51
  let v56 : BitVec 32 := Scalar.addi v50 v49
  let v57 : BitVec 32 := Scalar.select v55 v56 v50
  let c128_i32 : BitVec 32 := 128#32
  let v58 : BitVec 32 := Scalar.muli v57 c128_i32
  let v59 : BitVec 32 := Scalar.addi v47 v58
  let c1920_i32 : BitVec 32 := 1920#32
  let v60 : BitVec 32 := Scalar.addi v59 c1920_i32
  v60
def k0_mult7 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c4_i32_54 : BitVec 32 := 4#32
  let v79 : BitVec 32 := Scalar.addi arg15 c4_i32_54
  let c0_i32_56 : BitVec 32 := 0#32
  let v81 : BitVec 1 := Scalar.cmpi .sgt v79 c0_i32_56
  let v82 : BitVec 32 := Scalar.extui v81
  let c0_i32_57 : BitVec 32 := 0#32
  let v83 : BitVec 1 := Scalar.cmpi .slt v79 c0_i32_57
  let v84 : BitVec 32 := Scalar.extui v83
  let v85 : BitVec 32 := Scalar.subi v82 v84
  let c32_i32_55 : BitVec 32 := 32#32
  let c0_i32_58 : BitVec 32 := 0#32
  let v86 : BitVec 1 := Scalar.cmpi .sgt c32_i32_55 c0_i32_58
  let v87 : BitVec 32 := Scalar.extui v86
  let c0_i32_59 : BitVec 32 := 0#32
  let v88 : BitVec 1 := Scalar.cmpi .slt c32_i32_55 c0_i32_59
  let v89 : BitVec 32 := Scalar.extui v88
  let v90 : BitVec 32 := Scalar.subi v87 v89
  let v91 : BitVec 1 := Scalar.cmpi .ne v85 v90
  let v92 : BitVec 32 := Scalar.remsi v79 c32_i32_55
  let c0_i32_60 : BitVec 32 := 0#32
  let v93 : BitVec 1 := Scalar.cmpi .ne v92 c0_i32_60
  let v94 : BitVec 1 := Scalar.andi v91 v93
  let v80 : BitVec 32 := Scalar.divsi v79 c32_i32_55
  let c1_i32_61 : BitVec 32 := 1#32
  let v95 : BitVec 32 := Scalar.subi v80 c1_i32_61
  let v96 : BitVec 32 := Scalar.select v94 v95 v80
  let c32_i32_62 : BitVec 32 := 32#32
  let c0_i32_63 : BitVec 32 := 0#32
  let v97 : BitVec 1 := Scalar.cmpi .eq c32_i32_62 c0_i32_63
  let c1_i32_64 : BitVec 32 := 1#32
  let v98 : BitVec 32 := Scalar.select v97 c1_i32_64 c32_i32_62
  let v99 : BitVec 32 := Scalar.remsi v79 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let c128_i32_68 : BitVec 32 := 128#32
  let v107 : BitVec 32 := Scalar.muli v106 c128_i32_68
  let v108 : BitVec 32 := Scalar.addi v96 v107
  v108
def k0_mult8 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c4_i32_54 : BitVec 32 := 4#32
  let v79 : BitVec 32 := Scalar.addi arg15 c4_i32_54
  let c0_i32_56 : BitVec 32 := 0#32
  let v81 : BitVec 1 := Scalar.cmpi .sgt v79 c0_i32_56
  let v82 : BitVec 32 := Scalar.extui v81
  let c0_i32_57 : BitVec 32 := 0#32
  let v83 : BitVec 1 := Scalar.cmpi .slt v79 c0_i32_57
  let v84 : BitVec 32 := Scalar.extui v83
  let v85 : BitVec 32 := Scalar.subi v82 v84
  let c32_i32_55 : BitVec 32 := 32#32
  let c0_i32_58 : BitVec 32 := 0#32
  let v86 : BitVec 1 := Scalar.cmpi .sgt c32_i32_55 c0_i32_58
  let v87 : BitVec 32 := Scalar.extui v86
  let c0_i32_59 : BitVec 32 := 0#32
  let v88 : BitVec 1 := Scalar.cmpi .slt c32_i32_55 c0_i32_59
  let v89 : BitVec 32 := Scalar.extui v88
  let v90 : BitVec 32 := Scalar.subi v87 v89
  let v91 : BitVec 1 := Scalar.cmpi .ne v85 v90
  let v92 : BitVec 32 := Scalar.remsi v79 c32_i32_55
  let c0_i32_60 : BitVec 32 := 0#32
  let v93 : BitVec 1 := Scalar.cmpi .ne v92 c0_i32_60
  let v94 : BitVec 1 := Scalar.andi v91 v93
  let v80 : BitVec 32 := Scalar.divsi v79 c32_i32_55
  let c1_i32_61 : BitVec 32 := 1#32
  let v95 : BitVec 32 := Scalar.subi v80 c1_i32_61
  let v96 : BitVec 32 := Scalar.select v94 v95 v80
  let c32_i32_62 : BitVec 32 := 32#32
  let c0_i32_63 : BitVec 32 := 0#32
  let v97 : BitVec 1 := Scalar.cmpi .eq c32_i32_62 c0_i32_63
  let c1_i32_64 : BitVec 32 := 1#32
  let v98 : BitVec 32 := Scalar.select v97 c1_i32_64 c32_i32_62
  let v99 : BitVec 32 := Scalar.remsi v79 v98
  let c0_i32_66 : BitVec 32 := 0#32
  let v101 : BitVec 1 := Scalar.cmpi .slt v99 c0_i32_66
  let c0_i32_67 : BitVec 32 := 0#32
  let v102 : BitVec 1 := Scalar.cmpi .slt v98 c0_i32_67
  let v103 : BitVec 1 := Scalar.xori v101 v102
  let c0_i32_65 : BitVec 32 := 0#32
  let v100 : BitVec 1 := Scalar.cmpi .ne v99 c0_i32_65
  let v104 : BitVec 1 := Scalar.andi v103 v100
  let v105 : BitVec 32 := Scalar.addi v99 v98
  let v106 : BitVec 32 := Scalar.select v104 v105 v99
  let c128_i32_68 : BitVec 32 := 128#32
  let v107 : BitVec 32 := Scalar.muli v106 c128_i32_68
  let v108 : BitVec 32 := Scalar.addi v96 v107
  let c1920_i32_69 : BitVec 32 := 1920#32
  let v109 : BitVec 32 := Scalar.addi v108 c1920_i32_69
  v109
def k0_mult9 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c8_i32_74 : BitVec 32 := 8#32
  let v128 : BitVec 32 := Scalar.addi arg15 c8_i32_74
  let c0_i32_76 : BitVec 32 := 0#32
  let v130 : BitVec 1 := Scalar.cmpi .sgt v128 c0_i32_76
  let v131 : BitVec 32 := Scalar.extui v130
  let c0_i32_77 : BitVec 32 := 0#32
  let v132 : BitVec 1 := Scalar.cmpi .slt v128 c0_i32_77
  let v133 : BitVec 32 := Scalar.extui v132
  let v134 : BitVec 32 := Scalar.subi v131 v133
  let c32_i32_75 : BitVec 32 := 32#32
  let c0_i32_78 : BitVec 32 := 0#32
  let v135 : BitVec 1 := Scalar.cmpi .sgt c32_i32_75 c0_i32_78
  let v136 : BitVec 32 := Scalar.extui v135
  let c0_i32_79 : BitVec 32 := 0#32
  let v137 : BitVec 1 := Scalar.cmpi .slt c32_i32_75 c0_i32_79
  let v138 : BitVec 32 := Scalar.extui v137
  let v139 : BitVec 32 := Scalar.subi v136 v138
  let v140 : BitVec 1 := Scalar.cmpi .ne v134 v139
  let v141 : BitVec 32 := Scalar.remsi v128 c32_i32_75
  let c0_i32_80 : BitVec 32 := 0#32
  let v142 : BitVec 1 := Scalar.cmpi .ne v141 c0_i32_80
  let v143 : BitVec 1 := Scalar.andi v140 v142
  let v129 : BitVec 32 := Scalar.divsi v128 c32_i32_75
  let c1_i32_81 : BitVec 32 := 1#32
  let v144 : BitVec 32 := Scalar.subi v129 c1_i32_81
  let v145 : BitVec 32 := Scalar.select v143 v144 v129
  let c32_i32_82 : BitVec 32 := 32#32
  let c0_i32_83 : BitVec 32 := 0#32
  let v146 : BitVec 1 := Scalar.cmpi .eq c32_i32_82 c0_i32_83
  let c1_i32_84 : BitVec 32 := 1#32
  let v147 : BitVec 32 := Scalar.select v146 c1_i32_84 c32_i32_82
  let v148 : BitVec 32 := Scalar.remsi v128 v147
  let c0_i32_86 : BitVec 32 := 0#32
  let v150 : BitVec 1 := Scalar.cmpi .slt v148 c0_i32_86
  let c0_i32_87 : BitVec 32 := 0#32
  let v151 : BitVec 1 := Scalar.cmpi .slt v147 c0_i32_87
  let v152 : BitVec 1 := Scalar.xori v150 v151
  let c0_i32_85 : BitVec 32 := 0#32
  let v149 : BitVec 1 := Scalar.cmpi .ne v148 c0_i32_85
  let v153 : BitVec 1 := Scalar.andi v152 v149
  let v154 : BitVec 32 := Scalar.addi v148 v147
  let v155 : BitVec 32 := Scalar.select v153 v154 v148
  let c128_i32_88 : BitVec 32 := 128#32
  let v156 : BitVec 32 := Scalar.muli v155 c128_i32_88
  let v157 : BitVec 32 := Scalar.addi v145 v156
  v157
def k0_mult10 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c8_i32_74 : BitVec 32 := 8#32
  let v128 : BitVec 32 := Scalar.addi arg15 c8_i32_74
  let c0_i32_76 : BitVec 32 := 0#32
  let v130 : BitVec 1 := Scalar.cmpi .sgt v128 c0_i32_76
  let v131 : BitVec 32 := Scalar.extui v130
  let c0_i32_77 : BitVec 32 := 0#32
  let v132 : BitVec 1 := Scalar.cmpi .slt v128 c0_i32_77
  let v133 : BitVec 32 := Scalar.extui v132
  let v134 : BitVec 32 := Scalar.subi v131 v133
  let c32_i32_75 : BitVec 32 := 32#32
  let c0_i32_78 : BitVec 32 := 0#32
  let v135 : BitVec 1 := Scalar.cmpi .sgt c32_i32_75 c0_i32_78
  let v136 : BitVec 32 := Scalar.extui v135
  let c0_i32_79 : BitVec 32 := 0#32
  let v137 : BitVec 1 := Scalar.cmpi .slt c32_i32_75 c0_i32_79
  let v138 : BitVec 32 := Scalar.extui v137
  let v139 : BitVec 32 := Scalar.subi v136 v138
  let v140 : BitVec 1 := Scalar.cmpi .ne v134 v139
  let v141 : BitVec 32 := Scalar.remsi v128 c32_i32_75
  let c0_i32_80 : BitVec 32 := 0#32
  let v142 : BitVec 1 := Scalar.cmpi .ne v141 c0_i32_80
  let v143 : BitVec 1 := Scalar.andi v140 v142
  let v129 : BitVec 32 := Scalar.divsi v128 c32_i32_75
  let c1_i32_81 : BitVec 32 := 1#32
  let v144 : BitVec 32 := Scalar.subi v129 c1_i32_81
  let v145 : BitVec 32 := Scalar.select v143 v144 v129
  let c32_i32_82 : BitVec 32 := 32#32
  let c0_i32_83 : BitVec 32 := 0#32
  let v146 : BitVec 1 := Scalar.cmpi .eq c32_i32_82 c0_i32_83
  let c1_i32_84 : BitVec 32 := 1#32
  let v147 : BitVec 32 := Scalar.select v146 c1_i32_84 c32_i32_82
  let v148 : BitVec 32 := Scalar.remsi v128 v147
  let c0_i32_86 : BitVec 32 := 0#32
  let v150 : BitVec 1 := Scalar.cmpi .slt v148 c0_i32_86
  let c0_i32_87 : BitVec 32 := 0#32
  let v151 : BitVec 1 := Scalar.cmpi .slt v147 c0_i32_87
  let v152 : BitVec 1 := Scalar.xori v150 v151
  let c0_i32_85 : BitVec 32 := 0#32
  let v149 : BitVec 1 := Scalar.cmpi .ne v148 c0_i32_85
  let v153 : BitVec 1 := Scalar.andi v152 v149
  let v154 : BitVec 32 := Scalar.addi v148 v147
  let v155 : BitVec 32 := Scalar.select v153 v154 v148
  let c128_i32_88 : BitVec 32 := 128#32
  let v156 : BitVec 32 := Scalar.muli v155 c128_i32_88
  let v157 : BitVec 32 := Scalar.addi v145 v156
  let c1920_i32_89 : BitVec 32 := 1920#32
  let v158 : BitVec 32 := Scalar.addi v157 c1920_i32_89
  v158
def k0_mult11 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c12_i32 : BitVec 32 := 12#32
  let v177 : BitVec 32 := Scalar.addi arg15 c12_i32
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c32_i32_94 : BitVec 32 := 32#32
  let c0_i32_97 : BitVec 32 := 0#32
  let v184 : BitVec 1 := Scalar.cmpi .sgt c32_i32_94 c0_i32_97
  let v185 : BitVec 32 := Scalar.extui v184
  let c0_i32_98 : BitVec 32 := 0#32
  let v186 : BitVec 1 := Scalar.cmpi .slt c32_i32_94 c0_i32_98
  let v187 : BitVec 32 := Scalar.extui v186
  let v188 : BitVec 32 := Scalar.subi v185 v187
  let v189 : BitVec 1 := Scalar.cmpi .ne v183 v188
  let v190 : BitVec 32 := Scalar.remsi v177 c32_i32_94
  let c0_i32_99 : BitVec 32 := 0#32
  let v191 : BitVec 1 := Scalar.cmpi .ne v190 c0_i32_99
  let v192 : BitVec 1 := Scalar.andi v189 v191
  let v178 : BitVec 32 := Scalar.divsi v177 c32_i32_94
  let c1_i32_100 : BitVec 32 := 1#32
  let v193 : BitVec 32 := Scalar.subi v178 c1_i32_100
  let v194 : BitVec 32 := Scalar.select v192 v193 v178
  let c32_i32_101 : BitVec 32 := 32#32
  let c0_i32_102 : BitVec 32 := 0#32
  let v195 : BitVec 1 := Scalar.cmpi .eq c32_i32_101 c0_i32_102
  let c1_i32_103 : BitVec 32 := 1#32
  let v196 : BitVec 32 := Scalar.select v195 c1_i32_103 c32_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c128_i32_107 : BitVec 32 := 128#32
  let v205 : BitVec 32 := Scalar.muli v204 c128_i32_107
  let v206 : BitVec 32 := Scalar.addi v194 v205
  v206
def k0_mult12 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c12_i32 : BitVec 32 := 12#32
  let v177 : BitVec 32 := Scalar.addi arg15 c12_i32
  let c0_i32_95 : BitVec 32 := 0#32
  let v179 : BitVec 1 := Scalar.cmpi .sgt v177 c0_i32_95
  let v180 : BitVec 32 := Scalar.extui v179
  let c0_i32_96 : BitVec 32 := 0#32
  let v181 : BitVec 1 := Scalar.cmpi .slt v177 c0_i32_96
  let v182 : BitVec 32 := Scalar.extui v181
  let v183 : BitVec 32 := Scalar.subi v180 v182
  let c32_i32_94 : BitVec 32 := 32#32
  let c0_i32_97 : BitVec 32 := 0#32
  let v184 : BitVec 1 := Scalar.cmpi .sgt c32_i32_94 c0_i32_97
  let v185 : BitVec 32 := Scalar.extui v184
  let c0_i32_98 : BitVec 32 := 0#32
  let v186 : BitVec 1 := Scalar.cmpi .slt c32_i32_94 c0_i32_98
  let v187 : BitVec 32 := Scalar.extui v186
  let v188 : BitVec 32 := Scalar.subi v185 v187
  let v189 : BitVec 1 := Scalar.cmpi .ne v183 v188
  let v190 : BitVec 32 := Scalar.remsi v177 c32_i32_94
  let c0_i32_99 : BitVec 32 := 0#32
  let v191 : BitVec 1 := Scalar.cmpi .ne v190 c0_i32_99
  let v192 : BitVec 1 := Scalar.andi v189 v191
  let v178 : BitVec 32 := Scalar.divsi v177 c32_i32_94
  let c1_i32_100 : BitVec 32 := 1#32
  let v193 : BitVec 32 := Scalar.subi v178 c1_i32_100
  let v194 : BitVec 32 := Scalar.select v192 v193 v178
  let c32_i32_101 : BitVec 32 := 32#32
  let c0_i32_102 : BitVec 32 := 0#32
  let v195 : BitVec 1 := Scalar.cmpi .eq c32_i32_101 c0_i32_102
  let c1_i32_103 : BitVec 32 := 1#32
  let v196 : BitVec 32 := Scalar.select v195 c1_i32_103 c32_i32_101
  let v197 : BitVec 32 := Scalar.remsi v177 v196
  let c0_i32_105 : BitVec 32 := 0#32
  let v199 : BitVec 1 := Scalar.cmpi .slt v197 c0_i32_105
  let c0_i32_106 : BitVec 32 := 0#32
  let v200 : BitVec 1 := Scalar.cmpi .slt v196 c0_i32_106
  let v201 : BitVec 1 := Scalar.xori v199 v200
  let c0_i32_104 : BitVec 32 := 0#32
  let v198 : BitVec 1 := Scalar.cmpi .ne v197 c0_i32_104
  let v202 : BitVec 1 := Scalar.andi v201 v198
  let v203 : BitVec 32 := Scalar.addi v197 v196
  let v204 : BitVec 32 := Scalar.select v202 v203 v197
  let c128_i32_107 : BitVec 32 := 128#32
  let v205 : BitVec 32 := Scalar.muli v204 c128_i32_107
  let v206 : BitVec 32 := Scalar.addi v194 v205
  let c1920_i32_108 : BitVec 32 := 1920#32
  let v207 : BitVec 32 := Scalar.addi v206 c1920_i32_108
  v207
def k0_mult13 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c16_i32 : BitVec 32 := 16#32
  let v226 : BitVec 32 := Scalar.addi arg15 c16_i32
  let c0_i32_114 : BitVec 32 := 0#32
  let v228 : BitVec 1 := Scalar.cmpi .sgt v226 c0_i32_114
  let v229 : BitVec 32 := Scalar.extui v228
  let c0_i32_115 : BitVec 32 := 0#32
  let v230 : BitVec 1 := Scalar.cmpi .slt v226 c0_i32_115
  let v231 : BitVec 32 := Scalar.extui v230
  let v232 : BitVec 32 := Scalar.subi v229 v231
  let c32_i32_113 : BitVec 32 := 32#32
  let c0_i32_116 : BitVec 32 := 0#32
  let v233 : BitVec 1 := Scalar.cmpi .sgt c32_i32_113 c0_i32_116
  let v234 : BitVec 32 := Scalar.extui v233
  let c0_i32_117 : BitVec 32 := 0#32
  let v235 : BitVec 1 := Scalar.cmpi .slt c32_i32_113 c0_i32_117
  let v236 : BitVec 32 := Scalar.extui v235
  let v237 : BitVec 32 := Scalar.subi v234 v236
  let v238 : BitVec 1 := Scalar.cmpi .ne v232 v237
  let v239 : BitVec 32 := Scalar.remsi v226 c32_i32_113
  let c0_i32_118 : BitVec 32 := 0#32
  let v240 : BitVec 1 := Scalar.cmpi .ne v239 c0_i32_118
  let v241 : BitVec 1 := Scalar.andi v238 v240
  let v227 : BitVec 32 := Scalar.divsi v226 c32_i32_113
  let c1_i32_119 : BitVec 32 := 1#32
  let v242 : BitVec 32 := Scalar.subi v227 c1_i32_119
  let v243 : BitVec 32 := Scalar.select v241 v242 v227
  let c32_i32_120 : BitVec 32 := 32#32
  let c0_i32_121 : BitVec 32 := 0#32
  let v244 : BitVec 1 := Scalar.cmpi .eq c32_i32_120 c0_i32_121
  let c1_i32_122 : BitVec 32 := 1#32
  let v245 : BitVec 32 := Scalar.select v244 c1_i32_122 c32_i32_120
  let v246 : BitVec 32 := Scalar.remsi v226 v245
  let c0_i32_124 : BitVec 32 := 0#32
  let v248 : BitVec 1 := Scalar.cmpi .slt v246 c0_i32_124
  let c0_i32_125 : BitVec 32 := 0#32
  let v249 : BitVec 1 := Scalar.cmpi .slt v245 c0_i32_125
  let v250 : BitVec 1 := Scalar.xori v248 v249
  let c0_i32_123 : BitVec 32 := 0#32
  let v247 : BitVec 1 := Scalar.cmpi .ne v246 c0_i32_123
  let v251 : BitVec 1 := Scalar.andi v250 v247
  let v252 : BitVec 32 := Scalar.addi v246 v245
  let v253 : BitVec 32 := Scalar.select v251 v252 v246
  let c128_i32_126 : BitVec 32 := 128#32
  let v254 : BitVec 32 := Scalar.muli v253 c128_i32_126
  let v255 : BitVec 32 := Scalar.addi v243 v254
  v255
def k0_mult14 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c16_i32 : BitVec 32 := 16#32
  let v226 : BitVec 32 := Scalar.addi arg15 c16_i32
  let c0_i32_114 : BitVec 32 := 0#32
  let v228 : BitVec 1 := Scalar.cmpi .sgt v226 c0_i32_114
  let v229 : BitVec 32 := Scalar.extui v228
  let c0_i32_115 : BitVec 32 := 0#32
  let v230 : BitVec 1 := Scalar.cmpi .slt v226 c0_i32_115
  let v231 : BitVec 32 := Scalar.extui v230
  let v232 : BitVec 32 := Scalar.subi v229 v231
  let c32_i32_113 : BitVec 32 := 32#32
  let c0_i32_116 : BitVec 32 := 0#32
  let v233 : BitVec 1 := Scalar.cmpi .sgt c32_i32_113 c0_i32_116
  let v234 : BitVec 32 := Scalar.extui v233
  let c0_i32_117 : BitVec 32 := 0#32
  let v235 : BitVec 1 := Scalar.cmpi .slt c32_i32_113 c0_i32_117
  let v236 : BitVec 32 := Scalar.extui v235
  let v237 : BitVec 32 := Scalar.subi v234 v236
  let v238 : BitVec 1 := Scalar.cmpi .ne v232 v237
  let v239 : BitVec 32 := Scalar.remsi v226 c32_i32_113
  let c0_i32_118 : BitVec 32 := 0#32
  let v240 : BitVec 1 := Scalar.cmpi .ne v239 c0_i32_118
  let v241 : BitVec 1 := Scalar.andi v238 v240
  let v227 : BitVec 32 := Scalar.divsi v226 c32_i32_113
  let c1_i32_119 : BitVec 32 := 1#32
  let v242 : BitVec 32 := Scalar.subi v227 c1_i32_119
  let v243 : BitVec 32 := Scalar.select v241 v242 v227
  let c32_i32_120 : BitVec 32 := 32#32
  let c0_i32_121 : BitVec 32 := 0#32
  let v244 : BitVec 1 := Scalar.cmpi .eq c32_i32_120 c0_i32_121
  let c1_i32_122 : BitVec 32 := 1#32
  let v245 : BitVec 32 := Scalar.select v244 c1_i32_122 c32_i32_120
  let v246 : BitVec 32 := Scalar.remsi v226 v245
  let c0_i32_124 : BitVec 32 := 0#32
  let v248 : BitVec 1 := Scalar.cmpi .slt v246 c0_i32_124
  let c0_i32_125 : BitVec 32 := 0#32
  let v249 : BitVec 1 := Scalar.cmpi .slt v245 c0_i32_125
  let v250 : BitVec 1 := Scalar.xori v248 v249
  let c0_i32_123 : BitVec 32 := 0#32
  let v247 : BitVec 1 := Scalar.cmpi .ne v246 c0_i32_123
  let v251 : BitVec 1 := Scalar.andi v250 v247
  let v252 : BitVec 32 := Scalar.addi v246 v245
  let v253 : BitVec 32 := Scalar.select v251 v252 v246
  let c128_i32_126 : BitVec 32 := 128#32
  let v254 : BitVec 32 := Scalar.muli v253 c128_i32_126
  let v255 : BitVec 32 := Scalar.addi v243 v254
  let c1920_i32_127 : BitVec 32 := 1920#32
  let v256 : BitVec 32 := Scalar.addi v255 c1920_i32_127
  v256
def k0_mult15 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c20_i32 : BitVec 32 := 20#32
  let v275 : BitVec 32 := Scalar.addi arg15 c20_i32
  let c0_i32_133 : BitVec 32 := 0#32
  let v277 : BitVec 1 := Scalar.cmpi .sgt v275 c0_i32_133
  let v278 : BitVec 32 := Scalar.extui v277
  let c0_i32_134 : BitVec 32 := 0#32
  let v279 : BitVec 1 := Scalar.cmpi .slt v275 c0_i32_134
  let v280 : BitVec 32 := Scalar.extui v279
  let v281 : BitVec 32 := Scalar.subi v278 v280
  let c32_i32_132 : BitVec 32 := 32#32
  let c0_i32_135 : BitVec 32 := 0#32
  let v282 : BitVec 1 := Scalar.cmpi .sgt c32_i32_132 c0_i32_135
  let v283 : BitVec 32 := Scalar.extui v282
  let c0_i32_136 : BitVec 32 := 0#32
  let v284 : BitVec 1 := Scalar.cmpi .slt c32_i32_132 c0_i32_136
  let v285 : BitVec 32 := Scalar.extui v284
  let v286 : BitVec 32 := Scalar.subi v283 v285
  let v287 : BitVec 1 := Scalar.cmpi .ne v281 v286
  let v288 : BitVec 32 := Scalar.remsi v275 c32_i32_132
  let c0_i32_137 : BitVec 32 := 0#32
  let v289 : BitVec 1 := Scalar.cmpi .ne v288 c0_i32_137
  let v290 : BitVec 1 := Scalar.andi v287 v289
  let v276 : BitVec 32 := Scalar.divsi v275 c32_i32_132
  let c1_i32_138 : BitVec 32 := 1#32
  let v291 : BitVec 32 := Scalar.subi v276 c1_i32_138
  let v292 : BitVec 32 := Scalar.select v290 v291 v276
  let c32_i32_139 : BitVec 32 := 32#32
  let c0_i32_140 : BitVec 32 := 0#32
  let v293 : BitVec 1 := Scalar.cmpi .eq c32_i32_139 c0_i32_140
  let c1_i32_141 : BitVec 32 := 1#32
  let v294 : BitVec 32 := Scalar.select v293 c1_i32_141 c32_i32_139
  let v295 : BitVec 32 := Scalar.remsi v275 v294
  let c0_i32_143 : BitVec 32 := 0#32
  let v297 : BitVec 1 := Scalar.cmpi .slt v295 c0_i32_143
  let c0_i32_144 : BitVec 32 := 0#32
  let v298 : BitVec 1 := Scalar.cmpi .slt v294 c0_i32_144
  let v299 : BitVec 1 := Scalar.xori v297 v298
  let c0_i32_142 : BitVec 32 := 0#32
  let v296 : BitVec 1 := Scalar.cmpi .ne v295 c0_i32_142
  let v300 : BitVec 1 := Scalar.andi v299 v296
  let v301 : BitVec 32 := Scalar.addi v295 v294
  let v302 : BitVec 32 := Scalar.select v300 v301 v295
  let c128_i32_145 : BitVec 32 := 128#32
  let v303 : BitVec 32 := Scalar.muli v302 c128_i32_145
  let v304 : BitVec 32 := Scalar.addi v292 v303
  v304
def k0_mult16 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c20_i32 : BitVec 32 := 20#32
  let v275 : BitVec 32 := Scalar.addi arg15 c20_i32
  let c0_i32_133 : BitVec 32 := 0#32
  let v277 : BitVec 1 := Scalar.cmpi .sgt v275 c0_i32_133
  let v278 : BitVec 32 := Scalar.extui v277
  let c0_i32_134 : BitVec 32 := 0#32
  let v279 : BitVec 1 := Scalar.cmpi .slt v275 c0_i32_134
  let v280 : BitVec 32 := Scalar.extui v279
  let v281 : BitVec 32 := Scalar.subi v278 v280
  let c32_i32_132 : BitVec 32 := 32#32
  let c0_i32_135 : BitVec 32 := 0#32
  let v282 : BitVec 1 := Scalar.cmpi .sgt c32_i32_132 c0_i32_135
  let v283 : BitVec 32 := Scalar.extui v282
  let c0_i32_136 : BitVec 32 := 0#32
  let v284 : BitVec 1 := Scalar.cmpi .slt c32_i32_132 c0_i32_136
  let v285 : BitVec 32 := Scalar.extui v284
  let v286 : BitVec 32 := Scalar.subi v283 v285
  let v287 : BitVec 1 := Scalar.cmpi .ne v281 v286
  let v288 : BitVec 32 := Scalar.remsi v275 c32_i32_132
  let c0_i32_137 : BitVec 32 := 0#32
  let v289 : BitVec 1 := Scalar.cmpi .ne v288 c0_i32_137
  let v290 : BitVec 1 := Scalar.andi v287 v289
  let v276 : BitVec 32 := Scalar.divsi v275 c32_i32_132
  let c1_i32_138 : BitVec 32 := 1#32
  let v291 : BitVec 32 := Scalar.subi v276 c1_i32_138
  let v292 : BitVec 32 := Scalar.select v290 v291 v276
  let c32_i32_139 : BitVec 32 := 32#32
  let c0_i32_140 : BitVec 32 := 0#32
  let v293 : BitVec 1 := Scalar.cmpi .eq c32_i32_139 c0_i32_140
  let c1_i32_141 : BitVec 32 := 1#32
  let v294 : BitVec 32 := Scalar.select v293 c1_i32_141 c32_i32_139
  let v295 : BitVec 32 := Scalar.remsi v275 v294
  let c0_i32_143 : BitVec 32 := 0#32
  let v297 : BitVec 1 := Scalar.cmpi .slt v295 c0_i32_143
  let c0_i32_144 : BitVec 32 := 0#32
  let v298 : BitVec 1 := Scalar.cmpi .slt v294 c0_i32_144
  let v299 : BitVec 1 := Scalar.xori v297 v298
  let c0_i32_142 : BitVec 32 := 0#32
  let v296 : BitVec 1 := Scalar.cmpi .ne v295 c0_i32_142
  let v300 : BitVec 1 := Scalar.andi v299 v296
  let v301 : BitVec 32 := Scalar.addi v295 v294
  let v302 : BitVec 32 := Scalar.select v300 v301 v295
  let c128_i32_145 : BitVec 32 := 128#32
  let v303 : BitVec 32 := Scalar.muli v302 c128_i32_145
  let v304 : BitVec 32 := Scalar.addi v292 v303
  let c1920_i32_146 : BitVec 32 := 1920#32
  let v305 : BitVec 32 := Scalar.addi v304 c1920_i32_146
  v305
def k0_mult17 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c24_i32 : BitVec 32 := 24#32
  let v324 : BitVec 32 := Scalar.addi arg15 c24_i32
  let c0_i32_152 : BitVec 32 := 0#32
  let v326 : BitVec 1 := Scalar.cmpi .sgt v324 c0_i32_152
  let v327 : BitVec 32 := Scalar.extui v326
  let c0_i32_153 : BitVec 32 := 0#32
  let v328 : BitVec 1 := Scalar.cmpi .slt v324 c0_i32_153
  let v329 : BitVec 32 := Scalar.extui v328
  let v330 : BitVec 32 := Scalar.subi v327 v329
  let c32_i32_151 : BitVec 32 := 32#32
  let c0_i32_154 : BitVec 32 := 0#32
  let v331 : BitVec 1 := Scalar.cmpi .sgt c32_i32_151 c0_i32_154
  let v332 : BitVec 32 := Scalar.extui v331
  let c0_i32_155 : BitVec 32 := 0#32
  let v333 : BitVec 1 := Scalar.cmpi .slt c32_i32_151 c0_i32_155
  let v334 : BitVec 32 := Scalar.extui v333
  let v335 : BitVec 32 := Scalar.subi v332 v334
  let v336 : BitVec 1 := Scalar.cmpi .ne v330 v335
  let v337 : BitVec 32 := Scalar.remsi v324 c32_i32_151
  let c0_i32_156 : BitVec 32 := 0#32
  let v338 : BitVec 1 := Scalar.cmpi .ne v337 c0_i32_156
  let v339 : BitVec 1 := Scalar.andi v336 v338
  let v325 : BitVec 32 := Scalar.divsi v324 c32_i32_151
  let c1_i32_157 : BitVec 32 := 1#32
  let v340 : BitVec 32 := Scalar.subi v325 c1_i32_157
  let v341 : BitVec 32 := Scalar.select v339 v340 v325
  let c32_i32_158 : BitVec 32 := 32#32
  let c0_i32_159 : BitVec 32 := 0#32
  let v342 : BitVec 1 := Scalar.cmpi .eq c32_i32_158 c0_i32_159
  let c1_i32_160 : BitVec 32 := 1#32
  let v343 : BitVec 32 := Scalar.select v342 c1_i32_160 c32_i32_158
  let v344 : BitVec 32 := Scalar.remsi v324 v343
  let c0_i32_162 : BitVec 32 := 0#32
  let v346 : BitVec 1 := Scalar.cmpi .slt v344 c0_i32_162
  let c0_i32_163 : BitVec 32 := 0#32
  let v347 : BitVec 1 := Scalar.cmpi .slt v343 c0_i32_163
  let v348 : BitVec 1 := Scalar.xori v346 v347
  let c0_i32_161 : BitVec 32 := 0#32
  let v345 : BitVec 1 := Scalar.cmpi .ne v344 c0_i32_161
  let v349 : BitVec 1 := Scalar.andi v348 v345
  let v350 : BitVec 32 := Scalar.addi v344 v343
  let v351 : BitVec 32 := Scalar.select v349 v350 v344
  let c128_i32_164 : BitVec 32 := 128#32
  let v352 : BitVec 32 := Scalar.muli v351 c128_i32_164
  let v353 : BitVec 32 := Scalar.addi v341 v352
  v353
def k0_mult18 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c24_i32 : BitVec 32 := 24#32
  let v324 : BitVec 32 := Scalar.addi arg15 c24_i32
  let c0_i32_152 : BitVec 32 := 0#32
  let v326 : BitVec 1 := Scalar.cmpi .sgt v324 c0_i32_152
  let v327 : BitVec 32 := Scalar.extui v326
  let c0_i32_153 : BitVec 32 := 0#32
  let v328 : BitVec 1 := Scalar.cmpi .slt v324 c0_i32_153
  let v329 : BitVec 32 := Scalar.extui v328
  let v330 : BitVec 32 := Scalar.subi v327 v329
  let c32_i32_151 : BitVec 32 := 32#32
  let c0_i32_154 : BitVec 32 := 0#32
  let v331 : BitVec 1 := Scalar.cmpi .sgt c32_i32_151 c0_i32_154
  let v332 : BitVec 32 := Scalar.extui v331
  let c0_i32_155 : BitVec 32 := 0#32
  let v333 : BitVec 1 := Scalar.cmpi .slt c32_i32_151 c0_i32_155
  let v334 : BitVec 32 := Scalar.extui v333
  let v335 : BitVec 32 := Scalar.subi v332 v334
  let v336 : BitVec 1 := Scalar.cmpi .ne v330 v335
  let v337 : BitVec 32 := Scalar.remsi v324 c32_i32_151
  let c0_i32_156 : BitVec 32 := 0#32
  let v338 : BitVec 1 := Scalar.cmpi .ne v337 c0_i32_156
  let v339 : BitVec 1 := Scalar.andi v336 v338
  let v325 : BitVec 32 := Scalar.divsi v324 c32_i32_151
  let c1_i32_157 : BitVec 32 := 1#32
  let v340 : BitVec 32 := Scalar.subi v325 c1_i32_157
  let v341 : BitVec 32 := Scalar.select v339 v340 v325
  let c32_i32_158 : BitVec 32 := 32#32
  let c0_i32_159 : BitVec 32 := 0#32
  let v342 : BitVec 1 := Scalar.cmpi .eq c32_i32_158 c0_i32_159
  let c1_i32_160 : BitVec 32 := 1#32
  let v343 : BitVec 32 := Scalar.select v342 c1_i32_160 c32_i32_158
  let v344 : BitVec 32 := Scalar.remsi v324 v343
  let c0_i32_162 : BitVec 32 := 0#32
  let v346 : BitVec 1 := Scalar.cmpi .slt v344 c0_i32_162
  let c0_i32_163 : BitVec 32 := 0#32
  let v347 : BitVec 1 := Scalar.cmpi .slt v343 c0_i32_163
  let v348 : BitVec 1 := Scalar.xori v346 v347
  let c0_i32_161 : BitVec 32 := 0#32
  let v345 : BitVec 1 := Scalar.cmpi .ne v344 c0_i32_161
  let v349 : BitVec 1 := Scalar.andi v348 v345
  let v350 : BitVec 32 := Scalar.addi v344 v343
  let v351 : BitVec 32 := Scalar.select v349 v350 v344
  let c128_i32_164 : BitVec 32 := 128#32
  let v352 : BitVec 32 := Scalar.muli v351 c128_i32_164
  let v353 : BitVec 32 := Scalar.addi v341 v352
  let c1920_i32_165 : BitVec 32 := 1920#32
  let v354 : BitVec 32 := Scalar.addi v353 c1920_i32_165
  v354
def k0_mult19 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c28_i32 : BitVec 32 := 28#32
  let v373 : BitVec 32 := Scalar.addi arg15 c28_i32
  let c0_i32_171 : BitVec 32 := 0#32
  let v375 : BitVec 1 := Scalar.cmpi .sgt v373 c0_i32_171
  let v376 : BitVec 32 := Scalar.extui v375
  let c0_i32_172 : BitVec 32 := 0#32
  let v377 : BitVec 1 := Scalar.cmpi .slt v373 c0_i32_172
  let v378 : BitVec 32 := Scalar.extui v377
  let v379 : BitVec 32 := Scalar.subi v376 v378
  let c32_i32_170 : BitVec 32 := 32#32
  let c0_i32_173 : BitVec 32 := 0#32
  let v380 : BitVec 1 := Scalar.cmpi .sgt c32_i32_170 c0_i32_173
  let v381 : BitVec 32 := Scalar.extui v380
  let c0_i32_174 : BitVec 32 := 0#32
  let v382 : BitVec 1 := Scalar.cmpi .slt c32_i32_170 c0_i32_174
  let v383 : BitVec 32 := Scalar.extui v382
  let v384 : BitVec 32 := Scalar.subi v381 v383
  let v385 : BitVec 1 := Scalar.cmpi .ne v379 v384
  let v386 : BitVec 32 := Scalar.remsi v373 c32_i32_170
  let c0_i32_175 : BitVec 32 := 0#32
  let v387 : BitVec 1 := Scalar.cmpi .ne v386 c0_i32_175
  let v388 : BitVec 1 := Scalar.andi v385 v387
  let v374 : BitVec 32 := Scalar.divsi v373 c32_i32_170
  let c1_i32_176 : BitVec 32 := 1#32
  let v389 : BitVec 32 := Scalar.subi v374 c1_i32_176
  let v390 : BitVec 32 := Scalar.select v388 v389 v374
  let c32_i32_177 : BitVec 32 := 32#32
  let c0_i32_178 : BitVec 32 := 0#32
  let v391 : BitVec 1 := Scalar.cmpi .eq c32_i32_177 c0_i32_178
  let c1_i32_179 : BitVec 32 := 1#32
  let v392 : BitVec 32 := Scalar.select v391 c1_i32_179 c32_i32_177
  let v393 : BitVec 32 := Scalar.remsi v373 v392
  let c0_i32_181 : BitVec 32 := 0#32
  let v395 : BitVec 1 := Scalar.cmpi .slt v393 c0_i32_181
  let c0_i32_182 : BitVec 32 := 0#32
  let v396 : BitVec 1 := Scalar.cmpi .slt v392 c0_i32_182
  let v397 : BitVec 1 := Scalar.xori v395 v396
  let c0_i32_180 : BitVec 32 := 0#32
  let v394 : BitVec 1 := Scalar.cmpi .ne v393 c0_i32_180
  let v398 : BitVec 1 := Scalar.andi v397 v394
  let v399 : BitVec 32 := Scalar.addi v393 v392
  let v400 : BitVec 32 := Scalar.select v398 v399 v393
  let c128_i32_183 : BitVec 32 := 128#32
  let v401 : BitVec 32 := Scalar.muli v400 c128_i32_183
  let v402 : BitVec 32 := Scalar.addi v390 v401
  v402
def k0_mult20 (k0_t5 : Fin k0_t5_loop.trips) : BitVec 32 :=
  let c0_i32_21 : BitVec 32 := 0#32
  let c1_i32_23 : BitVec 32 := 1#32
  let arg15 : BitVec 32 := Scf.iv c0_i32_21 c1_i32_23 k0_t5
  let c28_i32 : BitVec 32 := 28#32
  let v373 : BitVec 32 := Scalar.addi arg15 c28_i32
  let c0_i32_171 : BitVec 32 := 0#32
  let v375 : BitVec 1 := Scalar.cmpi .sgt v373 c0_i32_171
  let v376 : BitVec 32 := Scalar.extui v375
  let c0_i32_172 : BitVec 32 := 0#32
  let v377 : BitVec 1 := Scalar.cmpi .slt v373 c0_i32_172
  let v378 : BitVec 32 := Scalar.extui v377
  let v379 : BitVec 32 := Scalar.subi v376 v378
  let c32_i32_170 : BitVec 32 := 32#32
  let c0_i32_173 : BitVec 32 := 0#32
  let v380 : BitVec 1 := Scalar.cmpi .sgt c32_i32_170 c0_i32_173
  let v381 : BitVec 32 := Scalar.extui v380
  let c0_i32_174 : BitVec 32 := 0#32
  let v382 : BitVec 1 := Scalar.cmpi .slt c32_i32_170 c0_i32_174
  let v383 : BitVec 32 := Scalar.extui v382
  let v384 : BitVec 32 := Scalar.subi v381 v383
  let v385 : BitVec 1 := Scalar.cmpi .ne v379 v384
  let v386 : BitVec 32 := Scalar.remsi v373 c32_i32_170
  let c0_i32_175 : BitVec 32 := 0#32
  let v387 : BitVec 1 := Scalar.cmpi .ne v386 c0_i32_175
  let v388 : BitVec 1 := Scalar.andi v385 v387
  let v374 : BitVec 32 := Scalar.divsi v373 c32_i32_170
  let c1_i32_176 : BitVec 32 := 1#32
  let v389 : BitVec 32 := Scalar.subi v374 c1_i32_176
  let v390 : BitVec 32 := Scalar.select v388 v389 v374
  let c32_i32_177 : BitVec 32 := 32#32
  let c0_i32_178 : BitVec 32 := 0#32
  let v391 : BitVec 1 := Scalar.cmpi .eq c32_i32_177 c0_i32_178
  let c1_i32_179 : BitVec 32 := 1#32
  let v392 : BitVec 32 := Scalar.select v391 c1_i32_179 c32_i32_177
  let v393 : BitVec 32 := Scalar.remsi v373 v392
  let c0_i32_181 : BitVec 32 := 0#32
  let v395 : BitVec 1 := Scalar.cmpi .slt v393 c0_i32_181
  let c0_i32_182 : BitVec 32 := 0#32
  let v396 : BitVec 1 := Scalar.cmpi .slt v392 c0_i32_182
  let v397 : BitVec 1 := Scalar.xori v395 v396
  let c0_i32_180 : BitVec 32 := 0#32
  let v394 : BitVec 1 := Scalar.cmpi .ne v393 c0_i32_180
  let v398 : BitVec 1 := Scalar.andi v397 v394
  let v399 : BitVec 32 := Scalar.addi v393 v392
  let v400 : BitVec 32 := Scalar.select v398 v399 v393
  let c128_i32_183 : BitVec 32 := 128#32
  let v401 : BitVec 32 := Scalar.muli v400 c128_i32_183
  let v402 : BitVec 32 := Scalar.addi v390 v401
  let c1920_i32_184 : BitVec 32 := 1920#32
  let v403 : BitVec 32 := Scalar.addi v402 c1920_i32_184
  v403
def k0_off9 (k0_t5 : Fin k0_t5_loop.trips) (c0_i32_36 : BitVec 32) : Fin 2 → Nat :=
  let c0_i32_21 : BitVec 32 := 0#32
  let c1_i32_23 : BitVec 32 := 1#32
  let arg15 : BitVec 32 := Scf.iv c0_i32_21 c1_i32_23 k0_t5
  let v30 : BitVec 32 := Scalar.addi arg15 c0_i32_36
  let c0_i32_38 : BitVec 32 := 0#32
  let v32 : BitVec 1 := Scalar.cmpi .sgt v30 c0_i32_38
  let v33 : BitVec 32 := Scalar.extui v32
  let c0_i32_39 : BitVec 32 := 0#32
  let v34 : BitVec 1 := Scalar.cmpi .slt v30 c0_i32_39
  let v35 : BitVec 32 := Scalar.extui v34
  let v36 : BitVec 32 := Scalar.subi v33 v35
  let c32_i32_37 : BitVec 32 := 32#32
  let c0_i32_40 : BitVec 32 := 0#32
  let v37 : BitVec 1 := Scalar.cmpi .sgt c32_i32_37 c0_i32_40
  let v38 : BitVec 32 := Scalar.extui v37
  let c0_i32_41 : BitVec 32 := 0#32
  let v39 : BitVec 1 := Scalar.cmpi .slt c32_i32_37 c0_i32_41
  let v40 : BitVec 32 := Scalar.extui v39
  let v41 : BitVec 32 := Scalar.subi v38 v40
  let v42 : BitVec 1 := Scalar.cmpi .ne v36 v41
  let v43 : BitVec 32 := Scalar.remsi v30 c32_i32_37
  let c0_i32_42 : BitVec 32 := 0#32
  let v44 : BitVec 1 := Scalar.cmpi .ne v43 c0_i32_42
  let v45 : BitVec 1 := Scalar.andi v42 v44
  let v31 : BitVec 32 := Scalar.divsi v30 c32_i32_37
  let c1_i32_43 : BitVec 32 := 1#32
  let v46 : BitVec 32 := Scalar.subi v31 c1_i32_43
  let v47 : BitVec 32 := Scalar.select v45 v46 v31
  let c32_i32_44 : BitVec 32 := 32#32
  let c0_i32_45 : BitVec 32 := 0#32
  let v48 : BitVec 1 := Scalar.cmpi .eq c32_i32_44 c0_i32_45
  let c1_i32_46 : BitVec 32 := 1#32
  let v49 : BitVec 32 := Scalar.select v48 c1_i32_46 c32_i32_44
  let v50 : BitVec 32 := Scalar.remsi v30 v49
  let c0_i32_48 : BitVec 32 := 0#32
  let v52 : BitVec 1 := Scalar.cmpi .slt v50 c0_i32_48
  let c0_i32_49 : BitVec 32 := 0#32
  let v53 : BitVec 1 := Scalar.cmpi .slt v49 c0_i32_49
  let v54 : BitVec 1 := Scalar.xori v52 v53
  let c0_i32_47 : BitVec 32 := 0#32
  let v51 : BitVec 1 := Scalar.cmpi .ne v50 c0_i32_47
  let v55 : BitVec 1 := Scalar.andi v54 v51
  let v56 : BitVec 32 := Scalar.addi v50 v49
  let v57 : BitVec 32 := Scalar.select v55 v56 v50
  let c128_i32 : BitVec 32 := 128#32
  let v58 : BitVec 32 := Scalar.muli v57 c128_i32
  let v59 : BitVec 32 := Scalar.addi v47 v58
  let v61 : BitVec 32 := v59
  let v422 : Index := Scalar.indexCast v61
  let c0_189 : Index := 0#32
  ![v422.toNat, 0]
def k0_off10 (k0_t5 : Fin k0_t5_loop.trips) (c0_i32_36 : BitVec 32) : Fin 2 → Nat :=
  let c0_i32_21 : BitVec 32 := 0#32
  let c1_i32_23 : BitVec 32 := 1#32
  let arg15 : BitVec 32 := Scf.iv c0_i32_21 c1_i32_23 k0_t5
  let v30 : BitVec 32 := Scalar.addi arg15 c0_i32_36
  let c0_i32_38 : BitVec 32 := 0#32
  let v32 : BitVec 1 := Scalar.cmpi .sgt v30 c0_i32_38
  let v33 : BitVec 32 := Scalar.extui v32
  let c0_i32_39 : BitVec 32 := 0#32
  let v34 : BitVec 1 := Scalar.cmpi .slt v30 c0_i32_39
  let v35 : BitVec 32 := Scalar.extui v34
  let v36 : BitVec 32 := Scalar.subi v33 v35
  let c32_i32_37 : BitVec 32 := 32#32
  let c0_i32_40 : BitVec 32 := 0#32
  let v37 : BitVec 1 := Scalar.cmpi .sgt c32_i32_37 c0_i32_40
  let v38 : BitVec 32 := Scalar.extui v37
  let c0_i32_41 : BitVec 32 := 0#32
  let v39 : BitVec 1 := Scalar.cmpi .slt c32_i32_37 c0_i32_41
  let v40 : BitVec 32 := Scalar.extui v39
  let v41 : BitVec 32 := Scalar.subi v38 v40
  let v42 : BitVec 1 := Scalar.cmpi .ne v36 v41
  let v43 : BitVec 32 := Scalar.remsi v30 c32_i32_37
  let c0_i32_42 : BitVec 32 := 0#32
  let v44 : BitVec 1 := Scalar.cmpi .ne v43 c0_i32_42
  let v45 : BitVec 1 := Scalar.andi v42 v44
  let v31 : BitVec 32 := Scalar.divsi v30 c32_i32_37
  let c1_i32_43 : BitVec 32 := 1#32
  let v46 : BitVec 32 := Scalar.subi v31 c1_i32_43
  let v47 : BitVec 32 := Scalar.select v45 v46 v31
  let c32_i32_44 : BitVec 32 := 32#32
  let c0_i32_45 : BitVec 32 := 0#32
  let v48 : BitVec 1 := Scalar.cmpi .eq c32_i32_44 c0_i32_45
  let c1_i32_46 : BitVec 32 := 1#32
  let v49 : BitVec 32 := Scalar.select v48 c1_i32_46 c32_i32_44
  let v50 : BitVec 32 := Scalar.remsi v30 v49
  let c0_i32_48 : BitVec 32 := 0#32
  let v52 : BitVec 1 := Scalar.cmpi .slt v50 c0_i32_48
  let c0_i32_49 : BitVec 32 := 0#32
  let v53 : BitVec 1 := Scalar.cmpi .slt v49 c0_i32_49
  let v54 : BitVec 1 := Scalar.xori v52 v53
  let c0_i32_47 : BitVec 32 := 0#32
  let v51 : BitVec 1 := Scalar.cmpi .ne v50 c0_i32_47
  let v55 : BitVec 1 := Scalar.andi v54 v51
  let v56 : BitVec 32 := Scalar.addi v50 v49
  let v57 : BitVec 32 := Scalar.select v55 v56 v50
  let c128_i32 : BitVec 32 := 128#32
  let v58 : BitVec 32 := Scalar.muli v57 c128_i32
  let v59 : BitVec 32 := Scalar.addi v47 v58
  let c1920_i32 : BitVec 32 := 1920#32
  let v60 : BitVec 32 := Scalar.addi v59 c1920_i32
  let v62 : BitVec 32 := v60
  let v470 : Index := Scalar.indexCast v62
  let c0_205 : Index := 0#32
  ![v470.toNat, 0]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x4096 : Shape := ⟨2, ![4096, 4096]⟩
abbrev S4096x1024 : Shape := ⟨2, ![4096, 1024]⟩
abbrev S4096x8x128 : Shape := ⟨3, ![4096, 8, 128]⟩
abbrev S8x4096x4096 : Shape := ⟨3, ![8, 4096, 4096]⟩
abbrev S_ : Shape := ⟨0, ![]⟩
abbrev S1x4096x4096 : Shape := ⟨3, ![1, 4096, 4096]⟩
abbrev S3x4096x4096 : Shape := ⟨3, ![3, 4096, 4096]⟩
abbrev S3x1x4096x4096 : Shape := ⟨4, ![3, 1, 4096, 4096]⟩
abbrev S3x8x4096x4096 : Shape := ⟨4, ![3, 8, 4096, 4096]⟩
abbrev S3x8x4096 : Shape := ⟨3, ![3, 8, 4096]⟩
abbrev S3x8x4096x1 : Shape := ⟨4, ![3, 8, 4096, 1]⟩
abbrev S8x128x3x4096 : Shape := ⟨4, ![8, 128, 3, 4096]⟩
abbrev S3x4096x8x128 : Shape := ⟨4, ![3, 4096, 8, 128]⟩
abbrev S8x4096 : Shape := ⟨2, ![8, 4096]⟩
abbrev S1x8x4096 : Shape := ⟨3, ![1, 8, 4096]⟩
abbrev S3x4096x8 : Shape := ⟨3, ![3, 4096, 8]⟩
abbrev S3x4096x8x1 : Shape := ⟨4, ![3, 4096, 8, 1]⟩
abbrev S8x3x4096x4096 : Shape := ⟨4, ![8, 3, 4096, 4096]⟩
abbrev S8x128x4096 : Shape := ⟨3, ![8, 128, 4096]⟩
abbrev S8x4096x128 : Shape := ⟨3, ![8, 4096, 128]⟩

abbrev nBuf : Space → Nat
  | .hbm => 190
  | .vmem => 0
  | .smem => 0
  | _ => 0

abbrev hbmTy0_0 (i : Nat) : BufTy := match i % 128 with
  | 0 => ⟨S4096x4096, .f32⟩
  | 1 => ⟨S4096x1024, .f32⟩
  | 2 => ⟨S4096x1024, .f32⟩
  | 3 => ⟨S4096x8x128, .f32⟩
  | 4 => ⟨S4096x1024, .f32⟩
  | 5 => ⟨S4096x8x128, .f32⟩
  | 6 => ⟨S4096x1024, .f32⟩
  | 7 => ⟨S4096x8x128, .f32⟩
  | 8 => ⟨S8x4096x4096, .f32⟩
  | 9 => ⟨S_, .f32⟩
  | 10 => ⟨S8x4096x4096, .f32⟩
  | 11 => ⟨S8x4096x4096, .f32⟩
  | 12 => ⟨S4096x4096, .i32⟩
  | 13 => ⟨S4096x4096, .i32⟩
  | 14 => ⟨S4096x4096, .i32⟩
  | 15 => ⟨S_, .i32⟩
  | 16 => ⟨S4096x4096, .i32⟩
  | 17 => ⟨S4096x4096, .i1⟩
  | 18 => ⟨S_, .i32⟩
  | 19 => ⟨S4096x4096, .i32⟩
  | 20 => ⟨S4096x4096, .i1⟩
  | 21 => ⟨S4096x4096, .i1⟩
  | 22 => ⟨S_, .i32⟩
  | 23 => ⟨S4096x4096, .i32⟩
  | 24 => ⟨S4096x4096, .i32⟩
  | 25 => ⟨S_, .i32⟩
  | 26 => ⟨S4096x4096, .i32⟩
  | 27 => ⟨S4096x4096, .i1⟩
  | 28 => ⟨S4096x4096, .i1⟩
  | 29 => ⟨S_, .i32⟩
  | 30 => ⟨S4096x4096, .i32⟩
  | 31 => ⟨S4096x4096, .i1⟩
  | 32 => ⟨S_, .i32⟩
  | 33 => ⟨S4096x4096, .i32⟩
  | 34 => ⟨S4096x4096, .i1⟩
  | 35 => ⟨S4096x4096, .i1⟩
  | 36 => ⟨S_, .i32⟩
  | 37 => ⟨S4096x4096, .i32⟩
  | 38 => ⟨S4096x4096, .i32⟩
  | 39 => ⟨S_, .i32⟩
  | 40 => ⟨S4096x4096, .i32⟩
  | 41 => ⟨S4096x4096, .i1⟩
  | 42 => ⟨S4096x4096, .i1⟩
  | 43 => ⟨S_, .i32⟩
  | 44 => ⟨S4096x4096, .i32⟩
  | 45 => ⟨S4096x4096, .i1⟩
  | 46 => ⟨S_, .i32⟩
  | 47 => ⟨S4096x4096, .i32⟩
  | 48 => ⟨S4096x4096, .i1⟩
  | 49 => ⟨S4096x4096, .i1⟩
  | 50 => ⟨S_, .i32⟩
  | 51 => ⟨S4096x4096, .i32⟩
  | 52 => ⟨S4096x4096, .i32⟩
  | 53 => ⟨S_, .i32⟩
  | 54 => ⟨S4096x4096, .i32⟩
  | 55 => ⟨S4096x4096, .i1⟩
  | 56 => ⟨S4096x4096, .i1⟩
  | 57 => ⟨S1x4096x4096, .i1⟩
  | 58 => ⟨S1x4096x4096, .i1⟩
  | 59 => ⟨S1x4096x4096, .i1⟩
  | 60 => ⟨S3x4096x4096, .i1⟩
  | 61 => ⟨S3x1x4096x4096, .i1⟩
  | 62 => ⟨S3x8x4096x4096, .i1⟩
  | 63 => ⟨S3x8x4096x4096, .f32⟩
  | 64 => ⟨S_, .f32⟩
  | 65 => ⟨S3x8x4096x4096, .f32⟩
  | 66 => ⟨S3x8x4096x4096, .f32⟩
  | 67 => ⟨S_, .f32⟩
  | 68 => ⟨S3x8x4096x4096, .f32⟩
  | 69 => ⟨S_, .f32⟩
  | 70 => ⟨S3x8x4096, .f32⟩
  | 71 => ⟨S3x8x4096x1, .f32⟩
  | 72 => ⟨S3x8x4096x4096, .f32⟩
  | 73 => ⟨S3x8x4096x4096, .f32⟩
  | 74 => ⟨S3x8x4096x4096, .f32⟩
  | 75 => ⟨S_, .f32⟩
  | 76 => ⟨S3x8x4096, .f32⟩
  | 77 => ⟨S3x8x4096, .f32⟩
  | 78 => ⟨S3x8x4096, .f32⟩
  | 79 => ⟨S3x8x4096, .f32⟩
  | 80 => ⟨S3x8x4096x1, .f32⟩
  | 81 => ⟨S3x8x4096x4096, .f32⟩
  | 82 => ⟨S3x8x4096x4096, .f32⟩
  | 83 => ⟨S3x8x4096x4096, .f32⟩
  | 84 => ⟨S8x128x3x4096, .f32⟩
  | 85 => ⟨S3x4096x8x128, .f32⟩
  | 86 => ⟨S_, .f32⟩
  | 87 => ⟨S8x4096, .f32⟩
  | 88 => ⟨S1x8x4096, .f32⟩
  | 89 => ⟨S3x8x4096, .f32⟩
  | 90 => ⟨S3x8x4096, .i1⟩
  | 91 => ⟨S3x8x4096, .f32⟩
  | 92 => ⟨S_, .f32⟩
  | 93 => ⟨S8x4096, .f32⟩
  | 94 => ⟨S_, .f32⟩
  | 95 => ⟨S8x4096, .f32⟩
  | 96 => ⟨S8x4096, .f32⟩
  | 97 => ⟨S_, .f32⟩
  | 98 => ⟨S8x4096, .f32⟩
  | 99 => ⟨S8x4096, .i1⟩
  | 100 => ⟨S_, .f32⟩
  | 101 => ⟨S8x4096, .f32⟩
  | 102 => ⟨S8x4096, .i1⟩
  | 103 => ⟨S_, .f32⟩
  | 104 => ⟨S8x4096, .f32⟩
  | 105 => ⟨S_, .f32⟩
  | 106 => ⟨S8x4096, .f32⟩
  | 107 => ⟨S_, .f32⟩
  | 108 => ⟨S8x4096, .f32⟩
  | 109 => ⟨S8x4096, .f32⟩
  | 110 => ⟨S8x4096, .f32⟩
  | 111 => ⟨S1x8x4096, .f32⟩
  | 112 => ⟨S3x8x4096, .f32⟩
  | 113 => ⟨S3x8x4096, .f32⟩
  | 114 => ⟨S3x8x4096, .f32⟩
  | 115 => ⟨S_, .f32⟩
  | 116 => ⟨S8x4096, .f32⟩
  | 117 => ⟨S1x8x4096, .f32⟩
  | 118 => ⟨S3x8x4096, .f32⟩
  | 119 => ⟨S3x8x4096, .f32⟩
  | 120 => ⟨S1x8x4096, .f32⟩
  | 121 => ⟨S_, .f32⟩
  | 122 => ⟨S1x8x4096, .f32⟩
  | 123 => ⟨S1x8x4096, .f32⟩
  | 124 => ⟨S3x4096x8, .f32⟩
  | 125 => ⟨S3x4096x8x1, .f32⟩
  | 126 => ⟨S3x4096x8x128, .f32⟩
  | 127 => ⟨S3x4096x8x128, .f32⟩
  | _ => ⟨S4096x4096, .f32⟩

abbrev hbmTy0_1 (i : Nat) : BufTy := match i % 128 with
  | 0 => ⟨S_, .f32⟩
  | 1 => ⟨S4096x8x128, .f32⟩
  | 2 => ⟨S4096x8x128, .f32⟩
  | 3 => ⟨S3x4096x8x128, .f32⟩
  | 4 => ⟨S3x4096x8x128, .f32⟩
  | 5 => ⟨S3x4096x8x128, .f32⟩
  | 6 => ⟨S3x4096x8x128, .f32⟩
  | 7 => ⟨S_, .f32⟩
  | 8 => ⟨S3x4096x8, .f32⟩
  | 9 => ⟨S3x4096x8x1, .f32⟩
  | 10 => ⟨S_, .f32⟩
  | 11 => ⟨S3x4096x8, .f32⟩
  | 12 => ⟨S3x8x4096, .f32⟩
  | 13 => ⟨S3x8x4096, .f32⟩
  | 14 => ⟨S3x8x4096, .f32⟩
  | 15 => ⟨S3x8x4096, .f32⟩
  | 16 => ⟨S_, .f32⟩
  | 17 => ⟨S8x4096, .f32⟩
  | 18 => ⟨S1x8x4096, .f32⟩
  | 19 => ⟨S1x8x4096, .f32⟩
  | 20 => ⟨S3x8x4096, .f32⟩
  | 21 => ⟨S3x8x4096, .f32⟩
  | 22 => ⟨S_, .f32⟩
  | 23 => ⟨S8x4096, .f32⟩
  | 24 => ⟨S3x8x4096, .f32⟩
  | 25 => ⟨S3x8x4096, .f32⟩
  | 26 => ⟨S3x8x4096, .f32⟩
  | 27 => ⟨S8x128x3x4096, .f32⟩
  | 28 => ⟨S8x3x4096x4096, .f32⟩
  | 29 => ⟨S3x8x4096x4096, .f32⟩
  | 30 => ⟨S8x128x4096, .f32⟩
  | 31 => ⟨S4096x8x128, .f32⟩
  | 32 => ⟨S3x8x4096x4096, .f32⟩
  | 33 => ⟨S3x8x4096x4096, .f32⟩
  | 34 => ⟨S_, .f32⟩
  | 35 => ⟨S3x8x4096, .f32⟩
  | 36 => ⟨S3x8x4096x1, .f32⟩
  | 37 => ⟨S_, .f32⟩
  | 38 => ⟨S3x8x4096, .f32⟩
  | 39 => ⟨S3x8x4096, .f32⟩
  | 40 => ⟨S3x8x4096, .f32⟩
  | 41 => ⟨S3x8x4096x4096, .f32⟩
  | 42 => ⟨S3x8x4096x4096, .f32⟩
  | 43 => ⟨S3x8x4096x4096, .f32⟩
  | 44 => ⟨S_, .f32⟩
  | 45 => ⟨S3x8x4096x4096, .f32⟩
  | 46 => ⟨S3x8x4096x4096, .f32⟩
  | 47 => ⟨S_, .f32⟩
  | 48 => ⟨S8x4096x4096, .f32⟩
  | 49 => ⟨S_, .f32⟩
  | 50 => ⟨S8x4096x4096, .f32⟩
  | 51 => ⟨S8x4096x4096, .f32⟩
  | 52 => ⟨S8x4096x128, .f32⟩
  | 53 => ⟨S4096x8x128, .f32⟩
  | 54 => ⟨S8x4096x128, .f32⟩
  | 55 => ⟨S4096x8x128, .f32⟩
  | 56 => ⟨S4096x1024, .f32⟩
  | 57 => ⟨S4096x1024, .bf16⟩
  | 58 => ⟨S4096x1024, .f32⟩
  | 59 => ⟨S4096x1024, .bf16⟩
  | 60 => ⟨S4096x1024, .f32⟩
  | 61 => ⟨S4096x1024, .bf16⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_v33 : Ref sig .tc := ⟨.hbm, 45, rfl⟩
abbrev main_c_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_9 : Ref sig .tc := ⟨.hbm, 50, rfl⟩
abbrev main_v37 : Ref sig .tc := ⟨.hbm, 51, rfl⟩
abbrev main_v38 : Ref sig .tc := ⟨.hbm, 52, rfl⟩
abbrev main_c_10 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_11 : Ref sig .tc := ⟨.hbm, 64, rfl⟩
abbrev main_v49 : Ref sig .tc := ⟨.hbm, 65, rfl⟩
abbrev main_v50 : Ref sig .tc := ⟨.hbm, 66, rfl⟩
abbrev main_cst_12 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_14 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_15 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_16 : Ref sig .tc := ⟨.hbm, 92, rfl⟩
abbrev main_v72 : Ref sig .tc := ⟨.hbm, 93, rfl⟩
abbrev main_cst_17 : Ref sig .tc := ⟨.hbm, 94, rfl⟩
abbrev main_v73 : Ref sig .tc := ⟨.hbm, 95, rfl⟩
abbrev main_v74 : Ref sig .tc := ⟨.hbm, 96, rfl⟩
abbrev main_cst_18 : Ref sig .tc := ⟨.hbm, 97, rfl⟩
abbrev main_v75 : Ref sig .tc := ⟨.hbm, 98, rfl⟩
abbrev main_v76 : Ref sig .tc := ⟨.hbm, 99, rfl⟩
abbrev main_cst_19 : Ref sig .tc := ⟨.hbm, 100, rfl⟩
abbrev main_v77 : Ref sig .tc := ⟨.hbm, 101, rfl⟩
abbrev main_v78 : Ref sig .tc := ⟨.hbm, 102, rfl⟩
abbrev main_cst_20 : Ref sig .tc := ⟨.hbm, 103, rfl⟩
abbrev main_v79 : Ref sig .tc := ⟨.hbm, 104, rfl⟩
abbrev main_cst_21 : Ref sig .tc := ⟨.hbm, 105, rfl⟩
abbrev main_v80 : Ref sig .tc := ⟨.hbm, 106, rfl⟩
abbrev main_cst_22 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_23 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_24 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_25 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_26 : Ref sig .tc := ⟨.hbm, 135, rfl⟩
abbrev main_v105 : Ref sig .tc := ⟨.hbm, 136, rfl⟩
abbrev main_v106 : Ref sig .tc := ⟨.hbm, 137, rfl⟩
abbrev main_cst_27 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_28 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_29 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_30 : Ref sig .tc := ⟨.hbm, 162, rfl⟩
abbrev main_v128 : Ref sig .tc := ⟨.hbm, 163, rfl⟩
abbrev main_v129 : Ref sig .tc := ⟨.hbm, 164, rfl⟩
abbrev main_cst_31 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_32 : Ref sig .tc := ⟨.hbm, 172, rfl⟩
abbrev main_v136 : Ref sig .tc := ⟨.hbm, 173, rfl⟩
abbrev main_v137 : Ref sig .tc := ⟨.hbm, 174, rfl⟩
abbrev main_cst_33 : Ref sig .tc := ⟨.hbm, 175, rfl⟩
abbrev main_v138 : Ref sig .tc := ⟨.hbm, 176, rfl⟩
abbrev main_cst_34 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩

abbrev nD : Nat := 1
abbrev τ : Topo := Topo.v7x

variable {F : FTy → Type} [FloatOps F]
-- ==== Kernel2.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S1x8192x2048 : Shape := ⟨3, ![1, 8192, 2048]⟩
abbrev S2048x2048 : Shape := ⟨2, ![2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 10
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S4096x8192, .bf16⟩
  | .hbm, ⟨6, _⟩ => ⟨S4096x2048, .bf16⟩
  | .hbm, ⟨7, _⟩ => ⟨S8192x2048, .bf16⟩
  | .hbm, ⟨8, _⟩ => ⟨S1x8192x2048, .bf16⟩
  | .hbm, ⟨9, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== Kernel3.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S1x8192x2048 : Shape := ⟨3, ![1, 8192, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .bf16⟩
  | .hbm, ⟨10, _⟩ => ⟨S4096x2048, .bf16⟩
  | .hbm, ⟨11, _⟩ => ⟨S1x8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 arg2 c0_i32_11
  let c0_i32_12 : BitVec 32 := 0#32
  let v29 : BitVec 32 := Scalar.select v17 v27 c0_i32_12
  let c0_i32_13 : BitVec 32 := 0#32
  ![v28.toNat, v29.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 arg2 c0_i32_11
  let c0_i32_12 : BitVec 32 := 0#32
  let v29 : BitVec 32 := Scalar.select v17 v27 c0_i32_12
  let c0_i32_13 : BitVec 32 := 0#32
  ![v28.toNat, v29.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S1x8192x2048 : Shape := ⟨3, ![1, 8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S2048x8192, .f32⟩
  | .hbm, ⟨19, _⟩ => ⟨S8192x2048, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S8192x2048, .f32⟩
  | .hbm, ⟨26, _⟩ => ⟨S2048x8192, .f32⟩
  | .hbm, ⟨27, _⟩ => ⟨S4096x2048, .f32⟩
  | .hbm, ⟨28, _⟩ => ⟨S8192x2048, .bf16⟩
  | .hbm, ⟨29, _⟩ => ⟨S1x8192x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel4.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S1x8192x2048 : Shape := ⟨3, ![1, 8192, 2048]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 28
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | .hbm, ⟨24, _⟩ => ⟨S2048x8192, .bf16⟩
  | .hbm, ⟨25, _⟩ => ⟨S8192x2048, .bf16⟩
  | .hbm, ⟨26, _⟩ => ⟨S1x8192x2048, .bf16⟩
  | .hbm, ⟨27, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S2048x8192, .f32⟩
  | .hbm, ⟨19, _⟩ => ⟨S8192x2048, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S8192x2048, .f32⟩
  | .hbm, ⟨26, _⟩ => ⟨S2048x8192, .f32⟩
  | .hbm, ⟨27, _⟩ => ⟨S4096x2048, .f32⟩
  | .hbm, ⟨28, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel5.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 26
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | .hbm, ⟨24, _⟩ => ⟨S4096x2048, .bf16⟩
  | .hbm, ⟨25, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 arg2 c0_i32_11
  let c0_i32_12 : BitVec 32 := 0#32
  let v29 : BitVec 32 := Scalar.select v17 v27 c0_i32_12
  let c0_i32_13 : BitVec 32 := 0#32
  ![v28.toNat, v29.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 arg2 c0_i32_11
  let c0_i32_12 : BitVec 32 := 0#32
  let v29 : BitVec 32 := Scalar.select v17 v27 c0_i32_12
  let c0_i32_13 : BitVec 32 := 0#32
  ![v28.toNat, v29.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S2048x8x1024 : Shape := ⟨3, ![2048, 8, 1024]⟩
abbrev S8x2048x1024 : Shape := ⟨3, ![8, 2048, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x2048, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .i1⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S2048x8192, .f32⟩
  | .hbm, ⟨19, _⟩ => ⟨S8192x2048, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S8192x2048, .f32⟩
  | .hbm, ⟨26, _⟩ => ⟨S2048x8192, .f32⟩
  | .hbm, ⟨27, _⟩ => ⟨S4096x2048, .f32⟩
  | .hbm, ⟨28, _⟩ => ⟨S2048x8x1024, .f32⟩
  | .hbm, ⟨29, _⟩ => ⟨S8x2048x1024, .f32⟩
  | .hbm, ⟨30, _⟩ => ⟨S8x2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel6.lean ====
abbrev S4096x2048 : Shape := ⟨2, ![4096, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S2048x8192, .bf16⟩
  | .hbm, ⟨3, _⟩ => ⟨S2048x8x1024, .bf16⟩
  | .hbm, ⟨4, _⟩ => ⟨S8x2048x1024, .bf16⟩
  | .hbm, ⟨5, _⟩ => ⟨S4096x2048, .bf16⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S4096x8192, .bf16⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel7.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩
abbrev S1x8192x2048 : Shape := ⟨3, ![1, 8192, 2048]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 12
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | .hbm, ⟨9, _⟩ => ⟨S8192x2048, .bf16⟩
  | .hbm, ⟨10, _⟩ => ⟨S1x8192x2048, .bf16⟩
  | .hbm, ⟨11, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x8192 : Shape := ⟨2, ![2048, 8192]⟩
abbrev S8192x2048 : Shape := ⟨2, ![8192, 2048]⟩
abbrev S4096x8192 : Shape := ⟨2, ![4096, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S8192x2048, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x2048, .f32⟩
  | .hbm, ⟨9, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel8.lean ====
abbrev S4096x2048 : Shape := ⟨2, ![4096, 2048]⟩
abbrev S2048x4096 : Shape := ⟨2, ![2048, 4096]⟩
abbrev S2048x8x512 : Shape := ⟨3, ![2048, 8, 512]⟩
abbrev S8x2048x512 : Shape := ⟨3, ![8, 2048, 512]⟩
abbrev S4096x4096 : Shape := ⟨2, ![4096, 4096]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S2048x4096, .bf16⟩
  | .hbm, ⟨3, _⟩ => ⟨S2048x8x512, .bf16⟩
  | .hbm, ⟨4, _⟩ => ⟨S8x2048x512, .bf16⟩
  | .hbm, ⟨5, _⟩ => ⟨S4096x2048, .bf16⟩
  | .hbm, ⟨6, _⟩ => ⟨S4096x4096, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .f32⟩
  | .local _ .vmem, ⟨5, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x4096, .f32⟩
  | .hbm, ⟨2, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S4096x1024 : Shape := ⟨2, ![4096, 1024]⟩
abbrev S2048x2048 : Shape := ⟨2, ![2048, 2048]⟩
abbrev S1x2048x2048 : Shape := ⟨3, ![1, 2048, 2048]⟩
abbrev S4096x2048 : Shape := ⟨2, ![4096, 2048]⟩
abbrev S2048x1024 : Shape := ⟨2, ![2048, 1024]⟩
abbrev S1x2048x512 : Shape := ⟨3, ![1, 2048, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x2048, .f32⟩
  | .hbm, ⟨3, _⟩ => ⟨S4096x1024, .bf16⟩
  | .hbm, ⟨4, _⟩ => ⟨S4096x1024, .bf16⟩
  | .hbm, ⟨5, _⟩ => ⟨S2048x2048, .bf16⟩
  | .hbm, ⟨6, _⟩ => ⟨S1x2048x2048, .bf16⟩
  | .hbm, ⟨7, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x512, .bf16⟩
  | .local _ .vmem, ⟨5, _⟩ => ⟨S1x2048x512, .bf16⟩
  | .local _ .vmem, ⟨6, _⟩ => ⟨S2048x512, .bf16⟩
  | .local _ .vmem, ⟨7, _⟩ => ⟨S2048x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x1024 : Shape := ⟨2, ![4096, 1024]⟩
abbrev S2048x2048 : Shape := ⟨2, ![2048, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S2048x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S2048x2048 : Shape := ⟨2, ![2048, 2048]⟩
abbrev S4096x2048 : Shape := ⟨2, ![4096, 2048]⟩
abbrev S1x2048x2048 : Shape := ⟨3, ![1, 2048, 2048]⟩
abbrev S1x512x2048 : Shape := ⟨3, ![1, 512, 2048]⟩
abbrev S2048x512 : Shape := ⟨2, ![2048, 512]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .hbm, ⟨4, _⟩ => ⟨S1x2048x2048, .bf16⟩
  | .hbm, ⟨5, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S2048x512, .bf16⟩
  | .local _ .vmem, ⟨5, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1x2048x2048 : Shape := ⟨3, ![1, 2048, 2048]⟩
abbrev S1x2048x512 : Shape := ⟨3, ![1, 2048, 512]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S1x2048x2048, .bf16⟩
  | .hbm, ⟨5, _⟩ => ⟨S4096x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .bf16⟩
  | .local _ .vmem, ⟨5, _⟩ => ⟨S2048x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S4096x1024 : Shape := ⟨2, ![4096, 1024]⟩
abbrev S2048x4096 : Shape := ⟨2, ![2048, 4096]⟩
abbrev S4096x2048 : Shape := ⟨2, ![4096, 2048]⟩
abbrev S1x4096x2048 : Shape := ⟨3, ![1, 4096, 2048]⟩
abbrev S2048x1024 : Shape := ⟨2, ![2048, 1024]⟩
abbrev S1x2048x512 : Shape := ⟨3, ![1, 2048, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 13
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S2048x4096, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S2048x4096, .bf16⟩
  | .hbm, ⟨10, _⟩ => ⟨S4096x2048, .bf16⟩
  | .hbm, ⟨11, _⟩ => ⟨S1x4096x2048, .bf16⟩
  | .hbm, ⟨12, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1x2048x512, .bf16⟩
  | .local _ .vmem, ⟨9, _⟩ => ⟨S1x2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 2], ![false, false, false]⟩

def k0_cond4 (i : grid0.Coords) : BitVec 1 :=
  let arg2 : BitVec 32 := BitVec.ofNat 32 (i 2).val
  let c1_i32_4 : BitVec 32 := 1#32
  let v9 : BitVec 1 := Scalar.cmpi .eq arg2 c1_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference12Ideal.lean ====
abbrev S4096x1024 : Shape := ⟨2, ![4096, 1024]⟩
abbrev S2048x4096 : Shape := ⟨2, ![2048, 4096]⟩
abbrev S4096x4096 : Shape := ⟨2, ![4096, 4096]⟩
abbrev S_ : Shape := ⟨0, ![]⟩
abbrev S4096x2048 : Shape := ⟨2, ![4096, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S2048x4096, .f32⟩
  | .hbm, ⟨5, _⟩ => ⟨S4096x4096, .f32⟩
  | .hbm, ⟨6, _⟩ => ⟨S_, .f32⟩
  | .hbm, ⟨7, _⟩ => ⟨S4096x2048, .f32⟩
  | .hbm, ⟨8, _⟩ => ⟨S4096x4096, .f32⟩
  | .hbm, ⟨9, _⟩ => ⟨S4096x2048, .f32⟩
  | .hbm, ⟨10, _⟩ => ⟨S4096x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Kernel13.lean ====
abbrev S4096x2048 : Shape := ⟨2, ![4096, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 arg2 c0_i32_11
  let c0_i32_12 : BitVec 32 := 0#32
  let v29 : BitVec 32 := Scalar.select v17 v27 c0_i32_12
  let c0_i32_13 : BitVec 32 := 0#32
  ![v28.toNat, v29.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 arg2 c0_i32_11
  let c0_i32_12 : BitVec 32 := 0#32
  let v29 : BitVec 32 := Scalar.select v17 v27 c0_i32_12
  let c0_i32_13 : BitVec 32 := 0#32
  ![v28.toNat, v29.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S1x2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4096x1024 : Shape := ⟨2, ![4096, 1024]⟩
abbrev S4096x2048 : Shape := ⟨2, ![4096, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x1024, .bf16⟩
  | .hbm, ⟨4, _⟩ => ⟨S4096x1024, .bf16⟩
  | .hbm, ⟨5, _⟩ => ⟨S4096x2048, .bf16⟩
  | .hbm, ⟨6, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond4 (i : grid0.Coords) : BitVec 1 :=
  let arg2 : BitVec 32 := BitVec.ofNat 32 (i 2).val
  let c1_i32_19 : BitVec 32 := 1#32
  let v47 : BitVec 1 := Scalar.cmpi .eq arg2 c1_i32_19
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let v28 : BitVec 32 := Scalar.select v17 arg2 c0_i32_12
  let c0_i32_13 : BitVec 32 := 0#32
  let v29 : BitVec 32 := Scalar.select v17 v27 c0_i32_13
  let c0_i32_14 : BitVec 32 := 0#32
  ![v28.toNat, v29.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let v28 : BitVec 32 := Scalar.select v17 arg2 c0_i32_12
  let c0_i32_13 : BitVec 32 := 0#32
  let v29 : BitVec 32 := Scalar.select v17 v27 c0_i32_13
  let c0_i32_14 : BitVec 32 := 0#32
  ![v28.toNat, v29.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 arg2 c0_i32_11
  let c0_i32_12 : BitVec 32 := 0#32
  let v29 : BitVec 32 := Scalar.select v17 v27 c0_i32_12
  let c0_i32_13 : BitVec 32 := 0#32
  ![v28.toNat, v29.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4096x1024 : Shape := ⟨2, ![4096, 1024]⟩
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | .hbm, ⟨10, _⟩ => ⟨S1x2048x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel15.lean ====
abbrev S4096x2048 : Shape := ⟨2, ![4096, 2048]⟩
abbrev S4096x1024 : Shape := ⟨2, ![4096, 1024]⟩
abbrev S8x2048x512 : Shape := ⟨3, ![8, 2048, 512]⟩
abbrev S2048x2048 : Shape := ⟨2, ![2048, 2048]⟩
abbrev S2048x512 : Shape := ⟨2, ![2048, 512]⟩
abbrev S1x2048x512 : Shape := ⟨3, ![1, 2048, 512]⟩

abbrev nBuf : Space → Nat
  | .hbm => 11
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x2048, .bf16⟩
  | .hbm, ⟨10, _⟩ => ⟨S8x2048x512, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S2048x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![1, 8, 2], ![false, false, false]⟩

def k0_cond6 (i : grid0.Coords) : BitVec 1 :=
  let arg2 : BitVec 32 := BitVec.ofNat 32 (i 2).val
  let c1_i32_24 : BitVec 32 := 1#32
  let v57 : BitVec 1 := Scalar.cmpi .eq arg2 c1_i32_24
  let v58 : BitVec 32 := Scalar.extui v57
  let c0_i32_25 : BitVec 32 := 0#32
  let v59 : BitVec 1 := Scalar.cmpi .ne v58 c0_i32_25
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  let v28 : BitVec 32 := Scalar.select v17 arg2 c0_i32_12
  let c0_i32_13 : BitVec 32 := 0#32
  let v29 : BitVec 32 := Scalar.select v17 v27 c0_i32_13
  let c0_i32_14 : BitVec 32 := 0#32
  ![v28.toNat, v29.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 arg2 c0_i32_11
  let c0_i32_12 : BitVec 32 := 0#32
  let v29 : BitVec 32 := Scalar.select v17 v27 c0_i32_12
  let c0_i32_13 : BitVec 32 := 0#32
  ![v28.toNat, v29.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 arg2 c0_i32_11
  let c0_i32_12 : BitVec 32 := 0#32
  let v29 : BitVec 32 := Scalar.select v17 v27 c0_i32_12
  let c0_i32_13 : BitVec 32 := 0#32
  ![v28.toNat, v29.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 1 := Scalar.cmpi .eq v16 c2_i32_4
  let c2_i32_5 : BitVec 32 := 2#32
  let c0_i32_6 : BitVec 32 := 0#32
  let v18 : BitVec 1 := Scalar.cmpi .eq c2_i32_5 c0_i32_6
  let c1_i32_7 : BitVec 32 := 1#32
  let v19 : BitVec 32 := Scalar.select v18 c1_i32_7 c2_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.select v17 arg2 c0_i32_11
  let c0_i32_12 : BitVec 32 := 0#32
  let v29 : BitVec 32 := Scalar.select v17 v27 c0_i32_12
  let c0_i32_13 : BitVec 32 := 0#32
  ![v28.toNat, v29.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 1 := Scalar.cmpi .eq v16 c3_i32
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let v28 : BitVec 32 := Scalar.select v17 arg2 c0_i32_10
  let c0_i32_11 : BitVec 32 := 0#32
  let v29 : BitVec 32 := Scalar.select v17 v27 c0_i32_11
  let c0_i32_12 : BitVec 32 := 0#32
  ![v28.toNat, v29.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference15Ideal.lean ====
abbrev S4096x2048 : Shape := ⟨2, ![4096, 2048]⟩
abbrev S4096x1024 : Shape := ⟨2, ![4096, 1024]⟩
abbrev S4096x4096 : Shape := ⟨2, ![4096, 4096]⟩
abbrev S_ : Shape := ⟨0, ![]⟩
abbrev S2048x4096 : Shape := ⟨2, ![2048, 4096]⟩
abbrev S2048x8x512 : Shape := ⟨3, ![2048, 8, 512]⟩
abbrev S8x2048x512 : Shape := ⟨3, ![8, 2048, 512]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S2048x4096, .f32⟩
  | .hbm, ⟨8, _⟩ => ⟨S4096x4096, .f32⟩
  | .hbm, ⟨9, _⟩ => ⟨S4096x2048, .f32⟩
  | .hbm, ⟨10, _⟩ => ⟨S2048x4096, .f32⟩
  | .hbm, ⟨11, _⟩ => ⟨S2048x8x512, .f32⟩
  | .hbm, ⟨12, _⟩ => ⟨S8x2048x512, .f32⟩
  | .hbm, ⟨13, _⟩ => ⟨S8x2048x512, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Offsets.lean ====
module

public import proofs.«01_k».proof.Proof.Gen.KernelIdeal.Loops
public import Idealize.ShloMosaic.Lib.Exec

/-! Where the units of the three branches begin, in closed form, and the buffers one trip of a branch works on. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The first query row of the unit `k + 4·r` of the dilation-4 branch: residue `(k + 4r) / 8`, window `(k + 4r) mod 8` of
   512 rows. -/
theorem k0_off7_eq : ∀ k : Fin k0_t4_loop.trips, ∀ r : Fin 8,
    k0_off7 k (BitVec.ofNat 32 (4 * r.val)) = ![r.val / 2 + 512 * (k.val + 4 * (r.val % 2)), 0] := by decide +kernel
/-- Its first key row in the padded buffers: one window of 512 rows earlier, behind 2048 rows of padding. -/
theorem k0_off8_eq : ∀ k : Fin k0_t4_loop.trips, ∀ r : Fin 8,
    k0_off8 k (BitVec.ofNat 32 (4 * r.val)) = ![r.val / 2 + 512 * (k.val + 4 * (r.val % 2)) + 1536, 0] := by decide +kernel
/-- The first query row of the unit `k + 4·r` of the undilated branch. -/
theorem k0_off9_eq : ∀ k : Fin k0_t5_loop.trips, ∀ r : Fin 8,
    k0_off9 k (BitVec.ofNat 32 (4 * r.val)) = ![128 * (k.val + 4 * r.val), 0] := by decide +kernel
/-- Its first key row in the padded buffers. -/
theorem k0_off10_eq : ∀ k : Fin k0_t5_loop.trips, ∀ r : Fin 8,
    k0_off10 k (BitVec.ofNat 32 (4 * r.val)) = ![128 * (k.val + 4 * r.val) + 1920, 0] := by decide +kernel

instance closedOff_k0_off7_0 (k : Fin k0_t4_loop.trips) : ClosedOff (k0_off7 k (BitVec.ofNat 32 0)) := ⟨![0 / 2 + 512 * (k.val + 4 * (0 % 2)), 0], k0_off7_eq k ⟨0, by decide⟩⟩
instance closedOff_k0_off8_0 (k : Fin k0_t4_loop.trips) : ClosedOff (k0_off8 k (BitVec.ofNat 32 0)) := ⟨![0 / 2 + 512 * (k.val + 4 * (0 % 2)) + 1536, 0], k0_off8_eq k ⟨0, by decide⟩⟩
instance closedOff_k0_off9_0 (k : Fin k0_t5_loop.trips) : ClosedOff (k0_off9 k (BitVec.ofNat 32 0)) := ⟨![128 * (k.val + 4 * 0), 0], k0_off9_eq k ⟨0, by decide⟩⟩
instance closedOff_k0_off10_0 (k : Fin k0_t5_loop.trips) : ClosedOff (k0_off10 k (BitVec.ofNat 32 0)) := ⟨![128 * (k.val + 4 * 0) + 1920, 0], k0_off10_eq k ⟨0, by decide⟩⟩
instance closedOff_k0_off7_1 (k : Fin k0_t4_loop.trips) : ClosedOff (k0_off7 k (BitVec.ofNat 32 4)) := ⟨![1 / 2 + 512 * (k.val + 4 * (1 % 2)), 0], k0_off7_eq k ⟨1, by decide⟩⟩
instance closedOff_k0_off8_1 (k : Fin k0_t4_loop.trips) : ClosedOff (k0_off8 k (BitVec.ofNat 32 4)) := ⟨![1 / 2 + 512 * (k.val + 4 * (1 % 2)) + 1536, 0], k0_off8_eq k ⟨1, by decide⟩⟩
instance closedOff_k0_off9_1 (k : Fin k0_t5_loop.trips) : ClosedOff (k0_off9 k (BitVec.ofNat 32 4)) := ⟨![128 * (k.val + 4 * 1), 0], k0_off9_eq k ⟨1, by decide⟩⟩
instance closedOff_k0_off10_1 (k : Fin k0_t5_loop.trips) : ClosedOff (k0_off10 k (BitVec.ofNat 32 4)) := ⟨![128 * (k.val + 4 * 1) + 1920, 0], k0_off10_eq k ⟨1, by decide⟩⟩
instance closedOff_k0_off7_2 (k : Fin k0_t4_loop.trips) : ClosedOff (k0_off7 k (BitVec.ofNat 32 8)) := ⟨![2 / 2 + 512 * (k.val + 4 * (2 % 2)), 0], k0_off7_eq k ⟨2, by decide⟩⟩
instance closedOff_k0_off8_2 (k : Fin k0_t4_loop.trips) : ClosedOff (k0_off8 k (BitVec.ofNat 32 8)) := ⟨![2 / 2 + 512 * (k.val + 4 * (2 % 2)) + 1536, 0], k0_off8_eq k ⟨2, by decide⟩⟩
instance closedOff_k0_off9_2 (k : Fin k0_t5_loop.trips) : ClosedOff (k0_off9 k (BitVec.ofNat 32 8)) := ⟨![128 * (k.val + 4 * 2), 0], k0_off9_eq k ⟨2, by decide⟩⟩
instance closedOff_k0_off10_2 (k : Fin k0_t5_loop.trips) : ClosedOff (k0_off10 k (BitVec.ofNat 32 8)) := ⟨![128 * (k.val + 4 * 2) + 1920, 0], k0_off10_eq k ⟨2, by decide⟩⟩
instance closedOff_k0_off7_3 (k : Fin k0_t4_loop.trips) : ClosedOff (k0_off7 k (BitVec.ofNat 32 12)) := ⟨![3 / 2 + 512 * (k.val + 4 * (3 % 2)), 0], k0_off7_eq k ⟨3, by decide⟩⟩
instance closedOff_k0_off8_3 (k : Fin k0_t4_loop.trips) : ClosedOff (k0_off8 k (BitVec.ofNat 32 12)) := ⟨![3 / 2 + 512 * (k.val + 4 * (3 % 2)) + 1536, 0], k0_off8_eq k ⟨3, by decide⟩⟩
instance closedOff_k0_off9_3 (k : Fin k0_t5_loop.trips) : ClosedOff (k0_off9 k (BitVec.ofNat 32 12)) := ⟨![128 * (k.val + 4 * 3), 0], k0_off9_eq k ⟨3, by decide⟩⟩
instance closedOff_k0_off10_3 (k : Fin k0_t5_loop.trips) : ClosedOff (k0_off10 k (BitVec.ofNat 32 12)) := ⟨![128 * (k.val + 4 * 3) + 1920, 0], k0_off10_eq k ⟨3, by decide⟩⟩
instance closedOff_k0_off7_4 (k : Fin k0_t4_loop.trips) : ClosedOff (k0_off7 k (BitVec.ofNat 32 16)) := ⟨![4 / 2 + 512 * (k.val + 4 * (4 % 2)), 0], k0_off7_eq k ⟨4, by decide⟩⟩
instance closedOff_k0_off8_4 (k : Fin k0_t4_loop.trips) : ClosedOff (k0_off8 k (BitVec.ofNat 32 16)) := ⟨![4 / 2 + 512 * (k.val + 4 * (4 % 2)) + 1536, 0], k0_off8_eq k ⟨4, by decide⟩⟩
instance closedOff_k0_off9_4 (k : Fin k0_t5_loop.trips) : ClosedOff (k0_off9 k (BitVec.ofNat 32 16)) := ⟨![128 * (k.val + 4 * 4), 0], k0_off9_eq k ⟨4, by decide⟩⟩
instance closedOff_k0_off10_4 (k : Fin k0_t5_loop.trips) : ClosedOff (k0_off10 k (BitVec.ofNat 32 16)) := ⟨![128 * (k.val + 4 * 4) + 1920, 0], k0_off10_eq k ⟨4, by decide⟩⟩
instance closedOff_k0_off7_5 (k : Fin k0_t4_loop.trips) : ClosedOff (k0_off7 k (BitVec.ofNat 32 20)) := ⟨![5 / 2 + 512 * (k.val + 4 * (5 % 2)), 0], k0_off7_eq k ⟨5, by decide⟩⟩
instance closedOff_k0_off8_5 (k : Fin k0_t4_loop.trips) : ClosedOff (k0_off8 k (BitVec.ofNat 32 20)) := ⟨![5 / 2 + 512 * (k.val + 4 * (5 % 2)) + 1536, 0], k0_off8_eq k ⟨5, by decide⟩⟩
instance closedOff_k0_off9_5 (k : Fin k0_t5_loop.trips) : ClosedOff (k0_off9 k (BitVec.ofNat 32 20)) := ⟨![128 * (k.val + 4 * 5), 0], k0_off9_eq k ⟨5, by decide⟩⟩
instance closedOff_k0_off10_5 (k : Fin k0_t5_loop.trips) : ClosedOff (k0_off10 k (BitVec.ofNat 32 20)) := ⟨![128 * (k.val + 4 * 5) + 1920, 0], k0_off10_eq k ⟨5, by decide⟩⟩
instance closedOff_k0_off7_6 (k : Fin k0_t4_loop.trips) : ClosedOff (k0_off7 k (BitVec.ofNat 32 24)) := ⟨![6 / 2 + 512 * (k.val + 4 * (6 % 2)), 0], k0_off7_eq k ⟨6, by decide⟩⟩
instance closedOff_k0_off8_6 (k : Fin k0_t4_loop.trips) : ClosedOff (k0_off8 k (BitVec.ofNat 32 24)) := ⟨![6 / 2 + 512 * (k.val + 4 * (6 % 2)) + 1536, 0], k0_off8_eq k ⟨6, by decide⟩⟩
instance closedOff_k0_off9_6 (k : Fin k0_t5_loop.trips) : ClosedOff (k0_off9 k (BitVec.ofNat 32 24)) := ⟨![128 * (k.val + 4 * 6), 0], k0_off9_eq k ⟨6, by decide⟩⟩
instance closedOff_k0_off10_6 (k : Fin k0_t5_loop.trips) : ClosedOff (k0_off10 k (BitVec.ofNat 32 24)) := ⟨![128 * (k.val + 4 * 6) + 1920, 0], k0_off10_eq k ⟨6, by decide⟩⟩
instance closedOff_k0_off7_7 (k : Fin k0_t4_loop.trips) : ClosedOff (k0_off7 k (BitVec.ofNat 32 28)) := ⟨![7 / 2 + 512 * (k.val + 4 * (7 % 2)), 0], k0_off7_eq k ⟨7, by decide⟩⟩
instance closedOff_k0_off8_7 (k : Fin k0_t4_loop.trips) : ClosedOff (k0_off8 k (BitVec.ofNat 32 28)) := ⟨![7 / 2 + 512 * (k.val + 4 * (7 % 2)) + 1536, 0], k0_off8_eq k ⟨7, by decide⟩⟩
instance closedOff_k0_off9_7 (k : Fin k0_t5_loop.trips) : ClosedOff (k0_off9 k (BitVec.ofNat 32 28)) := ⟨![128 * (k.val + 4 * 7), 0], k0_off9_eq k ⟨7, by decide⟩⟩
instance closedOff_k0_off10_7 (k : Fin k0_t5_loop.trips) : ClosedOff (k0_off10 k (BitVec.ofNat 32 28)) := ⟨![128 * (k.val + 4 * 7) + 1920, 0], k0_off10_eq k ⟨7, by decide⟩⟩

/-- What one trip of a branch works on: the staged `q`, `do`, `lse`, `delta` and the padded keys and values, read only; the three
   accumulators at `f10`, `f11`, `f12`. -/
abbrev Res (c : Dev nD) (arg1 : Memref sig .tc .vmem S4096x128 .f32) (arg4 : Memref sig .tc .vmem S4096x128 .f32) (arg5 : Memref sig .tc .vmem S4096x128 .f32) (arg6 : Memref sig .tc .vmem S4096x128 .f32) (arg13 : Memref sig .tc .vmem S6144x128 .f32) (arg14 : Memref sig .tc .vmem S6144x128 .f32) (arg10 : Memref sig .tc .vmem S4096x128 .f32) (arg11 : Memref sig .tc .vmem S6144x128 .f32) (arg12 : Memref sig .tc .vmem S6144x128 .f32) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (f10 : BufTy.Contents (Elt F) arg10.view.ty) (f11 : BufTy.Contents (Elt F) arg11.view.ty) (f12 : BufTy.Contents (Elt F) arg12.view.ty) : sProp 𝕄G :=
  iprop((arg1.view.loc (c : Thread nD τ) ↦[arg1.view.set]{fullShare} X1)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg13.view.loc (c : Thread nD τ) ↦[arg13.view.set]{fullShare} X13)
    ∗ (arg14.view.loc (c : Thread nD τ) ↦[arg14.view.set]{fullShare} X14)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12))

end Cert.KernelIdeal.Hand

end
-- ==== Proof.Trip3.lean ====
module

public import proofs.«01_k».proof.Proof.Offsets

/-! One trip of the branch of dilation 16: two units, whose results are stored over the accumulators. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option maxHeartbeats 4000000 in
/-- One trip: the pieces it stores into the three accumulators, which do not depend on what they held. -/
@[irreducible] def trip3 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (k : Fin k0_t3_loop.trips) :
    Σ' (L10 : List (View.Piece (Elt F) S4096x128 .f32)) (L11 : List (View.Piece (Elt F) S6144x128 .f32)),
    { L12 : List (View.Piece (Elt F) S6144x128 .f32) // ∀ (E : Set ℕ) (f10 : BufTy.Contents (Elt F) arg10.view.ty) (f11 : BufTy.Contents (Elt F) arg11.view.ty) (f12 : BufTy.Contents (Elt F) arg12.view.ty),
      Res (F := F) c arg1 arg4 arg5 arg6 arg13 arg14 arg10 arg11 arg12 X1 X4 X5 X6 X13 X14 f10 f11 f12
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 k PUnit.unit)
          (fun _ => Res (F := F) c arg1 arg4 arg5 arg6 arg13 arg14 arg10 arg11 arg12 X1 X4 X5 X6 X13 X14 (arg10.view.writes (Elt F) f10 L10) (arg11.view.writes (Elt F) f11 L11) (arg12.view.writes (Elt F) f12 L12)) } := by
  have hk : k.val < 8 := Nat.lt_of_lt_of_le k.isLt k0_t3_abs.2.1
  refine ⟨?_, ?_, ?_, fun E f10 f11 f12 => ?run⟩
  case run =>
    unfold k0_t3_body
    iintro ⟨H1, H4, H5, H6, H13, H14, H10, H11, H12⟩
    sl_exec_parts
    sl_step
    sl_close

end Cert.KernelIdeal.Hand

end
-- ==== Proof.Trip4.lean ====
module

public import proofs.«01_k».proof.Proof.Offsets

/-! One trip of the branch of dilation 4: eight units, whose results are added to the accumulators. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option maxHeartbeats 4000000 in
/-- One trip, from accumulators at `f10`, `f11`, `f12`: what it leaves in them. -/
@[irreducible] def trip4 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (f10 : BufTy.Contents (Elt F) arg10.view.ty) (f11 : BufTy.Contents (Elt F) arg11.view.ty) (f12 : BufTy.Contents (Elt F) arg12.view.ty) (k : Fin k0_t4_loop.trips) :
    Σ' (g10 : BufTy.Contents (Elt F) arg10.view.ty) (g11 : BufTy.Contents (Elt F) arg11.view.ty),
    { g12 : BufTy.Contents (Elt F) arg12.view.ty // ∀ (E : Set ℕ),
      Res (F := F) c arg1 arg4 arg5 arg6 arg13 arg14 arg10 arg11 arg12 X1 X4 X5 X6 X13 X14 f10 f11 f12
      ⊢ wp frame (wpE (defs₀ (F := F)) 𝒱 (c : Thread nD τ) bd) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 k PUnit.unit)
          (fun _ => Res (F := F) c arg1 arg4 arg5 arg6 arg13 arg14 arg10 arg11 arg12 X1 X4 X5 X6 X13 X14 g10 g11 g12) } := by
  have hk : k.val < 4 := Nat.lt_of_lt_of_le k.isLt k0_t4_abs.2.1
  refine ⟨?_, ?_, ?_, fun E => ?run⟩
  case run =>
    unfold k0_t4_body
    iintro ⟨H1, H4, H5, H6, H13, H14, H10, H11, H12⟩
    sl_exec_parts
    sl_step
    sl_close

end Cert.KernelIdeal.Hand

end
-- ==== Proof.Trip5.lean ====
module

public import proofs.«01_k».proof.Proof.Offsets

/-! One trip of the undilated branch: eight units, whose results are added to the accumulators. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option maxHeartbeats 4000000 in
/-- One trip, from accumulators at `f10`, `f11`, `f12`: what it leaves in them. -/
@[irreducible] def trip5 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (f10 : BufTy.Contents (Elt F) arg10.view.ty) (f11 : BufTy.Contents (Elt F) arg11.view.ty) (f12 : BufTy.Contents (Elt F) arg12.view.ty) (k : Fin k0_t5_loop.trips) :
    Σ' (g10 : BufTy.Contents (Elt F) arg10.view.ty) (g11 : BufTy.Contents (Elt F) arg11.view.ty),
    { g12 : BufTy.Contents (Elt F) arg12.view.ty // ∀ (E : Set ℕ),
      Res (F := F) c arg1 arg4 arg5 arg6 arg13 arg14 arg10 arg11 arg12 X1 X4 X5 X6 X13 X14 f10 f11 f12
      ⊢ wp frame (wpE (defs₀ (F := F)) 𝒱 (c : Thread nD τ) bd) E (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 0#32 k PUnit.unit)
          (fun _ => Res (F := F) c arg1 arg4 arg5 arg6 arg13 arg14 arg10 arg11 arg12 X1 X4 X5 X6 X13 X14 g10 g11 g12) } := by
  have hk : k.val < 4 := Nat.lt_of_lt_of_le k.isLt k0_t5_abs.2.1
  refine ⟨?_, ?_, ?_, fun E => ?run⟩
  case run =>
    unfold k0_t5_body
    iintro ⟨H1, H4, H5, H6, H13, H14, H10, H11, H12⟩
    sl_exec_parts
    sl_step
    sl_close

end Cert.KernelIdeal.Hand

end
-- ==== Proof.Branches.lean ====
module

public import proofs.«01_k».proof.Proof.Trip3
public import proofs.«01_k».proof.Proof.Trip4
public import proofs.«01_k».proof.Proof.Trip5
public import Idealize.ShloMosaic.Lib.Tactic
public import Idealize.ShloMosaic.Lib.Pipeline.Kit

/-! The three branches' loops, each by its invariant. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### The branch of dilation 16 -/

/-- The pieces of the trips before `k`, last first, for each accumulator. -/
def pb3 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) :
    ℕ → List (View.Piece (Elt F) S4096x128 .f32) × List (View.Piece (Elt F) S6144x128 .f32) × List (View.Piece (Elt F) S6144x128 .f32)
  | 0 => ([], [], [])
  | k + 1 =>
    if h : k < k0_t3_loop.trips then
      ((trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 ⟨k, h⟩).1 ++ (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).1,
       (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 ⟨k, h⟩).2.1 ++ (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.1,
       (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 ⟨k, h⟩).2.2.1 ++ (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.2)
    else pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k

theorem pb3_succ (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (k : Fin k0_t3_loop.trips) :
    pb3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 (k.val + 1)
      = ((trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).1 ++ (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k.val).1,
         (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.1 ++ (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k.val).2.1,
         (trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.2.1 ++ (pb3 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k.val).2.2) := by
  rw [pb3.eq_2]; exact dif_pos k.isLt

/-- Before trip `k` each accumulator holds the pieces of the trips before it over what the loop found. -/
abbrev inv3 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (G10 : BufTy.Contents (Elt F) arg10.view.ty) (G11 : BufTy.Contents (Elt F) arg11.view.ty) (G12 : BufTy.Contents (Elt F) arg12.view.ty) (k : ℕ) (_u : PUnit) : sProp 𝕄G :=
  iprop((arg1.view.loc (c : Thread nD τ) ↦[arg1.view.set]{fullShare} X1)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg13.view.loc (c : Thread nD τ) ↦[arg13.view.set]{fullShare} X13)
    ∗ (arg14.view.loc (c : Thread nD τ) ↦[arg14.view.set]{fullShare} X14)
    ∗ (∃ f, (arg10.view.loc (c : Thread nD τ) ↦[arg10.view.set]{fullShare} f) ∗ ⌜f = arg10.view.writes (Elt F) G10 (pb3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).1⌝)
    ∗ (∃ f, (arg11.view.loc (c : Thread nD τ) ↦[arg11.view.set]{fullShare} f) ∗ ⌜f = arg11.view.writes (Elt F) G11 (pb3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.1⌝)
    ∗ (∃ f, (arg12.view.loc (c : Thread nD τ) ↦[arg12.view.set]{fullShare} f) ∗ ⌜f = arg12.view.writes (Elt F) G12 (pb3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.2⌝))

set_option warn.classDefReducibility false in
/-- The loop of the branch by its invariant. -/
@[sl_loop] def loopInv3 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (G10 : BufTy.Contents (Elt F) arg10.view.ty) (G11 : BufTy.Contents (Elt F) arg11.view.ty) (G12 : BufTy.Contents (Elt F) arg12.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv := inv3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12
  step k acc := by
    iintro ⟨H1, H4, H5, H6, H13, H14, ⟨%f10, H10, %h10⟩, ⟨%f11, H11, %h11⟩, ⟨%f12, H12, %h12⟩⟩
    iapply (wp_wand_r Idealize.ShloMosaic.frame (wpE (defs₀ (F := F)) 𝒱 (c : Thread nD τ) bd) E)
    isplitl [H1 H4 H5 H6 H13 H14 H10 H11 H12]
    · iapply ((trip3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.2.2 E f10 f11 f12)
      isplitl [H1]; · iexact H1
      isplitl [H4]; · iexact H4
      isplitl [H5]; · iexact H5
      isplitl [H6]; · iexact H6
      isplitl [H13]; · iexact H13
      isplitl [H14]; · iexact H14
      isplitl [H10]; · iexact H10
      isplitl [H11]; · iexact H11
      iexact H12
    · iintro %_ ⟨H1, H4, H5, H6, H13, H14, H10, H11, H12⟩
      isplitl [H1]; · iexact H1
      isplitl [H4]; · iexact H4
      isplitl [H5]; · iexact H5
      isplitl [H6]; · iexact H6
      isplitl [H13]; · iexact H13
      isplitl [H14]; · iexact H14
      rw [pb3_succ]
      isplitl [H10]
      · iexists _; isplitl [H10]; · iexact H10
        ipureintro; rw [h10, ← View.writes_append]
      isplitl [H11]
      · iexists _; isplitl [H11]; · iexact H11
        ipureintro; rw [h11, ← View.writes_append]
      iexists _; isplitl [H12]; · iexact H12
      ipureintro; rw [h12, ← View.writes_append]

/-! ### The branch of dilation 4 -/

/-- The accumulators before trip `k`. -/
def st4 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (G10 : BufTy.Contents (Elt F) arg10.view.ty) (G11 : BufTy.Contents (Elt F) arg11.view.ty) (G12 : BufTy.Contents (Elt F) arg12.view.ty) :
    ℕ → BufTy.Contents (Elt F) arg10.view.ty × BufTy.Contents (Elt F) arg11.view.ty × BufTy.Contents (Elt F) arg12.view.ty
  | 0 => (G10, G11, G12)
  | k + 1 =>
    let p := st4 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12 k
    if h : k < k0_t4_loop.trips then
      let t := trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 p.1 p.2.1 p.2.2 ⟨k, h⟩
      (t.1, t.2.1, t.2.2.1)
    else p

theorem st4_succ (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (G10 : BufTy.Contents (Elt F) arg10.view.ty) (G11 : BufTy.Contents (Elt F) arg11.view.ty) (G12 : BufTy.Contents (Elt F) arg12.view.ty) (k : Fin k0_t4_loop.trips)
    (p : BufTy.Contents (Elt F) arg10.view.ty × BufTy.Contents (Elt F) arg11.view.ty × BufTy.Contents (Elt F) arg12.view.ty)
    (hp : st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12 k.val = p) :
    st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12 (k.val + 1)
      = ((trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 p.1 p.2.1 p.2.2 k).1, (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 p.1 p.2.1 p.2.2 k).2.1,
         (trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 p.1 p.2.1 p.2.2 k).2.2.1) := by
  subst hp; rw [st4.eq_2]; exact dif_pos k.isLt

/-- Before trip `k` each accumulator holds what the trips before it left. -/
abbrev inv4 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (G10 : BufTy.Contents (Elt F) arg10.view.ty) (G11 : BufTy.Contents (Elt F) arg11.view.ty) (G12 : BufTy.Contents (Elt F) arg12.view.ty) (k : ℕ) (_u : PUnit) : sProp 𝕄G :=
  iprop((arg1.view.loc (c : Thread nD τ) ↦[arg1.view.set]{fullShare} X1)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg13.view.loc (c : Thread nD τ) ↦[arg13.view.set]{fullShare} X13)
    ∗ (arg14.view.loc (c : Thread nD τ) ↦[arg14.view.set]{fullShare} X14)
    ∗ (∃ f, (arg10.view.loc (c : Thread nD τ) ↦[arg10.view.set]{fullShare} f) ∗ ⌜f = (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12 k).1⌝)
    ∗ (∃ f, (arg11.view.loc (c : Thread nD τ) ↦[arg11.view.set]{fullShare} f) ∗ ⌜f = (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12 k).2.1⌝)
    ∗ (∃ f, (arg12.view.loc (c : Thread nD τ) ↦[arg12.view.set]{fullShare} f) ∗ ⌜f = (st4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12 k).2.2⌝))

set_option warn.classDefReducibility false in
/-- The loop of the branch by its invariant. -/
@[sl_loop] def loopInv4 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (G10 : BufTy.Contents (Elt F) arg10.view.ty) (G11 : BufTy.Contents (Elt F) arg11.view.ty) (G12 : BufTy.Contents (Elt F) arg12.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14  where
  inv := inv4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12
  step k acc := by
    iintro ⟨H1, H4, H5, H6, H13, H14, ⟨%f10, H10, %h10⟩, ⟨%f11, H11, %h11⟩, ⟨%f12, H12, %h12⟩⟩
    iapply (wp_wand_r Idealize.ShloMosaic.frame (wpE (defs₀ (F := F)) 𝒱 (c : Thread nD τ) bd) E)
    isplitl [H1 H4 H5 H6 H13 H14 H10 H11 H12]
    · iapply ((trip4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 f10 f11 f12 k).2.2.2 E)
      isplitl [H1]; · iexact H1
      isplitl [H4]; · iexact H4
      isplitl [H5]; · iexact H5
      isplitl [H6]; · iexact H6
      isplitl [H13]; · iexact H13
      isplitl [H14]; · iexact H14
      isplitl [H10]; · iexact H10
      isplitl [H11]; · iexact H11
      iexact H12
    · iintro %_ ⟨H1, H4, H5, H6, H13, H14, H10, H11, H12⟩
      isplitl [H1]; · iexact H1
      isplitl [H4]; · iexact H4
      isplitl [H5]; · iexact H5
      isplitl [H6]; · iexact H6
      isplitl [H13]; · iexact H13
      isplitl [H14]; · iexact H14
      rw [st4_succ (p := (f10, f11, f12)) (hp := by rw [h10, h11, h12])]
      isplitl [H10]
      · iexists _; isplitl [H10]; · iexact H10
        ipureintro; rfl
      isplitl [H11]
      · iexists _; isplitl [H11]; · iexact H11
        ipureintro; rfl
      iexists _; isplitl [H12]; · iexact H12
      ipureintro; rfl

/-! ### The undilated branch -/

/-- The accumulators before trip `k`. -/
def st5 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (G10 : BufTy.Contents (Elt F) arg10.view.ty) (G11 : BufTy.Contents (Elt F) arg11.view.ty) (G12 : BufTy.Contents (Elt F) arg12.view.ty) :
    ℕ → BufTy.Contents (Elt F) arg10.view.ty × BufTy.Contents (Elt F) arg11.view.ty × BufTy.Contents (Elt F) arg12.view.ty
  | 0 => (G10, G11, G12)
  | k + 1 =>
    let p := st5 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12 k
    if h : k < k0_t5_loop.trips then
      let t := trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 p.1 p.2.1 p.2.2 ⟨k, h⟩
      (t.1, t.2.1, t.2.2.1)
    else p

theorem st5_succ (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (G10 : BufTy.Contents (Elt F) arg10.view.ty) (G11 : BufTy.Contents (Elt F) arg11.view.ty) (G12 : BufTy.Contents (Elt F) arg12.view.ty) (k : Fin k0_t5_loop.trips)
    (p : BufTy.Contents (Elt F) arg10.view.ty × BufTy.Contents (Elt F) arg11.view.ty × BufTy.Contents (Elt F) arg12.view.ty)
    (hp : st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12 k.val = p) :
    st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12 (k.val + 1)
      = ((trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 p.1 p.2.1 p.2.2 k).1, (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 p.1 p.2.1 p.2.2 k).2.1,
         (trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 p.1 p.2.1 p.2.2 k).2.2.1) := by
  subst hp; rw [st5.eq_2]; exact dif_pos k.isLt

/-- Before trip `k` each accumulator holds what the trips before it left. -/
abbrev inv5 (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (G10 : BufTy.Contents (Elt F) arg10.view.ty) (G11 : BufTy.Contents (Elt F) arg11.view.ty) (G12 : BufTy.Contents (Elt F) arg12.view.ty) (k : ℕ) (_u : PUnit) : sProp 𝕄G :=
  iprop((arg1.view.loc (c : Thread nD τ) ↦[arg1.view.set]{fullShare} X1)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} X6)
    ∗ (arg13.view.loc (c : Thread nD τ) ↦[arg13.view.set]{fullShare} X13)
    ∗ (arg14.view.loc (c : Thread nD τ) ↦[arg14.view.set]{fullShare} X14)
    ∗ (∃ f, (arg10.view.loc (c : Thread nD τ) ↦[arg10.view.set]{fullShare} f) ∗ ⌜f = (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12 k).1⌝)
    ∗ (∃ f, (arg11.view.loc (c : Thread nD τ) ↦[arg11.view.set]{fullShare} f) ∗ ⌜f = (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12 k).2.1⌝)
    ∗ (∃ f, (arg12.view.loc (c : Thread nD τ) ↦[arg12.view.set]{fullShare} f) ∗ ⌜f = (st5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12 k).2.2⌝))

set_option warn.classDefReducibility false in
/-- The loop of the branch by its invariant. -/
@[sl_loop] def loopInv5 (𝒱 : Variants) (c : Dev nD) (bd : Option 𝒱.V) (E : Set ℕ) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (G10 : BufTy.Contents (Elt F) arg10.view.ty) (G11 : BufTy.Contents (Elt F) arg11.view.ty) (G12 : BufTy.Contents (Elt F) arg12.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 0#32 where
  inv := inv5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 G10 G11 G12
  step k acc := by
    iintro ⟨H1, H4, H5, H6, H13, H14, ⟨%f10, H10, %h10⟩, ⟨%f11, H11, %h11⟩, ⟨%f12, H12, %h12⟩⟩
    iapply (wp_wand_r Idealize.ShloMosaic.frame (wpE (defs₀ (F := F)) 𝒱 (c : Thread nD τ) bd) E)
    isplitl [H1 H4 H5 H6 H13 H14 H10 H11 H12]
    · iapply ((trip5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 f10 f11 f12 k).2.2.2 E)
      isplitl [H1]; · iexact H1
      isplitl [H4]; · iexact H4
      isplitl [H5]; · iexact H5
      isplitl [H6]; · iexact H6
      isplitl [H13]; · iexact H13
      isplitl [H14]; · iexact H14
      isplitl [H10]; · iexact H10
      isplitl [H11]; · iexact H11
      iexact H12
    · iintro %_ ⟨H1, H4, H5, H6, H13, H14, H10, H11, H12⟩
      isplitl [H1]; · iexact H1
      isplitl [H4]; · iexact H4
      isplitl [H5]; · iexact H5
      isplitl [H6]; · iexact H6
      isplitl [H13]; · iexact H13
      isplitl [H14]; · iexact H14
      rw [st5_succ (p := (f10, f11, f12)) (hp := by rw [h10, h11, h12])]
      isplitl [H10]
      · iexists _; isplitl [H10]; · iexact H10
        ipureintro; rfl
      isplitl [H11]
      · iexists _; isplitl [H11]; · iexact H11
        ipureintro; rfl
      iexists _; isplitl [H12]; · iexact H12
      ipureintro; rfl

end Cert.KernelIdeal.Hand

end
-- ==== Proof.Run.lean ====
module

public import proofs.«01_k».proof.Proof.Branches
public import Idealize.ShloMosaic.Lib.Pipeline.FrameBody
public import Idealize.ShloMosaic.Lib.Ring
public import Idealize.ShloMosaic.Lib.WordCmp

/-! The kernel's body, run once on any staging memrefs and any float values. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

set_option maxHeartbeats 4000000 in
/-- The body on whole staging memrefs, the inputs at `x1 … x6` and the scratch buffers at `f10 … f14`: the pieces it stores into the
   three results' memrefs, with the run that leaves them, the inputs as they were and the scratch at some contents. -/
def kernelRun (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (x1 : Vec F S4096x128 .f32) (x2 : Vec F S4096x128 .f32) (x3 : Vec F S4096x128 .f32) (x4 : Vec F S4096x128 .f32) (x5 : Vec F S4096x128 .f32) (x6 : Vec F S4096x128 .f32) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L7 : List (View.Piece (Elt F) S4096x128 .bf16)) (L8 : List (View.Piece (Elt F) S4096x128 .bf16)),
    { L9 : List (View.Piece (Elt F) S4096x128 .bf16) // ∀ (E : Set ℕ) (K : PUnit → sProp 𝕄G),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
          ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
              ∗ (∃ f, arg7.view.loc (c : Thread nD τ) ↦[arg7.view.set]{fullShare} arg7.view.writes (Elt F) f L7)
              ∗ (∃ f, arg8.view.loc (c : Thread nD τ) ↦[arg8.view.set]{fullShare} arg8.view.writes (Elt F) f L8)
              ∗ (∃ f, arg9.view.loc (c : Thread nD τ) ↦[arg9.view.set]{fullShare} arg9.view.writes (Elt F) f L9)
              ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
        ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_attn_bwd_eq_skeleton]; unfold cc0_attn_bwd_skel
    unfold owns
    iintro ⟨⟨%e1, %he1, H1⟩, ⟨%e2, %he2, H2⟩, ⟨%e3, %he3, H3⟩, ⟨%e4, %he4, H4⟩, ⟨%e5, %he5, H5⟩, ⟨%e6, %he6, H6⟩, ⟨%d7, %e7, -, H7⟩, ⟨%d8, %e8, -, H8⟩, ⟨%d9, %e9, -, H9⟩, H10, H11, H12, H13, H14, Hk⟩
    obtain rfl := harg1.eq_unread he1; obtain rfl := harg2.eq_unread he2; obtain rfl := harg3.eq_unread he3; obtain rfl := harg4.eq_unread he4; obtain rfl := harg5.eq_unread he5; obtain rfl := harg6.eq_unread he6
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.KernelIdeal.Hand

end
-- ==== Proof.State.lean ====
module

public import proofs.«01_k».proof.Proof.Run

/-! What the body leaves in its results, told step by step: the padded copies of the keys and the values, the accumulators after each branch. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole)
  (x1 x2 x3 x4 x5 x6 : Vec F S4096x128 .f32)
  (f10 : BufTy.Contents (Elt F) arg10.view.ty) (f11 : BufTy.Contents (Elt F) arg11.view.ty) (f12 : BufTy.Contents (Elt F) arg12.view.ty)
  (f13 : BufTy.Contents (Elt F) arg13.view.ty) (f14 : BufTy.Contents (Elt F) arg14.view.ty)

/-- The pieces that fill the padded keys: zeros below, the keys above them. -/
def P13 : List (View.Piece (Elt F) S6144x128 .f32) :=
  pb_k0_t1 Variants.none c none i arg1 harg1 arg2 harg2 arg3 harg3 arg4 harg4 arg5 harg5 arg6 harg6 arg7 harg7 arg8 harg8 arg9 harg9 arg10 harg10 arg11 harg11 arg12 harg12 arg13 harg13 arg14 harg14 (harg2.unread x2) k0_t1_loop.trips
    ++ [⟨Rect.unit ![0, 0] S2048x128.size inb_S6144x128_S2048x128_0_0, k0_pay227⟩]

/-- The pieces that fill the padded values. -/
def P14 : List (View.Piece (Elt F) S6144x128 .f32) :=
  pb_k0_t2 Variants.none c none i arg1 harg1 arg2 harg2 arg3 harg3 arg4 harg4 arg5 harg5 arg6 harg6 arg7 harg7 arg8 harg8 arg9 harg9 arg10 harg10 arg11 harg11 arg12 harg12 arg13 harg13 arg14 harg14 (harg3.unread x3) k0_t2_loop.trips
    ++ [⟨Rect.unit ![0, 0] S2048x128.size inb_S6144x128_S2048x128_0_0, k0_pay229⟩]

/-- The pieces of the branch of dilation 16 over padded keys `X13` and values `X14`. -/
def Q3 (X13 : BufTy.Contents (Elt F) arg13.view.ty) (X14 : BufTy.Contents (Elt F) arg14.view.ty) :=
  pb3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) X13 X14 k0_t3_loop.trips

/-- The pieces that fill the accumulator of the keys' gradient in the branch of dilation 16, the zeros below among them. -/
def P11 (X13 : BufTy.Contents (Elt F) arg13.view.ty) (X14 : BufTy.Contents (Elt F) arg14.view.ty) :
    List (View.Piece (Elt F) S6144x128 .f32) :=
  (Q3 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14).2.1
    ++ [⟨Rect.unit ![0, 0] S2048x128.size inb_S6144x128_S2048x128_0_0, k0_pay231⟩]

/-- The same for the values' gradient. -/
def P12 (X13 : BufTy.Contents (Elt F) arg13.view.ty) (X14 : BufTy.Contents (Elt F) arg14.view.ty) :
    List (View.Piece (Elt F) S6144x128 .f32) :=
  (Q3 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14).2.2
    ++ [⟨Rect.unit ![0, 0] S2048x128.size inb_S6144x128_S2048x128_0_0, k0_pay232⟩]

/-- The three accumulators after the branches of dilation 4 and 1, over what the branch of dilation 16 left. -/
def S5 (X13 : BufTy.Contents (Elt F) arg13.view.ty) (X14 : BufTy.Contents (Elt F) arg14.view.ty) (G10 : BufTy.Contents (Elt F) arg10.view.ty) (G11 : BufTy.Contents (Elt F) arg11.view.ty) (G12 : BufTy.Contents (Elt F) arg12.view.ty) :=
  let p := st4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) X13 X14 G10 G11 G12 k0_t4_loop.trips
  st5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) X13 X14 p.1 p.2.1 p.2.2 k0_t5_loop.trips

/-- The accumulators at the end of the body. -/
def fin :=
  let X13 := arg13.view.writes (Elt F) f13 (P13 c i arg1 harg1 arg2 harg2 arg3 harg3 arg4 harg4 arg5 harg5 arg6 harg6 arg7 harg7 arg8 harg8 arg9 harg9 arg10 harg10 arg11 harg11 arg12 harg12 arg13 harg13 arg14 harg14 x2)
  let X14 := arg14.view.writes (Elt F) f14 (P14 c i arg1 harg1 arg2 harg2 arg3 harg3 arg4 harg4 arg5 harg5 arg6 harg6 arg7 harg7 arg8 harg8 arg9 harg9 arg10 harg10 arg11 harg11 arg12 harg12 arg13 harg13 arg14 harg14 x3)
  S5 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14
    (arg10.view.writes (Elt F) f10 (Q3 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14).1)
    (arg11.view.writes (Elt F) f11 (P11 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14))
    (arg12.view.writes (Elt F) f12 (P12 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14))

theorem run7 : (kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14).1
    = [⟨Rect.unit ![0, 0] S4096x128.size inb_S4096x128_S4096x128_0_0,
        k0_pay3 (View.readAt (Elt F) arg10.view (Rect.unit (s := S4096x128) ![0, 0] S4096x128.size inb_S4096x128_S4096x128_0_0).toLoadRect
          (fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14).1)⟩] := rfl

theorem run8 : (kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14).2.1
    = [⟨Rect.unit ![0, 0] S4096x128.size inb_S4096x128_S4096x128_0_0,
        k0_pay4 (View.readAt (Elt F) arg11.view (Rect.unit (s := S6144x128) ![2048, 0] S4096x128.size inb_S6144x128_S4096x128_2048_0).toLoadRect
          (fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14).2.1)⟩] := rfl

theorem run9 : (kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14).2.2.1
    = [⟨Rect.unit ![0, 0] S4096x128.size inb_S4096x128_S4096x128_0_0,
        k0_pay5 (View.readAt (Elt F) arg12.view (Rect.unit (s := S6144x128) ![2048, 0] S4096x128.size inb_S6144x128_S4096x128_2048_0).toLoadRect
          (fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14).2.2)⟩] := rfl

end Cert.KernelIdeal.Hand

end
-- ==== Proof.Copy.lean ====
module

public import proofs.«01_k».proof.Proof.State
public import Idealize.ShloMosaic.Lib.Pipeline.Value

/-! The padded keys and values: zeros in the lower 2048 rows, the array above them. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- An array of 4096 rows above 2048 rows of zeros. -/
def padded (x : Vec F S4096x128 .f32) : Vec F S6144x128 .f32 := fun y =>
  if h : 2048 ≤ (y 0).val then x (fun | ⟨0, _⟩ => ⟨(y 0).val - 2048, by have := (y 0).isLt; change _ < 6144 at this; show _ < 4096; omega⟩ | ⟨1, _⟩ => y 1)
  else Scalar.ofBits .f32 0x00000000#32

theorem trips1 : k0_t1_loop.trips = 32 := by decide +kernel
theorem trips2 : k0_t2_loop.trips = 32 := by decide +kernel
theorem off1_0 : ∀ k : Fin k0_t1_loop.trips, k0_off1 k 0 = 128 * k.val := by decide +kernel
theorem off1_1 : ∀ k : Fin k0_t1_loop.trips, k0_off1 k 1 = 0 := by decide +kernel
theorem off2_0 : ∀ k : Fin k0_t1_loop.trips, k0_off2 k 0 = 2048 + 128 * k.val := by decide +kernel
theorem off2_1 : ∀ k : Fin k0_t1_loop.trips, k0_off2 k 1 = 0 := by decide +kernel
theorem off3_0 : ∀ k : Fin k0_t2_loop.trips, k0_off3 k 0 = 128 * k.val := by decide +kernel
theorem off3_1 : ∀ k : Fin k0_t2_loop.trips, k0_off3 k 1 = 0 := by decide +kernel
theorem off4_0 : ∀ k : Fin k0_t2_loop.trips, k0_off4 k 0 = 2048 + 128 * k.val := by decide +kernel
theorem off4_1 : ∀ k : Fin k0_t2_loop.trips, k0_off4 k 1 = 0 := by decide +kernel

theorem pay230_eq (v : Vec F S128x128 .f32) : k0_pay228 v = v := by unfold k0_pay228; exact shapeCast_self _ _
theorem pay232_eq (v : Vec F S128x128 .f32) : k0_pay230 v = v := by unfold k0_pay230; exact shapeCast_self _ _

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole)

/-- Every piece of the keys copied into place. -/
theorem mem_t1 (X : BufTy.Contents (Elt F) arg2.view.ty) : ∀ n : ℕ, n ≤ k0_t1_loop.trips →
    ∀ p : View.Piece (Elt F) S6144x128 .f32, p ∈ pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X n ↔ ∃ k : Fin k0_t1_loop.trips, k.val < n ∧
      p = ⟨Rect.unit (k0_off2 k) S128x128.size (k0_off2_inb k),
        k0_pay228 (View.readAt (Elt F) arg2.view (Rect.unit (s := S4096x128) (k0_off1 k) S128x128.size (k0_off1_inb k)).toLoadRect X)⟩
  | 0, _, p => by
    constructor
    · intro h; exact absurd h List.not_mem_nil
    · rintro ⟨k, h, _⟩; exact absurd h (Nat.not_lt_zero _)
  | n + 1, hn, p => by
    have e := pb_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X ⟨n, hn⟩
    have e' : tripL_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X ⟨n, hn⟩
        = [⟨Rect.unit (k0_off2 ⟨n, hn⟩) S128x128.size (k0_off2_inb ⟨n, hn⟩),
        k0_pay228 (View.readAt (Elt F) arg2.view (Rect.unit (s := S4096x128) (k0_off1 ⟨n, hn⟩) S128x128.size (k0_off1_inb ⟨n, hn⟩)).toLoadRect X)⟩] := by
      delta tripL_k0_t1 trip_k0_t1; rfl
    rw [e'] at e
    rw [show pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X (n + 1) = _ from e, List.singleton_append, List.mem_cons, mem_t1 X n (Nat.le_of_succ_le hn) p]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hk | hk
      · exact .inr ⟨k, hk, h⟩
      · left
        have : k = ⟨n, hn⟩ := Fin.ext hk
        rw [h, this]

theorem read_pad13 (f : BufTy.Contents (Elt F) arg13.view.ty) (x : Vec F S4096x128 .f32) :
    arg13.view.read (Elt F) (arg13.view.writes (Elt F) f (P13 c i arg1 harg1 arg2 harg2 arg3 harg3 arg4 harg4 arg5 harg5 arg6 harg6 arg7 harg7 arg8 harg8 arg9 harg9 arg10 harg10 arg11 harg11 arg12 harg12 arg13 harg13 arg14 harg14 x)) = padded x := by
  funext y
  refine View.read_writes_apply_of_pieces _ _ (padded x) _ ?_ y ?_
  · intro p hp
    rcases List.mem_append.mp hp with hp | hp
    · obtain ⟨k, -, rfl⟩ := (mem_t1 c i arg1 harg1 arg2 harg2 arg3 harg3 arg4 harg4 arg5 harg5 arg6 harg6 arg7 harg7 arg8 harg8 arg9 harg9 arg10 harg10 arg11 harg11 arg12 harg12 arg13 harg13 arg14 harg14 (harg2.unread x) _ le_rfl p).mp hp
      intro z
      have hk : k.val < 32 := Nat.lt_of_lt_of_le k.isLt k0_t1_abs.2.1
      have h0 : (((Rect.unit (s := S6144x128) (k0_off2 k) S128x128.size (k0_off2_inb k)).emb z) 0).val = 2048 + 128 * k.val + (z 0).val := by
        show k0_off2 k 0 + 1 * (z 0).val = _
        have := off2_0 k; omega
      have h1 : (((Rect.unit (s := S6144x128) (k0_off2 k) S128x128.size (k0_off2_inb k)).emb z) 1).val = (z 1).val := by
        show k0_off2 k 1 + 1 * (z 1).val = _
        have := off2_1 k; omega
      have hz : (z 0).val < 128 := (z 0).isLt
      unfold padded
      rw [dif_pos (by rw [h0]; omega)]
      dsimp only
      rw [pay230_eq]
      rw [View.readAt_eq_ld, harg2.read_unread]
      refine congrArg x (funext fun a => Fin.ext ?_)
      revert a
      refine Fin.forall_fin_two.mpr ⟨?_, ?_⟩
      · show k0_off1 k 0 + 1 * (z 0).val = _ - 2048
        have := off1_0 k; rw [h0]; omega
      · show k0_off1 k 1 + 1 * (z 1).val = _
        have := off1_1 k; rw [h1]; omega
    · obtain rfl := List.mem_singleton.mp hp
      intro z
      have hz : (z 0).val < 2048 := (z 0).isLt
      have h0 : (((Rect.unit (s := S6144x128) ![0, 0] S2048x128.size inb_S6144x128_S2048x128_0_0).emb z) 0).val = (z 0).val := by
        show 0 + 1 * (z 0).val = _
        omega
      unfold padded
      rw [dif_neg (by rw [h0]; omega)]
      rfl
  · by_cases h : 2048 ≤ (y 0).val
    · have hy : (y 0).val < 6144 := (y 0).isLt
      have hy1 : (y 1).val < 128 := (y 1).isLt
      let k : Fin k0_t1_loop.trips := ⟨((y 0).val - 2048) / 128, by rw [trips1]; omega⟩
      refine ⟨_, List.mem_append_left _ ((mem_t1 c i arg1 harg1 arg2 harg2 arg3 harg3 arg4 harg4 arg5 harg5 arg6 harg6 arg7 harg7 arg8 harg8 arg9 harg9 arg10 harg10 arg11 harg11 arg12 harg12 arg13 harg13 arg14 harg14 (harg2.unread x) _ le_rfl _).mpr ⟨k, k.isLt, rfl⟩), ?_⟩
      refine (Rect.mem_set_unit (inb := k0_off2_inb k)).mpr (Fin.forall_fin_two.mpr ⟨?_, ?_⟩)
      · show k0_off2 k 0 ≤ (y 0).val ∧ (y 0).val < k0_off2 k 0 + 128
        have := off2_0 k
        have : k.val = ((y 0).val - 2048) / 128 := rfl
        omega
      · show k0_off2 k 1 ≤ (y 1).val ∧ (y 1).val < k0_off2 k 1 + 128
        have := off2_1 k
        omega
    · refine ⟨_, List.mem_append_right _ (List.mem_singleton.mpr rfl), ?_⟩
      refine (Rect.mem_set_unit (inb := inb_S6144x128_S2048x128_0_0)).mpr (Fin.forall_fin_two.mpr ⟨?_, ?_⟩)
      · show 0 ≤ (y 0).val ∧ (y 0).val < 0 + 2048
        omega
      · show 0 ≤ (y 1).val ∧ (y 1).val < 0 + 128
        have hy1 : (y 1).val < 128 := (y 1).isLt
        omega

/-- The padded keys, whatever the buffer held before. -/
theorem pad13 (f : BufTy.Contents (Elt F) arg13.view.ty) (x : Vec F S4096x128 .f32) :
    arg13.view.writes (Elt F) f (P13 c i arg1 harg1 arg2 harg2 arg3 harg3 arg4 harg4 arg5 harg5 arg6 harg6 arg7 harg7 arg8 harg8 arg9 harg9 arg10 harg10 arg11 harg11 arg12 harg12 arg13 harg13 arg14 harg14 x) = harg13.unread (padded x) :=
  harg13.eq_unread (read_pad13 c i arg1 harg1 arg2 harg2 arg3 harg3 arg4 harg4 arg5 harg5 arg6 harg6 arg7 harg7 arg8 harg8 arg9 harg9 arg10 harg10 arg11 harg11 arg12 harg12 arg13 harg13 arg14 harg14 f x)

/-- Every piece of the values copied into place. -/
theorem mem_t2 (X : BufTy.Contents (Elt F) arg3.view.ty) : ∀ n : ℕ, n ≤ k0_t2_loop.trips →
    ∀ p : View.Piece (Elt F) S6144x128 .f32, p ∈ pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X n ↔ ∃ k : Fin k0_t2_loop.trips, k.val < n ∧
      p = ⟨Rect.unit (k0_off4 k) S128x128.size (k0_off4_inb k),
        k0_pay230 (View.readAt (Elt F) arg3.view (Rect.unit (s := S4096x128) (k0_off3 k) S128x128.size (k0_off3_inb k)).toLoadRect X)⟩
  | 0, _, p => by
    constructor
    · intro h; exact absurd h List.not_mem_nil
    · rintro ⟨k, h, _⟩; exact absurd h (Nat.not_lt_zero _)
  | n + 1, hn, p => by
    have e := pb_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X ⟨n, hn⟩
    have e' : tripL_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X ⟨n, hn⟩
        = [⟨Rect.unit (k0_off4 ⟨n, hn⟩) S128x128.size (k0_off4_inb ⟨n, hn⟩),
        k0_pay230 (View.readAt (Elt F) arg3.view (Rect.unit (s := S4096x128) (k0_off3 ⟨n, hn⟩) S128x128.size (k0_off3_inb ⟨n, hn⟩)).toLoadRect X)⟩] := by
      delta tripL_k0_t2 trip_k0_t2; rfl
    rw [e'] at e
    rw [show pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X (n + 1) = _ from e, List.singleton_append, List.mem_cons, mem_t2 X n (Nat.le_of_succ_le hn) p]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hk | hk
      · exact .inr ⟨k, hk, h⟩
      · left
        have : k = ⟨n, hn⟩ := Fin.ext hk
        rw [h, this]

theorem read_pad14 (f : BufTy.Contents (Elt F) arg14.view.ty) (x : Vec F S4096x128 .f32) :
    arg14.view.read (Elt F) (arg14.view.writes (Elt F) f (P14 c i arg1 harg1 arg2 harg2 arg3 harg3 arg4 harg4 arg5 harg5 arg6 harg6 arg7 harg7 arg8 harg8 arg9 harg9 arg10 harg10 arg11 harg11 arg12 harg12 arg13 harg13 arg14 harg14 x)) = padded x := by
  funext y
  refine View.read_writes_apply_of_pieces _ _ (padded x) _ ?_ y ?_
  · intro p hp
    rcases List.mem_append.mp hp with hp | hp
    · obtain ⟨k, -, rfl⟩ := (mem_t2 c i arg1 harg1 arg2 harg2 arg3 harg3 arg4 harg4 arg5 harg5 arg6 harg6 arg7 harg7 arg8 harg8 arg9 harg9 arg10 harg10 arg11 harg11 arg12 harg12 arg13 harg13 arg14 harg14 (harg3.unread x) _ le_rfl p).mp hp
      intro z
      have hk : k.val < 32 := Nat.lt_of_lt_of_le k.isLt k0_t2_abs.2.1
      have h0 : (((Rect.unit (s := S6144x128) (k0_off4 k) S128x128.size (k0_off4_inb k)).emb z) 0).val = 2048 + 128 * k.val + (z 0).val := by
        show k0_off4 k 0 + 1 * (z 0).val = _
        have := off4_0 k; omega
      have h1 : (((Rect.unit (s := S6144x128) (k0_off4 k) S128x128.size (k0_off4_inb k)).emb z) 1).val = (z 1).val := by
        show k0_off4 k 1 + 1 * (z 1).val = _
        have := off4_1 k; omega
      have hz : (z 0).val < 128 := (z 0).isLt
      unfold padded
      rw [dif_pos (by rw [h0]; omega)]
      dsimp only
      rw [pay232_eq]
      rw [View.readAt_eq_ld, harg3.read_unread]
      refine congrArg x (funext fun a => Fin.ext ?_)
      revert a
      refine Fin.forall_fin_two.mpr ⟨?_, ?_⟩
      · show k0_off3 k 0 + 1 * (z 0).val = _ - 2048
        have := off3_0 k; rw [h0]; omega
      · show k0_off3 k 1 + 1 * (z 1).val = _
        have := off3_1 k; rw [h1]; omega
    · obtain rfl := List.mem_singleton.mp hp
      intro z
      have hz : (z 0).val < 2048 := (z 0).isLt
      have h0 : (((Rect.unit (s := S6144x128) ![0, 0] S2048x128.size inb_S6144x128_S2048x128_0_0).emb z) 0).val = (z 0).val := by
        show 0 + 1 * (z 0).val = _
        omega
      unfold padded
      rw [dif_neg (by rw [h0]; omega)]
      rfl
  · by_cases h : 2048 ≤ (y 0).val
    · have hy : (y 0).val < 6144 := (y 0).isLt
      have hy1 : (y 1).val < 128 := (y 1).isLt
      let k : Fin k0_t2_loop.trips := ⟨((y 0).val - 2048) / 128, by rw [trips2]; omega⟩
      refine ⟨_, List.mem_append_left _ ((mem_t2 c i arg1 harg1 arg2 harg2 arg3 harg3 arg4 harg4 arg5 harg5 arg6 harg6 arg7 harg7 arg8 harg8 arg9 harg9 arg10 harg10 arg11 harg11 arg12 harg12 arg13 harg13 arg14 harg14 (harg3.unread x) _ le_rfl _).mpr ⟨k, k.isLt, rfl⟩), ?_⟩
      refine (Rect.mem_set_unit (inb := k0_off4_inb k)).mpr (Fin.forall_fin_two.mpr ⟨?_, ?_⟩)
      · show k0_off4 k 0 ≤ (y 0).val ∧ (y 0).val < k0_off4 k 0 + 128
        have := off4_0 k
        have : k.val = ((y 0).val - 2048) / 128 := rfl
        omega
      · show k0_off4 k 1 ≤ (y 1).val ∧ (y 1).val < k0_off4 k 1 + 128
        have := off4_1 k
        omega
    · refine ⟨_, List.mem_append_right _ (List.mem_singleton.mpr rfl), ?_⟩
      refine (Rect.mem_set_unit (inb := inb_S6144x128_S2048x128_0_0)).mpr (Fin.forall_fin_two.mpr ⟨?_, ?_⟩)
      · show 0 ≤ (y 0).val ∧ (y 0).val < 0 + 2048
        omega
      · show 0 ≤ (y 1).val ∧ (y 1).val < 0 + 128
        have hy1 : (y 1).val < 128 := (y 1).isLt
        omega

/-- The padded values, whatever the buffer held before. -/
theorem pad14 (f : BufTy.Contents (Elt F) arg14.view.ty) (x : Vec F S4096x128 .f32) :
    arg14.view.writes (Elt F) f (P14 c i arg1 harg1 arg2 harg2 arg3 harg3 arg4 harg4 arg5 harg5 arg6 harg6 arg7 harg7 arg8 harg8 arg9 harg9 arg10 harg10 arg11 harg11 arg12 harg12 arg13 harg13 arg14 harg14 x) = harg14.unread (padded x) :=
  harg14.eq_unread (read_pad14 c i arg1 harg1 arg2 harg2 arg3 harg3 arg4 harg4 arg5 harg5 arg6 harg6 arg7 harg7 arg8 harg8 arg9 harg9 arg10 harg10 arg11 harg11 arg12 harg12 arg13 harg13 arg14 harg14 f x)

end Cert.KernelIdeal.Hand

end
-- ==== Proof.Cover.lean ====
module

public import proofs.«01_k».proof.Proof.Copy

/-! What the branch of dilation 16 stores fills the accumulators, so nothing depends on what the scratch buffers held before. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The rows of unit `8 u + k` of the branch of dilation 16. -/
def rect5 (k : Fin k0_t3_loop.trips) (u : Fin 2) : Rect S4096x128 :=
  ⟨⟨k0_off5 k (BitVec.ofNat 32 (8 * u.val)), S256x128.size, ![16, 1], k0_off5_inb k u⟩, spos_16_1⟩

/-- The same rows in the padded arrays. -/
def rect6 (k : Fin k0_t3_loop.trips) (u : Fin 2) : Rect S6144x128 :=
  ⟨⟨k0_off6 k (BitVec.ofNat 32 (8 * u.val)), S256x128.size, ![16, 1], k0_off6_inb k u⟩, spos_16_1⟩

theorem trips3 : k0_t3_loop.trips = 8 := by decide +kernel
theorem off5_0 : ∀ (k : Fin k0_t3_loop.trips) (u : Fin 2), k0_off5 k (BitVec.ofNat 32 (8 * u.val)) 0 = k.val + 8 * u.val := by decide +kernel
theorem off5_1 : ∀ (k : Fin k0_t3_loop.trips) (u : Fin 2), k0_off5 k (BitVec.ofNat 32 (8 * u.val)) 1 = 0 := by decide +kernel
theorem off6_0 : ∀ (k : Fin k0_t3_loop.trips) (u : Fin 2), k0_off6 k (BitVec.ofNat 32 (8 * u.val)) 0 = 2048 + (k.val + 8 * u.val) := by decide +kernel
theorem off6_1 : ∀ (k : Fin k0_t3_loop.trips) (u : Fin 2), k0_off6 k (BitVec.ofNat 32 (8 * u.val)) 1 = 0 := by decide +kernel

theorem mem_rect5 (k : Fin k0_t3_loop.trips) (u : Fin 2) (y : S4096x128.Idx) :
    y ∈ (rect5 k u).set ↔ (y 0).val % 16 = k.val + 8 * u.val := by
  have hk : k.val < 8 := Nat.lt_of_lt_of_le k.isLt k0_t3_abs.2.1
  have hu := u.isLt
  have hy : (y 0).val < 4096 := (y 0).isLt
  have hy1 : (y 1).val < 128 := (y 1).isLt
  have e0 := off5_0 k u
  have e1 := off5_1 k u
  rw [LoadRect.mem_set]
  constructor
  · intro h
    obtain ⟨j, hj, h⟩ := h 0
    change (y 0).val = k0_off5 k (BitVec.ofNat 32 (8 * u.val)) 0 + 16 * j at h
    omega
  · intro h
    refine Fin.forall_fin_two.mpr ⟨⟨(y 0).val / 16, ?_, ?_⟩, ⟨(y 1).val, hy1, ?_⟩⟩
    · show _ < 256
      omega
    · show (y 0).val = k0_off5 k (BitVec.ofNat 32 (8 * u.val)) 0 + 16 * ((y 0).val / 16)
      omega
    · show (y 1).val = k0_off5 k (BitVec.ofNat 32 (8 * u.val)) 1 + 1 * (y 1).val
      omega

theorem mem_rect6 (k : Fin k0_t3_loop.trips) (u : Fin 2) (y : S6144x128.Idx) :
    y ∈ (rect6 k u).set ↔ 2048 ≤ (y 0).val ∧ (y 0).val % 16 = k.val + 8 * u.val := by
  have hk : k.val < 8 := Nat.lt_of_lt_of_le k.isLt k0_t3_abs.2.1
  have hu := u.isLt
  have hy : (y 0).val < 6144 := (y 0).isLt
  have hy1 : (y 1).val < 128 := (y 1).isLt
  have e0 := off6_0 k u
  have e1 := off6_1 k u
  rw [LoadRect.mem_set]
  constructor
  · intro h
    obtain ⟨j, hj, h⟩ := h 0
    change (y 0).val = k0_off6 k (BitVec.ofNat 32 (8 * u.val)) 0 + 16 * j at h
    omega
  · intro h
    refine Fin.forall_fin_two.mpr ⟨⟨(y 0).val / 16 - 128, ?_, ?_⟩, ⟨(y 1).val, hy1, ?_⟩⟩
    · show _ < 256
      omega
    · show (y 0).val = k0_off6 k (BitVec.ofNat 32 (8 * u.val)) 0 + 16 * ((y 0).val / 16 - 128)
      omega
    · show (y 1).val = k0_off6 k (BitVec.ofNat 32 (8 * u.val)) 1 + 1 * (y 1).val
      omega

/-- The trip and the unit of the branch of dilation 16 that hold a row. -/
theorem unit16 (r : ℕ) : ∃ (k : Fin k0_t3_loop.trips) (u : Fin 2), r % 16 = k.val + 8 * u.val :=
  ⟨⟨r % 8, by rw [trips3]; omega⟩, ⟨r / 8 % 2, by omega⟩, by show r % 16 = r % 8 + 8 * (r / 8 % 2); omega⟩

section
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty)

theorem mem_q10 : ∀ n : ℕ, n ≤ k0_t3_loop.trips → ∀ p,
    p ∈ (pb3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 n).1 ↔ ∃ k : Fin k0_t3_loop.trips, k.val < n ∧ p ∈ (trip3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).1
  | 0, _, p => by
    constructor
    · intro h; exact absurd h List.not_mem_nil
    · rintro ⟨k, h, _⟩; exact absurd h (Nat.not_lt_zero _)
  | n + 1, hn, p => by
    have e := congrArg (fun q => q.1) (pb3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 ⟨n, hn⟩)
    rw [show (pb3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 (n + 1)).1 = _ from e, List.mem_append, mem_q10 n (Nat.le_of_succ_le hn) p]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hk | hk
      · exact .inr ⟨k, hk, h⟩
      · left
        have : k = ⟨n, hn⟩ := Fin.ext hk
        rwa [← this]

theorem geo_q10 (k : Fin k0_t3_loop.trips) : ∃ w0 w1, (trip3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).1
    = [⟨rect5 k 1, w1⟩, ⟨rect5 k 0, w0⟩] := by
  delta trip3; exact ⟨_, _, rfl⟩

theorem mem_q11 : ∀ n : ℕ, n ≤ k0_t3_loop.trips → ∀ p,
    p ∈ (pb3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 n).2.1 ↔ ∃ k : Fin k0_t3_loop.trips, k.val < n ∧ p ∈ (trip3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.1
  | 0, _, p => by
    constructor
    · intro h; exact absurd h List.not_mem_nil
    · rintro ⟨k, h, _⟩; exact absurd h (Nat.not_lt_zero _)
  | n + 1, hn, p => by
    have e := congrArg (fun q => q.2.1) (pb3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 ⟨n, hn⟩)
    rw [show (pb3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 (n + 1)).2.1 = _ from e, List.mem_append, mem_q11 n (Nat.le_of_succ_le hn) p]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hk | hk
      · exact .inr ⟨k, hk, h⟩
      · left
        have : k = ⟨n, hn⟩ := Fin.ext hk
        rwa [← this]

theorem geo_q11 (k : Fin k0_t3_loop.trips) : ∃ w0 w1, (trip3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.1
    = [⟨rect6 k 1, w1⟩, ⟨rect6 k 0, w0⟩] := by
  delta trip3; exact ⟨_, _, rfl⟩

theorem mem_q12 : ∀ n : ℕ, n ≤ k0_t3_loop.trips → ∀ p,
    p ∈ (pb3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 n).2.2 ↔ ∃ k : Fin k0_t3_loop.trips, k.val < n ∧ p ∈ (trip3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.2.1
  | 0, _, p => by
    constructor
    · intro h; exact absurd h List.not_mem_nil
    · rintro ⟨k, h, _⟩; exact absurd h (Nat.not_lt_zero _)
  | n + 1, hn, p => by
    have e := congrArg (fun q => q.2.2) (pb3_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 ⟨n, hn⟩)
    rw [show (pb3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 (n + 1)).2.2 = _ from e, List.mem_append, mem_q12 n (Nat.le_of_succ_le hn) p]
    constructor
    · rintro (h | ⟨k, hk, h⟩)
      · exact ⟨⟨n, hn⟩, Nat.lt_succ_self n, h⟩
      · exact ⟨k, Nat.lt_succ_of_lt hk, h⟩
    · rintro ⟨k, hk, h⟩
      rcases Nat.lt_succ_iff_lt_or_eq.mp hk with hk | hk
      · exact .inr ⟨k, hk, h⟩
      · left
        have : k = ⟨n, hn⟩ := Fin.ext hk
        rwa [← this]

theorem geo_q12 (k : Fin k0_t3_loop.trips) : ∃ w0 w1, (trip3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.2.1
    = [⟨rect6 k 1, w1⟩, ⟨rect6 k 0, w0⟩] := by
  delta trip3; exact ⟨_, _, rfl⟩

end

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole)
  (x1 x2 x3 x4 x5 x6 : Vec F S4096x128 .f32)
  (X13 : BufTy.Contents (Elt F) arg13.view.ty) (X14 : BufTy.Contents (Elt F) arg14.view.ty)

theorem cover10 (y : S4096x128.Idx) : ∃ p ∈ (Q3 (F := F) c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14).1, y ∈ p.1.set := by
  obtain ⟨k, u, h⟩ := unit16 (y 0).val
  obtain ⟨w0, w1, e⟩ := geo_q10 (F := F) c i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) X13 X14 k
  have hy := (mem_rect5 k u y).mpr h
  have hm := fun p => (mem_q10 (F := F) c i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) X13 X14 _ le_rfl p).mpr
  rcases (show u = 0 ∨ u = 1 by omega) with rfl | rfl
  · exact ⟨⟨rect5 k 0, w0⟩, hm _ ⟨k, k.isLt, by rw [e]; exact .tail _ (.head _)⟩, hy⟩
  · exact ⟨⟨rect5 k 1, w1⟩, hm _ ⟨k, k.isLt, by rw [e]; exact .head _⟩, hy⟩

theorem cover11 (y : S6144x128.Idx) : ∃ p ∈ P11 (F := F) c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14, y ∈ p.1.set := by
  by_cases hy' : 2048 ≤ (y 0).val
  · obtain ⟨k, u, h⟩ := unit16 (y 0).val
    obtain ⟨w0, w1, e⟩ := geo_q11 (F := F) c i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) X13 X14 k
    have hy := (mem_rect6 k u y).mpr ⟨hy', h⟩
    have hm := fun p => (mem_q11 (F := F) c i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) X13 X14 _ le_rfl p).mpr
    rcases (show u = 0 ∨ u = 1 by omega) with rfl | rfl
    · exact ⟨⟨rect6 k 0, w0⟩, List.mem_append_left _ (hm _ ⟨k, k.isLt, by rw [e]; exact .tail _ (.head _)⟩), hy⟩
    · exact ⟨⟨rect6 k 1, w1⟩, List.mem_append_left _ (hm _ ⟨k, k.isLt, by rw [e]; exact .head _⟩), hy⟩
  · refine ⟨⟨Rect.unit ![0, 0] S2048x128.size inb_S6144x128_S2048x128_0_0, k0_pay231⟩, List.mem_append_right _ (List.mem_singleton.mpr rfl), ?_⟩
    show y ∈ (Rect.unit (s := S6144x128) ![0, 0] S2048x128.size inb_S6144x128_S2048x128_0_0).set
    refine (Rect.mem_set_unit (inb := inb_S6144x128_S2048x128_0_0)).mpr (Fin.forall_fin_two.mpr ⟨?_, ?_⟩)
    · show 0 ≤ (y 0).val ∧ (y 0).val < 0 + 2048
      omega
    · show 0 ≤ (y 1).val ∧ (y 1).val < 0 + 128
      have hy1 : (y 1).val < 128 := (y 1).isLt
      omega

theorem cover12 (y : S6144x128.Idx) : ∃ p ∈ P12 (F := F) c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14, y ∈ p.1.set := by
  by_cases hy' : 2048 ≤ (y 0).val
  · obtain ⟨k, u, h⟩ := unit16 (y 0).val
    obtain ⟨w0, w1, e⟩ := geo_q12 (F := F) c i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) X13 X14 k
    have hy := (mem_rect6 k u y).mpr ⟨hy', h⟩
    have hm := fun p => (mem_q12 (F := F) c i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) X13 X14 _ le_rfl p).mpr
    rcases (show u = 0 ∨ u = 1 by omega) with rfl | rfl
    · exact ⟨⟨rect6 k 0, w0⟩, List.mem_append_left _ (hm _ ⟨k, k.isLt, by rw [e]; exact .tail _ (.head _)⟩), hy⟩
    · exact ⟨⟨rect6 k 1, w1⟩, List.mem_append_left _ (hm _ ⟨k, k.isLt, by rw [e]; exact .head _⟩), hy⟩
  · refine ⟨⟨Rect.unit ![0, 0] S2048x128.size inb_S6144x128_S2048x128_0_0, k0_pay232⟩, List.mem_append_right _ (List.mem_singleton.mpr rfl), ?_⟩
    show y ∈ (Rect.unit (s := S6144x128) ![0, 0] S2048x128.size inb_S6144x128_S2048x128_0_0).set
    refine (Rect.mem_set_unit (inb := inb_S6144x128_S2048x128_0_0)).mpr (Fin.forall_fin_two.mpr ⟨?_, ?_⟩)
    · show 0 ≤ (y 0).val ∧ (y 0).val < 0 + 2048
      omega
    · show 0 ≤ (y 1).val ∧ (y 1).val < 0 + 128
      have hy1 : (y 1).val < 128 := (y 1).isLt
      omega

/-- The accumulators at the end of the body do not depend on what the scratch buffers held before. -/
theorem fin_eq (f10 f10' : BufTy.Contents (Elt F) arg10.view.ty) (f11 f11' : BufTy.Contents (Elt F) arg11.view.ty)
    (f12 f12' : BufTy.Contents (Elt F) arg12.view.ty) (f13 f13' : BufTy.Contents (Elt F) arg13.view.ty)
    (f14 f14' : BufTy.Contents (Elt F) arg14.view.ty) :
    fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14 = fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10' f11' f12' f13' f14' := by
  unfold fin
  dsimp only
  rw [pad13 c i arg1 harg1 arg2 harg2 arg3 harg3 arg4 harg4 arg5 harg5 arg6 harg6 arg7 harg7 arg8 harg8 arg9 harg9 arg10 harg10 arg11 harg11 arg12 harg12 arg13 harg13 arg14 harg14 f13 x2, pad13 c i arg1 harg1 arg2 harg2 arg3 harg3 arg4 harg4 arg5 harg5 arg6 harg6 arg7 harg7 arg8 harg8 arg9 harg9 arg10 harg10 arg11 harg11 arg12 harg12 arg13 harg13 arg14 harg14 f13' x2, pad14 c i arg1 harg1 arg2 harg2 arg3 harg3 arg4 harg4 arg5 harg5 arg6 harg6 arg7 harg7 arg8 harg8 arg9 harg9 arg10 harg10 arg11 harg11 arg12 harg12 arg13 harg13 arg14 harg14 f14 x3, pad14 c i arg1 harg1 arg2 harg2 arg3 harg3 arg4 harg4 arg5 harg5 arg6 harg6 arg7 harg7 arg8 harg8 arg9 harg9 arg10 harg10 arg11 harg11 arg12 harg12 arg13 harg13 arg14 harg14 f14' x3]
  generalize harg13.unread (padded x2) = X13
  generalize harg14.unread (padded x3) = X14
  have e10 : arg10.view.writes (Elt F) f10 (Q3 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14).1 = arg10.view.writes (Elt F) f10' (Q3 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14).1 :=
    (harg10.eq_unread (View.read_writes_of_cover _ _ _ _ _ (cover10 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14))).trans (harg10.unread_read _)
  have e11 : arg11.view.writes (Elt F) f11 (P11 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14) = arg11.view.writes (Elt F) f11' (P11 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14) :=
    (harg11.eq_unread (View.read_writes_of_cover _ _ _ _ _ (cover11 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14))).trans (harg11.unread_read _)
  have e12 : arg12.view.writes (Elt F) f12 (P12 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14) = arg12.view.writes (Elt F) f12' (P12 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14) :=
    (harg12.eq_unread (View.read_writes_of_cover _ _ _ _ _ (cover12 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 X13 X14))).trans (harg12.unread_read _)
  rw [e10, e11, e12]

end Cert.KernelIdeal.Hand

end
-- ==== Proof.Whole.lean ====
module

public import proofs.«01_k».proof.Proof.Cover
public import proofs.«01_k».proof.Proof.Gen.KernelIdeal.Frame
public import Idealize.ShloMosaic.Lib.Claim

/-! The pipeline: the body at every point, the run of the program, its frame. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- Zeros, in the shapes of the scratch buffers. -/
def zeroV : Vec F S4096x128 .f32 := fun _ => Scalar.ofBits .f32 0x00000000#32
def zeroW : Vec F S6144x128 .f32 := fun _ => Scalar.ofBits .f32 0x00000000#32

theorem read_whole (v : View sig .tc .vmem S4096x128 .bf16) (f : v.ty.Contents (Elt F)) (w : Vec F S4096x128 .bf16) :
    v.read (Elt F) (v.writes (Elt F) f [⟨Rect.unit ![0, 0] S4096x128.size inb_S4096x128_S4096x128_0_0, w⟩]) = w := by
  funext y
  refine View.read_writes_cons_hit_of_coords v f (Rect.unit ![0, 0] S4096x128.size inb_S4096x128_S4096x128_0_0) w [] y y ?_
  refine Fin.forall_fin_two.mpr ⟨?_, ?_⟩
  · show (y 0).val = 0 + 1 * (y 0).val
    omega
  · show (y 1).val = 0 + 1 * (y 1).val
    omega

section
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (x1 x2 x3 x4 x5 x6 : Vec F S4096x128 .f32)

/-- The array the body leaves in the result of `arg7`. -/
def out7 : Vec F S4096x128 .bf16 :=
  k0_pay3 (View.readAt (Elt F) arg10.view (Rect.unit (s := S4096x128) ![0, 0] S4096x128.size inb_S4096x128_S4096x128_0_0).toLoadRect
    (fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 (harg10.unread zeroV) (harg11.unread zeroW) (harg12.unread zeroW) (harg13.unread zeroW) (harg14.unread zeroW)).1)

theorem read7 (f : BufTy.Contents (Elt F) arg7.view.ty) (f10 : BufTy.Contents (Elt F) arg10.view.ty) (f11 : BufTy.Contents (Elt F) arg11.view.ty)
    (f12 : BufTy.Contents (Elt F) arg12.view.ty) (f13 : BufTy.Contents (Elt F) arg13.view.ty) (f14 : BufTy.Contents (Elt F) arg14.view.ty) :
    arg7.view.read (Elt F) (arg7.view.writes (Elt F) f (kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14).1)
      = out7 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 := by
  rw [run7, fin_eq c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 (harg10.unread zeroV) f11 (harg11.unread zeroW) f12 (harg12.unread zeroW) f13 (harg13.unread zeroW) f14 (harg14.unread zeroW)]
  exact read_whole _ _ _

/-- The array the body leaves in the result of `arg8`. -/
def out8 : Vec F S4096x128 .bf16 :=
  k0_pay4 (View.readAt (Elt F) arg11.view (Rect.unit (s := S6144x128) ![2048, 0] S4096x128.size inb_S6144x128_S4096x128_2048_0).toLoadRect
    (fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 (harg10.unread zeroV) (harg11.unread zeroW) (harg12.unread zeroW) (harg13.unread zeroW) (harg14.unread zeroW)).2.1)

theorem read8 (f : BufTy.Contents (Elt F) arg8.view.ty) (f10 : BufTy.Contents (Elt F) arg10.view.ty) (f11 : BufTy.Contents (Elt F) arg11.view.ty)
    (f12 : BufTy.Contents (Elt F) arg12.view.ty) (f13 : BufTy.Contents (Elt F) arg13.view.ty) (f14 : BufTy.Contents (Elt F) arg14.view.ty) :
    arg8.view.read (Elt F) (arg8.view.writes (Elt F) f (kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14).2.1)
      = out8 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 := by
  rw [run8, fin_eq c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 (harg10.unread zeroV) f11 (harg11.unread zeroW) f12 (harg12.unread zeroW) f13 (harg13.unread zeroW) f14 (harg14.unread zeroW)]
  exact read_whole _ _ _

/-- The array the body leaves in the result of `arg9`. -/
def out9 : Vec F S4096x128 .bf16 :=
  k0_pay5 (View.readAt (Elt F) arg12.view (Rect.unit (s := S6144x128) ![2048, 0] S4096x128.size inb_S6144x128_S4096x128_2048_0).toLoadRect
    (fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 (harg10.unread zeroV) (harg11.unread zeroW) (harg12.unread zeroW) (harg13.unread zeroW) (harg14.unread zeroW)).2.2)

theorem read9 (f : BufTy.Contents (Elt F) arg9.view.ty) (f10 : BufTy.Contents (Elt F) arg10.view.ty) (f11 : BufTy.Contents (Elt F) arg11.view.ty)
    (f12 : BufTy.Contents (Elt F) arg12.view.ty) (f13 : BufTy.Contents (Elt F) arg13.view.ty) (f14 : BufTy.Contents (Elt F) arg14.view.ty) :
    arg9.view.read (Elt F) (arg9.view.writes (Elt F) f (kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14).2.2.1)
      = out9 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 := by
  rw [run9, fin_eq c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 (harg10.unread zeroV) f11 (harg11.unread zeroW) f12 (harg12.unread zeroW) f13 (harg13.unread zeroW) f14 (harg14.unread zeroW)]
  exact read_whole _ _ _

end

variable (m : (ℓ : Loc nD τ sig) → Buf (Elt F) ℓ) (ρ : Dev nD → PrngReg)

/-! ### The memrefs of a point -/
abbrev ms0 (t : Fin cfg0.N) : Memref sig .tc .vmem S4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4096x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4096x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S4096x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S4096x128 .bf16 := win0_8.stage (cfg0.slots t 8)
abbrev hs8 (t : Fin cfg0.N) : (ms8 t).IsWhole := hstage0_8 ((cfg0.slots t 8).cast nbuf0_8)
abbrev sc0 : Memref sig .tc .vmem S4096x128 .f32 := Memref.whole cc0_scratch0
abbrev sc1 : Memref sig .tc .vmem S6144x128 .f32 := Memref.whole cc0_scratch1
abbrev sc2 : Memref sig .tc .vmem S6144x128 .f32 := Memref.whole cc0_scratch2
abbrev sc3 : Memref sig .tc .vmem S6144x128 .f32 := Memref.whole cc0_scratch3
abbrev sc4 : Memref sig .tc .vmem S6144x128 .f32 := Memref.whole cc0_scratch4

/-- What the region keeps beside the windows: the scratch buffers at some contents and the generator's register. -/
theorem phi_eq (c : Dev nD) : (Pipeline.ΦA spec0 c : sProp 𝕄G)
    = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- What the body leaves in result 0's staging buffer at point `t`. -/
def at7 (c : Dev nD) (t : Fin cfg0.N) : Vec F S4096x128 .bf16 :=
  out7 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t)
/-- What the body leaves in result 1's staging buffer at point `t`. -/
def at8 (c : Dev nD) (t : Fin cfg0.N) : Vec F S4096x128 .bf16 :=
  out8 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t)
/-- What the body leaves in result 2's staging buffer at point `t`. -/
def at9 (c : Dev nD) (t : Fin cfg0.N) : Vec F S4096x128 .bf16 :=
  out9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t)

/-- The proof data of the pipeline on core `c`: the inputs' buffers hold their blocks throughout, the results' what the body leaves. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => at7 m c t
    | ⟨7, _⟩ => at8 m c t
    | ⟨8, _⟩ => at9 m c t
  Φ _ := Pipeline.ΦA spec0 c
  q := Pipeline.shareOf spec0
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = at7 m c t := by dsimp only [dats]
theorem after_7 (c : Dev nD) (t : Fin cfg0.N) : (dats m 0 c).after 7 t = at8 m c t := by dsimp only [dats]
theorem after_8 (c : Dev nD) (t : Fin cfg0.N) : (dats m 0 c).after 8 t = at9 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄G :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

/-- The body at any point: the run of the body on the point's memrefs, the scratch buffers at whatever they hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  rw [show (dats m 0 c).Φ t.castSucc = Pipeline.ΦA spec0 c from rfl, phi_eq]
  iintro ⟨⟨⟨⟨%g0, S0⟩, ⟨%g1, S1⟩, ⟨%g2, S2⟩, ⟨%g3, S3⟩, ⟨%g4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  unfold owns
  icases S0 with ⟨%e0, -, S0⟩
  icases S1 with ⟨%e1, -, S1⟩
  icases S2 with ⟨%e2, -, S2⟩
  icases S3 with ⟨%e3, -, S3⟩
  icases S4 with ⟨%e4, -, S4⟩
  iapply ((kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) e0 e1 e2 e3 e4).2.2.2 Set.univ _)
  unfold owns
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S0]; · iexact S0
  isplitl [S1]; · iexact S1
  isplitl [S2]; · iexact S2
  isplitl [S3]; · iexact S3
  isplitl [S4]; · iexact S4
  iintro ⟨H0, H1, H2, H3, H4, H5, ⟨%u6, H6⟩, ⟨%u7, H7⟩, ⟨%u8, H8⟩, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact read7 c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) _ _ _ _ _ _
  isplitl [H7]
  · iexists _; isplitr
    swap; · iexact H7
    ipureintro; exact read8 c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) _ _ _ _ _ _
  iexists _; isplitr
  swap; · iexact H8
  ipureintro; exact read9 c _ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) _ _ _ _ _ _

theorem defs₀_row (t : Fin cfg0.N) : defs₀ (F := F) .tc cfg0.body (cfg0.bodyArgs t (cfg0.slots t)) = bodyAt0 t := by
  unfold defs₀; rw [Defs.onTc_tc]

theorem body_obligation (c : Dev nD) : Pipeline.BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the pipeline ends at what the proof data say, every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: every run ends, the arguments as they were, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.KernelIdeal.Hand

end
-- ==== Proof.Mlp.lean ====
module

public import proofs.«01_k».proof.Proof.Gen.Reference4Ideal.Run
public import Idealize.ShloMosaic.Lib.Pipeline.ValueKit

/-! The gradient of the MLP's pre-activation, which three of the backward products read: as an array, the term that the host leaves,
and entry by entry. -/

@[expose] public section

set_option maxRecDepth 16384

noncomputable section

namespace Cert.Mlp

open Cert.Reference4Ideal Cert.Reference4Ideal.Gen
open Idealize.ShloMosaic Idealize.ShloMosaic.TcCoe Idealize.ShloMosaic.Tactic
open scoped BigOperators

/-- The MLP's input and the gradient at its output. -/
abbrev Rows : Type := FVec Ideal S4096x2048 .f32
/-- The weights `w_up` and `w_down`. -/
abbrev Wu : Type := FVec Ideal S2048x8192 .f32
abbrev Wd : Type := FVec Ideal S8192x2048 .f32
abbrev Wide : Type := FVec Ideal S4096x8192 .f32

def all0 : Wide := broadcastInDim S4096x8192 ![] bcast_S_S4096x8192 (constant S_ .f32 0x00000000#32)
def all2 : Wide := broadcastInDim S4096x8192 ![] bcast_S_S4096x8192 (constant S_ .f32 0x40000000#32)
/-- The pre-activation. -/
def up (x : Rows) (u : Wu) : Wide := Host.dotGeneral dot_S4096x2048_S2048x8192_S4096x8192_1_0_0_1_n_n none x u
def relu (x : Rows) (u : Wu) : Wide := maximumf (up x u) all0
/-- The activation: the positive part, squared. -/
def act (x : Rows) (u : Wu) : Wide := mulf (relu x u) (relu x u)
/-- The gradient of the pre-activation. -/
def dup (x : Rows) (u : Wu) (w : Wd) (g : Rows) : Wide :=
  select (cmpf .ogt (up x u) all0) (mulf (Host.dotGeneral dot_S4096x2048_S8192x2048_S4096x8192_1_1_0_0_n_n none g w) (mulf all2 (relu x u))) all0

/-- The number that the single-precision word of two stands for. -/
def two : EReal := Ideal.ofBits .f32 0x40000000#32

theorem dup_val (x : Rows) (u : Wu) (w : Wd) (g : Rows) (a : Fin 4096) (b : Fin 8192) : (dup x u w g : S4096x8192.Idx → EReal) (ix2 a b)
    = if 0 < (up x u : S4096x8192.Idx → EReal) (ix2 a b) then
        (∑ k : Fin 2048, (g : S4096x2048.Idx → EReal) (ix2 a k) * (w : S8192x2048.Idx → EReal) (ix2 b k)) * (two * max ((up x u : S4096x8192.Idx → EReal) (ix2 a b)) 0)
      else 0 := by
  unfold dup relu all0 all2
  pointwise
  rfl

end Cert.Mlp

end
-- ==== Proof.Mlp2.lean ====
module

public import proofs.«01_k».proof.Proof.Mlp
public import proofs.«01_k».proof.Proof.Gen.Kernel2Ideal.Value

/-! The gradient of the MLP's pre-activation: each point of the launch takes a whole product and its epilogue. -/

@[expose] public section

set_option maxRecDepth 16384

noncomputable section

namespace Cert.Kernel2Ideal.Hand

open Cert.Kernel2Ideal Cert.Kernel2Ideal.Gen Cert.Kernel2Ideal.Value
open Idealize.ShloMosaic Idealize.ShloMosaic.TcCoe Idealize.ShloMosaic.Tactic
open Idealize.SL Idealize.SL.Sem
open scoped BigOperators

theorem hz2 : (![0, 0] : Fin 2 → Nat) = fun _ => 0 := by decide
theorem hz3 : (![0, 0, 0] : Fin 3 → Nat) = fun _ => 0 := by decide

/-- What a point stores, entry by entry. -/
theorem out_val (x0 : Vec Ideal S2048x2048 .bf16) (x1 : Vec Ideal S1x512x2048 .bf16) (x2 : Vec Ideal S2048x512 .bf16) (a : Fin 2048) (b : Fin 512) :
    (out0_3 x0 x1 x2 : S2048x512.Idx → EReal) (ix2 a b)
      = (∑ k : Fin 2048, (x0 (ix2 a k) : EReal) * (x1 (ix3 0 b k) : EReal)) * Cert.Mlp.two * max (x2 (ix2 a b) : EReal) 0 := by
  unfold out0_3
  rw [View.canon_unit_zero hz2]
  unfold k0_pay1
  simp only [View.ld_unit_zero (S := S2048x2048) hz2, View.ld_unit_zero (S := S2048x512) hz2, View.ld_unit_zero (S := S1x512x2048) hz3, shapeCast_self]
  pointwise
  rfl

variable (m : (ℓ : Loc nD τ sig) → Buf (Elt Ideal) ℓ) (c : Dev nD)

theorem idx0 : ∀ t : Fin cfg0.N, win0_0.index t = ![t.val / 16, 0] := by decide +kernel
theorem idx1 : ∀ t : Fin cfg0.N, win0_1.index t = ![0, t.val % 16, 0] := by decide +kernel
theorem idx2 : ∀ t : Fin cfg0.N, win0_2.index t = ![t.val / 16, t.val % 16] := by decide +kernel
theorem idx3 : ∀ t : Fin cfg0.N, win0_3.index t = ![t.val / 16, t.val % 16] := by decide +kernel

/-- The three arrays that the launch reads. -/
abbrev grad : S4096x2048.Idx → EReal := V m c (Pipeline.arrRef spec0 0)
abbrev wts : S1x8192x2048.Idx → EReal := V m c (Pipeline.arrRef spec0 1)
abbrev pre : S4096x8192.Idx → EReal := V m c (Pipeline.arrRef spec0 2)

theorem ltN (t : Fin cfg0.N) : t.val < 32 := lt_of_lt_of_eq t.isLt (show cfg0.N = 32 from N_0)

theorem blk0 (t : Fin cfg0.N) (a k : Fin 2048) : (iblk m c 0 t : Vec Ideal S2048x2048 .bf16) (ix2 a k)
    = grad m c (ix2 (⟨2048 * (t.val / 16) + a.val, by have := ltN t; omega⟩ : Fin 4096) k) := by
  blk_ext [iblk, idx0]
theorem blk1 (t : Fin cfg0.N) (b : Fin 512) (k : Fin 2048) : (iblk m c 1 t : Vec Ideal S1x512x2048 .bf16) (ix3 0 b k)
    = wts m c (ix3 0 (⟨512 * (t.val % 16) + b.val, by omega⟩ : Fin 8192) k) := by
  blk_ext [iblk, idx1]
theorem blk2 (t : Fin cfg0.N) (a : Fin 2048) (b : Fin 512) : (iblk m c 2 t : Vec Ideal S2048x512 .bf16) (ix2 a b)
    = pre m c (ix2 (⟨2048 * (t.val / 16) + a.val, by have := ltN t; omega⟩ : Fin 4096) (⟨512 * (t.val % 16) + b.val, by omega⟩ : Fin 8192)) := by
  blk_ext [iblk, idx2]

/-- The result array. -/
def val (a : Fin 4096) (b : Fin 8192) : EReal := (∑ k : Fin 2048, grad m c (ix2 a k) * wts m c (ix3 0 b k)) * Cert.Mlp.two * max (pre m c (ix2 a b)) 0
def arr : S4096x8192.Idx → EReal := fun y => val m c (y 0) (y 1)

theorem flushed_eq (t : Fin cfg0.N) : (dats m 0 c).flushed 3 t = ((cfg0.win 3).blk t).view.read (Elt Ideal) (arr m c) := by
  rw [flushed3]
  funext y
  obtain ⟨a, b, rfl⟩ : ∃ (a : Fin 2048) (b : Fin 512), y = ix2 a b := ⟨y 0, y 1, (ix2_eta y).symm⟩
  refine (out_val _ _ _ a b).trans ?_
  simp only [blk0, blk1, blk2]
  have h0 : ((((cfg0.win 3).blk t).view.emb (ix2 a b) 0 : Fin 4096)) = (⟨2048 * (t.val / 16) + a.val, by have := ltN t; omega⟩ : Fin 4096) := by
    refine Fin.ext ?_
    show win0_3.index t (0 : Fin 2) * 2048 + 1 * a.val = _
    rw [idx3]
    show t.val / 16 * 2048 + 1 * a.val = 2048 * (t.val / 16) + a.val
    omega
  have h1 : ((((cfg0.win 3).blk t).view.emb (ix2 a b) 1 : Fin 8192)) = (⟨512 * (t.val % 16) + b.val, by omega⟩ : Fin 8192) := by
    refine Fin.ext ?_
    show win0_3.index t (1 : Fin 2) * 512 + 1 * b.val = _
    rw [idx3]
    show t.val % 16 * 512 + 1 * b.val = 512 * (t.val % 16) + b.val
    omega
  show _ = val m c (((cfg0.win 3).blk t).view.emb (ix2 a b) 0) (((cfg0.win 3).blk t).view.emb (ix2 a b) 1)
  rw [h0, h1]
  rfl

theorem mem_blk (t : Fin cfg0.N) (i : S4096x8192.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v5).slice (win0_3.rect t)).set ↔ _
  rw [View.set_slice_whole, Rect.mem_set_unit]
  exact Iff.rfl
theorem cover (i : S4096x8192.Idx) : ∃ t : Fin cfg0.N, (cfg0.win 3).flush t = true ∧ i ∈ ((cfg0.win 3).blk t).view.set := by
  have h0 : (i 0).val < 4096 := (i 0).isLt
  have h1 : (i 1).val < 8192 := (i 1).isLt
  refine ⟨⟨16 * ((i 0).val / 2048) + (i 1).val / 512, lt_of_lt_of_eq (by omega) (show 32 = cfg0.N from N_0.symm)⟩, (by decide +kernel : ∀ t : Fin grid0.N, win0_3.flush t = true) _, ?_⟩
  rw [mem_blk]
  intro a
  match a with
  | ⟨0, _⟩ =>
    show win0_3.index _ (0 : Fin 2) * 2048 ≤ (i 0).val ∧ (i 0).val < win0_3.index _ (0 : Fin 2) * 2048 + 2048
    rw [idx3]
    show (16 * ((i 0).val / 2048) + (i 1).val / 512) / 16 * 2048 ≤ (i 0).val ∧ (i 0).val < (16 * ((i 0).val / 2048) + (i 1).val / 512) / 16 * 2048 + 2048
    omega
  | ⟨1, _⟩ =>
    show win0_3.index _ (1 : Fin 2) * 512 ≤ (i 1).val ∧ (i 1).val < win0_3.index _ (1 : Fin 2) * 512 + 512
    rw [idx3]
    show (16 * ((i 0).val / 2048) + (i 1).val / 512) % 16 * 512 ≤ (i 1).val ∧ (i 1).val < (16 * ((i 0).val / 2048) + (i 1).val / 512) % 16 * 512 + 512
    omega

theorem final : (dats m 0 c).arrAt 3 cfg0.N = arr m c :=
  (dats m 0 c).arrAt_eq_of_cover 3 _ (fun t _ => flushed_eq m c t) (cover)

/-- The arguments. -/
abbrev hn : Cert.Mlp.Rows := m ((c.tc : Thread nD τ).loc main_arg0)
abbrev wUp : Cert.Mlp.Wu := m ((c.tc : Thread nD τ).loc main_arg1)
abbrev wDown : Cert.Mlp.Wd := m ((c.tc : Thread nD τ).loc main_arg2)
abbrev dff : Cert.Mlp.Rows := m ((c.tc : Thread nD τ).loc main_arg3)

theorem grad_eq : grad m c = (truncf .bf16 (dff m c) bitsLt_bf16_f32 : FVec Ideal S4096x2048 .bf16) := by
  show StableHlo.after _ (fun b => m (c, b)) _ = _
  after_results_simp
theorem wts_eq : wts m c = (broadcastInDim S1x8192x2048 ![1, 2] bcast_S8192x2048_S1x8192x2048_1_2 (truncf .bf16 (wDown m c) bitsLt_bf16_f32 : FVec Ideal S8192x2048 .bf16) : FVec Ideal S1x8192x2048 .bf16) := by
  show StableHlo.after _ (fun b => m (c, b)) _ = _
  after_results_simp
theorem pre_eq : pre m c = (truncf .bf16 (Cert.Mlp.up (hn m c) (wUp m c)) bitsLt_bf16_f32 : FVec Ideal S4096x8192 .bf16) := by
  show StableHlo.after _ (fun b => m (c, b)) _ = _
  after_results_simp
  rfl

/-- The epilogue is the derivative of the squared positive part. -/
theorem epilogue (s u : EReal) : s * Cert.Mlp.two * max u 0 = if 0 < u then s * (Cert.Mlp.two * max u 0) else 0 := by
  by_cases h : 0 < u
  · rw [if_pos h, mul_assoc]
  · rw [if_neg h, max_eq_right (not_lt.mp h), mul_zero]

/-- What the kernel leaves is the term of the reference. -/
theorem value : ((dats m 0 c).arrAt 3 cfg0.N : FVec Ideal S4096x8192 .bf16) = truncf .bf16 (Cert.Mlp.dup (hn m c) (wUp m c) (wDown m c) (dff m c)) bitsLt_bf16_f32 := by
  rw [final]
  refine funext fun y => ?_
  obtain ⟨a, b, rfl⟩ : ∃ (a : Fin 4096) (b : Fin 8192), y = ix2 a b := ⟨y 0, y 1, (ix2_eta y).symm⟩
  refine Eq.trans ?_ (Cert.Mlp.dup_val _ _ _ _ a b).symm
  show val m c a b = _
  unfold val
  rw [grad_eq, wts_eq, pre_eq, ← epilogue]
  pointwise

end Cert.Kernel2Ideal.Hand

end
-- ==== Proof.Parts.lean ====
module

public import Idealize.ShloMosaic.Lib.Pipeline.ValueKit

/-! A long sum taken part by part, in the order in which an accumulator over a grid takes it. -/

@[expose] public section

noncomputable section

namespace Cert.Parts

open scoped BigOperators

/-- The `j`-th of `n` parts of `T` indices each, at its place `k`. -/
def at_ {n T : ℕ} (j : Fin n) (k : Fin T) : Fin (n * T) := ⟨T * j.val + k.val, by
  have hj := j.isLt
  have hk := k.isLt
  calc T * j.val + k.val < T * j.val + T := by omega
    _ = (j.val + 1) * T := by rw [Nat.add_mul, Nat.one_mul, Nat.mul_comm]
    _ ≤ n * T := Nat.mul_le_mul_right T hj⟩

theorem sum_parts {n T : ℕ} (f : Fin (n * T) → EReal) : ∑ j : Fin n, ∑ k : Fin T, f (at_ j k) = ∑ i, f i := by
  rw [← Fintype.sum_prod_type' fun (j : Fin n) (k : Fin T) => f (at_ j k)]
  refine Fintype.sum_equiv finProdFinEquiv _ _ fun p => congrArg f (Fin.ext ?_)
  exact Nat.add_comm _ _

/-- Two parts, taken in order from zero, with the places of each named by `g`. -/
theorem two {T : ℕ} (f : Fin (2 * T) → EReal) (g : Fin 2 → Fin T → EReal) (hg : ∀ j k, g j k = f (at_ j k)) :
    (0 + ∑ k, g 0 k) + ∑ k, g 1 k = ∑ i, f i := by
  rw [← sum_parts, Fin.sum_univ_two, zero_add]
  simp only [hg]

/-- Four parts, taken in order from zero. -/
theorem four {T : ℕ} (f : Fin (4 * T) → EReal) (g : Fin 4 → Fin T → EReal) (hg : ∀ j k, g j k = f (at_ j k)) :
    (((0 + ∑ k, g 0 k) + ∑ k, g 1 k) + ∑ k, g 2 k) + ∑ k, g 3 k = ∑ i, f i := by
  rw [← sum_parts, Fin.sum_univ_four, zero_add]
  simp only [hg]

end Cert.Parts

end
-- ==== Proof.Mlp3.lean ====
module

public import proofs.«01_k».proof.Proof.Parts
public import proofs.«01_k».proof.Proof.Mlp
public import proofs.«01_k».proof.Proof.Gen.Kernel3Ideal.Value
public import proofs.«01_k».proof.Proof.Gen.Reference3Ideal.Run

/-! The gradient of `w_down`: what the accumulator holds after the two halves of a block's sum, and the result array as one sum over
the two arrays its launch reads. -/

@[expose] public section

set_option maxRecDepth 16384

noncomputable section

namespace Cert.Reference3Ideal.Hand

open Cert.Reference3Ideal Cert.Reference3Ideal.Gen
open Idealize.ShloMosaic Idealize.ShloMosaic.TcCoe Idealize.ShloMosaic.Tactic Idealize.SL.Sem
open scoped BigOperators

/-- What the reference leaves. -/
def res (x : Cert.Mlp.Rows) (u : Cert.Mlp.Wu) (g : Cert.Mlp.Rows) : FVec Ideal S1x8192x2048 .bf16 :=
  broadcastInDim S1x8192x2048 ![1, 2] bcast_S8192x2048_S1x8192x2048_1_2 (truncf .bf16 (transpose S8192x2048 [1, 0]
    (Host.dotGeneral dot_S4096x2048_S4096x8192_S2048x8192_0_0_1_1_n_n none g (Cert.Mlp.act x u) : FVec Ideal S2048x8192 .f32)
    transposes_S2048x8192_S8192x2048_1_0) bitsLt_bf16_f32 : FVec Ideal S8192x2048 .bf16)

theorem res_val (x : Cert.Mlp.Rows) (u : Cert.Mlp.Wu) (g : Cert.Mlp.Rows) (a : Fin 8192) (b : Fin 2048) :
    (res x u g : S1x8192x2048.Idx → EReal) (ix3 0 a b)
      = ∑ k : Fin 4096, (g : S4096x2048.Idx → EReal) (ix2 k b) * (Cert.Mlp.act x u : S4096x8192.Idx → EReal) (ix2 k a) := by
  unfold res
  pointwise

end Cert.Reference3Ideal.Hand

namespace Cert.Kernel3Ideal.Hand

open Cert.Kernel3Ideal Cert.Kernel3Ideal.Gen Cert.Kernel3Ideal.Value
open Idealize.ShloMosaic Idealize.ShloMosaic.TcCoe Idealize.ShloMosaic.Tactic
open Idealize.SL Idealize.SL.Sem
open scoped BigOperators

section
variable {F : FTy → Type} [FloatOps F]

/-- The product of two blocks over their rows. -/
def mm (x0 x1 : Vec F S2048x1024 .bf16) : FVec F S1024x1024 .f32 :=
  matmul dot_S2048x1024_S2048x1024_S1024x1024_0_0_1_1_n_n none x0 x1 (constant S1024x1024 .f32 0x00000000#32)
def zero : FVec F S1024x1024 .f32 := broadcast S1024x1024 (Scalar.ofBits .f32 0x00000000#32)
/-- An accumulator, as a block of the result. -/
def block (x : FVec F S1024x1024 .f32) : FVec F S1x1024x1024 .bf16 := shapeCast S1x1024x1024 (truncf .bf16 x bitsLt_bf16_f32 : FVec F S1024x1024 .bf16) shapeCasts_S1024x1024_S1x1024x1024

theorem hz2 : (![0, 0] : Fin 2 → Nat) = fun _ => 0 := by decide
theorem hz3 : (![0, 0, 0] : Fin 3 → Nat) = fun _ => 0 := by decide

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1x1024x1024 .bf16) (h5 : a5.IsWhole)
  (a6 : Memref sig .tc .vmem S1024x1024 .f32) (h6 : a6.IsWhole) (x0 x1 : Vec F S2048x1024 .bf16) (xs : Vec F S1024x1024 .f32)

theorem first (hc0 hc1) : sout0_A_0 c i a3 h3 a4 h4 a5 h5 a6 h6 hc0 hc1 x0 x1 = addf zero (mm x0 x1) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz2, View.readCov_unit_zero _ hz2]
  unfold k0_pay2 k0_pay1
  simp only [View.readAt_eq_ld, h3.read_unread, h4.read_unread, View.ld_unit_zero (S := S2048x1024) hz2, View.ld_unit_zero (S := S1024x1024) hz2, shapeCast_self]
  rfl

theorem last (hc0 hc1) : out0_B_2 c i a3 h3 a4 h4 a5 h5 a6 h6 hc0 hc1 x0 x1 xs = block (addf xs (mm x0 x1)) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz3, View.readCov_unit_zero _ hz2]
  unfold k0_pay3 k0_pay2
  simp only [View.readAt_eq_ld, h3.read_unread, h4.read_unread, h6.read_unread, View.ld_unit_zero (S := S2048x1024) hz2, View.ld_unit_zero (S := S1024x1024) hz2, shapeCast_self]
  rfl
end

section
variable {F : FTy → Type} [FloatOps F] (m : (ℓ : Loc nD τ sig) → Buf (Elt F) ℓ) (c : Dev nD)

/-- The product that point `n` adds. -/
def part (n : ℕ) (h : n < cfg0.N) : FVec F S1024x1024 .f32 := mm (iblk m c 0 ⟨n, h⟩) (iblk m c 1 ⟨n, h⟩)

theorem acc_first (n : ℕ) (h : n < cfg0.N) (h0 : n % 2 = 0) : (outsAt0 m c n h).2 = addf zero (part m c n h) := by
  rw [outsAt0_A m c ⟨n, h⟩ h0 (by dsimp only; omega)]
  dsimp only
  rw [first]
  rfl
theorem acc_last (n : ℕ) (h : n + 1 < cfg0.N) (h1 : (n + 1) % 2 = 1) :
    (outsAt0 m c (n + 1) h).1 = block (addf (outsAt0 m c n (Nat.lt_of_succ_lt h)).2 (part m c (n + 1) h)) := by
  rw [outsAt0_B m c ⟨n + 1, h⟩ (by dsimp only; omega) h1]
  dsimp only
  rw [last]
  rfl

/-- What the block of run `q` ends as. -/
theorem out_run (q : ℕ) (h : 2 * q + 1 < cfg0.N) :
    (outsAt0 m c (2 * q + 1) h).1 = block (addf (addf zero (part m c (2 * q) (by omega))) (part m c (2 * q + 1) h)) := by
  rw [acc_last m c (2 * q) h (by omega), acc_first m c (2 * q) (by omega) (by omega)]
end

variable (m : (ℓ : Loc nD τ sig) → Buf (Elt Ideal) ℓ) (c : Dev nD)

theorem idx0 : ∀ t : Fin cfg0.N, win0_0.index t = ![t.val % 2, t.val / 4] := by decide +kernel
theorem idx1 : ∀ t : Fin cfg0.N, win0_1.index t = ![t.val % 2, t.val / 2 % 2] := by decide +kernel

/-- The two arrays that the launch reads. -/
abbrev lhs : S4096x8192.Idx → EReal := V m c (Pipeline.arrRef spec0 0)
abbrev rhs : S4096x2048.Idx → EReal := V m c (Pipeline.arrRef spec0 1)

theorem ltN (t : Fin cfg0.N) : t.val < 32 := lt_of_lt_of_eq t.isLt (show cfg0.N = 32 from N_0)

theorem blk0 (t : Fin cfg0.N) (k : Fin 2048) (a : Fin 1024) : (iblk m c 0 t : Vec Ideal S2048x1024 .bf16) (ix2 k a)
    = lhs m c (ix2 (⟨2048 * (t.val % 2) + k.val, by omega⟩ : Fin 4096) (⟨1024 * (t.val / 4) + a.val, by have := ltN t; omega⟩ : Fin 8192)) := by
  blk_ext [iblk, idx0]
theorem blk1 (t : Fin cfg0.N) (k : Fin 2048) (b : Fin 1024) : (iblk m c 1 t : Vec Ideal S2048x1024 .bf16) (ix2 k b)
    = rhs m c (ix2 (⟨2048 * (t.val % 2) + k.val, by omega⟩ : Fin 4096) (⟨1024 * (t.val / 2 % 2) + b.val, by omega⟩ : Fin 2048)) := by
  blk_ext [iblk, idx1]

theorem mm_val (x0 x1 : Vec Ideal S2048x1024 .bf16) (a b : Fin 1024) :
    (mm x0 x1 : S1024x1024.Idx → EReal) (ix2 a b) = ∑ k : Fin 2048, (x0 (ix2 k a) : EReal) * (x1 (ix2 k b) : EReal) := by
  unfold mm
  pointwise
theorem zero_val (y : S1024x1024.Idx) : (zero (F := Ideal) : S1024x1024.Idx → EReal) y = 0 := by
  unfold zero
  pointwise
theorem block_val (x : FVec Ideal S1024x1024 .f32) (a b : Fin 1024) : (block x : S1x1024x1024.Idx → EReal) (ix3 0 a b) = x (ix2 a b) := by
  unfold block
  pointwise

theorem part_val (q j : ℕ) (hq : q < 16) (hj : j < 2) (h : 2 * q + j < cfg0.N) (a b : Fin 1024) :
    (part m c (2 * q + j) h : S1024x1024.Idx → EReal) (ix2 a b)
      = ∑ k : Fin 2048, lhs m c (ix2 (⟨2048 * j + k.val, by omega⟩ : Fin 4096) (⟨1024 * (q / 2) + a.val, by omega⟩ : Fin 8192))
        * rhs m c (ix2 (⟨2048 * j + k.val, by omega⟩ : Fin 4096) (⟨1024 * (q % 2) + b.val, by omega⟩ : Fin 2048)) := by
  have e1 : (2 * q + j) / 4 = q / 2 := by omega
  have e2 : (2 * q + j) % 2 = j := by omega
  have e3 : (2 * q + j) / 2 % 2 = q % 2 := by omega
  unfold part
  rw [mm_val]
  refine Finset.sum_congr rfl fun k _ => ?_
  rw [blk0, blk1]
  simp only [e1, e2, e3]

theorem out_val (q : ℕ) (hq : q < 16) (h : 2 * q + 1 < cfg0.N) (a b : Fin 1024) :
    ((outsAt0 m c (2 * q + 1) h).1 : S1x1024x1024.Idx → EReal) (ix3 0 a b)
      = ∑ k : Fin 4096, lhs m c (ix2 k (⟨1024 * (q / 2) + a.val, by omega⟩ : Fin 8192)) * rhs m c (ix2 k (⟨1024 * (q % 2) + b.val, by omega⟩ : Fin 2048)) := by
  rw [out_run, block_val]
  pointwise
  rw [zero_val, show part m c (2 * q) _ (ix2 a b) = _ from part_val m c q 0 hq (by decide) (by omega) a b, part_val m c q 1 hq (by decide)]
  exact Cert.Parts.two (T := 2048) (fun k => lhs m c (ix2 (k : Fin 4096) (⟨1024 * (q / 2) + a.val, by omega⟩ : Fin 8192)) * rhs m c (ix2 (k : Fin 4096) (⟨1024 * (q % 2) + b.val, by omega⟩ : Fin 2048)))
    (fun j k => lhs m c (ix2 (⟨2048 * j.val + k.val, by omega⟩ : Fin 4096) (⟨1024 * (q / 2) + a.val, by omega⟩ : Fin 8192))
        * rhs m c (ix2 (⟨2048 * j.val + k.val, by omega⟩ : Fin 4096) (⟨1024 * (q % 2) + b.val, by omega⟩ : Fin 2048))) (fun j k => rfl)

/-- The result array, entry by entry. -/
theorem G2_val (a : Fin 8192) (b : Fin 2048) : (G2 m c : S1x8192x2048.Idx → EReal) (ix3 0 a b)
    = ∑ k : Fin 4096, lhs m c (ix2 k a) * rhs m c (ix2 k b) := by
  have e : pt2Of (ix3 0 a b) = 2 * (2 * (a.val / 1024) + b.val / 1024) + 1 := by
    show 2 * (16 * (0 / 1 - 0) + 2 * (a.val / 1024 - 0) + 1 * (b.val / 1024 - 0)) + 1 = _
    omega
  have hN : pt2Of (ix3 0 a b) < cfg0.N := by rw [e]; exact lt_of_lt_of_eq (by omega) (show 32 = cfg0.N from N_0.symm)
  have hl : loc2Of (ix3 0 a b) = ix3 (0 : Fin 1) (⟨a.val % 1024, by omega⟩ : Fin 1024) (⟨b.val % 1024, by omega⟩ : Fin 1024) := by
    funext y
    match y with
    | ⟨0, _⟩ => rfl
    | ⟨1, _⟩ => rfl
    | ⟨2, _⟩ => rfl
  unfold G2
  rw [dif_pos hN, ← outsAt0_sweep m c _ hN, hl]
  simp only [e]
  rw [out_val m c _ (by omega)]
  have e1 : 1024 * ((2 * (a.val / 1024) + b.val / 1024) / 2) + a.val % 1024 = a.val := by omega
  have e2 : 1024 * ((2 * (a.val / 1024) + b.val / 1024) % 2) + b.val % 1024 = b.val := by omega
  simp only [e1, e2, Fin.eta]

/-- The arguments that it reads. -/
abbrev hn : Cert.Mlp.Rows := m ((c.tc : Thread nD τ).loc main_arg0)
abbrev wUp : Cert.Mlp.Wu := m ((c.tc : Thread nD τ).loc main_arg1)
abbrev dff : Cert.Mlp.Rows := m ((c.tc : Thread nD τ).loc main_arg3)

theorem lhs_eq : lhs m c = (truncf .bf16 (Cert.Mlp.act (hn m c) (wUp m c)) bitsLt_bf16_f32 : FVec Ideal S4096x8192 .bf16) := by
  show StableHlo.after _ (fun b => m (c, b)) _ = _
  simp only [List.flatten_cons, List.flatten_nil, List.append_nil, List.cons_append, List.nil_append, StableHlo.TRef.nullary, StableHlo.TRef.unary, StableHlo.TRef.binary, StableHlo.TRef.toBuf, StableHlo.TRef.ofBuf, cast_eq]
  after_results_simp
  rfl
theorem rhs_eq : rhs m c = (truncf .bf16 (dff m c) bitsLt_bf16_f32 : FVec Ideal S4096x2048 .bf16) := by
  show StableHlo.after _ (fun b => m (c, b)) _ = _
  simp only [List.flatten_cons, List.flatten_nil, List.append_nil, List.cons_append, List.nil_append, StableHlo.TRef.nullary, StableHlo.TRef.unary, StableHlo.TRef.binary, StableHlo.TRef.toBuf, StableHlo.TRef.ofBuf, cast_eq]
  after_results_simp

/-- What the kernel leaves is the term of the reference. -/
theorem value : (G2 m c : FVec Ideal S1x8192x2048 .bf16) = Cert.Reference3Ideal.Hand.res (hn m c) (wUp m c) (dff m c) := by
  refine funext fun y => ?_
  obtain ⟨d, a, b, rfl⟩ : ∃ (d : Fin 1) (a : Fin 8192) (b : Fin 2048), y = ix3 d a b := ⟨y 0, y 1, y 2, (ix3_eta y).symm⟩
  obtain rfl : d = 0 := Subsingleton.elim _ _
  have e (k : Fin 4096) : lhs m c (ix2 k a) * rhs m c (ix2 k b)
      = (dff m c : S4096x2048.Idx → EReal) (ix2 k b) * (Cert.Mlp.act (hn m c) (wUp m c) : S4096x8192.Idx → EReal) (ix2 k a) := by
    rw [lhs_eq, rhs_eq]
    pointwise
    exact mul_comm _ _
  refine (G2_val m c a b).trans (Eq.trans ?_ (Cert.Reference3Ideal.Hand.res_val _ _ _ a b).symm)
  simp only [e]

end Cert.Kernel3Ideal.Hand

end
-- ==== Proof.Mlp5.lean ====
module

public import proofs.«01_k».proof.Proof.Parts
public import proofs.«01_k».proof.Proof.Mlp
public import proofs.«01_k».proof.Proof.Gen.Kernel5Ideal.Value
public import proofs.«01_k».proof.Proof.Gen.Reference5Ideal.Run

/-! The gradient of `w_up`: what the accumulator holds after the two halves of a block's sum, and the result array as one sum over
the two arrays its launch reads. -/

@[expose] public section

set_option maxRecDepth 16384

noncomputable section

namespace Cert.Reference5Ideal.Hand

open Cert.Reference5Ideal Cert.Reference5Ideal.Gen
open Idealize.ShloMosaic Idealize.ShloMosaic.TcCoe Idealize.ShloMosaic.Tactic Idealize.SL.Sem
open scoped BigOperators

/-- What the reference leaves. -/
def res (x : Cert.Mlp.Rows) (u : Cert.Mlp.Wu) (w : Cert.Mlp.Wd) (g : Cert.Mlp.Rows) : FVec Ideal S8x2048x1024 .bf16 :=
  truncf .bf16 (transpose S8x2048x1024 [1, 0, 2] (shapeCast S2048x8x1024 (transpose S2048x8192 [1, 0]
    (Host.dotGeneral dot_S4096x8192_S4096x2048_S8192x2048_0_0_1_1_n_n none (Cert.Mlp.dup x u w g) x : FVec Ideal S8192x2048 .f32)
    transposes_S8192x2048_S2048x8192_1_0) shapeCasts_S2048x8192_S2048x8x1024) transposes_S2048x8x1024_S8x2048x1024_1_0_2) bitsLt_bf16_f32

theorem res_val (x : Cert.Mlp.Rows) (u : Cert.Mlp.Wu) (w : Cert.Mlp.Wd) (g : Cert.Mlp.Rows) (d : Fin 8) (a : Fin 2048) (b : Fin 1024) :
    (res x u w g : S8x2048x1024.Idx → EReal) (ix3 d a b)
      = ∑ k : Fin 4096, (Cert.Mlp.dup x u w g : S4096x8192.Idx → EReal) (ix2 k (⟨1024 * d.val + b.val, by omega⟩ : Fin 8192)) * (x : S4096x2048.Idx → EReal) (ix2 k a) := by
  unfold res
  pointwise
  simp only [Nat.mul_comm d.val 1024]

end Cert.Reference5Ideal.Hand

namespace Cert.Kernel5Ideal.Hand

open Cert.Kernel5Ideal Cert.Kernel5Ideal.Gen Cert.Kernel5Ideal.Value
open Idealize.ShloMosaic Idealize.ShloMosaic.TcCoe Idealize.ShloMosaic.Tactic
open Idealize.SL Idealize.SL.Sem
open scoped BigOperators

section
variable {F : FTy → Type} [FloatOps F]

/-- The product of two blocks over their rows. -/
def mm (x0 x1 : Vec F S2048x1024 .bf16) : FVec F S1024x1024 .f32 :=
  matmul dot_S2048x1024_S2048x1024_S1024x1024_0_0_1_1_n_n none x0 x1 (constant S1024x1024 .f32 0x00000000#32)
def zero : FVec F S1024x1024 .f32 := broadcast S1024x1024 (Scalar.ofBits .f32 0x00000000#32)
/-- An accumulator, as a block of the result. -/
def block (x : FVec F S1024x1024 .f32) : FVec F S1x1024x1024 .bf16 := shapeCast S1x1024x1024 (truncf .bf16 x bitsLt_bf16_f32 : FVec F S1024x1024 .bf16) shapeCasts_S1024x1024_S1x1024x1024

theorem hz2 : (![0, 0] : Fin 2 → Nat) = fun _ => 0 := by decide
theorem hz3 : (![0, 0, 0] : Fin 3 → Nat) = fun _ => 0 := by decide

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1x1024x1024 .bf16) (h5 : a5.IsWhole)
  (a6 : Memref sig .tc .vmem S1024x1024 .f32) (h6 : a6.IsWhole) (x0 x1 : Vec F S2048x1024 .bf16) (xs : Vec F S1024x1024 .f32)

theorem first (hc0 hc1) : sout0_A_0 c i a3 h3 a4 h4 a5 h5 a6 h6 hc0 hc1 x0 x1 = addf zero (mm x0 x1) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz2, View.readCov_unit_zero _ hz2]
  unfold k0_pay2 k0_pay1
  simp only [View.readAt_eq_ld, h3.read_unread, h4.read_unread, View.ld_unit_zero (S := S2048x1024) hz2, View.ld_unit_zero (S := S1024x1024) hz2, shapeCast_self]
  rfl

theorem last (hc0 hc1) : out0_B_2 c i a3 h3 a4 h4 a5 h5 a6 h6 hc0 hc1 x0 x1 xs = block (addf xs (mm x0 x1)) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz3, View.readCov_unit_zero _ hz2]
  unfold k0_pay3 k0_pay2
  simp only [View.readAt_eq_ld, h3.read_unread, h4.read_unread, h6.read_unread, View.ld_unit_zero (S := S2048x1024) hz2, View.ld_unit_zero (S := S1024x1024) hz2, shapeCast_self]
  rfl
end

section
variable {F : FTy → Type} [FloatOps F] (m : (ℓ : Loc nD τ sig) → Buf (Elt F) ℓ) (c : Dev nD)

/-- The product that point `n` adds. -/
def part (n : ℕ) (h : n < cfg0.N) : FVec F S1024x1024 .f32 := mm (iblk m c 0 ⟨n, h⟩) (iblk m c 1 ⟨n, h⟩)

theorem acc_first (n : ℕ) (h : n < cfg0.N) (h0 : n % 2 = 0) : (outsAt0 m c n h).2 = addf zero (part m c n h) := by
  rw [outsAt0_A m c ⟨n, h⟩ h0 (by dsimp only; omega)]
  dsimp only
  rw [first]
  rfl
theorem acc_last (n : ℕ) (h : n + 1 < cfg0.N) (h1 : (n + 1) % 2 = 1) :
    (outsAt0 m c (n + 1) h).1 = block (addf (outsAt0 m c n (Nat.lt_of_succ_lt h)).2 (part m c (n + 1) h)) := by
  rw [outsAt0_B m c ⟨n + 1, h⟩ (by dsimp only; omega) h1]
  dsimp only
  rw [last]
  rfl

/-- What the block of run `q` ends as. -/
theorem out_run (q : ℕ) (h : 2 * q + 1 < cfg0.N) :
    (outsAt0 m c (2 * q + 1) h).1 = block (addf (addf zero (part m c (2 * q) (by omega))) (part m c (2 * q + 1) h)) := by
  rw [acc_last m c (2 * q) h (by omega), acc_first m c (2 * q) (by omega) (by omega)]
end

variable (m : (ℓ : Loc nD τ sig) → Buf (Elt Ideal) ℓ) (c : Dev nD)

theorem idx0 : ∀ t : Fin cfg0.N, win0_0.index t = ![t.val % 2, t.val / 16] := by decide +kernel
theorem idx1 : ∀ t : Fin cfg0.N, win0_1.index t = ![t.val % 2, t.val / 2 % 8] := by decide +kernel

/-- The two arrays that the launch reads. -/
abbrev lhs : S4096x2048.Idx → EReal := V m c (Pipeline.arrRef spec0 0)
abbrev rhs : S4096x8192.Idx → EReal := V m c (Pipeline.arrRef spec0 1)

theorem ltN (t : Fin cfg0.N) : t.val < 32 := lt_of_lt_of_eq t.isLt (show cfg0.N = 32 from N_0)

theorem blk0 (t : Fin cfg0.N) (k : Fin 2048) (a : Fin 1024) : (iblk m c 0 t : Vec Ideal S2048x1024 .bf16) (ix2 k a)
    = lhs m c (ix2 (⟨2048 * (t.val % 2) + k.val, by omega⟩ : Fin 4096) (⟨1024 * (t.val / 16) + a.val, by have := ltN t; omega⟩ : Fin 2048)) := by
  blk_ext [iblk, idx0]
theorem blk1 (t : Fin cfg0.N) (k : Fin 2048) (b : Fin 1024) : (iblk m c 1 t : Vec Ideal S2048x1024 .bf16) (ix2 k b)
    = rhs m c (ix2 (⟨2048 * (t.val % 2) + k.val, by omega⟩ : Fin 4096) (⟨1024 * (t.val / 2 % 8) + b.val, by omega⟩ : Fin 8192)) := by
  blk_ext [iblk, idx1]

theorem mm_val (x0 x1 : Vec Ideal S2048x1024 .bf16) (a b : Fin 1024) :
    (mm x0 x1 : S1024x1024.Idx → EReal) (ix2 a b) = ∑ k : Fin 2048, (x0 (ix2 k a) : EReal) * (x1 (ix2 k b) : EReal) := by
  unfold mm
  pointwise
theorem zero_val (y : S1024x1024.Idx) : (zero (F := Ideal) : S1024x1024.Idx → EReal) y = 0 := by
  unfold zero
  pointwise
theorem block_val (x : FVec Ideal S1024x1024 .f32) (a b : Fin 1024) : (block x : S1x1024x1024.Idx → EReal) (ix3 0 a b) = x (ix2 a b) := by
  unfold block
  pointwise

theorem part_val (q j : ℕ) (hq : q < 16) (hj : j < 2) (h : 2 * q + j < cfg0.N) (a b : Fin 1024) :
    (part m c (2 * q + j) h : S1024x1024.Idx → EReal) (ix2 a b)
      = ∑ k : Fin 2048, lhs m c (ix2 (⟨2048 * j + k.val, by omega⟩ : Fin 4096) (⟨1024 * (q / 8) + a.val, by omega⟩ : Fin 2048))
        * rhs m c (ix2 (⟨2048 * j + k.val, by omega⟩ : Fin 4096) (⟨1024 * (q % 8) + b.val, by omega⟩ : Fin 8192)) := by
  have e1 : (2 * q + j) / 16 = q / 8 := by omega
  have e2 : (2 * q + j) % 2 = j := by omega
  have e3 : (2 * q + j) / 2 % 8 = q % 8 := by omega
  unfold part
  rw [mm_val]
  refine Finset.sum_congr rfl fun k _ => ?_
  rw [blk0, blk1]
  simp only [e1, e2, e3]

theorem out_val (q : ℕ) (hq : q < 16) (h : 2 * q + 1 < cfg0.N) (a b : Fin 1024) :
    ((outsAt0 m c (2 * q + 1) h).1 : S1x1024x1024.Idx → EReal) (ix3 0 a b)
      = ∑ k : Fin 4096, lhs m c (ix2 k (⟨1024 * (q / 8) + a.val, by omega⟩ : Fin 2048)) * rhs m c (ix2 k (⟨1024 * (q % 8) + b.val, by omega⟩ : Fin 8192)) := by
  rw [out_run, block_val]
  pointwise
  rw [zero_val, show part m c (2 * q) _ (ix2 a b) = _ from part_val m c q 0 hq (by decide) (by omega) a b, part_val m c q 1 hq (by decide)]
  exact Cert.Parts.two (T := 2048) (fun k => lhs m c (ix2 (k : Fin 4096) (⟨1024 * (q / 8) + a.val, by omega⟩ : Fin 2048)) * rhs m c (ix2 (k : Fin 4096) (⟨1024 * (q % 8) + b.val, by omega⟩ : Fin 8192)))
    (fun j k => lhs m c (ix2 (⟨2048 * j.val + k.val, by omega⟩ : Fin 4096) (⟨1024 * (q / 8) + a.val, by omega⟩ : Fin 2048))
        * rhs m c (ix2 (⟨2048 * j.val + k.val, by omega⟩ : Fin 4096) (⟨1024 * (q % 8) + b.val, by omega⟩ : Fin 8192))) (fun j k => rfl)

/-- The result array, entry by entry. -/
theorem G2_val (d : Fin 8) (a : Fin 2048) (b : Fin 1024) : (G2 m c : S8x2048x1024.Idx → EReal) (ix3 d a b)
    = ∑ k : Fin 4096, lhs m c (ix2 k a) * rhs m c (ix2 k (⟨1024 * d.val + b.val, by omega⟩ : Fin 8192)) := by
  have e : pt2Of (ix3 d a b) = 2 * (8 * (a.val / 1024) + d.val) + 1 := by
    show 2 * (1 * (d.val / 1 - 0) + 8 * (a.val / 1024 - 0) + 16 * (b.val / 1024 - 0)) + 1 = _
    omega
  have hN : pt2Of (ix3 d a b) < cfg0.N := by rw [e]; exact lt_of_lt_of_eq (by omega) (show 32 = cfg0.N from N_0.symm)
  have hl : loc2Of (ix3 d a b) = ix3 (0 : Fin 1) (⟨a.val % 1024, by omega⟩ : Fin 1024) b := by
    funext y
    match y with
    | ⟨0, _⟩ => exact Fin.ext (Nat.mod_one _)
    | ⟨1, _⟩ => rfl
    | ⟨2, _⟩ => exact Fin.ext (Nat.mod_eq_of_lt b.isLt)
  unfold G2
  rw [dif_pos hN, ← outsAt0_sweep m c _ hN, hl]
  simp only [e]
  rw [out_val m c _ (by omega)]
  have e1 : 1024 * ((8 * (a.val / 1024) + d.val) / 8) + a.val % 1024 = a.val := by omega
  have e2 : (8 * (a.val / 1024) + d.val) % 8 = d.val := by omega
  simp only [e1, e2, Fin.eta]

/-- The arguments. -/
abbrev hn : Cert.Mlp.Rows := m ((c.tc : Thread nD τ).loc main_arg0)
abbrev wUp : Cert.Mlp.Wu := m ((c.tc : Thread nD τ).loc main_arg1)
abbrev wDown : Cert.Mlp.Wd := m ((c.tc : Thread nD τ).loc main_arg2)
abbrev dff : Cert.Mlp.Rows := m ((c.tc : Thread nD τ).loc main_arg3)

theorem lhs_eq : lhs m c = (truncf .bf16 (hn m c) bitsLt_bf16_f32 : FVec Ideal S4096x2048 .bf16) := by
  show StableHlo.after _ (fun b => m (c, b)) _ = _
  simp only [List.flatten_cons, List.flatten_nil, List.append_nil, List.cons_append, List.nil_append, StableHlo.TRef.nullary, StableHlo.TRef.unary, StableHlo.TRef.binary, StableHlo.TRef.toBuf, StableHlo.TRef.ofBuf, cast_eq]
  after_results_simp
theorem rhs_eq : rhs m c = (truncf .bf16 (Cert.Mlp.dup (hn m c) (wUp m c) (wDown m c) (dff m c)) bitsLt_bf16_f32 : FVec Ideal S4096x8192 .bf16) := by
  show StableHlo.after _ (fun b => m (c, b)) _ = _
  simp only [List.flatten_cons, List.flatten_nil, List.append_nil, List.cons_append, List.nil_append, StableHlo.TRef.nullary, StableHlo.TRef.unary, StableHlo.TRef.binary, StableHlo.TRef.toBuf, StableHlo.TRef.ofBuf, cast_eq]
  after_results_simp
  rfl

/-- What the kernel leaves is the term of the reference. -/
theorem value : (G2 m c : FVec Ideal S8x2048x1024 .bf16) = Cert.Reference5Ideal.Hand.res (hn m c) (wUp m c) (wDown m c) (dff m c) := by
  refine funext fun y => ?_
  obtain ⟨d, a, b, rfl⟩ : ∃ (d : Fin 8) (a : Fin 2048) (b : Fin 1024), y = ix3 d a b := ⟨y 0, y 1, y 2, (ix3_eta y).symm⟩
  have e (k : Fin 4096) (n : Fin 8192) : lhs m c (ix2 k a) * rhs m c (ix2 k n)
      = (Cert.Mlp.dup (hn m c) (wUp m c) (wDown m c) (dff m c) : S4096x8192.Idx → EReal) (ix2 k n) * (hn m c : S4096x2048.Idx → EReal) (ix2 k a) := by
    rw [lhs_eq, rhs_eq]
    pointwise
    exact mul_comm _ _
  refine (G2_val m c d a b).trans (Eq.trans ?_ (Cert.Reference5Ideal.Hand.res_val _ _ _ _ d a b).symm)
  simp only [e]

end Cert.Kernel5Ideal.Hand

end
-- ==== Proof.Mlp6.lean ====
module

public import proofs.«01_k».proof.Proof.Mlp
public import proofs.«01_k».proof.Proof.Gen.Kernel6Ideal.Value
public import proofs.«01_k».proof.Proof.Gen.Reference6Ideal.Run

/-! The first product of the MLP, whose launch leaves two arrays: the product, and the square of its positive part. Both are read off
one sum, that of the product's entries, with an epilogue for each array. -/

@[expose] public section

set_option maxRecDepth 16384

noncomputable section

namespace Cert.Kernel6Ideal.Hand

open Cert.Kernel6Ideal Cert.Kernel6Ideal.Gen Cert.Kernel6Ideal.Value
open Idealize.ShloMosaic Idealize.ShloMosaic.TcCoe Idealize.ShloMosaic.Tactic
open Idealize.SL Idealize.SL.Sem
open scoped BigOperators

theorem hz2 : (![0, 0] : Fin 2 → Nat) = fun _ => 0 := by decide
theorem hz3 : (![0, 0, 0] : Fin 3 → Nat) = fun _ => 0 := by decide

/-- The second array's epilogue. -/
def sq (s : EReal) : EReal := max s 0 * max s 0

section
variable (x0 : Vec Ideal S1024x2048 .bf16) (x1 : Vec Ideal S1x2048x1024 .bf16) (a b : Fin 1024)

/-- What a point stores, entry by entry. -/
theorem out2_val : (out0_2 x0 x1 : S1024x1024.Idx → EReal) (ix2 a b) = ∑ k : Fin 2048, (x0 (ix2 a k) : EReal) * (x1 (ix3 0 k b) : EReal) := by
  unfold out0_2
  rw [View.canon_unit_zero hz2]
  unfold k0_pay2 k0_pay1
  simp only [View.ld_unit_zero (S := S1024x2048) hz2, View.ld_unit_zero (S := S1x2048x1024) hz3, shapeCast_self]
  pointwise
theorem out3_val : (out0_3 x0 x1 : S1024x1024.Idx → EReal) (ix2 a b) = sq (∑ k : Fin 2048, (x0 (ix2 a k) : EReal) * (x1 (ix3 0 k b) : EReal)) := by
  unfold out0_3 sq
  rw [View.canon_unit_zero hz2]
  unfold k0_pay3 k0_pay1
  simp only [View.ld_unit_zero (S := S1024x2048) hz2, View.ld_unit_zero (S := S1x2048x1024) hz3, shapeCast_self]
  pointwise
end

variable (m : (ℓ : Loc nD τ sig) → Buf (Elt Ideal) ℓ) (c : Dev nD)

theorem idx0 : ∀ t : Fin cfg0.N, win0_0.index t = ![t.val / 8, 0] := by decide +kernel
theorem idx1 : ∀ t : Fin cfg0.N, win0_1.index t = ![t.val % 8, 0, 0] := by decide +kernel
theorem idx2 : ∀ t : Fin cfg0.N, win0_2.index t = ![t.val / 8, t.val % 8] := by decide +kernel
theorem idx3 : ∀ t : Fin cfg0.N, win0_3.index t = ![t.val / 8, t.val % 8] := by decide +kernel

/-- The two arrays that the launch reads. -/
abbrev rows : S4096x2048.Idx → EReal := V m c (Pipeline.arrRef spec0 0)
abbrev cols : S8x2048x1024.Idx → EReal := V m c (Pipeline.arrRef spec0 1)

theorem ltN (t : Fin cfg0.N) : t.val < 32 := lt_of_lt_of_eq t.isLt (show cfg0.N = 32 from N_0)

theorem blk0 (t : Fin cfg0.N) (a : Fin 1024) (k : Fin 2048) : (iblk m c 0 t : Vec Ideal S1024x2048 .bf16) (ix2 a k)
    = rows m c (ix2 (⟨1024 * (t.val / 8) + a.val, by have := ltN t; omega⟩ : Fin 4096) k) := by
  blk_ext [iblk, idx0]
theorem blk1 (t : Fin cfg0.N) (k : Fin 2048) (b : Fin 1024) : (iblk m c 1 t : Vec Ideal S1x2048x1024 .bf16) (ix3 0 k b)
    = cols m c (ix3 (⟨t.val % 8, by omega⟩ : Fin 8) k b) := by
  blk_ext [iblk, idx1]

/-- An entry of the product. -/
def entry (a : Fin 4096) (b : Fin 8192) : EReal :=
  ∑ k : Fin 2048, rows m c (ix2 a k) * cols m c (ix3 (⟨b.val / 1024, by omega⟩ : Fin 8) k (⟨b.val % 1024, by omega⟩ : Fin 1024))
/-- The array of the entries' images under an epilogue. -/
def arr (f : EReal → EReal) : S4096x8192.Idx → EReal := fun y => f (entry m c (y 0) (y 1))

/-- A point's sum is that of the entry at its block's place. -/
theorem point_sum (t : Fin cfg0.N) (a b : Fin 1024) (y0 : Fin 4096) (y1 : Fin 8192) (h0 : y0.val = t.val / 8 * 1024 + 1 * a.val) (h1 : y1.val = t.val % 8 * 1024 + 1 * b.val)
    (x0 : S1024x2048.Idx → EReal) (x1 : S1x2048x1024.Idx → EReal) (e0 : x0 = iblk m c 0 t) (e1 : x1 = iblk m c 1 t) :
    (∑ k : Fin 2048, x0 (ix2 a k) * x1 (ix3 0 k b)) = entry m c y0 y1 := by
  have hn := ltN t
  have f0 : (⟨1024 * (t.val / 8) + a.val, by omega⟩ : Fin 4096) = y0 := Fin.ext (by show 1024 * (t.val / 8) + a.val = y0.val; omega)
  have f1 : (⟨t.val % 8, by omega⟩ : Fin 8) = ⟨y1.val / 1024, by omega⟩ := Fin.ext (by show t.val % 8 = y1.val / 1024; omega)
  have f2 : b = ⟨y1.val % 1024, by omega⟩ := Fin.ext (by show b.val = y1.val % 1024; omega)
  unfold entry
  refine Finset.sum_congr rfl fun k _ => ?_
  rw [e0, e1, blk0, blk1, f0, f1, ← f2]

/-- Each place of a result lies in one point's block. -/
theorem place (i : S4096x8192.Idx) : ∃ t : Fin cfg0.N, ∀ a : Fin 2, (![t.val / 8, t.val % 8] : Fin 2 → Nat) a * 1024 ≤ (i a).val ∧ (i a).val < (![t.val / 8, t.val % 8] : Fin 2 → Nat) a * 1024 + 1024 := by
  have h0 : (i 0).val < 4096 := (i 0).isLt
  have h1 : (i 1).val < 8192 := (i 1).isLt
  refine ⟨⟨8 * ((i 0).val / 1024) + (i 1).val / 1024, lt_of_lt_of_eq (by omega) (show 32 = cfg0.N from N_0.symm)⟩, fun a => ?_⟩
  match a with
  | ⟨0, _⟩ =>
    show (8 * ((i 0).val / 1024) + (i 1).val / 1024) / 8 * 1024 ≤ (i 0).val ∧ (i 0).val < (8 * ((i 0).val / 1024) + (i 1).val / 1024) / 8 * 1024 + 1024
    omega
  | ⟨1, _⟩ =>
    show (8 * ((i 0).val / 1024) + (i 1).val / 1024) % 8 * 1024 ≤ (i 1).val ∧ (i 1).val < (8 * ((i 0).val / 1024) + (i 1).val / 1024) % 8 * 1024 + 1024
    omega

theorem flushed2_eq (t : Fin cfg0.N) : (dats m 0 c).flushed 2 t = ((cfg0.win 2).blk t).view.read (Elt Ideal) (arr m c id) := by
  rw [flushed2]
  funext y
  obtain ⟨a, b, rfl⟩ : ∃ (a b : Fin 1024), y = ix2 a b := ⟨y 0, y 1, (ix2_eta y).symm⟩
  refine (out2_val _ _ a b).trans (point_sum m c t a b _ _ ?_ ?_ _ _ rfl rfl)
  · show win0_2.index t (0 : Fin 2) * 1024 + 1 * a.val = _
    rw [idx2]
    rfl
  · show win0_2.index t (1 : Fin 2) * 1024 + 1 * b.val = _
    rw [idx2]
    rfl
theorem flushed3_eq (t : Fin cfg0.N) : (dats m 0 c).flushed 3 t = ((cfg0.win 3).blk t).view.read (Elt Ideal) (arr m c sq) := by
  rw [flushed3]
  funext y
  obtain ⟨a, b, rfl⟩ : ∃ (a b : Fin 1024), y = ix2 a b := ⟨y 0, y 1, (ix2_eta y).symm⟩
  refine (out3_val _ _ a b).trans (congrArg sq (point_sum m c t a b _ _ ?_ ?_ _ _ rfl rfl))
  · show win0_3.index t (0 : Fin 2) * 1024 + 1 * a.val = _
    rw [idx3]
    rfl
  · show win0_3.index t (1 : Fin 2) * 1024 + 1 * b.val = _
    rw [idx3]
    rfl

theorem final2 : (dats m 0 c).arrAt 2 cfg0.N = arr m c id := by
  refine (dats m 0 c).arrAt_eq_of_cover 2 _ (fun t _ => flushed2_eq m c t) fun i => ?_
  obtain ⟨t, ht⟩ := place i
  refine ⟨t, (by decide +kernel : ∀ t : Fin grid0.N, win0_2.flush t = true) _, ?_⟩
  show i ∈ ((View.whole main_v4_0).slice (win0_2.rect t)).set
  rw [View.set_slice_whole, Rect.mem_set_unit]
  show ∀ a : Fin 2, win0_2.index t a * S1024x1024.size a ≤ (i a).val ∧ (i a).val < win0_2.index t a * S1024x1024.size a + S1024x1024.size a
  rw [idx2]
  intro a
  match a with
  | ⟨0, _⟩ => exact ht 0
  | ⟨1, _⟩ => exact ht 1
theorem final3 : (dats m 0 c).arrAt 3 cfg0.N = arr m c sq := by
  refine (dats m 0 c).arrAt_eq_of_cover 3 _ (fun t _ => flushed3_eq m c t) fun i => ?_
  obtain ⟨t, ht⟩ := place i
  refine ⟨t, (by decide +kernel : ∀ t : Fin grid0.N, win0_3.flush t = true) _, ?_⟩
  show i ∈ ((View.whole main_v4_1).slice (win0_3.rect t)).set
  rw [View.set_slice_whole, Rect.mem_set_unit]
  show ∀ a : Fin 2, win0_3.index t a * S1024x1024.size a ≤ (i a).val ∧ (i a).val < win0_3.index t a * S1024x1024.size a + S1024x1024.size a
  rw [idx3]
  intro a
  match a with
  | ⟨0, _⟩ => exact ht 0
  | ⟨1, _⟩ => exact ht 1

/-- The arguments. -/
abbrev hn : Cert.Mlp.Rows := m ((c.tc : Thread nD τ).loc main_arg0)
abbrev wUp : Cert.Mlp.Wu := m ((c.tc : Thread nD τ).loc main_arg1)

theorem rows_eq : rows m c = (truncf .bf16 (hn m c) bitsLt_bf16_f32 : FVec Ideal S4096x2048 .bf16) := by
  show StableHlo.after _ (fun b => m (c, b)) _ = _
  after_results_simp
theorem cols_eq : cols m c = (transpose S8x2048x1024 [1, 0, 2] (shapeCast S2048x8x1024 (truncf .bf16 (wUp m c) bitsLt_bf16_f32 : FVec Ideal S2048x8192 .bf16) shapeCasts_S2048x8192_S2048x8x1024 : FVec Ideal S2048x8x1024 .bf16) transposes_S2048x8x1024_S8x2048x1024_1_0_2 : FVec Ideal S8x2048x1024 .bf16) := by
  show StableHlo.after _ (fun b => m (c, b)) _ = _
  after_results_simp
  rfl

theorem cols_val (d : Fin 8) (k : Fin 2048) (b : Fin 1024) : cols m c (ix3 d k b) = (wUp m c : S2048x8192.Idx → EReal) (ix2 k (⟨d.val * 1024 + b.val, by omega⟩ : Fin 8192)) := by
  rw [cols_eq]
  pointwise

theorem entry_eq (a : Fin 4096) (b : Fin 8192) : entry m c a b = (Cert.Mlp.up (hn m c) (wUp m c) : S4096x8192.Idx → EReal) (ix2 a b) := by
  unfold entry Cert.Mlp.up
  rw [rows_eq]
  have h (k : Fin 2048) : cols m c (ix3 (⟨b.val / 1024, by omega⟩ : Fin 8) k (⟨b.val % 1024, by omega⟩ : Fin 1024)) = (wUp m c : S2048x8192.Idx → EReal) (ix2 k b) := by
    rw [cols_val]
    refine congrArg (fun n => (wUp m c : S2048x8192.Idx → EReal) (ix2 k n)) (Fin.ext ?_)
    show b.val / 1024 * 1024 + b.val % 1024 = b.val
    omega
  simp only [h]
  pointwise

/-- What the kernel leaves is the terms of the reference. -/
theorem value_up : ((dats m 0 c).arrAt 2 cfg0.N : FVec Ideal S4096x8192 .bf16) = truncf .bf16 (Cert.Mlp.up (hn m c) (wUp m c)) bitsLt_bf16_f32 := by
  rw [final2]
  refine funext fun y => ?_
  obtain ⟨a, b, rfl⟩ : ∃ (a : Fin 4096) (b : Fin 8192), y = ix2 a b := ⟨y 0, y 1, (ix2_eta y).symm⟩
  exact entry_eq m c a b
theorem value_act : ((dats m 0 c).arrAt 3 cfg0.N : FVec Ideal S4096x8192 .bf16) = truncf .bf16 (Cert.Mlp.act (hn m c) (wUp m c)) bitsLt_bf16_f32 := by
  rw [final3]
  refine funext fun y => ?_
  obtain ⟨a, b, rfl⟩ : ∃ (a : Fin 4096) (b : Fin 8192), y = ix2 a b := ⟨y 0, y 1, (ix2_eta y).symm⟩
  refine (congrArg sq (entry_eq m c a b)).trans ?_
  unfold sq Cert.Mlp.act Cert.Mlp.relu Cert.Mlp.all0
  pointwise

end Cert.Kernel6Ideal.Hand

end
-- ==== Proof.Mlp7.lean ====
module

public import proofs.«01_k».proof.Proof.Mlp4
public import proofs.«01_k».proof.Proof.Gen.Kernel7Ideal.Value
public import proofs.«01_k».proof.Proof.Gen.Reference7Ideal.Run

/-! The second product of the MLP. Its launch steps as that of the gradient through `w_up` does, over the same shapes, so each
step's product is the one named there; the arrays it reads are others. -/

@[expose] public section

set_option maxRecDepth 16384

noncomputable section

namespace Cert.Kernel7Ideal.Hand

open Cert.Kernel7Ideal Cert.Kernel7Ideal.Gen Cert.Kernel7Ideal.Value
open Cert.Kernel4Ideal.Hand (mm zero hz2 hz3 mm_val zero_val)
open Idealize.ShloMosaic Idealize.ShloMosaic.TcCoe Idealize.ShloMosaic.Tactic
open Idealize.SL Idealize.SL.Sem
open scoped BigOperators

section
variable {F : FTy → Type} [FloatOps F]

variable (c : Dev nD) (i : grid0.Coords) (a3 : Memref sig .tc .vmem S2048x2048 .bf16) (h3 : a3.IsWhole)
  (a4 : Memref sig .tc .vmem S1x2048x512 .bf16) (h4 : a4.IsWhole) (a5 : Memref sig .tc .vmem S2048x512 .bf16) (h5 : a5.IsWhole)
  (a6 : Memref sig .tc .vmem S2048x512 .f32) (h6 : a6.IsWhole)
  (x0 : Vec F S2048x2048 .bf16) (x1 : Vec F S1x2048x512 .bf16) (xs : Vec F S2048x512 .f32)

theorem first (hc0 hc1) : sout0_A_0 c i a3 h3 a4 h4 a5 h5 a6 h6 hc0 hc1 x0 x1 = addf zero (mm x0 x1) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz2, View.readCov_unit_zero _ hz2]
  unfold k0_pay2 k0_pay1
  simp only [View.readAt_eq_ld, h3.read_unread, h4.read_unread, View.ld_unit_zero (S := S2048x2048) hz2, View.ld_unit_zero (S := S2048x512) hz2, View.ld_unit_zero (S := S1x2048x512) hz3, shapeCast_self]
  rfl

theorem mid (hc0 hc1) : sout0_B_0 c i a3 h3 a4 h4 a5 h5 a6 h6 hc0 hc1 x0 x1 xs = addf xs (mm x0 x1) := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz2]
  unfold k0_pay2
  simp only [View.readAt_eq_ld, h3.read_unread, h4.read_unread, h6.read_unread, View.ld_unit_zero (S := S2048x2048) hz2, View.ld_unit_zero (S := S2048x512) hz2, View.ld_unit_zero (S := S1x2048x512) hz3, shapeCast_self]
  rfl

theorem last (hc0 hc1) : out0_C_2 c i a3 h3 a4 h4 a5 h5 a6 h6 hc0 hc1 x0 x1 xs = truncf .bf16 (addf xs (mm x0 x1)) bitsLt_bf16_f32 := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz2, View.readCov_unit_zero _ hz2]
  unfold k0_pay3 k0_pay2
  simp only [View.readAt_eq_ld, h3.read_unread, h4.read_unread, h6.read_unread, View.ld_unit_zero (S := S2048x2048) hz2, View.ld_unit_zero (S := S2048x512) hz2, View.ld_unit_zero (S := S1x2048x512) hz3, shapeCast_self]
  rfl
end

section
variable {F : FTy → Type} [FloatOps F] (m : (ℓ : Loc nD τ sig) → Buf (Elt F) ℓ) (c : Dev nD)

/-- The product that point `n` adds. -/
def part (n : ℕ) (h : n < cfg0.N) : FVec F S2048x512 .f32 := mm (iblk m c 0 ⟨n, h⟩) (iblk m c 1 ⟨n, h⟩)

theorem acc_first (n : ℕ) (h : n < cfg0.N) (h0 : n % 4 = 0) : (outsAt0 m c n h).2 = addf zero (part m c n h) := by
  rw [outsAt0_A m c ⟨n, h⟩ h0 (by dsimp only; omega)]
  dsimp only
  rw [first]
  rfl
theorem acc_mid (n : ℕ) (h : n + 1 < cfg0.N) (h0 : ¬(n + 1) % 4 = 0) (h1 : ¬(n + 1) % 4 = 3) :
    (outsAt0 m c (n + 1) h).2 = addf (outsAt0 m c n (Nat.lt_of_succ_lt h)).2 (part m c (n + 1) h) := by
  rw [outsAt0_B m c ⟨n + 1, h⟩ h0 h1]
  dsimp only
  rw [mid]
  rfl
theorem acc_last (n : ℕ) (h : n + 1 < cfg0.N) (h1 : (n + 1) % 4 = 3) :
    (outsAt0 m c (n + 1) h).1 = truncf .bf16 (addf (outsAt0 m c n (Nat.lt_of_succ_lt h)).2 (part m c (n + 1) h)) bitsLt_bf16_f32 := by
  rw [outsAt0_C m c ⟨n + 1, h⟩ (by dsimp only; omega) h1]
  dsimp only
  rw [last]
  rfl

/-- What the block of run `q` ends as. -/
theorem out_run (q : ℕ) (h : 4 * q + 3 < cfg0.N) : (outsAt0 m c (4 * q + 3) h).1 = truncf .bf16 (addf (addf (addf (addf zero
    (part m c (4 * q) (by omega))) (part m c (4 * q + 1) (by omega))) (part m c (4 * q + 2) (by omega))) (part m c (4 * q + 3) h)) bitsLt_bf16_f32 := by
  rw [acc_last m c (4 * q + 2) h (by omega), acc_mid m c (4 * q + 1) (by omega) (by omega) (by omega),
    acc_mid m c (4 * q) (by omega) (by omega) (by omega), acc_first m c (4 * q) (by omega) (by omega)]
end

variable (m : (ℓ : Loc nD τ sig) → Buf (Elt Ideal) ℓ) (c : Dev nD)

theorem idx0 : ∀ t : Fin cfg0.N, win0_0.index t = ![t.val / 16, t.val % 4] := by decide +kernel
theorem idx1 : ∀ t : Fin cfg0.N, win0_1.index t = ![0, t.val % 4, t.val / 4 % 4] := by decide +kernel

/-- The two arrays that the launch reads. -/
abbrev rows : S4096x8192.Idx → EReal := V m c (Pipeline.arrRef spec0 0)
abbrev cols : S1x8192x2048.Idx → EReal := V m c (Pipeline.arrRef spec0 1)

theorem ltN (t : Fin cfg0.N) : t.val < 32 := lt_of_lt_of_eq t.isLt (show cfg0.N = 32 from N_0)

theorem blk0 (t : Fin cfg0.N) (a b : Fin 2048) : (iblk m c 0 t : Vec Ideal S2048x2048 .bf16) (ix2 a b)
    = rows m c (ix2 (⟨2048 * (t.val / 16) + a.val, by have := ltN t; omega⟩ : Fin 4096) (⟨2048 * (t.val % 4) + b.val, by omega⟩ : Fin 8192)) := by
  blk_ext [iblk, idx0]

theorem blk1 (t : Fin cfg0.N) (a : Fin 2048) (b : Fin 512) : (iblk m c 1 t : Vec Ideal S1x2048x512 .bf16) (ix3 0 a b)
    = cols m c (ix3 0 (⟨2048 * (t.val % 4) + a.val, by omega⟩ : Fin 8192) (⟨512 * (t.val / 4 % 4) + b.val, by omega⟩ : Fin 2048)) := by
  blk_ext [iblk, idx1]

theorem part_val (q j : ℕ) (hq : q < 8) (hj : j < 4) (h : 4 * q + j < cfg0.N) (a : Fin 2048) (b : Fin 512) :
    (part m c (4 * q + j) h : S2048x512.Idx → EReal) (ix2 a b)
      = ∑ k : Fin 2048, rows m c (ix2 (⟨2048 * (q / 4) + a.val, by omega⟩ : Fin 4096) (⟨2048 * j + k.val, by omega⟩ : Fin 8192))
        * cols m c (ix3 0 (⟨2048 * j + k.val, by omega⟩ : Fin 8192) (⟨512 * (q % 4) + b.val, by omega⟩ : Fin 2048)) := by
  have e1 : (4 * q + j) / 16 = q / 4 := by omega
  have e2 : (4 * q + j) % 4 = j := by omega
  have e3 : (4 * q + j) / 4 % 4 = q % 4 := by omega
  unfold part
  rw [mm_val]
  refine Finset.sum_congr rfl fun k _ => ?_
  rw [blk0, blk1]
  simp only [e1, e2, e3]

theorem out_val (q : ℕ) (hq : q < 8) (h : 4 * q + 3 < cfg0.N) (a : Fin 2048) (b : Fin 512) :
    ((outsAt0 m c (4 * q + 3) h).1 : S2048x512.Idx → EReal) (ix2 a b)
      = ∑ k : Fin 8192, rows m c (ix2 (⟨2048 * (q / 4) + a.val, by omega⟩ : Fin 4096) k) * cols m c (ix3 0 k (⟨512 * (q % 4) + b.val, by omega⟩ : Fin 2048)) := by
  rw [out_run]
  pointwise
  rw [zero_val, show part m c (4 * q) _ (ix2 a b) = _ from part_val m c q 0 hq (by decide) (by omega) a b, part_val m c q 1 hq (by decide), part_val m c q 2 hq (by decide), part_val m c q 3 hq (by decide)]
  exact Cert.Parts.four (T := 2048) (fun k => rows m c (ix2 (⟨2048 * (q / 4) + a.val, by omega⟩ : Fin 4096) (k : Fin 8192)) * cols m c (ix3 0 (k : Fin 8192) (⟨512 * (q % 4) + b.val, by omega⟩ : Fin 2048)))
    (fun j k => rows m c (ix2 (⟨2048 * (q / 4) + a.val, by omega⟩ : Fin 4096) (⟨2048 * j.val + k.val, by omega⟩ : Fin 8192))
        * cols m c (ix3 0 (⟨2048 * j.val + k.val, by omega⟩ : Fin 8192) (⟨512 * (q % 4) + b.val, by omega⟩ : Fin 2048))) (fun j k => rfl)

/-- The result array, entry by entry. -/
theorem G2_val (a : Fin 4096) (b : Fin 2048) : (G2 m c : S4096x2048.Idx → EReal) (ix2 a b)
    = ∑ k : Fin 8192, rows m c (ix2 a k) * cols m c (ix3 0 k b) := by
  have e : pt2Of (ix2 a b) = 4 * (4 * (a.val / 2048) + b.val / 512) + 3 := by
    show 4 * (4 * (a.val / 2048 - 0) + 1 * (b.val / 512 - 0)) + 3 = _
    omega
  have hN : pt2Of (ix2 a b) < cfg0.N := by rw [e]; exact lt_of_lt_of_eq (by omega) (show 32 = cfg0.N from N_0.symm)
  have hl : loc2Of (ix2 a b) = ix2 (⟨a.val % 2048, by omega⟩ : Fin 2048) (⟨b.val % 512, by omega⟩ : Fin 512) := by
    funext y
    match y with
    | ⟨0, _⟩ => rfl
    | ⟨1, _⟩ => rfl
  unfold G2
  rw [dif_pos hN, ← outsAt0_sweep m c _ hN, hl]
  simp only [e]
  rw [out_val m c _ (by omega)]
  have e1 : 2048 * ((4 * (a.val / 2048) + b.val / 512) / 4) + a.val % 2048 = a.val := by omega
  have e2 : 512 * ((4 * (a.val / 2048) + b.val / 512) % 4) + b.val % 512 = b.val := by omega
  simp only [e1, e2, Fin.eta]

/-- The arguments. -/
abbrev hn : Cert.Mlp.Rows := m ((c.tc : Thread nD τ).loc main_arg0)
abbrev wUp : Cert.Mlp.Wu := m ((c.tc : Thread nD τ).loc main_arg1)
abbrev wDown : Cert.Mlp.Wd := m ((c.tc : Thread nD τ).loc main_arg2)

theorem rows_eq : rows m c = (truncf .bf16 (Cert.Mlp.act (hn m c) (wUp m c)) bitsLt_bf16_f32 : FVec Ideal S4096x8192 .bf16) := by
  show StableHlo.after _ (fun b => m (c, b)) _ = _
  simp only [List.flatten_cons, List.flatten_nil, List.append_nil, List.cons_append, List.nil_append, StableHlo.TRef.nullary, StableHlo.TRef.unary, StableHlo.TRef.binary, StableHlo.TRef.toBuf, StableHlo.TRef.ofBuf, cast_eq]
  after_results_simp
  rfl
theorem cols_eq : cols m c = (broadcastInDim S1x8192x2048 ![1, 2] bcast_S8192x2048_S1x8192x2048_1_2 (truncf .bf16 (wDown m c) bitsLt_bf16_f32 : FVec Ideal S8192x2048 .bf16) : FVec Ideal S1x8192x2048 .bf16) := by
  show StableHlo.after _ (fun b => m (c, b)) _ = _
  simp only [List.flatten_cons, List.flatten_nil, List.append_nil, List.cons_append, List.nil_append, StableHlo.TRef.nullary, StableHlo.TRef.unary, StableHlo.TRef.binary, StableHlo.TRef.toBuf, StableHlo.TRef.ofBuf, cast_eq]
  after_results_simp

/-- What the kernel leaves is the term of the reference. -/
theorem value : (G2 m c : FVec Ideal S4096x2048 .bf16) = truncf .bf16 (Host.dotGeneral Cert.Reference7Ideal.dot_S4096x8192_S8192x2048_S4096x2048_1_0_0_1_n_n none
    (Cert.Mlp.act (hn m c) (wUp m c)) (wDown m c) : FVec Ideal S4096x2048 .f32) bitsLt_bf16_f32 := by
  refine funext fun y => ?_
  obtain ⟨a, b, rfl⟩ : ∃ (a : Fin 4096) (b : Fin 2048), y = ix2 a b := ⟨y 0, y 1, (ix2_eta y).symm⟩
  refine (G2_val m c a b).trans ?_
  rw [rows_eq, cols_eq]
  pointwise

end Cert.Kernel7Ideal.Hand

end
-- ==== Proof.Tile.lean ====
module

public import Idealize.ShloMosaic.Lib.Pipeline.ValueKit

/-! The tiles of a matrix, taken row of tiles by row of tiles: which tile has a given entry, and where in the matrix an entry of a tile
lies. The launches of one product per tile take their entries from here. -/

@[expose] public section

noncomputable section

namespace Cert.Tile

/-- The number of the tile with the entry `(a, b)`, for tiles of `p × q` entries and `n` tiles in a row. -/
def of (p q n a b : ℕ) : ℕ := n * (a / p) + b / q

theorem of_div {p q n b : ℕ} (a : ℕ) (hq : 0 < q) (h : b < n * q) : of p q n a b / n = a / p := by
  have hb : b / q < n := Nat.div_lt_of_lt_mul (by rwa [Nat.mul_comm] at h)
  have hn : 0 < n := lt_of_le_of_lt (Nat.zero_le _) hb
  unfold of
  rw [Nat.mul_add_div hn, Nat.div_eq_of_lt hb, Nat.add_zero]
theorem of_mod {p q n b : ℕ} (a : ℕ) (hq : 0 < q) (h : b < n * q) : of p q n a b % n = b / q := by
  have hb : b / q < n := Nat.div_lt_of_lt_mul (by rwa [Nat.mul_comm] at h)
  unfold of
  rw [Nat.mul_add_mod, Nat.mod_eq_of_lt hb]

/-- A tile's range has the entries whose quotient it is. -/
theorem mem {p a : ℕ} (hp : 0 < p) : a / p * p ≤ a ∧ a < a / p * p + p :=
  ⟨Nat.div_mul_le_self a p, Nat.lt_div_mul_add hp⟩

/-- An entry's tile has it: the two ranges, for the tile that is named by `of`. -/
theorem place {p q n a b t : ℕ} (hp : 0 < p) (hq : 0 < q) (h : b < n * q) (ht : t = of p q n a b) :
    ∀ i : Fin 2, (![t / n, t % n] : Fin 2 → ℕ) i * (![p, q] : Fin 2 → ℕ) i ≤ (![a, b] : Fin 2 → ℕ) i
      ∧ (![a, b] : Fin 2 → ℕ) i < (![t / n, t % n] : Fin 2 → ℕ) i * (![p, q] : Fin 2 → ℕ) i + (![p, q] : Fin 2 → ℕ) i := by
  subst ht
  rw [of_div a hq h, of_mod a hq h]
  intro i
  match i with
  | ⟨0, _⟩ => exact mem hp
  | ⟨1, _⟩ => exact mem hq

end Cert.Tile

end
-- ==== Proof.Mlp8.lean ====
module

public import proofs.«01_k».proof.Proof.Tile
public import proofs.«01_k».proof.Proof.Gen.Kernel8Ideal.Value
public import proofs.«01_k».proof.Proof.Gen.Reference8Ideal.Run

/-! The projections: each point of the launch takes a whole product, of a block of rows and one device's columns. -/

@[expose] public section

set_option maxRecDepth 16384

noncomputable section

namespace Cert.Kernel8Ideal.Hand

open Cert.Kernel8Ideal Cert.Kernel8Ideal.Gen Cert.Kernel8Ideal.Value
open Idealize.ShloMosaic Idealize.ShloMosaic.TcCoe Idealize.ShloMosaic.Tactic
open Idealize.SL Idealize.SL.Sem
open scoped BigOperators

theorem hz2 : (![0, 0] : Fin 2 → Nat) = fun _ => 0 := by decide
theorem hz3 : (![0, 0, 0] : Fin 3 → Nat) = fun _ => 0 := by decide

/-- What a point stores, entry by entry. -/
theorem out_val (x0 : Vec Ideal S2048x2048 .bf16) (x1 : Vec Ideal S1x2048x512 .bf16) (a : Fin 2048) (b : Fin 512) :
    (out0_2 x0 x1 : S2048x512.Idx → EReal) (ix2 a b) = ∑ k : Fin 2048, (x0 (ix2 a k) : EReal) * (x1 (ix3 0 k b) : EReal) := by
  unfold out0_2
  rw [View.canon_unit_zero hz2]
  unfold k0_pay1
  simp only [View.ld_unit_zero (S := S2048x2048) hz2, View.ld_unit_zero (S := S1x2048x512) hz3, shapeCast_self]
  pointwise

variable (m : (ℓ : Loc nD τ sig) → Buf (Elt Ideal) ℓ) (c : Dev nD)

theorem idx0 : ∀ t : Fin cfg0.N, win0_0.index t = ![t.val / 8, 0] := by decide +kernel
theorem idx1 : ∀ t : Fin cfg0.N, win0_1.index t = ![t.val % 8, 0, 0] := by decide +kernel
theorem idx2 : ∀ t : Fin cfg0.N, win0_2.index t = ![t.val / 8, t.val % 8] := by decide +kernel

/-- The two arrays that the launch reads. -/
abbrev rows : S4096x2048.Idx → EReal := V m c (Pipeline.arrRef spec0 0)
abbrev cols : S8x2048x512.Idx → EReal := V m c (Pipeline.arrRef spec0 1)

theorem ltN (t : Fin cfg0.N) : t.val < 16 := lt_of_lt_of_eq t.isLt (show cfg0.N = 16 from N_0)

theorem blk0 (t : Fin cfg0.N) (a k : Fin 2048) : (iblk m c 0 t : Vec Ideal S2048x2048 .bf16) (ix2 a k)
    = rows m c (ix2 (⟨2048 * (t.val / 8) + a.val, by have := ltN t; omega⟩ : Fin 4096) k) := by
  blk_ext [iblk, idx0]
theorem blk1 (t : Fin cfg0.N) (k : Fin 2048) (b : Fin 512) : (iblk m c 1 t : Vec Ideal S1x2048x512 .bf16) (ix3 0 k b)
    = cols m c (ix3 (⟨t.val % 8, by omega⟩ : Fin 8) k b) := by
  blk_ext [iblk, idx1]

/-- The result array. -/
def entry (a b : Fin 4096) : EReal :=
  ∑ k : Fin 2048, rows m c (ix2 a k) * cols m c (ix3 (⟨b.val / 512, by omega⟩ : Fin 8) k (⟨b.val % 512, by omega⟩ : Fin 512))
def arr : S4096x4096.Idx → EReal := fun y => entry m c (y 0) (y 1)

/-- A point's sum is that of the entry at its block's place. -/
theorem point_sum (t : Fin cfg0.N) (a : Fin 2048) (b : Fin 512) (y0 y1 : Fin 4096) (h0 : y0.val = t.val / 8 * 2048 + 1 * a.val) (h1 : y1.val = t.val % 8 * 512 + 1 * b.val)
    (x0 : S2048x2048.Idx → EReal) (x1 : S1x2048x512.Idx → EReal) (e0 : x0 = iblk m c 0 t) (e1 : x1 = iblk m c 1 t) :
    (∑ k : Fin 2048, x0 (ix2 a k) * x1 (ix3 0 k b)) = entry m c y0 y1 := by
  have hn := ltN t
  have f0 : (⟨2048 * (t.val / 8) + a.val, by omega⟩ : Fin 4096) = y0 := Fin.ext (by show 2048 * (t.val / 8) + a.val = y0.val; omega)
  have f1 : (⟨t.val % 8, by omega⟩ : Fin 8) = ⟨y1.val / 512, by omega⟩ := Fin.ext (by show t.val % 8 = y1.val / 512; omega)
  have f2 : b = ⟨y1.val % 512, by omega⟩ := Fin.ext (by show b.val = y1.val % 512; omega)
  unfold entry
  refine Finset.sum_congr rfl fun k _ => ?_
  rw [e0, e1, blk0, blk1, f0, f1, ← f2]

theorem flushed_eq (t : Fin cfg0.N) : (dats m 0 c).flushed 2 t = ((cfg0.win 2).blk t).view.read (Elt Ideal) (arr m c) := by
  rw [flushed2]
  funext y
  obtain ⟨a, b, rfl⟩ : ∃ (a : Fin 2048) (b : Fin 512), y = ix2 a b := ⟨y 0, y 1, (ix2_eta y).symm⟩
  refine (out_val _ _ a b).trans (point_sum m c t a b _ _ ?_ ?_ _ _ rfl rfl)
  · show win0_2.index t (0 : Fin 2) * 2048 + 1 * a.val = _
    rw [idx2]
    rfl
  · show win0_2.index t (1 : Fin 2) * 512 + 1 * b.val = _
    rw [idx2]
    rfl

theorem final : (dats m 0 c).arrAt 2 cfg0.N = arr m c := by
  refine (dats m 0 c).arrAt_eq_of_cover 2 _ (fun t _ => flushed_eq m c t) fun i => ?_
  have h0 : (i 0).val < 4096 := (i 0).isLt
  have h1 : (i 1).val < 4096 := (i 1).isLt
  obtain ⟨t, ht⟩ : ∃ t : Fin cfg0.N, t.val = Cert.Tile.of 2048 512 8 (i 0).val (i 1).val :=
    ⟨⟨_, lt_of_lt_of_eq (by show 8 * ((i 0).val / 2048) + (i 1).val / 512 < 16; omega) (show 16 = cfg0.N from N_0.symm)⟩, rfl⟩
  refine ⟨t, (by decide +kernel : ∀ t : Fin grid0.N, win0_2.flush t = true) _, ?_⟩
  show i ∈ ((View.whole main_v4).slice (win0_2.rect t)).set
  rw [View.set_slice_whole, Rect.mem_set_unit]
  show ∀ a : Fin 2, win0_2.index t a * S2048x512.size a ≤ (i a).val ∧ (i a).val < win0_2.index t a * S2048x512.size a + S2048x512.size a
  rw [idx2]
  have hp := Cert.Tile.place (by decide : 0 < 2048) (by decide) h1 ht
  intro a
  match a with
  | ⟨0, _⟩ => exact hp 0
  | ⟨1, _⟩ => exact hp 1

/-- The arguments. -/
abbrev hn : FVec Ideal S4096x2048 .f32 := m ((c.tc : Thread nD τ).loc main_arg0)
abbrev wIn : FVec Ideal S2048x4096 .f32 := m ((c.tc : Thread nD τ).loc main_arg1)

theorem rows_eq : rows m c = (truncf .bf16 (hn m c) bitsLt_bf16_f32 : FVec Ideal S4096x2048 .bf16) := by
  show StableHlo.after _ (fun b => m (c, b)) _ = _
  after_results_simp
theorem cols_eq : cols m c = (transpose S8x2048x512 [1, 0, 2] (shapeCast S2048x8x512 (truncf .bf16 (wIn m c) bitsLt_bf16_f32 : FVec Ideal S2048x4096 .bf16) shapeCasts_S2048x4096_S2048x8x512 : FVec Ideal S2048x8x512 .bf16) transposes_S2048x8x512_S8x2048x512_1_0_2 : FVec Ideal S8x2048x512 .bf16) := by
  show StableHlo.after _ (fun b => m (c, b)) _ = _
  after_results_simp
  rfl

theorem cols_val (d : Fin 8) (k : Fin 2048) (b : Fin 512) : cols m c (ix3 d k b) = (wIn m c : S2048x4096.Idx → EReal) (ix2 k (⟨d.val * 512 + b.val, by omega⟩ : Fin 4096)) := by
  rw [cols_eq]
  pointwise

/-- What the kernel leaves is the term of the reference. -/
theorem value : ((dats m 0 c).arrAt 2 cfg0.N : FVec Ideal S4096x4096 .f32) = Host.dotGeneral Cert.Reference8Ideal.dot_S4096x2048_S2048x4096_S4096x4096_1_0_0_1_n_n none (hn m c) (wIn m c) := by
  rw [final]
  refine funext fun y => ?_
  obtain ⟨a, b, rfl⟩ : ∃ (a b : Fin 4096), y = ix2 a b := ⟨y 0, y 1, (ix2_eta y).symm⟩
  show entry m c a b = _
  unfold entry
  rw [rows_eq]
  have h (k : Fin 2048) : cols m c (ix3 (⟨b.val / 512, by omega⟩ : Fin 8) k (⟨b.val % 512, by omega⟩ : Fin 512)) = (wIn m c : S2048x4096.Idx → EReal) (ix2 k b) := by
    rw [cols_val]
    refine congrArg (fun n => (wIn m c : S2048x4096.Idx → EReal) (ix2 k n)) (Fin.ext ?_)
    show b.val / 512 * 512 + b.val % 512 = b.val
    omega
  simp only [h]
  pointwise

end Cert.Kernel8Ideal.Hand

end
-- ==== Proof.Mlp9.lean ====
module

public import proofs.«01_k».proof.Proof.Tile
public import proofs.«01_k».proof.Proof.Parts
public import proofs.«01_k».proof.Proof.Gen.Kernel9Ideal.Value
public import proofs.«01_k».proof.Proof.Gen.Reference9Ideal.Run

/-! The mixer's output: each point of the launch adds the products of two blocks of rows, one of each of the arrays whose columns the
reference lays side by side, with the two halves of a block of the weights. -/

@[expose] public section

set_option maxRecDepth 16384

noncomputable section

namespace Cert.Kernel9Ideal.Hand

open Cert.Kernel9Ideal Cert.Kernel9Ideal.Gen Cert.Kernel9Ideal.Value
open Idealize.ShloMosaic Idealize.ShloMosaic.TcCoe Idealize.ShloMosaic.Tactic
open Idealize.SL Idealize.SL.Sem
open scoped BigOperators

theorem hz2 : (![0, 0] : Fin 2 → Nat) = fun _ => 0 := by decide

section
variable {F : FTy → Type} [FloatOps F]

/-- The product of a block of rows with half a block of weights. -/
def mm (x : Vec F S2048x1024 .bf16) (u : Vec F S1x1024x512 .bf16) : FVec F S2048x512 .f32 :=
  matmul (φ₁ := .bf16) (φ₂ := .bf16) dot_S2048x1024_S1024x512_S2048x512_1_0_0_1_n_n none x (shapeCast S1024x512 u shapeCasts_S1x1024x512_S1024x512) (constant S2048x512 .f32 0x00000000#32)

/-- Two such products, in the order in which a point adds them to zero. -/
def pair (x0 x1 : Vec F S2048x1024 .bf16) (w : Vec F S1x2048x512 .bf16) : FVec F S2048x512 .f32 :=
  addf (addf (broadcast S2048x512 (Scalar.ofBits .f32 0x00000000#32)) (mm x0 (View.ld w r0_1))) (mm x1 (View.ld w r0_2))

theorem out_eq (x0 x1 : Vec F S2048x1024 .bf16) (x2 : Vec F S1x2048x512 .bf16) : out0_3 x0 x1 x2 = truncf .bf16 (pair x0 x1 x2) bitsLt_bf16_f32 := by
  unfold out0_3
  rw [View.canon_unit_zero hz2]
  unfold k0_pay1
  simp only [View.ld_unit_zero (S := S2048x1024) hz2, shapeCast_self]
  rfl
end

theorem pair_val (x0 x1 : Vec Ideal S2048x1024 .bf16) (w : Vec Ideal S1x2048x512 .bf16) (a : Fin 2048) (b : Fin 512) :
    (pair x0 x1 w : S2048x512.Idx → EReal) (ix2 a b) = (∑ k : Fin 1024, (x0 (ix2 a k) : EReal) * (w (ix3 0 (⟨k.val, by omega⟩ : Fin 2048) b) : EReal))
      + ∑ k : Fin 1024, (x1 (ix2 a k) : EReal) * (w (ix3 0 (⟨1024 + k.val, by omega⟩ : Fin 2048) b) : EReal) := by
  unfold pair mm
  pointwise

variable (m : (ℓ : Loc nD τ sig) → Buf (Elt Ideal) ℓ) (c : Dev nD)

theorem idx0 : ∀ t : Fin cfg0.N, win0_0.index t = ![t.val / 4, 0] := by decide +kernel
theorem idx1 : ∀ t : Fin cfg0.N, win0_1.index t = ![t.val / 4, 0] := by decide +kernel
theorem idx2 : ∀ t : Fin cfg0.N, win0_2.index t = ![0, 0, t.val % 4] := by decide +kernel
theorem idx3 : ∀ t : Fin cfg0.N, win0_3.index t = ![t.val / 4, t.val % 4] := by decide +kernel

/-- The three arrays that the launch reads. -/
abbrev rows0 : S4096x1024.Idx → EReal := V m c (Pipeline.arrRef spec0 0)
abbrev rows1 : S4096x1024.Idx → EReal := V m c (Pipeline.arrRef spec0 1)
abbrev wts : S1x2048x2048.Idx → EReal := V m c (Pipeline.arrRef spec0 2)

theorem ltN (t : Fin cfg0.N) : t.val < 8 := lt_of_lt_of_eq t.isLt (show cfg0.N = 8 from N_0)

theorem blk0 (t : Fin cfg0.N) (a : Fin 2048) (k : Fin 1024) : (iblk m c 0 t : Vec Ideal S2048x1024 .bf16) (ix2 a k)
    = rows0 m c (ix2 (⟨2048 * (t.val / 4) + a.val, by have := ltN t; omega⟩ : Fin 4096) k) := by
  blk_ext [iblk, idx0]
theorem blk1 (t : Fin cfg0.N) (a : Fin 2048) (k : Fin 1024) : (iblk m c 1 t : Vec Ideal S2048x1024 .bf16) (ix2 a k)
    = rows1 m c (ix2 (⟨2048 * (t.val / 4) + a.val, by have := ltN t; omega⟩ : Fin 4096) k) := by
  blk_ext [iblk, idx1]
theorem blk2 (t : Fin cfg0.N) (k : Fin 2048) (b : Fin 512) : (iblk m c 2 t : Vec Ideal S1x2048x512 .bf16) (ix3 0 k b)
    = wts m c (ix3 0 k (⟨512 * (t.val % 4) + b.val, by omega⟩ : Fin 2048)) := by
  blk_ext [iblk, idx2]

/-- The result array. -/
def entry (a : Fin 4096) (b : Fin 2048) : EReal := (∑ k : Fin 1024, rows0 m c (ix2 a k) * wts m c (ix3 0 (⟨k.val, by omega⟩ : Fin 2048) b))
  + ∑ k : Fin 1024, rows1 m c (ix2 a k) * wts m c (ix3 0 (⟨1024 + k.val, by omega⟩ : Fin 2048) b)
def arr : S4096x2048.Idx → EReal := fun y => entry m c (y 0) (y 1)

/-- A point's value is that of the entry at its block's place. -/
theorem point (t : Fin cfg0.N) (a : Fin 2048) (b : Fin 512) (y0 : Fin 4096) (y1 : Fin 2048) (h0 : y0.val = t.val / 4 * 2048 + 1 * a.val) (h1 : y1.val = t.val % 4 * 512 + 1 * b.val) :
    (out0_3 (iblk m c 0 t) (iblk m c 1 t) (iblk m c 2 t) : S2048x512.Idx → EReal) (ix2 a b) = entry m c y0 y1 := by
  have hn := ltN t
  have f0 : (⟨2048 * (t.val / 4) + a.val, by omega⟩ : Fin 4096) = y0 := Fin.ext (by show 2048 * (t.val / 4) + a.val = y0.val; omega)
  have f1 : (⟨512 * (t.val % 4) + b.val, by omega⟩ : Fin 2048) = y1 := Fin.ext (by show 512 * (t.val % 4) + b.val = y1.val; omega)
  rw [out_eq]
  refine Eq.trans (pair_val (iblk m c 0 t) (iblk m c 1 t) (iblk m c 2 t) a b) ?_
  simp only [blk0, blk1, blk2, f0, f1]
  rfl

theorem flushed_eq (t : Fin cfg0.N) : (dats m 0 c).flushed 3 t = ((cfg0.win 3).blk t).view.read (Elt Ideal) (arr m c) := by
  rw [flushed3]
  funext y
  obtain ⟨a, b, rfl⟩ : ∃ (a : Fin 2048) (b : Fin 512), y = ix2 a b := ⟨y 0, y 1, (ix2_eta y).symm⟩
  refine point m c t a b _ _ ?_ ?_
  · show win0_3.index t (0 : Fin 2) * 2048 + 1 * a.val = _
    rw [idx3]
    rfl
  · show win0_3.index t (1 : Fin 2) * 512 + 1 * b.val = _
    rw [idx3]
    rfl

theorem final : (dats m 0 c).arrAt 3 cfg0.N = arr m c := by
  refine (dats m 0 c).arrAt_eq_of_cover 3 _ (fun t _ => flushed_eq m c t) fun i => ?_
  have h0 : (i 0).val < 4096 := (i 0).isLt
  have h1 : (i 1).val < 2048 := (i 1).isLt
  obtain ⟨t, ht⟩ : ∃ t : Fin cfg0.N, t.val = Cert.Tile.of 2048 512 4 (i 0).val (i 1).val :=
    ⟨⟨_, lt_of_lt_of_eq (by show 4 * ((i 0).val / 2048) + (i 1).val / 512 < 8; omega) (show 8 = cfg0.N from N_0.symm)⟩, rfl⟩
  refine ⟨t, (by decide +kernel : ∀ t : Fin grid0.N, win0_3.flush t = true) _, ?_⟩
  show i ∈ ((View.whole main_v4).slice (win0_3.rect t)).set
  rw [View.set_slice_whole, Rect.mem_set_unit]
  show ∀ a : Fin 2, win0_3.index t a * S2048x512.size a ≤ (i a).val ∧ (i a).val < win0_3.index t a * S2048x512.size a + S2048x512.size a
  rw [idx3]
  have hp := Cert.Tile.place (by decide : 0 < 2048) (by decide) h1 ht
  intro a
  match a with
  | ⟨0, _⟩ => exact hp 0
  | ⟨1, _⟩ => exact hp 1

/-- The arguments. -/
abbrev mixA : FVec Ideal S4096x1024 .f32 := m ((c.tc : Thread nD τ).loc main_arg0)
abbrev mixS : FVec Ideal S4096x1024 .f32 := m ((c.tc : Thread nD τ).loc main_arg1)
abbrev wOut : FVec Ideal S2048x2048 .f32 := m ((c.tc : Thread nD τ).loc main_arg2)

theorem rows0_eq : rows0 m c = (truncf .bf16 (mixA m c) bitsLt_bf16_f32 : FVec Ideal S4096x1024 .bf16) := by
  show StableHlo.after _ (fun b => m (c, b)) _ = _
  after_results_simp
theorem rows1_eq : rows1 m c = (truncf .bf16 (mixS m c) bitsLt_bf16_f32 : FVec Ideal S4096x1024 .bf16) := by
  show StableHlo.after _ (fun b => m (c, b)) _ = _
  after_results_simp
theorem wts_eq : wts m c = (broadcastInDim S1x2048x2048 ![1, 2] bcast_S2048x2048_S1x2048x2048_1_2 (truncf .bf16 (wOut m c) bitsLt_bf16_f32 : FVec Ideal S2048x2048 .bf16) : FVec Ideal S1x2048x2048 .bf16) := by
  show StableHlo.after _ (fun b => m (c, b)) _ = _
  after_results_simp

/-- The two arrays' columns side by side, at a place in each. -/
abbrev side (x y : FVec Ideal S4096x1024 .f32) : FVec Ideal S4096x2048 .f32 :=
  concatenate S4096x2048 1 [⟨S4096x1024, x⟩, ⟨S4096x1024, y⟩] Cert.Reference9Ideal.Facts₀.concatenates_S4096x1024_S4096x1024_S4096x2048_d1
theorem side_left (x y : FVec Ideal S4096x1024 .f32) (a : Fin 4096) (k : Fin 1024) : side x y (ix2 a (⟨k.val, by omega⟩ : Fin 2048)) = x (ix2 a k) := by
  refine concatenate_pair_apply_left (t := S4096x2048) (s₁ := S4096x1024) (s₂ := S4096x1024) 1 x y _ _ rfl (ix2 a k) fun b => ?_
  match b with
  | ⟨0, _⟩ => rfl
  | ⟨1, _⟩ => rfl
theorem side_right (x y : FVec Ideal S4096x1024 .f32) (a : Fin 4096) (k : Fin 1024) : side x y (ix2 a (⟨1024 + k.val, by omega⟩ : Fin 2048)) = y (ix2 a k) := by
  refine concatenate_pair_apply_right (t := S4096x2048) (s₁ := S4096x1024) (s₂ := S4096x1024) 1 x y _ _ rfl rfl (ix2 a k) (fun b hb => ?_) ?_
  · match b with
    | ⟨0, _⟩ => rfl
    | ⟨1, _⟩ => exact absurd rfl hb
  · exact Nat.add_comm _ _

/-- What the kernel leaves is the term of the reference. -/
theorem value : ((dats m 0 c).arrAt 3 cfg0.N : FVec Ideal S4096x2048 .bf16)
    = truncf .bf16 (Host.dotGeneral Cert.Reference9Ideal.dot_S4096x2048_S2048x2048_S4096x2048_1_0_0_1_n_n none (side (mixA m c) (mixS m c)) (wOut m c)) bitsLt_bf16_f32 := by
  rw [final]
  refine funext fun y => ?_
  obtain ⟨a, b, rfl⟩ : ∃ (a : Fin 4096) (b : Fin 2048), y = ix2 a b := ⟨y 0, y 1, (ix2_eta y).symm⟩
  show entry m c a b = _
  unfold entry
  rw [rows0_eq, rows1_eq, wts_eq]
  generalize hs : side (mixA m c) (mixS m c) = s
  have e : (truncf .bf16 (Host.dotGeneral Cert.Reference9Ideal.dot_S4096x2048_S2048x2048_S4096x2048_1_0_0_1_n_n none s (wOut m c)) bitsLt_bf16_f32 : FVec Ideal S4096x2048 .bf16) (ix2 a b)
      = ∑ k : Fin 2048, (s : S4096x2048.Idx → EReal) (ix2 a k) * (wOut m c : S2048x2048.Idx → EReal) (ix2 k b) := by
    pointwise
  refine Eq.trans ?_ e.symm
  refine Eq.trans ?_ (Cert.Parts.two (T := 1024) (fun k => (s : S4096x2048.Idx → EReal) (ix2 a (k : Fin 2048)) * (wOut m c : S2048x2048.Idx → EReal) (ix2 (k : Fin 2048) b)) _ (fun j k => rfl))
  rw [zero_add]
  subst hs
  have p0 (k : Fin 1024) : (Cert.Parts.at_ (0 : Fin 2) k : Fin 2048) = ⟨k.val, by omega⟩ := Fin.ext (by show 1024 * 0 + k.val = k.val; omega)
  have p1 (k : Fin 1024) : (Cert.Parts.at_ (1 : Fin 2) k : Fin 2048) = ⟨1024 + k.val, by omega⟩ := Fin.ext (by show 1024 * 1 + k.val = 1024 + k.val; omega)
  refine congrArg₂ (fun p q : EReal => p + q) (Finset.sum_congr rfl fun k _ => ?_) (Finset.sum_congr rfl fun k _ => ?_)
  · rw [p0]
    refine congrArg₂ (fun p q : EReal => p * q) (side_left (mixA m c) (mixS m c) a k).symm ?_
    pointwise
  · rw [p1]
    refine congrArg₂ (fun p q : EReal => p * q) (side_right (mixA m c) (mixS m c) a k).symm ?_
    pointwise

end Cert.Kernel9Ideal.Hand

end
-- ==== Proof.Mlp10.lean ====
module

public import proofs.«01_k».proof.Proof.Tile
public import proofs.«01_k».proof.Proof.Gen.Kernel10Ideal.Value
public import proofs.«01_k».proof.Proof.Gen.Reference10Ideal.Run

/-! The gradient of the mixer's output: each point of the launch takes a whole product, of a block of rows and a block of the
weights' rows. -/

@[expose] public section

set_option maxRecDepth 16384

noncomputable section

namespace Cert.Kernel10Ideal.Hand

open Cert.Kernel10Ideal Cert.Kernel10Ideal.Gen Cert.Kernel10Ideal.Value
open Idealize.ShloMosaic Idealize.ShloMosaic.TcCoe Idealize.ShloMosaic.Tactic
open Idealize.SL Idealize.SL.Sem
open scoped BigOperators

theorem hz2 : (![0, 0] : Fin 2 → Nat) = fun _ => 0 := by decide
theorem hz3 : (![0, 0, 0] : Fin 3 → Nat) = fun _ => 0 := by decide

/-- What a point stores, entry by entry. -/
theorem out_val (x0 : Vec Ideal S2048x2048 .bf16) (x1 : Vec Ideal S1x512x2048 .bf16) (a : Fin 2048) (b : Fin 512) :
    (out0_2 x0 x1 : S2048x512.Idx → EReal) (ix2 a b) = ∑ k : Fin 2048, (x0 (ix2 a k) : EReal) * (x1 (ix3 0 b k) : EReal) := by
  unfold out0_2
  rw [View.canon_unit_zero hz2]
  unfold k0_pay1
  simp only [View.ld_unit_zero (S := S2048x2048) hz2, View.ld_unit_zero (S := S1x512x2048) hz3, shapeCast_self]
  pointwise

variable (m : (ℓ : Loc nD τ sig) → Buf (Elt Ideal) ℓ) (c : Dev nD)

theorem idx0 : ∀ t : Fin cfg0.N, win0_0.index t = ![t.val / 4, 0] := by decide +kernel
theorem idx1 : ∀ t : Fin cfg0.N, win0_1.index t = ![0, t.val % 4, 0] := by decide +kernel
theorem idx2 : ∀ t : Fin cfg0.N, win0_2.index t = ![t.val / 4, t.val % 4] := by decide +kernel

/-- The two arrays that the launch reads. -/
abbrev rows : S4096x2048.Idx → EReal := V m c (Pipeline.arrRef spec0 0)
abbrev wts : S1x2048x2048.Idx → EReal := V m c (Pipeline.arrRef spec0 1)

theorem ltN (t : Fin cfg0.N) : t.val < 8 := lt_of_lt_of_eq t.isLt (show cfg0.N = 8 from N_0)

theorem blk0 (t : Fin cfg0.N) (a k : Fin 2048) : (iblk m c 0 t : Vec Ideal S2048x2048 .bf16) (ix2 a k)
    = rows m c (ix2 (⟨2048 * (t.val / 4) + a.val, by have := ltN t; omega⟩ : Fin 4096) k) := by
  blk_ext [iblk, idx0]
theorem blk1 (t : Fin cfg0.N) (b : Fin 512) (k : Fin 2048) : (iblk m c 1 t : Vec Ideal S1x512x2048 .bf16) (ix3 0 b k)
    = wts m c (ix3 0 (⟨512 * (t.val % 4) + b.val, by omega⟩ : Fin 2048) k) := by
  blk_ext [iblk, idx1]

/-- The result array. -/
def entry (a : Fin 4096) (b : Fin 2048) : EReal := ∑ k : Fin 2048, rows m c (ix2 a k) * wts m c (ix3 0 b k)
def arr : S4096x2048.Idx → EReal := fun y => entry m c (y 0) (y 1)

/-- A point's sum is that of the entry at its block's place. -/
theorem point_sum (t : Fin cfg0.N) (a : Fin 2048) (b : Fin 512) (y0 : Fin 4096) (y1 : Fin 2048) (h0 : y0.val = t.val / 4 * 2048 + 1 * a.val) (h1 : y1.val = t.val % 4 * 512 + 1 * b.val)
    (x0 : S2048x2048.Idx → EReal) (x1 : S1x512x2048.Idx → EReal) (e0 : x0 = iblk m c 0 t) (e1 : x1 = iblk m c 1 t) :
    (∑ k : Fin 2048, x0 (ix2 a k) * x1 (ix3 0 b k)) = entry m c y0 y1 := by
  have hn := ltN t
  have f0 : (⟨2048 * (t.val / 4) + a.val, by omega⟩ : Fin 4096) = y0 := Fin.ext (by show 2048 * (t.val / 4) + a.val = y0.val; omega)
  have f1 : (⟨512 * (t.val % 4) + b.val, by omega⟩ : Fin 2048) = y1 := Fin.ext (by show 512 * (t.val % 4) + b.val = y1.val; omega)
  unfold entry
  refine Finset.sum_congr rfl fun k _ => ?_
  rw [e0, e1, blk0, blk1, f0, f1]

theorem flushed_eq (t : Fin cfg0.N) : (dats m 0 c).flushed 2 t = ((cfg0.win 2).blk t).view.read (Elt Ideal) (arr m c) := by
  rw [flushed2]
  funext y
  obtain ⟨a, b, rfl⟩ : ∃ (a : Fin 2048) (b : Fin 512), y = ix2 a b := ⟨y 0, y 1, (ix2_eta y).symm⟩
  refine (out_val _ _ a b).trans (point_sum m c t a b _ _ ?_ ?_ _ _ rfl rfl)
  · show win0_2.index t (0 : Fin 2) * 2048 + 1 * a.val = _
    rw [idx2]
    rfl
  · show win0_2.index t (1 : Fin 2) * 512 + 1 * b.val = _
    rw [idx2]
    rfl

theorem final : (dats m 0 c).arrAt 2 cfg0.N = arr m c := by
  refine (dats m 0 c).arrAt_eq_of_cover 2 _ (fun t _ => flushed_eq m c t) fun i => ?_
  have h0 : (i 0).val < 4096 := (i 0).isLt
  have h1 : (i 1).val < 2048 := (i 1).isLt
  obtain ⟨t, ht⟩ : ∃ t : Fin cfg0.N, t.val = Cert.Tile.of 2048 512 4 (i 0).val (i 1).val :=
    ⟨⟨_, lt_of_lt_of_eq (by show 4 * ((i 0).val / 2048) + (i 1).val / 512 < 8; omega) (show 8 = cfg0.N from N_0.symm)⟩, rfl⟩
  refine ⟨t, (by decide +kernel : ∀ t : Fin grid0.N, win0_2.flush t = true) _, ?_⟩
  show i ∈ ((View.whole main_v3).slice (win0_2.rect t)).set
  rw [View.set_slice_whole, Rect.mem_set_unit]
  show ∀ a : Fin 2, win0_2.index t a * S2048x512.size a ≤ (i a).val ∧ (i a).val < win0_2.index t a * S2048x512.size a + S2048x512.size a
  rw [idx2]
  have hp := Cert.Tile.place (by decide : 0 < 2048) (by decide) h1 ht
  intro a
  match a with
  | ⟨0, _⟩ => exact hp 0
  | ⟨1, _⟩ => exact hp 1

/-- The arguments. -/
abbrev wOut : FVec Ideal S2048x2048 .f32 := m ((c.tc : Thread nD τ).loc main_arg0)
abbrev dmo : FVec Ideal S4096x2048 .f32 := m ((c.tc : Thread nD τ).loc main_arg1)

theorem rows_eq : rows m c = (truncf .bf16 (dmo m c) bitsLt_bf16_f32 : FVec Ideal S4096x2048 .bf16) := by
  show StableHlo.after _ (fun b => m (c, b)) _ = _
  after_results_simp
theorem wts_eq : wts m c = (broadcastInDim S1x2048x2048 ![1, 2] bcast_S2048x2048_S1x2048x2048_1_2 (truncf .bf16 (wOut m c) bitsLt_bf16_f32 : FVec Ideal S2048x2048 .bf16) : FVec Ideal S1x2048x2048 .bf16) := by
  show StableHlo.after _ (fun b => m (c, b)) _ = _
  after_results_simp

/-- What the kernel leaves is the term of the reference. -/
theorem value : ((dats m 0 c).arrAt 2 cfg0.N : FVec Ideal S4096x2048 .bf16)
    = truncf .bf16 (Host.dotGeneral Cert.Reference10Ideal.dot_S4096x2048_S2048x2048_S4096x2048_1_1_0_0_n_n none (dmo m c) (wOut m c)) bitsLt_bf16_f32 := by
  rw [final]
  refine funext fun y => ?_
  obtain ⟨a, b, rfl⟩ : ∃ (a : Fin 4096) (b : Fin 2048), y = ix2 a b := ⟨y 0, y 1, (ix2_eta y).symm⟩
  show entry m c a b = _
  unfold entry
  rw [rows_eq, wts_eq]
  pointwise

end Cert.Kernel10Ideal.Hand

end
-- ==== Proof.Mlp11.lean ====
module

public import proofs.«01_k».proof.Proof.Tile
public import proofs.«01_k».proof.Proof.Gen.Kernel11Ideal.Value
public import proofs.«01_k».proof.Proof.Gen.Reference11Ideal.Run

/-! The gate: each point of the launch takes a whole product, of a block of rows and a block of the weights' columns. -/

@[expose] public section

set_option maxRecDepth 16384

noncomputable section

namespace Cert.Kernel11Ideal.Hand

open Cert.Kernel11Ideal Cert.Kernel11Ideal.Gen Cert.Kernel11Ideal.Value
open Idealize.ShloMosaic Idealize.ShloMosaic.TcCoe Idealize.ShloMosaic.Tactic
open Idealize.SL Idealize.SL.Sem
open scoped BigOperators

theorem hz2 : (![0, 0] : Fin 2 → Nat) = fun _ => 0 := by decide
theorem hz3 : (![0, 0, 0] : Fin 3 → Nat) = fun _ => 0 := by decide

/-- What a point stores, entry by entry. -/
theorem out_val (x0 : Vec Ideal S2048x2048 .bf16) (x1 : Vec Ideal S1x2048x512 .bf16) (a : Fin 2048) (b : Fin 512) :
    (out0_2 x0 x1 : S2048x512.Idx → EReal) (ix2 a b) = ∑ k : Fin 2048, (x0 (ix2 a k) : EReal) * (x1 (ix3 0 k b) : EReal) := by
  unfold out0_2
  rw [View.canon_unit_zero hz2]
  unfold k0_pay1
  simp only [View.ld_unit_zero (S := S2048x2048) hz2, View.ld_unit_zero (S := S1x2048x512) hz3, shapeCast_self]
  pointwise

variable (m : (ℓ : Loc nD τ sig) → Buf (Elt Ideal) ℓ) (c : Dev nD)

theorem idx0 : ∀ t : Fin cfg0.N, win0_0.index t = ![t.val / 4, 0] := by decide +kernel
theorem idx1 : ∀ t : Fin cfg0.N, win0_1.index t = ![0, 0, t.val % 4] := by decide +kernel
theorem idx2 : ∀ t : Fin cfg0.N, win0_2.index t = ![t.val / 4, t.val % 4] := by decide +kernel

/-- The two arrays that the launch reads. -/
abbrev rows : S4096x2048.Idx → EReal := V m c (Pipeline.arrRef spec0 0)
abbrev wts : S1x2048x2048.Idx → EReal := V m c (Pipeline.arrRef spec0 1)

theorem ltN (t : Fin cfg0.N) : t.val < 8 := lt_of_lt_of_eq t.isLt (show cfg0.N = 8 from N_0)

theorem blk0 (t : Fin cfg0.N) (a k : Fin 2048) : (iblk m c 0 t : Vec Ideal S2048x2048 .bf16) (ix2 a k)
    = rows m c (ix2 (⟨2048 * (t.val / 4) + a.val, by have := ltN t; omega⟩ : Fin 4096) k) := by
  blk_ext [iblk, idx0]
theorem blk1 (t : Fin cfg0.N) (k : Fin 2048) (b : Fin 512) : (iblk m c 1 t : Vec Ideal S1x2048x512 .bf16) (ix3 0 k b)
    = wts m c (ix3 0 k (⟨512 * (t.val % 4) + b.val, by omega⟩ : Fin 2048)) := by
  blk_ext [iblk, idx1]

/-- The result array. -/
def entry (a : Fin 4096) (b : Fin 2048) : EReal := ∑ k : Fin 2048, rows m c (ix2 a k) * wts m c (ix3 0 k b)
def arr : S4096x2048.Idx → EReal := fun y => entry m c (y 0) (y 1)

/-- A point's sum is that of the entry at its block's place. -/
theorem point_sum (t : Fin cfg0.N) (a : Fin 2048) (b : Fin 512) (y0 : Fin 4096) (y1 : Fin 2048) (h0 : y0.val = t.val / 4 * 2048 + 1 * a.val) (h1 : y1.val = t.val % 4 * 512 + 1 * b.val)
    (x0 : S2048x2048.Idx → EReal) (x1 : S1x2048x512.Idx → EReal) (e0 : x0 = iblk m c 0 t) (e1 : x1 = iblk m c 1 t) :
    (∑ k : Fin 2048, x0 (ix2 a k) * x1 (ix3 0 k b)) = entry m c y0 y1 := by
  have ht := ltN t
  have f0 : (⟨2048 * (t.val / 4) + a.val, by omega⟩ : Fin 4096) = y0 := Fin.ext (by show 2048 * (t.val / 4) + a.val = y0.val; omega)
  have f1 : (⟨512 * (t.val % 4) + b.val, by omega⟩ : Fin 2048) = y1 := Fin.ext (by show 512 * (t.val % 4) + b.val = y1.val; omega)
  unfold entry
  refine Finset.sum_congr rfl fun k _ => ?_
  rw [e0, e1, blk0, blk1, f0, f1]

theorem flushed_eq (t : Fin cfg0.N) : (dats m 0 c).flushed 2 t = ((cfg0.win 2).blk t).view.read (Elt Ideal) (arr m c) := by
  rw [flushed2]
  funext y
  obtain ⟨a, b, rfl⟩ : ∃ (a : Fin 2048) (b : Fin 512), y = ix2 a b := ⟨y 0, y 1, (ix2_eta y).symm⟩
  refine (out_val _ _ a b).trans (point_sum m c t a b _ _ ?_ ?_ _ _ rfl rfl)
  · show win0_2.index t (0 : Fin 2) * 2048 + 1 * a.val = _
    rw [idx2]
    rfl
  · show win0_2.index t (1 : Fin 2) * 512 + 1 * b.val = _
    rw [idx2]
    rfl

theorem final : (dats m 0 c).arrAt 2 cfg0.N = arr m c := by
  refine (dats m 0 c).arrAt_eq_of_cover 2 _ (fun t _ => flushed_eq m c t) fun i => ?_
  have h0 : (i 0).val < 4096 := (i 0).isLt
  have h1 : (i 1).val < 2048 := (i 1).isLt
  obtain ⟨t, ht⟩ : ∃ t : Fin cfg0.N, t.val = Cert.Tile.of 2048 512 4 (i 0).val (i 1).val :=
    ⟨⟨_, lt_of_lt_of_eq (by show 4 * ((i 0).val / 2048) + (i 1).val / 512 < 8; omega) (show 8 = cfg0.N from N_0.symm)⟩, rfl⟩
  refine ⟨t, (by decide +kernel : ∀ t : Fin grid0.N, win0_2.flush t = true) _, ?_⟩
  show i ∈ ((View.whole main_v3).slice (win0_2.rect t)).set
  rw [View.set_slice_whole, Rect.mem_set_unit]
  show ∀ a : Fin 2, win0_2.index t a * S2048x512.size a ≤ (i a).val ∧ (i a).val < win0_2.index t a * S2048x512.size a + S2048x512.size a
  rw [idx2]
  have hp := Cert.Tile.place (by decide : 0 < 2048) (by decide) h1 ht
  intro a
  match a with
  | ⟨0, _⟩ => exact hp 0
  | ⟨1, _⟩ => exact hp 1

/-- The arguments. -/
abbrev hn : FVec Ideal S4096x2048 .f32 := m ((c.tc : Thread nD τ).loc main_arg0)
abbrev wGate : FVec Ideal S2048x2048 .f32 := m ((c.tc : Thread nD τ).loc main_arg1)

theorem rows_eq : rows m c = (truncf .bf16 (hn m c) bitsLt_bf16_f32 : FVec Ideal S4096x2048 .bf16) := by
  show StableHlo.after _ (fun b => m (c, b)) _ = _
  after_results_simp
theorem wts_eq : wts m c = (broadcastInDim S1x2048x2048 ![1, 2] bcast_S2048x2048_S1x2048x2048_1_2 (truncf .bf16 (wGate m c) bitsLt_bf16_f32 : FVec Ideal S2048x2048 .bf16) : FVec Ideal S1x2048x2048 .bf16) := by
  show StableHlo.after _ (fun b => m (c, b)) _ = _
  after_results_simp

/-- What the kernel leaves is the term of the reference. -/
theorem value : ((dats m 0 c).arrAt 2 cfg0.N : FVec Ideal S4096x2048 .bf16)
    = truncf .bf16 (Host.dotGeneral Cert.Reference11Ideal.dot_S4096x2048_S2048x2048_S4096x2048_1_0_0_1_n_n none (hn m c) (wGate m c)) bitsLt_bf16_f32 := by
  rw [final]
  refine funext fun y => ?_
  obtain ⟨a, b, rfl⟩ : ∃ (a : Fin 4096) (b : Fin 2048), y = ix2 a b := ⟨y 0, y 1, (ix2_eta y).symm⟩
  show entry m c a b = _
  unfold entry
  rw [rows_eq, wts_eq]
  pointwise

end Cert.Kernel11Ideal.Hand

end
-- ==== Proof.Mlp12.lean ====
module

public import proofs.«01_k».proof.Proof.Mlp9
public import proofs.«01_k».proof.Proof.Mlp4
public import proofs.«01_k».proof.Proof.Gen.Kernel12Ideal.Value
public import proofs.«01_k».proof.Proof.Gen.Reference12Ideal.Run

/-! The gradient through the projections. Its launch takes two steps per block, each adding such a pair of products as the mixer's
output is; the four arrays of rows are those whose columns the reference lays side by side. -/

@[expose] public section

set_option maxRecDepth 16384

noncomputable section

namespace Cert.Kernel12Ideal.Hand

open Cert.Kernel12Ideal Cert.Kernel12Ideal.Gen Cert.Kernel12Ideal.Value
open Cert.Kernel9Ideal.Hand (pair pair_val hz2)
open Cert.Kernel4Ideal.Hand (zero zero_val)
open Idealize.ShloMosaic Idealize.ShloMosaic.TcCoe Idealize.ShloMosaic.Tactic
open Idealize.SL Idealize.SL.Sem
open scoped BigOperators

section
variable {F : FTy → Type} [FloatOps F]

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S2048x1024 .bf16) (h5 : a5.IsWhole)
  (a6 : Memref sig .tc .vmem S2048x1024 .bf16) (h6 : a6.IsWhole) (a7 : Memref sig .tc .vmem S1x2048x512 .bf16) (h7 : a7.IsWhole)
  (a8 : Memref sig .tc .vmem S2048x512 .bf16) (h8 : a8.IsWhole) (a9 : Memref sig .tc .vmem S2048x512 .f32) (h9 : a9.IsWhole)
  (x0 x1 x2 x3 : Vec F S2048x1024 .bf16) (x4 : Vec F S1x2048x512 .bf16) (xs : Vec F S2048x512 .f32)

theorem first (hc0 hc1 hc2 hc3) : sout0_A_0 c i a3 h3 a4 h4 a5 h5 a6 h6 a7 h7 a8 h8 a9 h9 hc0 hc1 hc2 hc3 x0 x1 x2 x3 x4 = addf zero (pair x0 x1 x4) := by
  unfold sout0_A_0
  rw [View.read_writes_eq_canon _ _ _ (scover0_A_0 c i a3 h3 a4 h4 a5 h5 a6 h6 a7 h7 a8 h8 a9 h9 hc0 hc1 hc2 hc3 x0 x1 x2 x3 x4)]
  unfold kernelRun0_A
  dsimp only
  sl_unfold_words
  rw [View.canon_cons_unit_zero hz2, View.readCov_unit_zero _ hz2]
  unfold k0_pay2 k0_pay1
  simp only [View.readAt_eq_ld, h3.read_unread, h4.read_unread, h7.read_unread, View.ld_unit_zero (S := S2048x1024) hz2, shapeCast_self]
  rfl

theorem last (hc0 hc1 hc2 hc3) : out0_B_5 c i a3 h3 a4 h4 a5 h5 a6 h6 a7 h7 a8 h8 a9 h9 hc0 hc1 hc2 hc3 x0 x1 x2 x3 x4 xs = truncf .bf16 (addf xs (pair x2 x3 x4)) bitsLt_bf16_f32 := by
  unfold out0_B_5
  rw [View.read_writes_eq_canon _ _ _ (cover0_B_5 c i a3 h3 a4 h4 a5 h5 a6 h6 a7 h7 a8 h8 a9 h9 hc0 hc1 hc2 hc3 x0 x1 x2 x3 x4 xs)]
  unfold kernelRun0_B
  dsimp only
  sl_unfold_words
  rw [View.canon_unit_zero hz2, View.readCov_unit_zero _ hz2]
  unfold k0_pay4 k0_pay3
  simp only [View.readAt_eq_ld, h5.read_unread, h6.read_unread, h7.read_unread, h9.read_unread, View.ld_unit_zero (S := S2048x1024) hz2, View.ld_unit_zero (S := S2048x512) hz2, shapeCast_self]
  rfl
end

section
variable {F : FTy → Type} [FloatOps F] (m : (ℓ : Loc nD τ sig) → Buf (Elt F) ℓ) (c : Dev nD)

/-- What the block of run `q` ends as. -/
theorem out_run (q : ℕ) (h : 2 * q + 1 < cfg0.N) : (outsAt0 m c (2 * q + 1) h).1 = truncf .bf16 (addf (addf zero
    (pair (iblk m c 0 ⟨2 * q, by omega⟩) (iblk m c 1 ⟨2 * q, by omega⟩) (iblk m c 4 ⟨2 * q, by omega⟩)))
    (pair (iblk m c 2 ⟨2 * q + 1, h⟩) (iblk m c 3 ⟨2 * q + 1, h⟩) (iblk m c 4 ⟨2 * q + 1, h⟩))) bitsLt_bf16_f32 := by
  have e : (outsAt0 m c (2 * q) (by omega)).2 = addf zero
      (pair (iblk m c 0 ⟨2 * q, by omega⟩) (iblk m c 1 ⟨2 * q, by omega⟩) (iblk m c 4 ⟨2 * q, by omega⟩)) := by
    rw [outsAt0_A m c ⟨2 * q, by omega⟩ (by dsimp only; omega) (by dsimp only; omega) (by dsimp only; omega) (by dsimp only; omega)]
    dsimp only
    rw [first]
  rw [outsAt0_B m c ⟨2 * q + 1, h⟩ (by dsimp only; omega) (by dsimp only; omega) (by dsimp only; omega) (by dsimp only; omega)]
  dsimp only
  rw [last]
  exact congrArg (fun z => truncf .bf16 (addf z _) bitsLt_bf16_f32) e
end

variable (m : (ℓ : Loc nD τ sig) → Buf (Elt Ideal) ℓ) (c : Dev nD)

theorem idx0 : ∀ t : Fin cfg0.N, win0_0.index t = ![t.val / 8, 0] := by decide +kernel
theorem idx1 : ∀ t : Fin cfg0.N, win0_1.index t = ![t.val / 8, 0] := by decide +kernel
theorem idx2 : ∀ t : Fin cfg0.N, win0_2.index t = ![t.val / 8, 0] := by decide +kernel
theorem idx3 : ∀ t : Fin cfg0.N, win0_3.index t = ![t.val / 8, 0] := by decide +kernel
theorem idx4 : ∀ t : Fin cfg0.N, win0_4.index t = ![0, t.val % 2, t.val / 2 % 4] := by decide +kernel

/-- The arrays that the launch reads: four of rows, and the weights. -/
abbrev rows0 : S4096x1024.Idx → EReal := V m c (Pipeline.arrRef spec0 0)
abbrev rows1 : S4096x1024.Idx → EReal := V m c (Pipeline.arrRef spec0 1)
abbrev rows2 : S4096x1024.Idx → EReal := V m c (Pipeline.arrRef spec0 2)
abbrev rows3 : S4096x1024.Idx → EReal := V m c (Pipeline.arrRef spec0 3)
abbrev wts : S1x4096x2048.Idx → EReal := V m c (Pipeline.arrRef spec0 4)

theorem ltN (t : Fin cfg0.N) : t.val < 16 := lt_of_lt_of_eq t.isLt (show cfg0.N = 16 from N_0)

theorem blk0 (t : Fin cfg0.N) (a : Fin 2048) (k : Fin 1024) : (iblk m c 0 t : Vec Ideal S2048x1024 .bf16) (ix2 a k)
    = rows0 m c (ix2 (⟨2048 * (t.val / 8) + a.val, by have := ltN t; omega⟩ : Fin 4096) k) := by
  blk_ext [iblk, idx0]
theorem blk1 (t : Fin cfg0.N) (a : Fin 2048) (k : Fin 1024) : (iblk m c 1 t : Vec Ideal S2048x1024 .bf16) (ix2 a k)
    = rows1 m c (ix2 (⟨2048 * (t.val / 8) + a.val, by have := ltN t; omega⟩ : Fin 4096) k) := by
  blk_ext [iblk, idx1]
theorem blk2 (t : Fin cfg0.N) (a : Fin 2048) (k : Fin 1024) : (iblk m c 2 t : Vec Ideal S2048x1024 .bf16) (ix2 a k)
    = rows2 m c (ix2 (⟨2048 * (t.val / 8) + a.val, by have := ltN t; omega⟩ : Fin 4096) k) := by
  blk_ext [iblk, idx2]
theorem blk3 (t : Fin cfg0.N) (a : Fin 2048) (k : Fin 1024) : (iblk m c 3 t : Vec Ideal S2048x1024 .bf16) (ix2 a k)
    = rows3 m c (ix2 (⟨2048 * (t.val / 8) + a.val, by have := ltN t; omega⟩ : Fin 4096) k) := by
  blk_ext [iblk, idx3]
theorem blk4 (t : Fin cfg0.N) (k : Fin 2048) (b : Fin 512) : (iblk m c 4 t : Vec Ideal S1x2048x512 .bf16) (ix3 0 k b)
    = wts m c (ix3 0 (⟨2048 * (t.val % 2) + k.val, by omega⟩ : Fin 4096) (⟨512 * (t.val / 2 % 4) + b.val, by omega⟩ : Fin 2048)) := by
  blk_ext [iblk, idx4]

/-- One of the four parts of a result entry: the product with the weights' `j`-th block of rows. -/
def part (r : S4096x1024.Idx → EReal) (j : Fin 4) (a : Fin 4096) (b : Fin 2048) : EReal :=
  ∑ k : Fin 1024, r (ix2 a k) * wts m c (ix3 0 (⟨1024 * j.val + k.val, by omega⟩ : Fin 4096) b)

theorem out_val (q : ℕ) (hq : q < 8) (h : 2 * q + 1 < cfg0.N) (a : Fin 2048) (b : Fin 512) (a' : Fin 4096) (b' : Fin 2048)
    (ha : 2048 * (q / 4) + a.val = a'.val) (hb : 512 * (q % 4) + b.val = b'.val) :
    ((outsAt0 m c (2 * q + 1) h).1 : S2048x512.Idx → EReal) (ix2 a b)
      = 0 + (part m c (rows0 m c) 0 a' b' + part m c (rows1 m c) 1 a' b') + (part m c (rows2 m c) 2 a' b' + part m c (rows3 m c) 3 a' b') := by
  have e1 : 2 * q / 8 = q / 4 := by omega
  have e2 : (2 * q + 1) / 8 = q / 4 := by omega
  have e3 : 2 * q % 2 = 0 := by omega
  have e4 : (2 * q + 1) % 2 = 1 := by omega
  have e5 : 2 * q / 2 % 4 = q % 4 := by omega
  have e6 : (2 * q + 1) / 2 % 4 = q % 4 := by omega
  have fa (h) : (⟨2048 * (q / 4) + a.val, h⟩ : Fin 4096) = a' := Fin.ext ha
  have fb (h) : (⟨512 * (q % 4) + b.val, h⟩ : Fin 2048) = b' := Fin.ext hb
  rw [out_run]
  refine Eq.trans (congrArg₂ (fun u v : EReal => (zero (F := Ideal) (ix2 a b) : EReal) + u + v)
    (pair_val (iblk m c 0 ⟨2 * q, by omega⟩) (iblk m c 1 ⟨2 * q, by omega⟩) (iblk m c 4 ⟨2 * q, by omega⟩) a b)
    (pair_val (iblk m c 2 ⟨2 * q + 1, h⟩) (iblk m c 3 ⟨2 * q + 1, h⟩) (iblk m c 4 ⟨2 * q + 1, h⟩) a b)) ?_
  rw [zero_val]
  simp only [blk0, blk1, blk2, blk3, blk4, e1, e2, e3, e4, e5, e6, fa, fb]
  refine congrArg₂ (fun u v : EReal => 0 + u + v) (congrArg₂ (fun u v : EReal => u + v) ?_ ?_) (congrArg₂ (fun u v : EReal => u + v) ?_ ?_)
  all_goals
    unfold part
    refine Finset.sum_congr rfl fun k _ => congrArg (fun n => _ * wts m c (ix3 0 n b')) (Fin.ext ?_)
  · show 2048 * 0 + k.val = 1024 * 0 + k.val
    omega
  · show 2048 * 0 + (1024 + k.val) = 1024 * 1 + k.val
    omega
  · show 2048 * 1 + k.val = 1024 * 2 + k.val
    omega
  · show 2048 * 1 + (1024 + k.val) = 1024 * 3 + k.val
    omega

/-- The result array, entry by entry. -/
theorem G5_val (a : Fin 4096) (b : Fin 2048) : (G5 m c : S4096x2048.Idx → EReal) (ix2 a b)
    = 0 + (part m c (rows0 m c) 0 a b + part m c (rows1 m c) 1 a b) + (part m c (rows2 m c) 2 a b + part m c (rows3 m c) 3 a b) := by
  have e : pt5Of (ix2 a b) = 2 * (4 * (a.val / 2048) + b.val / 512) + 1 := by
    show 2 * (4 * (a.val / 2048 - 0) + 1 * (b.val / 512 - 0)) + 1 = _
    omega
  have hN : pt5Of (ix2 a b) < cfg0.N := by rw [e]; exact lt_of_lt_of_eq (by omega) (show 16 = cfg0.N from N_0.symm)
  have hl : loc5Of (ix2 a b) = ix2 (⟨a.val % 2048, by omega⟩ : Fin 2048) (⟨b.val % 512, by omega⟩ : Fin 512) := by
    funext y
    match y with
    | ⟨0, _⟩ => rfl
    | ⟨1, _⟩ => rfl
  unfold G5
  rw [dif_pos hN, ← outsAt0_sweep m c _ hN, hl]
  simp only [e]
  exact out_val m c _ (by omega) _ _ _ a b (by show 2048 * ((4 * (a.val / 2048) + b.val / 512) / 4) + a.val % 2048 = a.val; omega)
    (by show 512 * ((4 * (a.val / 2048) + b.val / 512) % 4) + b.val % 512 = b.val; omega)

/-- The arguments. -/
abbrev dq : FVec Ideal S4096x1024 .f32 := m ((c.tc : Thread nD τ).loc main_arg0)
abbrev dk : FVec Ideal S4096x1024 .f32 := m ((c.tc : Thread nD τ).loc main_arg1)
abbrev dv : FVec Ideal S4096x1024 .f32 := m ((c.tc : Thread nD τ).loc main_arg2)
abbrev du : FVec Ideal S4096x1024 .f32 := m ((c.tc : Thread nD τ).loc main_arg3)
abbrev wIn : FVec Ideal S2048x4096 .f32 := m ((c.tc : Thread nD τ).loc main_arg4)

theorem rows0_eq : rows0 m c = (truncf .bf16 (dq m c) bitsLt_bf16_f32 : FVec Ideal S4096x1024 .bf16) := by
  show StableHlo.after _ (fun b => m (c, b)) _ = _
  after_results_simp
theorem rows1_eq : rows1 m c = (truncf .bf16 (dk m c) bitsLt_bf16_f32 : FVec Ideal S4096x1024 .bf16) := by
  show StableHlo.after _ (fun b => m (c, b)) _ = _
  after_results_simp
theorem rows2_eq : rows2 m c = (truncf .bf16 (dv m c) bitsLt_bf16_f32 : FVec Ideal S4096x1024 .bf16) := by
  show StableHlo.after _ (fun b => m (c, b)) _ = _
  after_results_simp
theorem rows3_eq : rows3 m c = (truncf .bf16 (du m c) bitsLt_bf16_f32 : FVec Ideal S4096x1024 .bf16) := by
  show StableHlo.after _ (fun b => m (c, b)) _ = _
  after_results_simp
theorem wts_eq : wts m c = (broadcastInDim S1x4096x2048 ![1, 2] bcast_S4096x2048_S1x4096x2048_1_2 (transpose S4096x2048 [1, 0] (truncf .bf16 (wIn m c) bitsLt_bf16_f32 : FVec Ideal S2048x4096 .bf16) transposes_S2048x4096_S4096x2048_1_0 : FVec Ideal S4096x2048 .bf16) : FVec Ideal S1x4096x2048 .bf16) := by
  show StableHlo.after _ (fun b => m (c, b)) _ = _
  after_results_simp

/-- The four arrays' columns side by side, at a place in each. -/
abbrev side (x : Fin 4 → FVec Ideal S4096x1024 .f32) : FVec Ideal Cert.Reference12Ideal.S4096x4096 .f32 :=
  concatenate Cert.Reference12Ideal.S4096x4096 1 [⟨S4096x1024, x 0⟩, ⟨S4096x1024, x 1⟩, ⟨S4096x1024, x 2⟩, ⟨S4096x1024, x 3⟩] Cert.Reference12Ideal.Facts₀.concatenates_S4096x1024_S4096x1024_S4096x1024_S4096x1024_S4096x4096_d1
theorem side_val (x : Fin 4 → FVec Ideal S4096x1024 .f32) (j : Fin 4) (a : Fin 4096) (k : Fin 1024) : side x (ix2 a (⟨1024 * j.val + k.val, by omega⟩ : Fin 4096)) = x j (ix2 a k) := by
  refine concatenate_apply_piece (t := Cert.Reference12Ideal.S4096x4096) 1 [⟨S4096x1024, x 0⟩, ⟨S4096x1024, x 1⟩, ⟨S4096x1024, x 2⟩, ⟨S4096x1024, x 3⟩] _ _ j.val j.isLt S4096x1024 (x j) ?_ rfl (1024 * j.val) ?_ (ix2 a k) (fun b hb => ?_) rfl
  · match j with
    | 0 => rfl
    | 1 => rfl
    | 2 => rfl
    | 3 => rfl
  · match j with
    | 0 => rfl
    | 1 => rfl
    | 2 => rfl
    | 3 => rfl
  · match b with
    | ⟨0, _⟩ => rfl
    | ⟨1, _⟩ => exact absurd rfl hb

/-- What the kernel leaves is the term of the reference. -/
theorem value : (G5 m c : FVec Ideal S4096x2048 .bf16)
    = truncf .bf16 (Host.dotGeneral Cert.Reference12Ideal.dot_S4096x4096_S2048x4096_S4096x2048_1_1_0_0_n_n none (side ![dq m c, dk m c, dv m c, du m c]) (wIn m c)) bitsLt_bf16_f32 := by
  refine funext fun y => ?_
  obtain ⟨a, b, rfl⟩ : ∃ (a : Fin 4096) (b : Fin 2048), y = ix2 a b := ⟨y 0, y 1, (ix2_eta y).symm⟩
  refine (G5_val m c a b).trans ?_
  generalize hs : side ![dq m c, dk m c, dv m c, du m c] = s
  have e : (truncf .bf16 (Host.dotGeneral Cert.Reference12Ideal.dot_S4096x4096_S2048x4096_S4096x2048_1_1_0_0_n_n none s (wIn m c)) bitsLt_bf16_f32 : FVec Ideal S4096x2048 .bf16) (ix2 a b)
      = ∑ k : Fin 4096, (s : Cert.Reference12Ideal.S4096x4096.Idx → EReal) (ix2 a k) * (wIn m c : S2048x4096.Idx → EReal) (ix2 b k) := by
    pointwise
  refine Eq.trans ?_ e.symm
  refine Eq.trans ?_ (Cert.Parts.four (T := 1024) (fun k => (s : Cert.Reference12Ideal.S4096x4096.Idx → EReal) (ix2 a (k : Fin 4096)) * (wIn m c : S2048x4096.Idx → EReal) (ix2 b (k : Fin 4096))) _ (fun j k => rfl))
  have p (r : S4096x1024.Idx → EReal) (j : Fin 4) (hr : r = ![dq m c, dk m c, dv m c, du m c] j) : part m c r j a b
      = ∑ k : Fin 1024, (s : Cert.Reference12Ideal.S4096x4096.Idx → EReal) (ix2 a (Cert.Parts.at_ j k : Fin 4096)) * (wIn m c : S2048x4096.Idx → EReal) (ix2 b (Cert.Parts.at_ j k : Fin 4096)) := by
    unfold part
    refine Finset.sum_congr rfl fun k _ => congrArg₂ (fun u v : EReal => u * v) ?_ ?_
    · rw [← hs, hr]
      exact (side_val _ j a k).symm
    · rw [wts_eq]
      pointwise
      rfl
  rw [p _ 0 (rows0_eq m c), p _ 1 (rows1_eq m c), p _ 2 (rows2_eq m c), p _ 3 (rows3_eq m c), zero_add, zero_add, add_assoc, add_assoc, add_assoc]

end Cert.Kernel12Ideal.Hand

end
-- ==== Proof.Mlp13.lean ====
module

public import proofs.«01_k».proof.Proof.Mlp3
public import proofs.«01_k».proof.Proof.Gen.Kernel13Ideal.Value
public import proofs.«01_k».proof.Proof.Gen.Reference13Ideal.Run

/-! The gradient of the gate's weights. Its launch steps as that of the gradient of `w_down` does, over blocks of the same shapes, so
each step's product is the one named there. -/

@[expose] public section

set_option maxRecDepth 16384

noncomputable section

namespace Cert.Reference13Ideal.Hand

open Cert.Reference13Ideal Cert.Reference13Ideal.Gen
open Idealize.ShloMosaic Idealize.ShloMosaic.TcCoe Idealize.ShloMosaic.Tactic Idealize.SL.Sem
open scoped BigOperators

/-- What the reference leaves. -/
def res (x g : FVec Ideal S4096x2048 .f32) : FVec Ideal S1x2048x2048 .bf16 :=
  broadcastInDim S1x2048x2048 ![1, 2] bcast_S2048x2048_S1x2048x2048_1_2 (truncf .bf16 (transpose S2048x2048 [1, 0]
    (Host.dotGeneral dot_S4096x2048_S4096x2048_S2048x2048_0_0_1_1_n_n none g x : FVec Ideal S2048x2048 .f32)
    transposes_S2048x2048_S2048x2048_1_0) bitsLt_bf16_f32 : FVec Ideal S2048x2048 .bf16)

theorem res_val (x g : FVec Ideal S4096x2048 .f32) (a b : Fin 2048) :
    (res x g : S1x2048x2048.Idx → EReal) (ix3 0 a b) = ∑ k : Fin 4096, (g : S4096x2048.Idx → EReal) (ix2 k b) * (x : S4096x2048.Idx → EReal) (ix2 k a) := by
  unfold res
  pointwise

end Cert.Reference13Ideal.Hand

namespace Cert.Kernel13Ideal.Hand

open Cert.Kernel13Ideal Cert.Kernel13Ideal.Gen Cert.Kernel13Ideal.Value
open Cert.Kernel3Ideal.Hand (mm zero block hz2 hz3 mm_val zero_val block_val)
open Idealize.ShloMosaic Idealize.ShloMosaic.TcCoe Idealize.ShloMosaic.Tactic
open Idealize.SL Idealize.SL.Sem
open scoped BigOperators

section
variable {F : FTy → Type} [FloatOps F]

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1x1024x1024 .bf16) (h5 : a5.IsWhole)
  (a6 : Memref sig .tc .vmem S1024x1024 .f32) (h6 : a6.IsWhole) (x0 x1 : Vec F S2048x1024 .bf16) (xs : Vec F S1024x1024 .f32)

theorem first (hc0 hc1) : sout0_A_0 c i a3 h3 a4 h4 a5 h5 a6 h6 hc0 hc1 x0 x1 = addf zero (mm x0 x1) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero hz2, View.readCov_unit_zero _ hz2]
  unfold k0_pay2 k0_pay1
  simp only [View.readAt_eq_ld, h3.read_unread, h4.read_unread, View.ld_unit_zero (S := S2048x1024) hz2, View.ld_unit_zero (S := S1024x1024) hz2, shapeCast_self]
  rfl

theorem last (hc0 hc1) : out0_B_2 c i a3 h3 a4 h4 a5 h5 a6 h6 hc0 hc1 x0 x1 xs = block (addf xs (mm x0 x1)) := by
  unfold out0_B_2
  rw [View.read_writes_eq_canon _ _ _ (cover0_B_2 c i a3 h3 a4 h4 a5 h5 a6 h6 hc0 hc1 x0 x1 xs)]
  unfold kernelRun0_B
  dsimp only
  sl_unfold_words
  rw [View.canon_unit_zero hz3, View.readCov_unit_zero _ hz2]
  unfold k0_pay3 k0_pay2
  simp only [View.readAt_eq_ld, h3.read_unread, h4.read_unread, h6.read_unread, View.ld_unit_zero (S := S2048x1024) hz2, View.ld_unit_zero (S := S1024x1024) hz2, shapeCast_self]
  rfl
end

section
variable {F : FTy → Type} [FloatOps F] (m : (ℓ : Loc nD τ sig) → Buf (Elt F) ℓ) (c : Dev nD)

/-- The product that point `n` adds. -/
def part (n : ℕ) (h : n < cfg0.N) : FVec F S1024x1024 .f32 := mm (iblk m c 0 ⟨n, h⟩) (iblk m c 1 ⟨n, h⟩)

theorem acc_first (n : ℕ) (h : n < cfg0.N) (h0 : n % 2 = 0) : (outsAt0 m c n h).2 = addf zero (part m c n h) := by
  rw [outsAt0_A m c ⟨n, h⟩ h0 (by dsimp only; omega)]
  dsimp only
  rw [first]
  rfl
theorem acc_last (n : ℕ) (h : n + 1 < cfg0.N) (h1 : (n + 1) % 2 = 1) :
    (outsAt0 m c (n + 1) h).1 = block (addf (outsAt0 m c n (Nat.lt_of_succ_lt h)).2 (part m c (n + 1) h)) := by
  rw [outsAt0_B m c ⟨n + 1, h⟩ (by dsimp only; omega) h1]
  dsimp only
  rw [last]
  rfl

/-- What the block of run `q` ends as. -/
theorem out_run (q : ℕ) (h : 2 * q + 1 < cfg0.N) :
    (outsAt0 m c (2 * q + 1) h).1 = block (addf (addf zero (part m c (2 * q) (by omega))) (part m c (2 * q + 1) h)) := by
  rw [acc_last m c (2 * q) h (by omega), acc_first m c (2 * q) (by omega) (by omega)]
end

variable (m : (ℓ : Loc nD τ sig) → Buf (Elt Ideal) ℓ) (c : Dev nD)

theorem idx0 : ∀ t : Fin cfg0.N, win0_0.index t = ![t.val % 2, t.val / 4] := by decide +kernel
theorem idx1 : ∀ t : Fin cfg0.N, win0_1.index t = ![t.val % 2, t.val / 2 % 2] := by decide +kernel

/-- The two arrays that the launch reads. -/
abbrev lhs : S4096x2048.Idx → EReal := V m c (Pipeline.arrRef spec0 0)
abbrev rhs : S4096x2048.Idx → EReal := V m c (Pipeline.arrRef spec0 1)

theorem ltN (t : Fin cfg0.N) : t.val < 8 := lt_of_lt_of_eq t.isLt (show cfg0.N = 8 from N_0)

theorem blk0 (t : Fin cfg0.N) (k : Fin 2048) (a : Fin 1024) : (iblk m c 0 t : Vec Ideal S2048x1024 .bf16) (ix2 k a)
    = lhs m c (ix2 (⟨2048 * (t.val % 2) + k.val, by omega⟩ : Fin 4096) (⟨1024 * (t.val / 4) + a.val, by have := ltN t; omega⟩ : Fin 2048)) := by
  blk_ext [iblk, idx0]
theorem blk1 (t : Fin cfg0.N) (k : Fin 2048) (b : Fin 1024) : (iblk m c 1 t : Vec Ideal S2048x1024 .bf16) (ix2 k b)
    = rhs m c (ix2 (⟨2048 * (t.val % 2) + k.val, by omega⟩ : Fin 4096) (⟨1024 * (t.val / 2 % 2) + b.val, by omega⟩ : Fin 2048)) := by
  blk_ext [iblk, idx1]

theorem part_val (q j : ℕ) (hq : q < 4) (hj : j < 2) (h : 2 * q + j < cfg0.N) (a b : Fin 1024) :
    (part m c (2 * q + j) h : S1024x1024.Idx → EReal) (ix2 a b)
      = ∑ k : Fin 2048, lhs m c (ix2 (⟨2048 * j + k.val, by omega⟩ : Fin 4096) (⟨1024 * (q / 2) + a.val, by omega⟩ : Fin 2048))
        * rhs m c (ix2 (⟨2048 * j + k.val, by omega⟩ : Fin 4096) (⟨1024 * (q % 2) + b.val, by omega⟩ : Fin 2048)) := by
  have e1 : (2 * q + j) / 4 = q / 2 := by omega
  have e2 : (2 * q + j) % 2 = j := by omega
  have e3 : (2 * q + j) / 2 % 2 = q % 2 := by omega
  unfold part
  rw [mm_val]
  refine Finset.sum_congr rfl fun k _ => ?_
  rw [blk0, blk1]
  simp only [e1, e2, e3]

theorem out_val (q : ℕ) (hq : q < 4) (h : 2 * q + 1 < cfg0.N) (a b : Fin 1024) :
    ((outsAt0 m c (2 * q + 1) h).1 : S1x1024x1024.Idx → EReal) (ix3 0 a b)
      = ∑ k : Fin 4096, lhs m c (ix2 k (⟨1024 * (q / 2) + a.val, by omega⟩ : Fin 2048)) * rhs m c (ix2 k (⟨1024 * (q % 2) + b.val, by omega⟩ : Fin 2048)) := by
  rw [out_run, block_val]
  pointwise
  rw [zero_val, show part m c (2 * q) _ (ix2 a b) = _ from part_val m c q 0 hq (by decide) (by omega) a b, part_val m c q 1 hq (by decide)]
  exact Cert.Parts.two (T := 2048) (fun k => lhs m c (ix2 (k : Fin 4096) (⟨1024 * (q / 2) + a.val, by omega⟩ : Fin 2048)) * rhs m c (ix2 (k : Fin 4096) (⟨1024 * (q % 2) + b.val, by omega⟩ : Fin 2048)))
    (fun j k => lhs m c (ix2 (⟨2048 * j.val + k.val, by omega⟩ : Fin 4096) (⟨1024 * (q / 2) + a.val, by omega⟩ : Fin 2048))
        * rhs m c (ix2 (⟨2048 * j.val + k.val, by omega⟩ : Fin 4096) (⟨1024 * (q % 2) + b.val, by omega⟩ : Fin 2048))) (fun j k => rfl)

/-- The result array, entry by entry. -/
theorem G2_val (a : Fin 2048) (b : Fin 2048) : (G2 m c : S1x2048x2048.Idx → EReal) (ix3 0 a b)
    = ∑ k : Fin 4096, lhs m c (ix2 k a) * rhs m c (ix2 k b) := by
  have e : pt2Of (ix3 0 a b) = 2 * (2 * (a.val / 1024) + b.val / 1024) + 1 := by
    show 2 * (4 * (0 / 1 - 0) + 2 * (a.val / 1024 - 0) + 1 * (b.val / 1024 - 0)) + 1 = _
    omega
  have hN : pt2Of (ix3 0 a b) < cfg0.N := by rw [e]; exact lt_of_lt_of_eq (by omega) (show 8 = cfg0.N from N_0.symm)
  have hl : loc2Of (ix3 0 a b) = ix3 (0 : Fin 1) (⟨a.val % 1024, by omega⟩ : Fin 1024) (⟨b.val % 1024, by omega⟩ : Fin 1024) := by
    funext y
    match y with
    | ⟨0, _⟩ => rfl
    | ⟨1, _⟩ => rfl
    | ⟨2, _⟩ => rfl
  unfold G2
  rw [dif_pos hN, ← outsAt0_sweep m c _ hN, hl]
  simp only [e]
  rw [out_val m c _ (by omega)]
  have e1 : 1024 * ((2 * (a.val / 1024) + b.val / 1024) / 2) + a.val % 1024 = a.val := by omega
  have e2 : 1024 * ((2 * (a.val / 1024) + b.val / 1024) % 2) + b.val % 1024 = b.val := by omega
  simp only [e1, e2, Fin.eta]

/-- The arguments. -/
abbrev hn : FVec Ideal S4096x2048 .f32 := m ((c.tc : Thread nD τ).loc main_arg0)
abbrev dgl : FVec Ideal S4096x2048 .f32 := m ((c.tc : Thread nD τ).loc main_arg1)

theorem lhs_eq : lhs m c = (truncf .bf16 (hn m c) bitsLt_bf16_f32 : FVec Ideal S4096x2048 .bf16) := by
  show StableHlo.after _ (fun b => m (c, b)) _ = _
  after_results_simp
theorem rhs_eq : rhs m c = (truncf .bf16 (dgl m c) bitsLt_bf16_f32 : FVec Ideal S4096x2048 .bf16) := by
  show StableHlo.after _ (fun b => m (c, b)) _ = _
  after_results_simp

/-- What the kernel leaves is the term of the reference. -/
theorem value : (G2 m c : FVec Ideal S1x2048x2048 .bf16) = Cert.Reference13Ideal.Hand.res (hn m c) (dgl m c) := by
  refine funext fun y => ?_
  obtain ⟨d, a, b, rfl⟩ : ∃ (d : Fin 1) (a b : Fin 2048), y = ix3 d a b := ⟨y 0, y 1, y 2, (ix3_eta y).symm⟩
  obtain rfl : d = 0 := Subsingleton.elim _ _
  have e (k : Fin 4096) : lhs m c (ix2 k a) * rhs m c (ix2 k b) = (dgl m c : S4096x2048.Idx → EReal) (ix2 k b) * (hn m c : S4096x2048.Idx → EReal) (ix2 k a) := by
    rw [lhs_eq, rhs_eq]
    pointwise
    exact mul_comm _ _
  refine (G2_val m c a b).trans (Eq.trans ?_ (Cert.Reference13Ideal.Hand.res_val _ _ a b).symm)
  simp only [e]

end Cert.Kernel13Ideal.Hand

end
-- ==== Proof.Mlp14.lean ====
module

public import proofs.«01_k».proof.Proof.Mlp3
public import proofs.«01_k».proof.Proof.Mlp9
public import proofs.«01_k».proof.Proof.Gen.Kernel14Ideal.Value
public import proofs.«01_k».proof.Proof.Gen.Reference14Ideal.Run

/-! The gradient of the mixer's output weights. Its launch steps as that of the gradient of `w_down` does, but the rows of its result
come from two arrays: the points below 4 read the one, those from 4 on the other. -/

@[expose] public section

set_option maxRecDepth 16384

noncomputable section

namespace Cert.Reference14Ideal.Hand

open Cert.Reference14Ideal Cert.Reference14Ideal.Gen
open Cert.Kernel9Ideal.Hand (side)
open Idealize.ShloMosaic Idealize.ShloMosaic.TcCoe Idealize.ShloMosaic.Tactic Idealize.SL.Sem
open scoped BigOperators

/-- What the reference leaves. -/
def res (x y : FVec Ideal S4096x1024 .f32) (g : FVec Ideal S4096x2048 .f32) : FVec Ideal S1x2048x2048 .bf16 :=
  broadcastInDim S1x2048x2048 ![1, 2] bcast_S2048x2048_S1x2048x2048_1_2 (truncf .bf16 (transpose S2048x2048 [1, 0]
    (Host.dotGeneral dot_S4096x2048_S4096x2048_S2048x2048_0_0_1_1_n_n none g (side x y) : FVec Ideal S2048x2048 .f32)
    transposes_S2048x2048_S2048x2048_1_0) bitsLt_bf16_f32 : FVec Ideal S2048x2048 .bf16)

theorem res_val (x y : FVec Ideal S4096x1024 .f32) (g : FVec Ideal S4096x2048 .f32) (a b : Fin 2048) :
    (res x y g : S1x2048x2048.Idx → EReal) (ix3 0 a b) = ∑ k : Fin 4096, (g : S4096x2048.Idx → EReal) (ix2 k b) * (side x y : S4096x2048.Idx → EReal) (ix2 k a) := by
  unfold res
  pointwise

end Cert.Reference14Ideal.Hand

namespace Cert.Kernel14Ideal.Hand

open Cert.Kernel14Ideal Cert.Kernel14Ideal.Gen Cert.Kernel14Ideal.Value
open Cert.Kernel3Ideal.Hand (mm zero block hz2 hz3 mm_val zero_val block_val)
open Cert.Kernel9Ideal.Hand (side)
open Idealize.ShloMosaic Idealize.ShloMosaic.TcCoe Idealize.ShloMosaic.Tactic
open Idealize.SL Idealize.SL.Sem
open scoped BigOperators

section
variable {F : FTy → Type} [FloatOps F]

variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S2048x1024 .bf16) (h5 : a5.IsWhole)
  (a6 : Memref sig .tc .vmem S1x1024x1024 .bf16) (h6 : a6.IsWhole) (a7 : Memref sig .tc .vmem S1024x1024 .f32) (h7 : a7.IsWhole)
  (x0 x1 x2 : Vec F S2048x1024 .bf16) (xs : Vec F S1024x1024 .f32)

/-- A first step, in either half of the rows. -/
theorem first : (∀ hc0 hc1 hc2 hc3, sout0_A_0 c i a3 h3 a4 h4 a5 h5 a6 h6 a7 h7 hc0 hc1 hc2 hc3 x0 x1 x2 = addf zero (mm x0 x2))
    ∧ (∀ hc0 hc1 hc2 hc3, sout0_C_0 c i a3 h3 a4 h4 a5 h5 a6 h6 a7 h7 hc0 hc1 hc2 hc3 x0 x1 x2 = addf zero (mm x1 x2)) := by
  refine ⟨fun hc0 hc1 hc2 hc3 => ?one, fun hc0 hc1 hc2 hc3 => ?two⟩
  case' one =>
    unfold sout0_A_0
    rw [View.read_writes_eq_canon _ _ _ (scover0_A_0 c i a3 h3 a4 h4 a5 h5 a6 h6 a7 h7 hc0 hc1 hc2 hc3 x0 x1 x2)]
    unfold kernelRun0_A
  case' two =>
    unfold sout0_C_0
    rw [View.read_writes_eq_canon _ _ _ (scover0_C_0 c i a3 h3 a4 h4 a5 h5 a6 h6 a7 h7 hc0 hc1 hc2 hc3 x0 x1 x2)]
    unfold kernelRun0_C
  all_goals
    dsimp only
    sl_unfold_words
    rw [View.canon_cons_unit_zero hz2, View.readCov_unit_zero _ hz2]
    first | unfold k0_pay1 k0_pay4 | unfold k0_pay2 k0_pay4
    simp only [View.readAt_eq_ld, h3.read_unread, h4.read_unread, h5.read_unread, View.ld_unit_zero (S := S2048x1024) hz2, View.ld_unit_zero (S := S1024x1024) hz2, shapeCast_self]
    rfl

/-- A last step. -/
theorem last : (∀ hc0 hc1 hc2 hc3, out0_B_3 c i a3 h3 a4 h4 a5 h5 a6 h6 a7 h7 hc0 hc1 hc2 hc3 x0 x1 x2 xs = block (addf xs (mm x0 x2)))
    ∧ (∀ hc0 hc1 hc2 hc3, out0_D_3 c i a3 h3 a4 h4 a5 h5 a6 h6 a7 h7 hc0 hc1 hc2 hc3 x0 x1 x2 xs = block (addf xs (mm x1 x2))) := by
  refine ⟨fun hc0 hc1 hc2 hc3 => ?one, fun hc0 hc1 hc2 hc3 => ?two⟩
  case' one =>
    unfold out0_B_3
    rw [View.read_writes_eq_canon _ _ _ (cover0_B_3 c i a3 h3 a4 h4 a5 h5 a6 h6 a7 h7 hc0 hc1 hc2 hc3 x0 x1 x2 xs)]
    unfold kernelRun0_B
  case' two =>
    unfold out0_D_3
    rw [View.read_writes_eq_canon _ _ _ (cover0_D_3 c i a3 h3 a4 h4 a5 h5 a6 h6 a7 h7 hc0 hc1 hc2 hc3 x0 x1 x2 xs)]
    unfold kernelRun0_D
  all_goals
    dsimp only
    sl_unfold_words
    rw [View.canon_unit_zero hz3, View.readCov_unit_zero _ hz2]
    first | unfold k0_pay3 k0_pay1 | unfold k0_pay3 k0_pay2
    simp only [View.readAt_eq_ld, h3.read_unread, h4.read_unread, h5.read_unread, h7.read_unread, View.ld_unit_zero (S := S2048x1024) hz2, View.ld_unit_zero (S := S1024x1024) hz2, shapeCast_self]
    rfl
end

section
variable {F : FTy → Type} [FloatOps F] (m : (ℓ : Loc nD τ sig) → Buf (Elt F) ℓ) (c : Dev nD)

/-- The block whose product with the gradient's block point `n` adds: that of the one array below 4, that of the other from there on. -/
def turn (n : ℕ) (h : n < cfg0.N) : Vec F S2048x1024 .bf16 := if n < 4 then iblk m c 0 ⟨n, h⟩ else iblk m c 1 ⟨n, h⟩
/-- The product that point `n` adds. -/
def part (n : ℕ) (h : n < cfg0.N) : FVec F S1024x1024 .f32 := mm (turn m c n h) (iblk m c 2 ⟨n, h⟩)

theorem acc_first (n : ℕ) (h : n < cfg0.N) (h0 : n % 2 = 0) : (outsAt0 m c n h).2 = addf zero (part m c n h) := by
  unfold part turn
  by_cases h1 : n < 4
  · rw [if_pos h1, outsAt0_A m c ⟨n, h⟩ h0 h1 (by dsimp only; omega) (by dsimp only; omega)]
    dsimp only
    rw [(first (F := F) c _ _ _ _ _ _ _ _ _ _ _ _ _ _).1]
  · rw [if_neg h1, outsAt0_C m c ⟨n, h⟩ h0 h1 (by dsimp only; omega) (by dsimp only; omega)]
    dsimp only
    rw [(first (F := F) c _ _ _ _ _ _ _ _ _ _ _ _ _ _).2]
theorem acc_last (n : ℕ) (h : n + 1 < cfg0.N) (h1 : (n + 1) % 2 = 1) :
    (outsAt0 m c (n + 1) h).1 = block (addf (outsAt0 m c n (Nat.lt_of_succ_lt h)).2 (part m c (n + 1) h)) := by
  unfold part turn
  by_cases h2 : n + 1 < 4
  · rw [if_pos h2, outsAt0_B m c ⟨n + 1, h⟩ (by dsimp only; omega) h2 (by dsimp only; omega) h1]
    dsimp only
    rw [(last (F := F) c _ _ _ _ _ _ _ _ _ _ _ _ _ _ _).1]
    rfl
  · rw [if_neg h2, outsAt0_D m c ⟨n + 1, h⟩ (by dsimp only; omega) h2 (by dsimp only; omega) h1]
    dsimp only
    rw [(last (F := F) c _ _ _ _ _ _ _ _ _ _ _ _ _ _ _).2]
    rfl

/-- What the block of run `q` ends as. -/
theorem out_run (q : ℕ) (h : 2 * q + 1 < cfg0.N) :
    (outsAt0 m c (2 * q + 1) h).1 = block (addf (addf zero (part m c (2 * q) (by omega))) (part m c (2 * q + 1) h)) := by
  rw [acc_last m c (2 * q) h (by omega), acc_first m c (2 * q) (by omega) (by omega)]
end

variable (m : (ℓ : Loc nD τ sig) → Buf (Elt Ideal) ℓ) (c : Dev nD)

theorem idx0 : ∀ t : Fin cfg0.N, t.val < 4 → win0_0.index t = ![t.val % 2, 0] := by decide +kernel
theorem idx1 : ∀ t : Fin cfg0.N, ¬t.val < 4 → win0_1.index t = ![t.val % 2, 0] := by decide +kernel
theorem idx2 : ∀ t : Fin cfg0.N, win0_2.index t = ![t.val % 2, t.val / 2 % 2] := by decide +kernel

/-- The three arrays that the launch reads. -/
abbrev lhs0 : S4096x1024.Idx → EReal := V m c (Pipeline.arrRef spec0 0)
abbrev lhs1 : S4096x1024.Idx → EReal := V m c (Pipeline.arrRef spec0 1)
abbrev rhs : S4096x2048.Idx → EReal := V m c (Pipeline.arrRef spec0 2)
/-- The first two, side by side. -/
def lhs (k : Fin 4096) (a : Fin 2048) : EReal :=
  if h : a.val < 1024 then lhs0 m c (ix2 k ⟨a.val, h⟩) else lhs1 m c (ix2 k (⟨a.val - 1024, by omega⟩ : Fin 1024))

theorem ltN (t : Fin cfg0.N) : t.val < 8 := lt_of_lt_of_eq t.isLt (show cfg0.N = 8 from N_0)

theorem blk0 (t : Fin cfg0.N) (ht : t.val < 4) (k : Fin 2048) (a : Fin 1024) : (iblk m c 0 t : Vec Ideal S2048x1024 .bf16) (ix2 k a)
    = lhs0 m c (ix2 (⟨2048 * (t.val % 2) + k.val, by omega⟩ : Fin 4096) a) := by
  have idx0 := idx0 t ht
  blk_ext [iblk, idx0]
theorem blk1 (t : Fin cfg0.N) (ht : ¬t.val < 4) (k : Fin 2048) (a : Fin 1024) : (iblk m c 1 t : Vec Ideal S2048x1024 .bf16) (ix2 k a)
    = lhs1 m c (ix2 (⟨2048 * (t.val % 2) + k.val, by omega⟩ : Fin 4096) a) := by
  have idx1 := idx1 t ht
  blk_ext [iblk, idx1]
theorem blk2 (t : Fin cfg0.N) (k : Fin 2048) (b : Fin 1024) : (iblk m c 2 t : Vec Ideal S2048x1024 .bf16) (ix2 k b)
    = rhs m c (ix2 (⟨2048 * (t.val % 2) + k.val, by omega⟩ : Fin 4096) (⟨1024 * (t.val / 2 % 2) + b.val, by omega⟩ : Fin 2048)) := by
  blk_ext [iblk, idx2]

theorem turn_val (n : ℕ) (h : n < cfg0.N) (k : Fin 2048) (a : Fin 1024) : (turn m c n h : S2048x1024.Idx → EReal) (ix2 k a)
    = lhs m c (⟨2048 * (n % 2) + k.val, by omega⟩ : Fin 4096) (⟨1024 * (n / 4) + a.val, by have := ltN ⟨n, h⟩; dsimp only at this; omega⟩ : Fin 2048) := by
  unfold turn lhs
  have hN : n < 8 := ltN ⟨n, h⟩
  by_cases h1 : n < 4
  · have e : n / 4 = 0 := by omega
    rw [if_pos h1, blk0 m c ⟨n, h⟩ h1, dif_pos (by dsimp only; omega)]
    simp only [e, Nat.mul_zero, Nat.zero_add, Fin.eta]
  · have e : n / 4 = 1 := by omega
    rw [if_neg h1, blk1 m c ⟨n, h⟩ h1, dif_neg (by dsimp only; omega)]
    simp only [e, Nat.mul_one, Nat.add_sub_cancel_left, Fin.eta]

theorem part_val (q j : ℕ) (hq : q < 4) (hj : j < 2) (h : 2 * q + j < cfg0.N) (a b : Fin 1024) :
    (part m c (2 * q + j) h : S1024x1024.Idx → EReal) (ix2 a b)
      = ∑ k : Fin 2048, lhs m c (⟨2048 * j + k.val, by omega⟩ : Fin 4096) (⟨1024 * (q / 2) + a.val, by omega⟩ : Fin 2048)
        * rhs m c (ix2 (⟨2048 * j + k.val, by omega⟩ : Fin 4096) (⟨1024 * (q % 2) + b.val, by omega⟩ : Fin 2048)) := by
  have e1 : (2 * q + j) / 4 = q / 2 := by omega
  have e2 : (2 * q + j) % 2 = j := by omega
  have e3 : (2 * q + j) / 2 % 2 = q % 2 := by omega
  unfold part
  rw [mm_val]
  refine Finset.sum_congr rfl fun k _ => ?_
  rw [turn_val, blk2]
  simp only [e1, e2, e3]

theorem out_val (q : ℕ) (hq : q < 4) (h : 2 * q + 1 < cfg0.N) (a b : Fin 1024) :
    ((outsAt0 m c (2 * q + 1) h).1 : S1x1024x1024.Idx → EReal) (ix3 0 a b)
      = ∑ k : Fin 4096, lhs m c k (⟨1024 * (q / 2) + a.val, by omega⟩ : Fin 2048) * rhs m c (ix2 k (⟨1024 * (q % 2) + b.val, by omega⟩ : Fin 2048)) := by
  rw [out_run, block_val]
  pointwise
  rw [zero_val, show part m c (2 * q) _ (ix2 a b) = _ from part_val m c q 0 hq (by decide) (by omega) a b, part_val m c q 1 hq (by decide)]
  exact Cert.Parts.two (T := 2048) (fun k => lhs m c (k : Fin 4096) (⟨1024 * (q / 2) + a.val, by omega⟩ : Fin 2048) * rhs m c (ix2 (k : Fin 4096) (⟨1024 * (q % 2) + b.val, by omega⟩ : Fin 2048)))
    (fun j k => lhs m c (⟨2048 * j.val + k.val, by omega⟩ : Fin 4096) (⟨1024 * (q / 2) + a.val, by omega⟩ : Fin 2048)
        * rhs m c (ix2 (⟨2048 * j.val + k.val, by omega⟩ : Fin 4096) (⟨1024 * (q % 2) + b.val, by omega⟩ : Fin 2048))) (fun j k => rfl)

/-- The result array, entry by entry. -/
theorem G3_val (a : Fin 2048) (b : Fin 2048) : (G3 m c : S1x2048x2048.Idx → EReal) (ix3 0 a b)
    = ∑ k : Fin 4096, lhs m c k a * rhs m c (ix2 k b) := by
  have e : pt3Of (ix3 0 a b) = 2 * (2 * (a.val / 1024) + b.val / 1024) + 1 := by
    show 2 * (4 * (0 / 1 - 0) + 2 * (a.val / 1024 - 0) + 1 * (b.val / 1024 - 0)) + 1 = _
    omega
  have hN : pt3Of (ix3 0 a b) < cfg0.N := by rw [e]; exact lt_of_lt_of_eq (by omega) (show 8 = cfg0.N from N_0.symm)
  have hl : loc3Of (ix3 0 a b) = ix3 (0 : Fin 1) (⟨a.val % 1024, by omega⟩ : Fin 1024) (⟨b.val % 1024, by omega⟩ : Fin 1024) := by
    funext y
    match y with
    | ⟨0, _⟩ => rfl
    | ⟨1, _⟩ => rfl
    | ⟨2, _⟩ => rfl
  unfold G3
  rw [dif_pos hN, ← outsAt0_sweep m c _ hN, hl]
  simp only [e]
  rw [out_val m c _ (by omega)]
  have e1 : 1024 * ((2 * (a.val / 1024) + b.val / 1024) / 2) + a.val % 1024 = a.val := by omega
  have e2 : 1024 * ((2 * (a.val / 1024) + b.val / 1024) % 2) + b.val % 1024 = b.val := by omega
  simp only [e1, e2, Fin.eta]

/-- The arguments. -/
abbrev mixA : FVec Ideal S4096x1024 .f32 := m ((c.tc : Thread nD τ).loc main_arg0)
abbrev mixS : FVec Ideal S4096x1024 .f32 := m ((c.tc : Thread nD τ).loc main_arg1)
abbrev dmo : FVec Ideal S4096x2048 .f32 := m ((c.tc : Thread nD τ).loc main_arg2)

theorem lhs0_eq : lhs0 m c = (truncf .bf16 (mixA m c) bitsLt_bf16_f32 : FVec Ideal S4096x1024 .bf16) := by
  show StableHlo.after _ (fun b => m (c, b)) _ = _
  after_results_simp
theorem lhs1_eq : lhs1 m c = (truncf .bf16 (mixS m c) bitsLt_bf16_f32 : FVec Ideal S4096x1024 .bf16) := by
  show StableHlo.after _ (fun b => m (c, b)) _ = _
  after_results_simp
theorem rhs_eq : rhs m c = (truncf .bf16 (dmo m c) bitsLt_bf16_f32 : FVec Ideal S4096x2048 .bf16) := by
  show StableHlo.after _ (fun b => m (c, b)) _ = _
  after_results_simp

theorem lhs_side (k : Fin 4096) (a : Fin 2048) : lhs m c k a = (side (mixA m c) (mixS m c) : S4096x2048.Idx → EReal) (ix2 k a) := by
  unfold lhs
  rw [lhs0_eq, lhs1_eq]
  pointwise

/-- What the kernel leaves is the term of the reference. -/
theorem value : (G3 m c : FVec Ideal S1x2048x2048 .bf16) = Cert.Reference14Ideal.Hand.res (mixA m c) (mixS m c) (dmo m c) := by
  refine funext fun y => ?_
  obtain ⟨d, a, b, rfl⟩ : ∃ (d : Fin 1) (a b : Fin 2048), y = ix3 d a b := ⟨y 0, y 1, y 2, (ix3_eta y).symm⟩
  obtain rfl : d = 0 := Subsingleton.elim _ _
  have e (k : Fin 4096) : lhs m c k a * rhs m c (ix2 k b) = (dmo m c : S4096x2048.Idx → EReal) (ix2 k b) * (side (mixA m c) (mixS m c) : S4096x2048.Idx → EReal) (ix2 k a) := by
    rw [lhs_side, rhs_eq]
    pointwise
    exact mul_comm _ _
  refine (G3_val m c a b).trans (Eq.trans ?_ (Cert.Reference14Ideal.Hand.res_val _ _ _ a b).symm)
  simp only [e]

end Cert.Kernel14Ideal.Hand

end
-- ==== Proof.Mlp15.lean ====
module

public import proofs.«01_k».proof.Proof.Parts
public import proofs.«01_k».proof.Proof.Mlp12
public import proofs.«01_k».proof.Proof.Gen.Kernel15Ideal.Frame
public import proofs.«01_k».proof.Proof.Tile
public import Idealize.ShloMosaic.Lib.Pipeline.Value
public import proofs.«01_k».proof.Proof.Gen.Reference15Ideal.Run

/-! The gradient of the mixer's input weights. Of every four points of the launch the second array of the product is another one of
four; the reference lays those four side by side. -/

@[expose] public section

set_option maxRecDepth 16384

noncomputable section

namespace Cert.Reference15Ideal.Hand

open Cert.Reference15Ideal Cert.Reference15Ideal.Gen
open Idealize.ShloMosaic Idealize.ShloMosaic.TcCoe Idealize.ShloMosaic.Tactic Idealize.SL.Sem
open scoped BigOperators

/-- What the reference leaves, of the four arrays laid side by side. -/
def res (s : FVec Ideal S4096x4096 .f32) (x : FVec Ideal S4096x2048 .f32) : FVec Ideal S8x2048x512 .bf16 :=
  truncf .bf16 (transpose S8x2048x512 [1, 0, 2] (shapeCast S2048x8x512 (transpose S2048x4096 [1, 0]
    (Host.dotGeneral dot_S4096x4096_S4096x2048_S4096x2048_0_0_1_1_n_n none s x : FVec Ideal S4096x2048 .f32)
    transposes_S4096x2048_S2048x4096_1_0) shapeCasts_S2048x4096_S2048x8x512) transposes_S2048x8x512_S8x2048x512_1_0_2) bitsLt_bf16_f32

theorem res_val (s : FVec Ideal S4096x4096 .f32) (x : FVec Ideal S4096x2048 .f32) (d : Fin 8) (a : Fin 2048) (b : Fin 512) :
    (res s x : S8x2048x512.Idx → EReal) (ix3 d a b)
      = ∑ k : Fin 4096, (s : S4096x4096.Idx → EReal) (ix2 k (⟨512 * d.val + b.val, by omega⟩ : Fin 4096)) * (x : S4096x2048.Idx → EReal) (ix2 k a) := by
  unfold res
  pointwise
  simp only [Nat.mul_comm d.val 512]

end Cert.Reference15Ideal.Hand

namespace Cert.Kernel15Ideal.Hand

open Cert.Kernel15Ideal Cert.Kernel15Ideal.Gen
open Cert.Kernel12Ideal.Hand (side side_val)
open Idealize.ShloMosaic Idealize.ShloMosaic.TcCoe Idealize.ShloMosaic.Tactic
open Idealize.SL Idealize.SL.Sem
open scoped BigOperators

section
variable {F : FTy → Type} [FloatOps F]

/-- The product of two blocks over their rows. -/
def mm (x : Vec F S2048x2048 .bf16) (y : Vec F S2048x512 .bf16) : FVec F S2048x512 .f32 :=
  matmul (φ₁ := .bf16) (φ₂ := .bf16) dot_S2048x2048_S2048x512_S2048x512_0_0_1_1_n_n none x y (constant S2048x512 .f32 0x00000000#32)
def zero : FVec F S2048x512 .f32 := broadcast S2048x512 (Scalar.ofBits .f32 0x00000000#32)
/-- An accumulator, as a block of the result. -/
def block (x : FVec F S2048x512 .f32) : FVec F S1x2048x512 .bf16 := shapeCast S1x2048x512 (truncf .bf16 x bitsLt_bf16_f32 : FVec F S2048x512 .bf16) shapeCasts_S2048x512_S1x2048x512

theorem hz2 : (![0, 0] : Fin 2 → Nat) = fun _ => 0 := by decide
theorem hz3 : (![0, 0, 0] : Fin 3 → Nat) = fun _ => 0 := by decide

variable (c : Dev nD) (i : grid0.Coords) (a3 : Memref sig .tc .vmem S2048x2048 .bf16) (h3 : a3.IsWhole)
  (a4 : Memref sig .tc .vmem S2048x512 .bf16) (h4 : a4.IsWhole) (a5 : Memref sig .tc .vmem S2048x512 .bf16) (h5 : a5.IsWhole)
  (a6 : Memref sig .tc .vmem S2048x512 .bf16) (h6 : a6.IsWhole) (a7 : Memref sig .tc .vmem S2048x512 .bf16) (h7 : a7.IsWhole)
  (a8 : Memref sig .tc .vmem S1x2048x512 .bf16) (h8 : a8.IsWhole) (a9 : Memref sig .tc .vmem S2048x512 .f32) (h9 : a9.IsWhole)
  (x : Vec F S2048x2048 .bf16) (y0 y1 y2 y3 : Vec F S2048x512 .bf16) (xs : Vec F S2048x512 .f32)

/-- A first step, at each of the four arrays. -/
theorem first : (∀ hc0 hc1 hc2 hc3 hc4 hc5, sout0_A_0 c i a3 h3 a4 h4 a5 h5 a6 h6 a7 h7 a8 h8 a9 h9 hc0 hc1 hc2 hc3 hc4 hc5 x y0 y1 y2 y3 = addf zero (mm x y0))
    ∧ (∀ hc0 hc1 hc2 hc3 hc4 hc5, sout0_C_0 c i a3 h3 a4 h4 a5 h5 a6 h6 a7 h7 a8 h8 a9 h9 hc0 hc1 hc2 hc3 hc4 hc5 x y0 y1 y2 y3 = addf zero (mm x y1))
    ∧ (∀ hc0 hc1 hc2 hc3 hc4 hc5, sout0_E_0 c i a3 h3 a4 h4 a5 h5 a6 h6 a7 h7 a8 h8 a9 h9 hc0 hc1 hc2 hc3 hc4 hc5 x y0 y1 y2 y3 = addf zero (mm x y2))
    ∧ (∀ hc0 hc1 hc2 hc3 hc4 hc5, sout0_G_0 c i a3 h3 a4 h4 a5 h5 a6 h6 a7 h7 a8 h8 a9 h9 hc0 hc1 hc2 hc3 hc4 hc5 x y0 y1 y2 y3 = addf zero (mm x y3)) := by
  refine ⟨fun hc0 hc1 hc2 hc3 hc4 hc5 => ?t0, fun hc0 hc1 hc2 hc3 hc4 hc5 => ?t1, fun hc0 hc1 hc2 hc3 hc4 hc5 => ?t2, fun hc0 hc1 hc2 hc3 hc4 hc5 => ?t3⟩
  case' t0 =>
    unfold sout0_A_0
    rw [View.read_writes_eq_canon _ _ _ (scover0_A_0 c i a3 h3 a4 h4 a5 h5 a6 h6 a7 h7 a8 h8 a9 h9 hc0 hc1 hc2 hc3 hc4 hc5 x y0 y1 y2 y3)]
    unfold kernelRun0_A
  case' t1 =>
    unfold sout0_C_0
    rw [View.read_writes_eq_canon _ _ _ (scover0_C_0 c i a3 h3 a4 h4 a5 h5 a6 h6 a7 h7 a8 h8 a9 h9 hc0 hc1 hc2 hc3 hc4 hc5 x y0 y1 y2 y3)]
    unfold kernelRun0_C
  case' t2 =>
    unfold sout0_E_0
    rw [View.read_writes_eq_canon _ _ _ (scover0_E_0 c i a3 h3 a4 h4 a5 h5 a6 h6 a7 h7 a8 h8 a9 h9 hc0 hc1 hc2 hc3 hc4 hc5 x y0 y1 y2 y3)]
    unfold kernelRun0_E
  case' t3 =>
    unfold sout0_G_0
    rw [View.read_writes_eq_canon _ _ _ (scover0_G_0 c i a3 h3 a4 h4 a5 h5 a6 h6 a7 h7 a8 h8 a9 h9 hc0 hc1 hc2 hc3 hc4 hc5 x y0 y1 y2 y3)]
    unfold kernelRun0_G
  all_goals
    dsimp only
    sl_unfold_words
    rw [View.canon_cons_unit_zero hz2, View.readCov_unit_zero _ hz2]
    first | unfold k0_pay1 k0_pay6 | unfold k0_pay2 k0_pay6 | unfold k0_pay3 k0_pay6 | unfold k0_pay4 k0_pay6
    simp only [View.readAt_eq_ld, h3.read_unread, h4.read_unread, h5.read_unread, h6.read_unread, h7.read_unread, View.ld_unit_zero (S := S2048x2048) hz2, View.ld_unit_zero (S := S2048x512) hz2, shapeCast_self]
    rfl

/-- A last step, at each of them. -/
theorem last : (∀ hc0 hc1 hc2 hc3 hc4 hc5, out0_B_5 c i a3 h3 a4 h4 a5 h5 a6 h6 a7 h7 a8 h8 a9 h9 hc0 hc1 hc2 hc3 hc4 hc5 x y0 y1 y2 y3 xs = block (addf xs (mm x y0)))
    ∧ (∀ hc0 hc1 hc2 hc3 hc4 hc5, out0_D_5 c i a3 h3 a4 h4 a5 h5 a6 h6 a7 h7 a8 h8 a9 h9 hc0 hc1 hc2 hc3 hc4 hc5 x y0 y1 y2 y3 xs = block (addf xs (mm x y1)))
    ∧ (∀ hc0 hc1 hc2 hc3 hc4 hc5, out0_F_5 c i a3 h3 a4 h4 a5 h5 a6 h6 a7 h7 a8 h8 a9 h9 hc0 hc1 hc2 hc3 hc4 hc5 x y0 y1 y2 y3 xs = block (addf xs (mm x y2)))
    ∧ (∀ hc0 hc1 hc2 hc3 hc4 hc5, out0_H_5 c i a3 h3 a4 h4 a5 h5 a6 h6 a7 h7 a8 h8 a9 h9 hc0 hc1 hc2 hc3 hc4 hc5 x y0 y1 y2 y3 xs = block (addf xs (mm x y3))) := by
  refine ⟨fun hc0 hc1 hc2 hc3 hc4 hc5 => ?t0, fun hc0 hc1 hc2 hc3 hc4 hc5 => ?t1, fun hc0 hc1 hc2 hc3 hc4 hc5 => ?t2, fun hc0 hc1 hc2 hc3 hc4 hc5 => ?t3⟩
  case' t0 =>
    unfold out0_B_5
    rw [View.read_writes_eq_canon _ _ _ (cover0_B_5 c i a3 h3 a4 h4 a5 h5 a6 h6 a7 h7 a8 h8 a9 h9 hc0 hc1 hc2 hc3 hc4 hc5 x y0 y1 y2 y3 xs)]
    unfold kernelRun0_B
  case' t1 =>
    unfold out0_D_5
    rw [View.read_writes_eq_canon _ _ _ (cover0_D_5 c i a3 h3 a4 h4 a5 h5 a6 h6 a7 h7 a8 h8 a9 h9 hc0 hc1 hc2 hc3 hc4 hc5 x y0 y1 y2 y3 xs)]
    unfold kernelRun0_D
  case' t2 =>
    unfold out0_F_5
    rw [View.read_writes_eq_canon _ _ _ (cover0_F_5 c i a3 h3 a4 h4 a5 h5 a6 h6 a7 h7 a8 h8 a9 h9 hc0 hc1 hc2 hc3 hc4 hc5 x y0 y1 y2 y3 xs)]
    unfold kernelRun0_F
  case' t3 =>
    unfold out0_H_5
    rw [View.read_writes_eq_canon _ _ _ (cover0_H_5 c i a3 h3 a4 h4 a5 h5 a6 h6 a7 h7 a8 h8 a9 h9 hc0 hc1 hc2 hc3 hc4 hc5 x y0 y1 y2 y3 xs)]
    unfold kernelRun0_H
  all_goals
    dsimp only
    sl_unfold_words
    rw [View.canon_unit_zero hz3, View.readCov_unit_zero _ hz2]
    first | unfold k0_pay5 k0_pay1 | unfold k0_pay5 k0_pay2 | unfold k0_pay5 k0_pay3 | unfold k0_pay5 k0_pay4
    simp only [View.readAt_eq_ld, h3.read_unread, h4.read_unread, h5.read_unread, h6.read_unread, h7.read_unread, h9.read_unread, View.ld_unit_zero (S := S2048x2048) hz2, View.ld_unit_zero (S := S2048x512) hz2, shapeCast_self]
    rfl
end

section
variable {F : FTy → Type} [FloatOps F] (m : (ℓ : Loc nD τ sig) → Buf (Elt F) ℓ) (c : Dev nD)

/-- The block whose turn it is at point `n`: four points for each of the four arrays. -/
def turn (n : ℕ) (h : n < cfg0.N) : Vec F S2048x512 .bf16 :=
  if n < 4 then iblk m c 1 ⟨n, h⟩ else if n < 8 then iblk m c 2 ⟨n, h⟩ else if n < 12 then iblk m c 3 ⟨n, h⟩ else iblk m c 4 ⟨n, h⟩
/-- The product that point `n` adds. -/
def part (n : ℕ) (h : n < cfg0.N) : FVec F S2048x512 .f32 := mm (iblk m c 0 ⟨n, h⟩) (turn m c n h)

theorem ltN (t : Fin cfg0.N) : t.val < 16 := lt_of_lt_of_eq t.isLt (show cfg0.N = 16 from N_0)

theorem acc_first (n : ℕ) (h : n < cfg0.N) (h0 : n % 2 = 0) : (outsAt0 m c n h).2 = addf zero (part m c n h) := by
  have hN : n < 16 := ltN ⟨n, h⟩
  unfold part turn
  split_ifs with c1 c2 c3
  · rw [outsAt0_A m c ⟨n, h⟩ (by dsimp only; omega) (by dsimp only; omega) (by dsimp only; omega) (by dsimp only; omega) (by dsimp only; omega) (by dsimp only; omega)]
    dsimp only
    rw [(first (F := F) c _ _ _ _ _ _ _ _ _ _ _ _ _ _ _ _ _ _ _ _).1]
  · rw [outsAt0_C m c ⟨n, h⟩ (by dsimp only; omega) (by dsimp only; omega) (by dsimp only; omega) (by dsimp only; omega) (by dsimp only; omega) (by dsimp only; omega)]
    dsimp only
    rw [(first (F := F) c _ _ _ _ _ _ _ _ _ _ _ _ _ _ _ _ _ _ _ _).2.1]
  · rw [outsAt0_E m c ⟨n, h⟩ (by dsimp only; omega) (by dsimp only; omega) (by dsimp only; omega) (by dsimp only; omega) (by dsimp only; omega) (by dsimp only; omega)]
    dsimp only
    rw [(first (F := F) c _ _ _ _ _ _ _ _ _ _ _ _ _ _ _ _ _ _ _ _).2.2.1]
  · rw [outsAt0_G m c ⟨n, h⟩ (by dsimp only; omega) (by dsimp only; omega) (by dsimp only; omega) (by dsimp only; omega) (by dsimp only; omega) (by dsimp only; omega)]
    dsimp only
    rw [(first (F := F) c _ _ _ _ _ _ _ _ _ _ _ _ _ _ _ _ _ _ _ _).2.2.2]
theorem acc_last (n : ℕ) (h : n + 1 < cfg0.N) (h1 : (n + 1) % 2 = 1) :
    (outsAt0 m c (n + 1) h).1 = block (addf (outsAt0 m c n (Nat.lt_of_succ_lt h)).2 (part m c (n + 1) h)) := by
  have hN : n + 1 < 16 := ltN ⟨n + 1, h⟩
  unfold part turn
  split_ifs with c1 c2 c3
  · rw [outsAt0_B m c ⟨n + 1, h⟩ (by dsimp only; omega) (by dsimp only; omega) (by dsimp only; omega) (by dsimp only; omega) (by dsimp only; omega) (by dsimp only; omega)]
    dsimp only
    rw [(last (F := F) c _ _ _ _ _ _ _ _ _ _ _ _ _ _ _ _ _ _ _ _ _).1]
    rfl
  · rw [outsAt0_D m c ⟨n + 1, h⟩ (by dsimp only; omega) (by dsimp only; omega) (by dsimp only; omega) (by dsimp only; omega) (by dsimp only; omega) (by dsimp only; omega)]
    dsimp only
    rw [(last (F := F) c _ _ _ _ _ _ _ _ _ _ _ _ _ _ _ _ _ _ _ _ _).2.1]
    rfl
  · rw [outsAt0_F m c ⟨n + 1, h⟩ (by dsimp only; omega) (by dsimp only; omega) (by dsimp only; omega) (by dsimp only; omega) (by dsimp only; omega) (by dsimp only; omega)]
    dsimp only
    rw [(last (F := F) c _ _ _ _ _ _ _ _ _ _ _ _ _ _ _ _ _ _ _ _ _).2.2.1]
    rfl
  · rw [outsAt0_H m c ⟨n + 1, h⟩ (by dsimp only; omega) (by dsimp only; omega) (by dsimp only; omega) (by dsimp only; omega) (by dsimp only; omega) (by dsimp only; omega)]
    dsimp only
    rw [(last (F := F) c _ _ _ _ _ _ _ _ _ _ _ _ _ _ _ _ _ _ _ _ _).2.2.2]
    rfl

/-- What the block of run `q` ends as. -/
theorem out_run (q : ℕ) (h : 2 * q + 1 < cfg0.N) :
    (outsAt0 m c (2 * q + 1) h).1 = block (addf (addf zero (part m c (2 * q) (by omega))) (part m c (2 * q + 1) h)) := by
  rw [acc_last m c (2 * q) h (by omega), acc_first m c (2 * q) (by omega) (by omega)]
end

variable (m : (ℓ : Loc nD τ sig) → Buf (Elt Ideal) ℓ) (c : Dev nD)

theorem idx0 : ∀ t : Fin cfg0.N, win0_0.index t = ![t.val % 2, 0] := by decide +kernel
theorem idx1 : ∀ t : Fin cfg0.N, t.val / 4 = 0 → win0_1.index t = ![t.val % 2, t.val / 2 % 2] := by decide +kernel
theorem idx2 : ∀ t : Fin cfg0.N, t.val / 4 = 1 → win0_2.index t = ![t.val % 2, t.val / 2 % 2] := by decide +kernel
theorem idx3 : ∀ t : Fin cfg0.N, t.val / 4 = 2 → win0_3.index t = ![t.val % 2, t.val / 2 % 2] := by decide +kernel
theorem idx4 : ∀ t : Fin cfg0.N, t.val / 4 = 3 → win0_4.index t = ![t.val % 2, t.val / 2 % 2] := by decide +kernel

/-- The arguments. -/
abbrev hn : FVec Ideal S4096x2048 .f32 := m ((c.tc : Thread nD τ).loc main_arg0)
abbrev dq : FVec Ideal S4096x1024 .f32 := m ((c.tc : Thread nD τ).loc main_arg1)
abbrev dk : FVec Ideal S4096x1024 .f32 := m ((c.tc : Thread nD τ).loc main_arg2)
abbrev dv : FVec Ideal S4096x1024 .f32 := m ((c.tc : Thread nD τ).loc main_arg3)
abbrev du : FVec Ideal S4096x1024 .f32 := m ((c.tc : Thread nD τ).loc main_arg4)
abbrev four : Fin 4 → FVec Ideal S4096x1024 .f32 := ![dq m c, dk m c, dv m c, du m c]

/-- The arrays that the launch reads. -/
abbrev lhs : S4096x2048.Idx → EReal := V m c (Pipeline.arrRef spec0 0)

theorem lhs_eq : lhs m c = (truncf .bf16 (hn m c) bitsLt_bf16_f32 : FVec Ideal S4096x2048 .bf16) := by
  show StableHlo.after _ (fun b => m (c, b)) _ = _
  after_results_simp
/-- Its other four are the four laid side by side. -/
theorem arrs_eq : (V m c (Pipeline.arrRef spec0 1) : S4096x1024.Idx → EReal) = four m c 0 ∧ (V m c (Pipeline.arrRef spec0 2) : S4096x1024.Idx → EReal) = four m c 1
    ∧ (V m c (Pipeline.arrRef spec0 3) : S4096x1024.Idx → EReal) = four m c 2 ∧ (V m c (Pipeline.arrRef spec0 4) : S4096x1024.Idx → EReal) = four m c 3 := by
  refine ⟨?_, ?_, ?_, ?_⟩
  all_goals
    refine Eq.trans (show StableHlo.after _ (fun b => m (c, b)) _ = truncf (F := Ideal) .bf16 (φ := .f32) _ bitsLt_bf16_f32 from ?_) rfl
    after_results_simp

theorem blk0 (t : Fin cfg0.N) (k : Fin 2048) (a : Fin 2048) : (iblk m c 0 t : Vec Ideal S2048x2048 .bf16) (ix2 k a)
    = lhs m c (ix2 (⟨2048 * (t.val % 2) + k.val, by omega⟩ : Fin 4096) a) := by
  blk_ext [iblk, idx0]
theorem blk1 (t : Fin cfg0.N) (ht : t.val / 4 = 0) (k : Fin 2048) (b : Fin 512) : (iblk m c 1 t : Vec Ideal S2048x512 .bf16) (ix2 k b)
    = (V m c (Pipeline.arrRef spec0 1) : S4096x1024.Idx → EReal) (ix2 (⟨2048 * (t.val % 2) + k.val, by omega⟩ : Fin 4096) (⟨512 * (t.val / 2 % 2) + b.val, by omega⟩ : Fin 1024)) := by
  have e := idx1 t ht
  blk_ext [iblk, e]
theorem blk2 (t : Fin cfg0.N) (ht : t.val / 4 = 1) (k : Fin 2048) (b : Fin 512) : (iblk m c 2 t : Vec Ideal S2048x512 .bf16) (ix2 k b)
    = (V m c (Pipeline.arrRef spec0 2) : S4096x1024.Idx → EReal) (ix2 (⟨2048 * (t.val % 2) + k.val, by omega⟩ : Fin 4096) (⟨512 * (t.val / 2 % 2) + b.val, by omega⟩ : Fin 1024)) := by
  have e := idx2 t ht
  blk_ext [iblk, e]
theorem blk3 (t : Fin cfg0.N) (ht : t.val / 4 = 2) (k : Fin 2048) (b : Fin 512) : (iblk m c 3 t : Vec Ideal S2048x512 .bf16) (ix2 k b)
    = (V m c (Pipeline.arrRef spec0 3) : S4096x1024.Idx → EReal) (ix2 (⟨2048 * (t.val % 2) + k.val, by omega⟩ : Fin 4096) (⟨512 * (t.val / 2 % 2) + b.val, by omega⟩ : Fin 1024)) := by
  have e := idx3 t ht
  blk_ext [iblk, e]
theorem blk4 (t : Fin cfg0.N) (ht : t.val / 4 = 3) (k : Fin 2048) (b : Fin 512) : (iblk m c 4 t : Vec Ideal S2048x512 .bf16) (ix2 k b)
    = (V m c (Pipeline.arrRef spec0 4) : S4096x1024.Idx → EReal) (ix2 (⟨2048 * (t.val % 2) + k.val, by omega⟩ : Fin 4096) (⟨512 * (t.val / 2 % 2) + b.val, by omega⟩ : Fin 1024)) := by
  have e := idx4 t ht
  blk_ext [iblk, e]

/-- The second factor: a column of the four. -/
def rhs (k : Fin 4096) (n : Fin 4096) : EReal := (side (four m c) : Cert.Reference12Ideal.S4096x4096.Idx → EReal) (ix2 k n)
theorem rhs_at (k : Fin 4096) (q : ℕ) (hq : q < 8) (j : Fin 4) (hj : q / 2 = j.val) (b : Fin 512) :
    (four m c j : S4096x1024.Idx → EReal) (ix2 k (⟨512 * (q % 2) + b.val, by omega⟩ : Fin 1024)) = rhs m c k (⟨512 * q + b.val, by omega⟩ : Fin 4096) := by
  refine (side_val (four m c) j k (⟨512 * (q % 2) + b.val, by omega⟩ : Fin 1024)).symm.trans (congrArg (rhs m c k) (Fin.ext ?_))
  show 1024 * j.val + (512 * (q % 2) + b.val) = 512 * q + b.val
  omega

theorem turn_val (q j : ℕ) (hq : q < 8) (hj : j < 2) (h : 2 * q + j < cfg0.N) (k : Fin 2048) (b : Fin 512) : (turn m c (2 * q + j) h : S2048x512.Idx → EReal) (ix2 k b)
    = rhs m c (⟨2048 * j + k.val, by omega⟩ : Fin 4096) (⟨512 * q + b.val, by omega⟩ : Fin 4096) := by
  have e1 : (2 * q + j) % 2 = j := by omega
  have e2 : (2 * q + j) / 2 % 2 = q % 2 := by omega
  obtain ⟨v1, v2, v3, v4⟩ := arrs_eq m c
  unfold turn
  split_ifs with c1 c2 c3
  · rw [blk1 m c ⟨2 * q + j, h⟩ (by dsimp only; omega), v1]
    simp only [e1, e2]
    exact rhs_at m c _ q hq 0 (by show q / 2 = 0; omega) b
  · rw [blk2 m c ⟨2 * q + j, h⟩ (by dsimp only; omega), v2]
    simp only [e1, e2]
    exact rhs_at m c _ q hq 1 (by show q / 2 = 1; omega) b
  · rw [blk3 m c ⟨2 * q + j, h⟩ (by dsimp only; omega), v3]
    simp only [e1, e2]
    exact rhs_at m c _ q hq 2 (by show q / 2 = 2; omega) b
  · rw [blk4 m c ⟨2 * q + j, h⟩ (by dsimp only; omega), v4]
    simp only [e1, e2]
    exact rhs_at m c _ q hq 3 (by show q / 2 = 3; omega) b

theorem mm_val (x : Vec Ideal S2048x2048 .bf16) (y : Vec Ideal S2048x512 .bf16) (a : Fin 2048) (b : Fin 512) :
    (mm x y : S2048x512.Idx → EReal) (ix2 a b) = ∑ k : Fin 2048, (x (ix2 k a) : EReal) * (y (ix2 k b) : EReal) := by
  unfold mm
  pointwise
theorem zero_val (y : S2048x512.Idx) : (zero (F := Ideal) : S2048x512.Idx → EReal) y = 0 := by
  unfold zero
  pointwise
theorem block_val (x : FVec Ideal S2048x512 .f32) (a : Fin 2048) (b : Fin 512) : (block x : S1x2048x512.Idx → EReal) (ix3 0 a b) = x (ix2 a b) := by
  unfold block
  pointwise

theorem part_val (q j : ℕ) (hq : q < 8) (hj : j < 2) (h : 2 * q + j < cfg0.N) (a : Fin 2048) (b : Fin 512) :
    (part m c (2 * q + j) h : S2048x512.Idx → EReal) (ix2 a b)
      = ∑ k : Fin 2048, lhs m c (ix2 (⟨2048 * j + k.val, by omega⟩ : Fin 4096) a) * rhs m c (⟨2048 * j + k.val, by omega⟩ : Fin 4096) (⟨512 * q + b.val, by omega⟩ : Fin 4096) := by
  have e : (2 * q + j) % 2 = j := by omega
  unfold part
  rw [mm_val]
  refine Finset.sum_congr rfl fun k _ => ?_
  rw [blk0, turn_val m c q j hq hj]
  simp only [e]

theorem out_val (q : ℕ) (hq : q < 8) (h : 2 * q + 1 < cfg0.N) (a : Fin 2048) (b : Fin 512) :
    ((outsAt0 m c (2 * q + 1) h).1 : S1x2048x512.Idx → EReal) (ix3 0 a b)
      = ∑ k : Fin 4096, lhs m c (ix2 k a) * rhs m c k (⟨512 * q + b.val, by omega⟩ : Fin 4096) := by
  rw [out_run, block_val]
  pointwise
  rw [zero_val, show part m c (2 * q) _ (ix2 a b) = _ from part_val m c q 0 hq (by decide) (by omega) a b, part_val m c q 1 hq (by decide)]
  exact Cert.Parts.two (T := 2048) (fun k => lhs m c (ix2 (k : Fin 4096) a) * rhs m c (k : Fin 4096) (⟨512 * q + b.val, by omega⟩ : Fin 4096))
    (fun j k => lhs m c (ix2 (⟨2048 * j.val + k.val, by omega⟩ : Fin 4096) a) * rhs m c (⟨2048 * j.val + k.val, by omega⟩ : Fin 4096) (⟨512 * q + b.val, by omega⟩ : Fin 4096)) (fun j k => rfl)

/-- The result array. -/
def entry (d : Fin 8) (a : Fin 2048) (b : Fin 512) : EReal := ∑ k : Fin 4096, lhs m c (ix2 k a) * rhs m c k (⟨512 * d.val + b.val, by omega⟩ : Fin 4096)
def arr : S8x2048x512.Idx → EReal := fun y => entry m c (y 0) (y 1) (y 2)

theorem idx5 : ∀ t : Fin cfg0.N, win0_5.index t = ![t.val / 2, 0, 0] := by decide +kernel

/-- Every second point writes a block of it back. -/
theorem flushed_eq (t : Fin cfg0.N) (ht : t.val % 2 = 1) : (dats m 0 c).flushed 5 t = ((cfg0.win 5).blk t).view.read (Elt Ideal) (arr m c) := by
  have hN := ltN t
  obtain ⟨q, hq⟩ : ∃ q : ℕ, t.val = 2 * q + 1 := ⟨t.val / 2, by omega⟩
  obtain ⟨n, h⟩ := t
  dsimp only at hq hN
  subst hq
  show (cfg0.win 5).cut (grid0.coords _) ((dats m 0 c).after 5 _) = _
  rw [after0_5]
  funext y
  obtain ⟨d, a, b, rfl⟩ : ∃ (d : Fin 1) (a : Fin 2048) (b : Fin 512), y = ix3 d a b := ⟨y 0, y 1, y 2, (ix3_eta y).symm⟩
  obtain rfl : d = 0 := Subsingleton.elim _ _
  have place (z : Fin 8) (u : Fin 2048) (v : Fin 512) (h0 : z.val = (2 * q + 1) / 2 * 1 + 1 * 0) (h1 : u.val = 0 * 2048 + 1 * a.val) (h2 : v.val = 0 * 512 + 1 * b.val) :
      ((outsAt0 m c (2 * q + 1) h).1 : S1x2048x512.Idx → EReal) (ix3 0 a b) = entry m c z u v := by
    obtain rfl : u = a := Fin.ext (by omega)
    obtain rfl : v = b := Fin.ext (by omega)
    obtain rfl : q = z.val := by omega
    exact out_val m c z.val z.isLt h u v
  refine place _ _ _ ?_ ?_ ?_
  · show win0_5.index _ (0 : Fin 3) * 1 + 1 * 0 = _
    rw [idx5]
    rfl
  · show win0_5.index _ (1 : Fin 3) * 2048 + 1 * a.val = _
    rw [idx5]
    rfl
  · show win0_5.index _ (2 : Fin 3) * 512 + 1 * b.val = _
    rw [idx5]
    rfl

theorem final : (dats m 0 c).arrAt 5 cfg0.N = arr m c := by
  refine (dats m 0 c).arrAt_eq_of_cover 5 _ (fun t ht => flushed_eq m c t ((flush0_5 t).mp ht)) fun i => ?_
  have h0 : (i 0).val < 8 := (i 0).isLt
  have h1 : (i 1).val < 2048 := (i 1).isLt
  have h2 : (i 2).val < 512 := (i 2).isLt
  obtain ⟨t, ht⟩ : ∃ t : Fin cfg0.N, t.val = 2 * (i 0).val + 1 := ⟨⟨_, lt_of_lt_of_eq (by omega : 2 * (i 0).val + 1 < 16) (show 16 = cfg0.N from N_0.symm)⟩, rfl⟩
  refine ⟨t, (flush0_5 t).mpr (by omega), ?_⟩
  show i ∈ ((View.whole main_v5).slice (win0_5.rect t)).set
  rw [View.set_slice_whole, Rect.mem_set_unit]
  show ∀ a : Fin 3, win0_5.index t a * S1x2048x512.size a ≤ (i a).val ∧ (i a).val < win0_5.index t a * S1x2048x512.size a + S1x2048x512.size a
  rw [idx5]
  intro a
  match a with
  | ⟨0, _⟩ => exact (by omega : t.val / 2 * 1 ≤ (i 0).val ∧ (i 0).val < t.val / 2 * 1 + 1)
  | ⟨1, _⟩ => exact (by omega : 0 * 2048 ≤ (i 1).val ∧ (i 1).val < 0 * 2048 + 2048)
  | ⟨2, _⟩ => exact (by omega : 0 * 512 ≤ (i 2).val ∧ (i 2).val < 0 * 512 + 512)

/-- What the kernel leaves is the term of the reference. -/
theorem value : ((dats m 0 c).arrAt 5 cfg0.N : FVec Ideal S8x2048x512 .bf16) = Cert.Reference15Ideal.Hand.res (side (four m c)) (hn m c) := by
  refine funext fun y => ?_
  obtain ⟨d, a, b, rfl⟩ : ∃ (d : Fin 8) (a : Fin 2048) (b : Fin 512), y = ix3 d a b := ⟨y 0, y 1, y 2, (ix3_eta y).symm⟩
  have e (k n : Fin 4096) : lhs m c (ix2 k a) * rhs m c k n
      = (side (four m c) : Cert.Reference12Ideal.S4096x4096.Idx → EReal) (ix2 k n) * (hn m c : S4096x2048.Idx → EReal) (ix2 k a) := by
    rw [lhs_eq]
    unfold rhs
    generalize (side (four m c) : Cert.Reference12Ideal.S4096x4096.Idx → EReal) = s
    pointwise
    exact mul_comm _ _
  rw [final]
  refine Eq.trans ?_ (Cert.Reference15Ideal.Hand.res_val _ _ d a b).symm
  show entry m c d a b = _
  unfold entry
  simp only [e]

/-- The run: it ends with the result array of the last point, and the arguments as they were. -/
theorem run (ρ : Dev nD → PrngReg) : θ_run defs (onTc (τ := τ) (main (F := Ideal))) ⟨m, fun _ => 0, ρ⟩ fun r => ∀ c : Dev nD,
    r.2.mem ((c.tc : Thread nD τ).loc main_v5) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1 5, ?_, ?_, ?_, ?_, ?_⟩) (run_main m ρ)
  · exact ((h c).2 main_arg0 (Pipeline.mem_restRefs_of _ (by decide) (by decide))).trans (V_main_arg0 m c)
  · exact ((h c).2 main_arg1 (Pipeline.mem_restRefs_of _ (by decide) (by decide))).trans (V_main_arg1 m c)
  · exact ((h c).2 main_arg2 (Pipeline.mem_restRefs_of _ (by decide) (by decide))).trans (V_main_arg2 m c)
  · exact ((h c).2 main_arg3 (Pipeline.mem_restRefs_of _ (by decide) (by decide))).trans (V_main_arg3 m c)
  · exact ((h c).2 main_arg4 (Pipeline.mem_restRefs_of _ (by decide) (by decide))).trans (V_main_arg4 m c)

end Cert.Kernel15Ideal.Hand

end
-- ==== Proof.Host.lean ====
module

public import proofs.«01_k».proof.Proof.Gen.ReferenceIdeal.Run
public import proofs.«01_k».proof.Proof.Gen.KernelIdeal.Frame
public import Idealize.ShloMosaic.Lib.Pipeline.ValueKit

/-! The host operations of the two programs as functions of the two arguments: the forward pass, which both run, what the
kernel is given of it, and the steps of the reference's backward pass. -/

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo

/-- How far back key `t'` lies from query `t`. -/
def back : Vec Ideal S4096x4096 .i32 := subi (iotaInDim S4096x4096 32 0) (iotaInDim S4096x4096 32 1)
/-- The mask of one branch. -/
def mask (w d : BitVec 32) : Vec Ideal S4096x4096 .i1 :=
  andi (andi (cmpi .sge back (broadcastInDim S4096x4096 ![] bcast_S_S4096x4096 (constantI S_ 32 0#32)))
    (cmpi .sle back (broadcastInDim S4096x4096 ![] bcast_S_S4096x4096 (constantI S_ 32 w))))
  (cmpi .eq (Host.remsi back (broadcastInDim S4096x4096 ![] bcast_S_S4096x4096 (constantI S_ 32 d))) (broadcastInDim S4096x4096 ![] bcast_S_S4096x4096 (constantI S_ 32 0#32)))
def mask1 (w d : BitVec 32) : Vec Ideal S1x4096x4096 .i1 := broadcastInDim S1x4096x4096 ![1, 2] bcast_S4096x4096_S1x4096x4096_1_2 (mask w d)
/-- The three masks. -/
def masks1 : Vec Ideal S3x1x4096x4096 .i1 :=
  broadcastInDim S3x1x4096x4096 ![0, 2, 3] bcast_S3x4096x4096_S3x1x4096x4096_0_2_3
    (concatenate S3x4096x4096 0 [⟨S1x4096x4096, mask1 128#32 1#32⟩, ⟨S1x4096x4096, mask1 512#32 4#32⟩, ⟨S1x4096x4096, mask1 2048#32 16#32⟩] concatenates_S1x4096x4096_S1x4096x4096_S1x4096x4096_S3x4096x4096_d0)
def masks : Vec Ideal S3x8x4096x4096 .i1 := broadcastInDim S3x8x4096x4096 ![0, 1, 2, 3] bcast_S3x1x4096x4096_S3x8x4096x4096_0_1_2_3 masks1

def hd (X : FVec Ideal S4096x1024 .f32) : FVec Ideal S4096x8x128 .f32 := shapeCast _ X shapeCasts_S4096x1024_S4096x8x128
def cq (A : FVec Ideal S4096x4096 .f32) := hd (extractStridedSlice S4096x1024 ![0, 0] A slices_S4096x4096_S4096x1024_0_0)
def ck (A : FVec Ideal S4096x4096 .f32) := hd (extractStridedSlice S4096x1024 ![0, 1024] A slices_S4096x4096_S4096x1024_0_1024)
def cv (A : FVec Ideal S4096x4096 .f32) := hd (extractStridedSlice S4096x1024 ![0, 2048] A slices_S4096x4096_S4096x1024_0_2048)
def sc : FVec Ideal S8x4096x4096 .f32 := broadcastInDim S8x4096x4096 ![] bcast_S_S8x4096x4096 (constant S_ .f32 0x3DB504F3#32)
def dotL (X Y : FVec Ideal S4096x8x128 .f32) : FVec Ideal S8x4096x4096 .f32 :=
  Host.dotGeneral dot_S4096x8x128_S4096x8x128_S8x4096x4096_2_2_0_0_1_1 none X Y
def zro : FVec Ideal S_ .f32 := constant S_ .f32 0x00000000#32
def bot : FVec Ideal S_ .f32 := constant S_ .f32 0xFF800000#32

/-! ### Masked scores, and one branch -/

def scores (A : FVec Ideal S4096x4096 .f32) : FVec Ideal S8x4096x4096 .f32 := mulf (dotL (cq A) (ck A)) sc
def masked (M : Vec Ideal S3x1x4096x4096 .i1) (X : FVec Ideal S8x4096x4096 .f32) : FVec Ideal S3x8x4096x4096 .f32 :=
  select (broadcastInDim S3x8x4096x4096 ![0, 1, 2, 3] bcast_S3x1x4096x4096_S3x8x4096x4096_0_1_2_3 M)
    (broadcastInDim S3x8x4096x4096 ![1, 2, 3] bcast_S8x4096x4096_S3x8x4096x4096_1_2_3 X) (broadcastInDim S3x8x4096x4096 ![] bcast_S_S3x8x4096x4096 bot)
def along (X : FVec Ideal S3x8x4096x1 .f32) : FVec Ideal S3x8x4096x4096 .f32 := broadcastInDim S3x8x4096x4096 ![0, 1, 2, 3] bcast_S3x8x4096x1_S3x8x4096x4096_0_1_2_3 X
def col (X : FVec Ideal S3x8x4096 .f32) : FVec Ideal S3x8x4096x1 .f32 := broadcastInDim S3x8x4096x1 ![0, 1, 2] bcast_S3x8x4096_S3x8x4096x1_0_1_2 X
def top (s : FVec Ideal S3x8x4096x4096 .f32) : FVec Ideal S3x8x4096x1 .f32 := col (Host.reduce FloatOps.maximumf s bot reducesTo_S3x8x4096x4096_S3x8x4096_d3 h_S_)
def exps (s : FVec Ideal S3x8x4096x4096 .f32) : FVec Ideal S3x8x4096x4096 .f32 := Host.exp (subf s (along (top s)))
def sums (s : FVec Ideal S3x8x4096x4096 .f32) : FVec Ideal S3x8x4096 .f32 := Host.reduceAdd (exps s) zro reducesTo_S3x8x4096x4096_S3x8x4096_d3 h_S_
def logs (s : FVec Ideal S3x8x4096x4096 .f32) : FVec Ideal S3x8x4096 .f32 := addf (Host.log (sums s)) (shapeCast _ (top s) shapeCasts_S3x8x4096x1_S3x8x4096)
def prob (s : FVec Ideal S3x8x4096x4096 .f32) (l : FVec Ideal S3x8x4096 .f32) : FVec Ideal S3x8x4096x4096 .f32 := Host.exp (subf s (along (col l)))
def outs (v : FVec Ideal S4096x8x128 .f32) (p : FVec Ideal S3x8x4096x4096 .f32) : FVec Ideal S3x4096x8x128 .f32 :=
  transpose S3x4096x8x128 [2, 3, 0, 1] (Host.dotGeneral dot_S4096x8x128_S3x8x4096x4096_S8x128x3x4096_0_3_2_02_1_1 none v p) transposes_S8x128x3x4096_S3x4096x8x128_2_3_0_1

/-! ### The shares of the branches -/

def top3 (l : FVec Ideal S3x8x4096 .f32) : FVec Ideal S8x4096 .f32 := Host.reduce FloatOps.maximumf l bot reducesTo_S3x8x4096_S8x4096_d0 h_S_
def top3' (l : FVec Ideal S3x8x4096 .f32) : FVec Ideal S8x4096 .f32 := maximumf (broadcastInDim S8x4096 ![] bcast_S_S8x4096 bot) (top3 l)
def one3 (x : FVec Ideal S8x4096 .f32) : FVec Ideal S1x8x4096 .f32 := broadcastInDim S1x8x4096 ![1, 2] bcast_S8x4096_S1x8x4096_1_2 x
def to3 (x : FVec Ideal S1x8x4096 .f32) : FVec Ideal S3x8x4096 .f32 := broadcastInDim S3x8x4096 ![0, 1, 2] bcast_S1x8x4096_S3x8x4096_0_1_2 x
def exp3 (l : FVec Ideal S3x8x4096 .f32) (x : FVec Ideal S8x4096 .f32) : FVec Ideal S3x8x4096 .f32 := Host.exp (subf l (to3 (one3 x)))
def sum3 (x : FVec Ideal S3x8x4096 .f32) : FVec Ideal S1x8x4096 .f32 := one3 (Host.reduceAdd x zro reducesTo_S3x8x4096_S8x4096_d0 h_S_)
def shares (x : FVec Ideal S3x8x4096 .f32) : FVec Ideal S3x4096x8x1 .f32 :=
  broadcastInDim S3x4096x8x1 ![0, 1, 2] bcast_S3x4096x8_S3x4096x8x1_0_1_2 (transpose S3x4096x8 [0, 2, 1] (Host.divf x (to3 (sum3 x))) transposes_S3x8x4096_S3x4096x8_0_2_1)
def lanes (x : FVec Ideal S3x4096x8x1 .f32) : FVec Ideal S3x4096x8x128 .f32 := broadcastInDim S3x4096x8x128 ![0, 1, 2, 3] bcast_S3x4096x8x1_S3x4096x8x128_0_1_2_3 x

/-! ### The reference's backward pass -/

def grads (G : FVec Ideal S4096x1024 .f32) : FVec Ideal S3x4096x8x128 .f32 := broadcastInDim S3x4096x8x128 ![1, 2, 3] bcast_S4096x8x128_S3x4096x8x128_1_2_3 (hd G)
/-- The gradients of the shares, -/
def gShare (g o : FVec Ideal S3x4096x8x128 .f32) : FVec Ideal S3x8x4096 .f32 :=
  transpose S3x8x4096 [0, 2, 1] (Host.reduceAdd (shapeCast _ (Host.reduceAdd (mulf g o) zro reducesTo_S3x4096x8x128_S3x4096x8_d3 h_S_) shapeCasts_S3x4096x8_S3x4096x8x1) zro reducesTo_S3x4096x8x1_S3x4096x8_d3 h_S_) transposes_S3x4096x8_S3x8x4096_0_2_1
/-- of the outputs of the branches, -/
def gOut (w : FVec Ideal S3x4096x8x1 .f32) (g : FVec Ideal S3x4096x8x128 .f32) : FVec Ideal S8x128x3x4096 .f32 :=
  transpose S8x128x3x4096 [2, 3, 0, 1] (mulf (lanes w) g) transposes_S3x4096x8x128_S8x128x3x4096_2_3_0_1
/-- of the exponents of the weights, -/
def gWeight (x : FVec Ideal S8x128x3x4096 .f32) (v : FVec Ideal S4096x8x128 .f32) (p : FVec Ideal S3x8x4096x4096 .f32) : FVec Ideal S3x8x4096x4096 .f32 :=
  mulf (transpose S3x8x4096x4096 [1, 0, 2, 3] (Host.dotGeneral dot_S8x128x3x4096_S4096x8x128_S8x3x4096x4096_1_2_23_0_0_1 none x v) transposes_S8x3x4096x4096_S3x8x4096x4096_1_0_2_3) p
/-- of the sum of the three exponentials, -/
def gSum (dw e : FVec Ideal S3x8x4096 .f32) : FVec Ideal S8x4096 .f32 :=
  Host.reduceAdd (Host.negf (shapeCast _ (Host.reduceAdd (mulf (mulf dw (to3 (Host.divf (broadcastInDim S1x8x4096 ![] bcast_S_S1x8x4096 (constant S_ .f32 0x3F800000#32)) (mulf (sum3 e) (sum3 e))))) e) zro reducesTo_S3x8x4096_S8x4096_d0 h_S_) shapeCasts_S8x4096_S1x8x4096)) zro reducesTo_S1x8x4096_S8x4096_d0 h_S_
/-- of the log-denominators, -/
def gLog (dw e : FVec Ideal S3x8x4096 .f32) (y : FVec Ideal S3x8x4096x4096 .f32) : FVec Ideal S3x8x4096 .f32 :=
  addf (mulf (addf (Host.divf dw (to3 (sum3 e))) (broadcastInDim S3x8x4096 ![1, 2] bcast_S8x4096_S3x8x4096_1_2 (gSum dw e))) e)
    (Host.reduceAdd (shapeCast _ (Host.reduceAdd (Host.negf y) zro reducesTo_S3x8x4096x4096_S3x8x4096_d3 h_S_) shapeCasts_S3x8x4096_S3x8x4096x1) zro reducesTo_S3x8x4096x1_S3x8x4096_d3 h_S_)
/-- and of the scores. -/
def gScore (M : Vec Ideal S3x8x4096x4096 .i1) (y : FVec Ideal S3x8x4096x4096 .f32) (gl z : FVec Ideal S3x8x4096 .f32) (x : FVec Ideal S3x8x4096x4096 .f32) : FVec Ideal S8x4096x4096 .f32 :=
  mulf (Host.reduceAdd (select M (addf y (mulf (broadcastInDim S3x8x4096x4096 ![0, 1, 2] bcast_S3x8x4096_S3x8x4096x4096_0_1_2 (Host.divf gl z)) x)) (broadcastInDim S3x8x4096x4096 ![] bcast_S_S3x8x4096x4096 zro)) zro reducesTo_S3x8x4096x4096_S8x4096x4096_d0 h_S_) sc

section
variable (A : FVec Ideal S4096x4096 .f32) (G : FVec Ideal S4096x1024 .f32)
def fS : FVec Ideal S3x8x4096x4096 .f32 := masked masks1 (scores A)
def fL : FVec Ideal S3x8x4096 .f32 := logs (fS A)
def fP : FVec Ideal S3x8x4096x4096 .f32 := prob (fS A) (fL A)
def fO : FVec Ideal S3x4096x8x128 .f32 := outs (cv A) (fP A)
def fE : FVec Ideal S3x8x4096 .f32 := exp3 (fL A) (top3' (fL A))
def fX : FVec Ideal S8x128x3x4096 .f32 := gOut (shares (fE A)) (grads G)
def fY : FVec Ideal S3x8x4096x4096 .f32 := gWeight (fX A G) (cv A) (fP A)
def fDw : FVec Ideal S3x8x4096 .f32 := gShare (grads G) (fO A)
def fDs : FVec Ideal S8x4096x4096 .f32 := gScore masks (fY A G) (gLog (fDw A G) (fE A) (fY A G)) (sums (fS A)) (exps (fS A))
/-- What the kernel is given: the logarithm of the denominator over the three branches, and the row sums of output and gradient. -/
def mix (w : FVec Ideal S3x4096x8x1 .f32) (o : FVec Ideal S3x4096x8x128 .f32) : FVec Ideal S4096x8x128 .f32 :=
  Host.reduceAdd (mulf (lanes w) o) (zro) Cert.KernelIdeal.Facts₀.reducesTo_S3x4096x8x128_S4096x8x128_d0 h_S_
def log3 (l : FVec Ideal S3x8x4096 .f32) : FVec Ideal S8x4096 .f32 :=
  addf (Host.log (Host.reduceAdd (exp3 l (top3 l)) zro reducesTo_S3x8x4096_S8x4096_d0 h_S_)) (shapeCast _ (one3 (top3 l)) Cert.KernelIdeal.Facts₀.shapeCasts_S1x8x4096_S8x4096)
def wide (x : FVec Ideal Cert.KernelIdeal.S4096x8 .f32) : FVec Ideal S4096x1024 .f32 :=
  shapeCast _ (broadcastInDim S4096x8x128 ![0, 1, 2] Cert.KernelIdeal.Facts₀.bcast_S4096x8x1_S4096x8x128_0_1_2 (broadcastInDim Cert.KernelIdeal.S4096x8x1 ![0, 1] Cert.KernelIdeal.Facts₀.bcast_S4096x8_S4096x8x1_0_1 x)) shapeCasts_S4096x8x128_S4096x1024
def kL (l : FVec Ideal S3x8x4096 .f32) : FVec Ideal S4096x1024 .f32 := wide (transpose Cert.KernelIdeal.S4096x8 [1, 0] (log3 l) Cert.KernelIdeal.Facts₀.transposes_S8x4096_S4096x8_1_0)
def kD (o : FVec Ideal S4096x8x128 .f32) : FVec Ideal S4096x1024 .f32 :=
  wide (Host.reduceAdd (mulf o (hd G)) zro Cert.KernelIdeal.Facts₀.reducesTo_S4096x8x128_S4096x8_d2 h_S_)
def perQ (X : FVec Ideal S8x4096x4096 .f32) (k : FVec Ideal S4096x8x128 .f32) : FVec Ideal S4096x8x128 .f32 :=
  transpose S4096x8x128 [1, 0, 2] (Host.dotGeneral dot_S8x4096x4096_S4096x8x128_S8x4096x128_2_0_1_2_0_1 none X k) transposes_S8x4096x128_S4096x8x128_1_0_2
def perK (X : FVec Ideal S8x4096x4096 .f32) (q : FVec Ideal S4096x8x128 .f32) : FVec Ideal S4096x8x128 .f32 :=
  transpose S4096x8x128 [1, 0, 2] (Host.dotGeneral dot_S8x4096x4096_S4096x8x128_S8x4096x128_1_0_2_2_0_1 none X q) transposes_S8x4096x128_S4096x8x128_1_0_2
def perV (x : FVec Ideal S8x128x3x4096 .f32) (p : FVec Ideal S3x8x4096x4096 .f32) : FVec Ideal S4096x8x128 .f32 :=
  transpose S4096x8x128 [2, 0, 1] (Host.dotGeneral dot_S8x128x3x4096_S3x8x4096x4096_S8x128x4096_23_02_1_3_0_1 none x p) transposes_S8x128x4096_S4096x8x128_2_0_1
def flat (X : FVec Ideal S4096x8x128 .f32) : FVec Ideal S4096x1024 .bf16 := truncf .bf16 (shapeCast _ X shapeCasts_S4096x8x128_S4096x1024) bitsLt_bf16_f32
end

section
variable (V0 : Valuation τ sig (Elt Ideal))
def argA : FVec Ideal S4096x4096 .f32 := V0 (Proc.devRef .tc main_arg0)
def argB : FVec Ideal S4096x1024 .f32 := V0 (Proc.devRef .tc main_arg1)
theorem v50_eq : res_main_v50 V0 = fS (argA V0) := rfl
theorem v60_eq : res_main_v60 V0 = fL (argA V0) := by
  unfold res_main_v60 res_main_v57 res_main_v56 res_main_v53
  rw [v50_eq]
  rfl
theorem v64_eq : res_main_v64 V0 = fP (argA V0) := by
  unfold res_main_v64
  rw [v50_eq, v60_eq]
  rfl
theorem v66_eq : res_main_v66 V0 = fO (argA V0) := by
  unfold res_main_v66
  rw [v64_eq]
  rfl
theorem v87_eq : res_main_v87 V0 = fE (argA V0) := by
  unfold res_main_v87 res_main_v67
  rw [v60_eq]
  rfl
theorem v121_eq : res_main_v121 V0 = fX (argA V0) (argB V0) := by
  unfold res_main_v121 res_main_v96 res_main_v89
  rw [v87_eq]
  rfl
theorem v126_eq : res_main_v126 V0 = fY (argA V0) (argB V0) := by
  unfold res_main_v126
  rw [v121_eq, v64_eq]
  rfl
theorem v108_eq : res_main_v108 V0 = fDw (argA V0) (argB V0) := by
  unfold res_main_v108
  rw [v66_eq]
  rfl
theorem v140_eq : res_main_v140 V0 = fDs (argA V0) (argB V0) := by
  unfold res_main_v140 res_main_v89 res_main_v57 res_main_v56 res_main_v53
  rw [v87_eq, v126_eq, v108_eq, v50_eq]
  rfl
end

end Cert.ReferenceIdeal.Hand

end
-- ==== Proof.Units.lean ====
module

public import proofs.«01_k».proof.Proof.Cover

/-! One unit of a branch as a function of the rows it loads, and each trip as the units it runs. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The scores of 256 queries against 256 keys. -/
def scW (q : Vec F S256x128 .f32) (k : Vec F S256x128 .f32) : FVec F S256x256 .f32 :=
  mulf (matmul dot_S256x128_S256x128_S256x256_1_1_0_0_n_n none (truncf .bf16 q bitsLt_bf16_f32) (truncf .bf16 k bitsLt_bf16_f32) (constant S256x256 .f32 0x00000000#32))
    (broadcast S256x256 (Scalar.ofBits .f32 0x3DB504F3#32))
/-- One column of a statistic, along the keys. -/
def colW (l : Vec F S256x128 .f32) : FVec F S256x256 .f32 :=
  broadcastTo S256x256 (extractStridedSlice S256x1 ![0, 0] (shapeCast S256x128 l shapeCasts_S256x128_S256x128 : FVec F S256x128 .f32) slices_S256x128_o0_0_S256x1) broadcasts_S256x1_S256x256
/-- The weights, zero off the mask. -/
def prW (M : IVec S256x256 1) (q : Vec F S256x128 .f32) (k : Vec F S256x128 .f32) (l : Vec F S256x128 .f32) : FVec F S256x256 .f32 :=
  select M (exp (subf (scW q k) (colW l))) (broadcast S256x256 (Scalar.ofBits .f32 0x00000000#32))
/-- The gradient of the scores. -/
def dsW (M : IVec S256x256 1) (q g l dl : Vec F S256x128 .f32) (k v : Vec F S256x128 .f32) : FVec F S256x256 .bf16 :=
  truncf .bf16 (mulf (mulf (prW M q k l)
    (subf (matmul dot_S256x128_S256x128_S256x256_1_1_0_0_n_n none (truncf .bf16 g bitsLt_bf16_f32) (truncf .bf16 v bitsLt_bf16_f32) (constant S256x256 .f32 0x00000000#32)) (colW dl)))
    (broadcast S256x256 (Scalar.ofBits .f32 0x3DB504F3#32))) bitsLt_bf16_f32
/-- The unit's part of the gradients of the queries, -/
def dqW (M : IVec S256x256 1) (q g l dl : Vec F S256x128 .f32) (k v : Vec F S256x128 .f32) : FVec F S256x128 .f32 :=
  matmul dot_S256x256_S256x128_S256x128_1_0_0_1_n_n none (dsW M q g l dl k v) (truncf .bf16 k bitsLt_bf16_f32) (constant S256x128 .f32 0x00000000#32)
/-- the keys -/
def dkW (M : IVec S256x256 1) (q g l dl : Vec F S256x128 .f32) (k v : Vec F S256x128 .f32) : FVec F S256x128 .f32 :=
  matmul dot_S256x256_S256x128_S256x128_0_0_1_1_n_n none (dsW M q g l dl k v) (truncf .bf16 q bitsLt_bf16_f32) (constant S256x128 .f32 0x00000000#32)
/-- and the values. -/
def dvW (M : IVec S256x256 1) (q g l : Vec F S256x128 .f32) (k : Vec F S256x128 .f32) : FVec F S256x128 .f32 :=
  matmul dot_S256x256_S256x128_S256x128_0_0_1_1_n_n none (truncf .bf16 (prW M q k l) bitsLt_bf16_f32) (truncf .bf16 g bitsLt_bf16_f32) (constant S256x128 .f32 0x00000000#32)

/-- The scores of 128 queries against 256 keys. -/
def scH (q : Vec F S128x128 .f32) (k : Vec F S256x128 .f32) : FVec F S128x256 .f32 :=
  mulf (matmul dot_S128x128_S256x128_S128x256_1_1_0_0_n_n none (truncf .bf16 q bitsLt_bf16_f32) (truncf .bf16 k bitsLt_bf16_f32) (constant S128x256 .f32 0x00000000#32))
    (broadcast S128x256 (Scalar.ofBits .f32 0x3DB504F3#32))
/-- One column of a statistic, along the keys. -/
def colH (l : Vec F S128x128 .f32) : FVec F S128x256 .f32 :=
  broadcastTo S128x256 (extractStridedSlice S128x1 ![0, 0] (shapeCast S128x128 l shapeCasts_S128x128_S128x128 : FVec F S128x128 .f32) slices_S128x128_o0_0_S128x1) broadcasts_S128x1_S128x256
/-- The weights, zero off the mask. -/
def prH (M : IVec S128x256 1) (q : Vec F S128x128 .f32) (k : Vec F S256x128 .f32) (l : Vec F S128x128 .f32) : FVec F S128x256 .f32 :=
  select M (exp (subf (scH q k) (colH l))) (broadcast S128x256 (Scalar.ofBits .f32 0x00000000#32))
/-- The gradient of the scores. -/
def dsH (M : IVec S128x256 1) (q g l dl : Vec F S128x128 .f32) (k v : Vec F S256x128 .f32) : FVec F S128x256 .bf16 :=
  truncf .bf16 (mulf (mulf (prH M q k l)
    (subf (matmul dot_S128x128_S256x128_S128x256_1_1_0_0_n_n none (truncf .bf16 g bitsLt_bf16_f32) (truncf .bf16 v bitsLt_bf16_f32) (constant S128x256 .f32 0x00000000#32)) (colH dl)))
    (broadcast S128x256 (Scalar.ofBits .f32 0x3DB504F3#32))) bitsLt_bf16_f32
/-- The unit's part of the gradients of the queries, -/
def dqH (M : IVec S128x256 1) (q g l dl : Vec F S128x128 .f32) (k v : Vec F S256x128 .f32) : FVec F S128x128 .f32 :=
  matmul dot_S128x256_S256x128_S128x128_1_0_0_1_n_n none (dsH M q g l dl k v) (truncf .bf16 k bitsLt_bf16_f32) (constant S128x128 .f32 0x00000000#32)
/-- the keys -/
def dkH (M : IVec S128x256 1) (q g l dl : Vec F S128x128 .f32) (k v : Vec F S256x128 .f32) : FVec F S256x128 .f32 :=
  matmul dot_S128x256_S128x128_S256x128_0_0_1_1_n_n none (dsH M q g l dl k v) (truncf .bf16 q bitsLt_bf16_f32) (constant S256x128 .f32 0x00000000#32)
/-- and the values. -/
def dvH (M : IVec S128x256 1) (q g l : Vec F S128x128 .f32) (k : Vec F S256x128 .f32) : FVec F S256x128 .f32 :=
  matmul dot_S128x256_S128x128_S256x128_0_0_1_1_n_n none (truncf .bf16 (prH M q k l) bitsLt_bf16_f32) (truncf .bf16 g bitsLt_bf16_f32) (constant S256x128 .f32 0x00000000#32)

/-- The mask of the branch of dilation 16: keys not after the query, at most 128 steps before it. -/
def maskW : IVec S256x256 1 :=
  andi (cmpi .sle (iota .tc S256x256 32 [1] iota_S256x256_d1_w32) (iota .tc S256x256 32 [0] iota_S256x256_d0_w32))
    (cmpi .sle (subi (iota .tc S256x256 32 [0] iota_S256x256_d0_w32) (iota .tc S256x256 32 [1] iota_S256x256_d1_w32)) (broadcast S256x256 128#32))
/-- The mask of a window of 128 queries against the window before it and itself; the first window has none before it. -/
def maskH (b : BitVec 1) : IVec S128x256 1 :=
  ori (andi (andi (cmpi .slt (iota .tc S128x256 32 [1] iota_S128x256_d1_w32) (broadcast S128x256 128#32))
        (cmpi .sge (iota .tc S128x256 32 [1] iota_S128x256_d1_w32) (iota .tc S128x256 32 [0] iota_S128x256_d0_w32)))
      (broadcast S128x256 b))
    (andi (cmpi .sge (iota .tc S128x256 32 [1] iota_S128x256_d1_w32) (broadcast S128x256 128#32))
      (cmpi .sle (subi (iota .tc S128x256 32 [1] iota_S128x256_d1_w32) (broadcast S128x256 128#32)) (iota .tc S128x256 32 [0] iota_S128x256_d0_w32)))
/-- Whether unit `k + 4 j`'s window of queries has one before it: the bit each trip forms. -/
def bit4 (k : Fin k0_t4_loop.trips) (j : Fin 8) : BitVec 1 :=
  match j with
  | 0 => trip4.sl.v67 k | 2 => trip4.sl.v161 k | 4 => trip4.sl.v255 k | 6 => trip4.sl.v349 k
  | _ => 1#1
def bit5 (k : Fin k0_t5_loop.trips) (j : Fin 8) : BitVec 1 :=
  match j with
  | 0 => trip5.sl.v69 k | 7 => Scalar.cmpi .sgt (trip5.sl.v400 k) 0#32
  | _ => 1#1
theorem bit4_eq : ∀ (k : Fin k0_t4_loop.trips) (j : Fin 8), bit4 k j = if 0 < k.val + 4 * (j.val % 2) then 1#1 else 0#1 := by decide +kernel
theorem bit5_eq : ∀ (k : Fin k0_t5_loop.trips) (j : Fin 8), bit5 k j = if 0 < k.val + 4 * j.val then 1#1 else 0#1 := by decide +kernel

/-- The rows of unit `k + 4 j`: its queries in the branches of dilation 4 and 1, and its keys. -/
def rq4 (k : Fin k0_t4_loop.trips) (j : Fin 8) : Rect S4096x128 :=
  ⟨⟨k0_off7 k (BitVec.ofNat 32 (4 * j.val)), S128x128.size, ![4, 1], k0_off7_inb k j⟩, spos_4_1⟩
def rk4 (k : Fin k0_t4_loop.trips) (j : Fin 8) : Rect S6144x128 :=
  ⟨⟨k0_off8 k (BitVec.ofNat 32 (4 * j.val)), S256x128.size, ![4, 1], k0_off8_inb k j⟩, spos_4_1⟩
def rq5 (k : Fin k0_t5_loop.trips) (j : Fin 8) : Rect S4096x128 := Rect.unit (k0_off9 k (BitVec.ofNat 32 (4 * j.val))) S128x128.size (k0_off9_inb k j)
def rk5 (k : Fin k0_t5_loop.trips) (j : Fin 8) : Rect S6144x128 := Rect.unit (k0_off10 k (BitVec.ofNat 32 (4 * j.val))) S256x128.size (k0_off10_inb k j)

/-- Pieces stored one after the other, each over what the ones before it left. -/
def build {sig : RefSig} {κ : Kind} {sp : Space} {s : Shape} {e : EltTy} (v : View sig κ sp s e) (f : v.ty.Contents (Elt F))
    (r : Fin 8 → Rect s) (W : (j : Fin 8) → ((r j).shape.Idx → Elt F e) → ((r j).shape.Idx → Elt F e)) : List (Fin 8) → List (View.Piece (Elt F) s e)
  | [] => []
  | j :: js => ⟨r j, W j (v.readAt (Elt F) (r j).toLoadRect (v.writes (Elt F) f (build v f r W js)))⟩ :: build v f r W js
/-- Pieces stored over disjoint rows: each over what stood there at first. -/
def buildF {sig : RefSig} {κ : Kind} {sp : Space} {s : Shape} {e : EltTy} (v : View sig κ sp s e) (f : v.ty.Contents (Elt F))
    (r : Fin 8 → Rect s) (W : (j : Fin 8) → ((r j).shape.Idx → Elt F e) → ((r j).shape.Idx → Elt F e)) : List (Fin 8) → List (View.Piece (Elt F) s e)
  | [] => []
  | j :: js => ⟨r j, W j (v.readAt (Elt F) (r j).toLoadRect f)⟩ :: buildF v f r W js
def down8 : List (Fin 8) := [7, 6, 5, 4, 3, 2, 1, 0]

/-- A stored part, added to what stood there. -/
def addQ (d c : Vec F S128x128 .f32) : Vec F S128x128 .f32 := shapeCast S128x128 (addf c d : FVec F S128x128 .f32) shapeCasts_S128x128_S128x128
def addK (d c : Vec F S256x128 .f32) : Vec F S256x128 .f32 := shapeCast S256x128 (addf c d : FVec F S256x128 .f32) shapeCasts_S256x128_S256x128

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty)

/-- The parts of unit `k + 4 j` of loop 4. -/
def DQ4 (k : Fin k0_t4_loop.trips) (j : Fin 8) : Vec F S128x128 .f32 :=
  dqH (maskH (bit4 k j)) (View.readAt (Elt F) arg1.view (rq4 k j).toLoadRect X1) (View.readAt (Elt F) arg4.view (rq4 k j).toLoadRect X4) (View.readAt (Elt F) arg5.view (rq4 k j).toLoadRect X5) (View.readAt (Elt F) arg6.view (rq4 k j).toLoadRect X6) (View.readAt (Elt F) arg13.view (rk4 k j).toLoadRect X13) (View.readAt (Elt F) arg14.view (rk4 k j).toLoadRect X14)
def DK4 (k : Fin k0_t4_loop.trips) (j : Fin 8) : Vec F S256x128 .f32 :=
  dkH (maskH (bit4 k j)) (View.readAt (Elt F) arg1.view (rq4 k j).toLoadRect X1) (View.readAt (Elt F) arg4.view (rq4 k j).toLoadRect X4) (View.readAt (Elt F) arg5.view (rq4 k j).toLoadRect X5) (View.readAt (Elt F) arg6.view (rq4 k j).toLoadRect X6) (View.readAt (Elt F) arg13.view (rk4 k j).toLoadRect X13) (View.readAt (Elt F) arg14.view (rk4 k j).toLoadRect X14)
def DV4 (k : Fin k0_t4_loop.trips) (j : Fin 8) : Vec F S256x128 .f32 :=
  dvH (maskH (bit4 k j)) (View.readAt (Elt F) arg1.view (rq4 k j).toLoadRect X1) (View.readAt (Elt F) arg4.view (rq4 k j).toLoadRect X4) (View.readAt (Elt F) arg5.view (rq4 k j).toLoadRect X5) (View.readAt (Elt F) arg13.view (rk4 k j).toLoadRect X13)

/-- The parts of unit `k + 4 j` of loop 5. -/
def DQ5 (k : Fin k0_t5_loop.trips) (j : Fin 8) : Vec F S128x128 .f32 :=
  dqH (maskH (bit5 k j)) (View.readAt (Elt F) arg1.view (rq5 k j).toLoadRect X1) (View.readAt (Elt F) arg4.view (rq5 k j).toLoadRect X4) (View.readAt (Elt F) arg5.view (rq5 k j).toLoadRect X5) (View.readAt (Elt F) arg6.view (rq5 k j).toLoadRect X6) (View.readAt (Elt F) arg13.view (rk5 k j).toLoadRect X13) (View.readAt (Elt F) arg14.view (rk5 k j).toLoadRect X14)
def DK5 (k : Fin k0_t5_loop.trips) (j : Fin 8) : Vec F S256x128 .f32 :=
  dkH (maskH (bit5 k j)) (View.readAt (Elt F) arg1.view (rq5 k j).toLoadRect X1) (View.readAt (Elt F) arg4.view (rq5 k j).toLoadRect X4) (View.readAt (Elt F) arg5.view (rq5 k j).toLoadRect X5) (View.readAt (Elt F) arg6.view (rq5 k j).toLoadRect X6) (View.readAt (Elt F) arg13.view (rk5 k j).toLoadRect X13) (View.readAt (Elt F) arg14.view (rk5 k j).toLoadRect X14)
def DV5 (k : Fin k0_t5_loop.trips) (j : Fin 8) : Vec F S256x128 .f32 :=
  dvH (maskH (bit5 k j)) (View.readAt (Elt F) arg1.view (rq5 k j).toLoadRect X1) (View.readAt (Elt F) arg4.view (rq5 k j).toLoadRect X4) (View.readAt (Elt F) arg5.view (rq5 k j).toLoadRect X5) (View.readAt (Elt F) arg13.view (rk5 k j).toLoadRect X13)

/-- The parts of unit `k + 8 u` of the branch of dilation 16. -/
def DQ3 (k : Fin k0_t3_loop.trips) (u : Fin 2) : Vec F S256x128 .f32 :=
  shapeCast S256x128 (dqW maskW (View.readAt (Elt F) arg1.view (rect5 k u).toLoadRect X1) (View.readAt (Elt F) arg4.view (rect5 k u).toLoadRect X4) (View.readAt (Elt F) arg5.view (rect5 k u).toLoadRect X5) (View.readAt (Elt F) arg6.view (rect5 k u).toLoadRect X6) (View.readAt (Elt F) arg13.view (rect6 k u).toLoadRect X13) (View.readAt (Elt F) arg14.view (rect6 k u).toLoadRect X14)) shapeCasts_S256x128_S256x128
def DK3 (k : Fin k0_t3_loop.trips) (u : Fin 2) : Vec F S256x128 .f32 :=
  shapeCast S256x128 (dkW maskW (View.readAt (Elt F) arg1.view (rect5 k u).toLoadRect X1) (View.readAt (Elt F) arg4.view (rect5 k u).toLoadRect X4) (View.readAt (Elt F) arg5.view (rect5 k u).toLoadRect X5) (View.readAt (Elt F) arg6.view (rect5 k u).toLoadRect X6) (View.readAt (Elt F) arg13.view (rect6 k u).toLoadRect X13) (View.readAt (Elt F) arg14.view (rect6 k u).toLoadRect X14)) shapeCasts_S256x128_S256x128
def DV3 (k : Fin k0_t3_loop.trips) (u : Fin 2) : Vec F S256x128 .f32 :=
  shapeCast S256x128 (dvW maskW (View.readAt (Elt F) arg1.view (rect5 k u).toLoadRect X1) (View.readAt (Elt F) arg4.view (rect5 k u).toLoadRect X4) (View.readAt (Elt F) arg5.view (rect5 k u).toLoadRect X5) (View.readAt (Elt F) arg13.view (rect6 k u).toLoadRect X13)) shapeCasts_S256x128_S256x128
theorem trip3_10 (k : Fin k0_t3_loop.trips) : (trip3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).1 = [⟨rect5 k 1, DQ3 arg1 arg4 arg5 arg6 arg13 arg14 X1 X4 X5 X6 X13 X14 k 1⟩, ⟨rect5 k 0, DQ3 arg1 arg4 arg5 arg6 arg13 arg14 X1 X4 X5 X6 X13 X14 k 0⟩] := by sl_kernel_rfl
theorem trip3_11 (k : Fin k0_t3_loop.trips) : (trip3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.1 = [⟨rect6 k 1, DK3 arg1 arg4 arg5 arg6 arg13 arg14 X1 X4 X5 X6 X13 X14 k 1⟩, ⟨rect6 k 0, DK3 arg1 arg4 arg5 arg6 arg13 arg14 X1 X4 X5 X6 X13 X14 k 0⟩] := by sl_kernel_rfl
theorem trip3_12 (k : Fin k0_t3_loop.trips) : (trip3 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 k).2.2.1 = [⟨rect6 k 1, DV3 arg1 arg4 arg5 arg13 X1 X4 X5 X13 k 1⟩, ⟨rect6 k 0, DV3 arg1 arg4 arg5 arg13 X1 X4 X5 X13 k 0⟩] := by sl_kernel_rfl

end Cert.KernelIdeal.Hand

end
-- ==== Proof.Trips.lean ====
module

public import proofs.«01_k».proof.Proof.Units

/-! Each trip of the branches of dilation 4 and 1 as the eight units it runs. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (X1 : BufTy.Contents (Elt F) arg1.view.ty) (X4 : BufTy.Contents (Elt F) arg4.view.ty) (X5 : BufTy.Contents (Elt F) arg5.view.ty) (X6 : BufTy.Contents (Elt F) arg6.view.ty) (X13 : BufTy.Contents (Elt F) arg13.view.ty) (X14 : BufTy.Contents (Elt F) arg14.view.ty) (f10 : BufTy.Contents (Elt F) arg10.view.ty) (f11 : BufTy.Contents (Elt F) arg11.view.ty) (f12 : BufTy.Contents (Elt F) arg12.view.ty)

theorem trip4_10 (k : Fin k0_t4_loop.trips) : (trip4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 f10 f11 f12 k).1
    = arg10.view.writes (Elt F) f10 (build arg10.view f10 (rq4 k) (fun j => addQ (DQ4 arg1 arg4 arg5 arg6 arg13 arg14 X1 X4 X5 X6 X13 X14 k j)) down8) := by sl_kernel_rfl
theorem trip4_11 (k : Fin k0_t4_loop.trips) : (trip4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 f10 f11 f12 k).2.1
    = arg11.view.writes (Elt F) f11 (build arg11.view f11 (rk4 k) (fun j => addK (DK4 arg1 arg4 arg5 arg6 arg13 arg14 X1 X4 X5 X6 X13 X14 k j)) down8) := by sl_kernel_rfl
theorem trip4_12 (k : Fin k0_t4_loop.trips) : (trip4 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 f10 f11 f12 k).2.2.1
    = arg12.view.writes (Elt F) f12 (build arg12.view f12 (rk4 k) (fun j => addK (DV4 arg1 arg4 arg5 arg13 X1 X4 X5 X13 k j)) down8) := by sl_kernel_rfl

theorem trip5_10 (k : Fin k0_t5_loop.trips) : (trip5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 f10 f11 f12 k).1
    = arg10.view.writes (Elt F) f10 (buildF arg10.view f10 (rq5 k) (fun j => addQ (DQ5 arg1 arg4 arg5 arg6 arg13 arg14 X1 X4 X5 X6 X13 X14 k j)) down8) := by sl_kernel_rfl
theorem trip5_11 (k : Fin k0_t5_loop.trips) : (trip5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 f10 f11 f12 k).2.1
    = arg11.view.writes (Elt F) f11 (buildF arg11.view f11 (rk5 k) (fun j => addK (DK5 arg1 arg4 arg5 arg6 arg13 arg14 X1 X4 X5 X6 X13 X14 k j)) down8) := by sl_kernel_rfl
theorem trip5_12 (k : Fin k0_t5_loop.trips) : (trip5 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 X1 X4 X5 X6 X13 X14 f10 f11 f12 k).2.2.1
    = arg12.view.writes (Elt F) f12 (buildF arg12.view f12 (rk5 k) (fun j => addK (DV5 arg1 arg4 arg5 arg13 X1 X4 X5 X13 k j)) down8) := by sl_kernel_rfl

end Cert.KernelIdeal.Hand

end
-- ==== Proof.Elem.lean ====
module

public import proofs.«01_k».proof.Proof.Trips
public import Idealize.ShloMosaic.Lib.Pipeline.ValueKit

/-! What one unit computes, entry by entry, over the extended reals. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open scoped BigOperators
set_option maxRecDepth 16384

/-- The scale of the scores. -/
def Scl : EReal := Ideal.ofBits .f32 0x3DB504F3#32
/-- The weight a query `q` gives to a key `k`, from the logarithm `l` of the sum over its row. -/
def wP (q k : Fin 128 → EReal) (l : EReal) : EReal := Ideal.exp ((∑ e, q e * k e) * Scl - l)
/-- The gradient of the score of `q` and `k`, from the gradient `g` of the row and `dl`, the row's sum of weights times gradients. -/
def wG (q g k v : Fin 128 → EReal) (l dl : EReal) : EReal := wP q k l * ((∑ e, g e * v e) - dl) * Scl

theorem sel_ite (P : Prop) [Decidable P] (a b : EReal) : Scalar.select (if P then 1#1 else 0#1) a b = if P then a else b := by
  by_cases h : P <;> simp [h, Scalar.select]

theorem subi_ofNat (a b : ℕ) (ha : a < 2 ^ 32) (h : b ≤ a) : IntOp.subi (BitVec.ofNat 32 a) (BitVec.ofNat 32 b) = BitVec.ofNat 32 (a - b) := by
  refine BitVec.eq_of_toNat_eq ?_
  show (BitVec.ofNat 32 a - BitVec.ofNat 32 b).toNat = _
  rw [BitVec.toNat_sub, BitVec.toNat_ofNat, BitVec.toNat_ofNat, BitVec.toNat_ofNat]
  omega
theorem and_bits (P Q : Prop) [Decidable P] [Decidable Q] : IntOp.andi (BitVec.ofBool (decide P)) (BitVec.ofBool (decide Q)) = BitVec.ofBool (decide (P ∧ Q)) := by
  by_cases hP : P <;> by_cases hQ : Q <;> simp [hP, hQ, IntOp.andi]
theorem or_bits (P Q : Prop) [Decidable P] [Decidable Q] : IntOp.ori (BitVec.ofBool (decide P)) (BitVec.ofBool (decide Q)) = BitVec.ofBool (decide (P ∨ Q)) := by
  by_cases hP : P <;> by_cases hQ : Q <;> simp [hP, hQ, IntOp.ori]
theorem bit_ite (P : Prop) [Decidable P] : BitVec.ofBool (decide P) = if P then 1#1 else 0#1 := by
  by_cases hP : P <;> simp [hP]
theorem bit_self : ∀ b : BitVec 1, b = BitVec.ofBool (decide (b = 1#1)) := by decide
theorem and_zero (x : BitVec 1) : IntOp.andi 0#1 x = 0#1 := by revert x; decide
theorem maskW_val (ii jj : Fin 256) : maskW (ix2 ii jj) = if (jj.val ≤ ii.val ∧ ii.val ≤ jj.val + 128) then 1#1 else 0#1 := by
  have hi := ii.isLt
  have hj := jj.isLt
  unfold maskW
  pointwise
  rw [WordCmp.cmpi_sle_ofNat (w := 32) (by omega) (by omega)]
  by_cases h : jj.val ≤ ii.val
  · rw [subi_ofNat _ _ (by omega) h, WordCmp.cmpi_sle_ofNat (w := 32) (by omega) (by omega), and_bits, bit_ite]
    refine if_congr ?_ rfl rfl
    omega
  · rw [if_neg (fun h' => h h'.1), show BitVec.ofBool (decide (jj.val ≤ ii.val)) = 0#1 by simp [h]]
    exact and_zero _
/-- Whether query `ii` of a window meets key `jj`: of the window before (`jj < 128`, there if `b` says so) or of its own. -/
def okH (b : BitVec 1) (ii jj : ℕ) : Prop := (jj < 128 ∧ ii ≤ jj ∧ b = 1#1) ∨ (128 ≤ jj ∧ jj ≤ ii + 128)
instance (b : BitVec 1) (ii jj : ℕ) : Decidable (okH b ii jj) := inferInstanceAs (Decidable (_ ∨ _))
theorem maskH_val (b : BitVec 1) (ii : Fin 128) (jj : Fin 256) : maskH b (ix2 ii jj)
    = if okH b ii.val jj.val then 1#1 else 0#1 := by
  have hi := ii.isLt
  have hj := jj.isLt
  unfold maskH okH
  pointwise
  rw [bit_self b, WordCmp.cmpi_slt_ofNat (w := 32) (by omega) (by omega), WordCmp.cmpi_sge_ofNat (w := 32) (by omega) (by omega), WordCmp.cmpi_sge_ofNat (w := 32) (by omega) (by omega), and_bits, and_bits]
  by_cases h : 128 ≤ jj.val
  · rw [subi_ofNat _ _ (by omega) h, WordCmp.cmpi_sle_ofNat (w := 32) (by omega) (by omega), and_bits, or_bits, bit_ite, ← bit_self]
    refine if_congr ?_ rfl rfl
    omega
  · rw [show BitVec.ofBool (decide (128 ≤ jj.val)) = BitVec.ofBool (decide False) by simp [h], show IntOp.andi (BitVec.ofBool (decide False)) _ = _ from and_zero _,
      show (0#1 : BitVec 1) = BitVec.ofBool (decide False) from rfl, or_bits, bit_ite, ← bit_self]
    refine if_congr ?_ rfl rfl
    simp [h, show jj.val < 128 by omega]

theorem dqW_val  (q g l dl : Vec Ideal S256x128 .f32) (k v : Vec Ideal S256x128 .f32) (x : S256x128.Idx) :
    (dqW maskW q g l dl k v x : EReal) = ∑ jj : Fin 256, if (jj.val ≤ (x 0).val ∧ (x 0).val ≤ jj.val + 128) then
      wG (fun e => q (ix2 (x 0) e)) (fun e => g (ix2 (x 0) e)) (fun e => k (ix2 jj e)) (fun e => v (ix2 jj e)) (l (ix2 (x 0) 0)) (dl (ix2 (x 0) 0)) * k (ix2 jj (x 1)) else 0 := by
  unfold dqW dsW prW scW colW wG wP Scl
  pointwise
  refine Finset.sum_congr rfl fun jj _ => ?_
  exact (congrArg (fun m => Scalar.select m _ (0 : EReal)) (maskW_val _ _)).trans (sel_ite _ _ _)
theorem dkW_val  (q g l dl : Vec Ideal S256x128 .f32) (k v : Vec Ideal S256x128 .f32) (x : S256x128.Idx) :
    (dkW maskW q g l dl k v x : EReal) = ∑ ii : Fin 256, if ((x 0).val ≤ ii.val ∧ ii.val ≤ (x 0).val + 128) then
      wG (fun e => q (ix2 ii e)) (fun e => g (ix2 ii e)) (fun e => k (ix2 (x 0) e)) (fun e => v (ix2 (x 0) e)) (l (ix2 ii 0)) (dl (ix2 ii 0)) * q (ix2 ii (x 1)) else 0 := by
  unfold dkW dsW prW scW colW wG wP Scl
  pointwise
  refine Finset.sum_congr rfl fun ii _ => ?_
  exact (congrArg (fun m => Scalar.select m _ (0 : EReal)) (maskW_val _ _)).trans (sel_ite _ _ _)
theorem dvW_val  (q g l : Vec Ideal S256x128 .f32) (k : Vec Ideal S256x128 .f32) (x : S256x128.Idx) :
    (dvW maskW q g l k x : EReal) = ∑ ii : Fin 256, if ((x 0).val ≤ ii.val ∧ ii.val ≤ (x 0).val + 128) then
      wP (fun e => q (ix2 ii e)) (fun e => k (ix2 (x 0) e)) (l (ix2 ii 0)) * g (ix2 ii (x 1)) else 0 := by
  unfold dvW prW scW colW wP Scl
  pointwise
  refine Finset.sum_congr rfl fun ii _ => ?_
  exact (congrArg (fun m => Scalar.select m _ (0 : EReal)) (maskW_val _ _)).trans (sel_ite _ _ _)

theorem dqH_val (b : BitVec 1) (q g l dl : Vec Ideal S128x128 .f32) (k v : Vec Ideal S256x128 .f32) (x : S128x128.Idx) :
    (dqH (maskH b) q g l dl k v x : EReal) = ∑ jj : Fin 256, if okH b (x 0).val jj.val then
      wG (fun e => q (ix2 (x 0) e)) (fun e => g (ix2 (x 0) e)) (fun e => k (ix2 jj e)) (fun e => v (ix2 jj e)) (l (ix2 (x 0) 0)) (dl (ix2 (x 0) 0)) * k (ix2 jj (x 1)) else 0 := by
  unfold dqH dsH prH scH colH wG wP Scl
  pointwise
  refine Finset.sum_congr rfl fun jj _ => ?_
  exact (congrArg (fun m => Scalar.select m _ (0 : EReal)) (maskH_val b _ _)).trans (sel_ite _ _ _)
theorem dkH_val (b : BitVec 1) (q g l dl : Vec Ideal S128x128 .f32) (k v : Vec Ideal S256x128 .f32) (x : S256x128.Idx) :
    (dkH (maskH b) q g l dl k v x : EReal) = ∑ ii : Fin 128, if okH b ii.val (x 0).val then
      wG (fun e => q (ix2 ii e)) (fun e => g (ix2 ii e)) (fun e => k (ix2 (x 0) e)) (fun e => v (ix2 (x 0) e)) (l (ix2 ii 0)) (dl (ix2 ii 0)) * q (ix2 ii (x 1)) else 0 := by
  unfold dkH dsH prH scH colH wG wP Scl
  pointwise
  refine Finset.sum_congr rfl fun ii _ => ?_
  exact (congrArg (fun m => Scalar.select m _ (0 : EReal)) (maskH_val b _ _)).trans (sel_ite _ _ _)
theorem dvH_val (b : BitVec 1) (q g l : Vec Ideal S128x128 .f32) (k : Vec Ideal S256x128 .f32) (x : S256x128.Idx) :
    (dvH (maskH b) q g l k x : EReal) = ∑ ii : Fin 128, if okH b ii.val (x 0).val then
      wP (fun e => q (ix2 ii e)) (fun e => k (ix2 (x 0) e)) (l (ix2 ii 0)) * g (ix2 ii (x 1)) else 0 := by
  unfold dvH prH scH colH wP Scl
  pointwise
  refine Finset.sum_congr rfl fun ii _ => ?_
  exact (congrArg (fun m => Scalar.select m _ (0 : EReal)) (maskH_val b _ _)).trans (sel_ite _ _ _)

/-! ### Pieces added over an accumulator -/

theorem read_build {sig : RefSig} {κ : Kind} {sp : Space} {s : Shape} (v : View sig κ sp s .f32) (f : v.ty.Contents (Elt Ideal))
    (r : Fin 8 → Rect s) (W : (j : Fin 8) → ((r j).shape.Idx → Elt Ideal .f32) → ((r j).shape.Idx → Elt Ideal .f32))
    (D : Fin 8 → s.Idx → EReal) (hW : ∀ j c x, (W j c x : EReal) = (c x : EReal) + D j ((r j).toLoadRect.idx x))
    (hD : ∀ j y, y ∉ (r j).set → D j y = 0) (y : s.Idx) : ∀ js : List (Fin 8),
    (v.read (Elt Ideal) (v.writes (Elt Ideal) f (build v f r W js)) y : EReal) = (v.read (Elt Ideal) f y : EReal) + (js.map fun j => D j y).sum
  | [] => (add_zero (v.read (Elt Ideal) f y : EReal)).symm
  | j :: js => by
    have ih := read_build v f r W D hW hD y js
    rw [List.map_cons, List.sum_cons]
    by_cases hy : y ∈ (r j).set
    · obtain ⟨x, rfl⟩ := (r j).exists_idx_of_mem hy
      refine (View.read_writes_cons_emb v f (r j) _ _ x).trans ((hW j _ x).trans ?_)
      refine (congrArg (fun z : EReal => z + D j ((r j).idx x)) ih).trans ?_
      exact (add_assoc (G := EReal) _ _ _).trans (congrArg (fun z : EReal => (v.read (Elt Ideal) f ((r j).idx x) : EReal) + z) (add_comm (G := EReal) _ _))
    · rw [hD j y hy, zero_add, ← ih]
      exact View.read_writes_cons_miss v f _ _ y hy

theorem read_buildF {sig : RefSig} {κ : Kind} {sp : Space} {s : Shape} (v : View sig κ sp s .f32) (f : v.ty.Contents (Elt Ideal))
    (r : Fin 8 → Rect s) (W : (j : Fin 8) → ((r j).shape.Idx → Elt Ideal .f32) → ((r j).shape.Idx → Elt Ideal .f32))
    (D : Fin 8 → s.Idx → EReal) (hW : ∀ j c x, (W j c x : EReal) = (c x : EReal) + D j ((r j).toLoadRect.idx x))
    (hD : ∀ j y, y ∉ (r j).set → D j y = 0) (hdis : ∀ j j' y, y ∈ (r j).set → y ∈ (r j').set → j = j') (y : s.Idx) : ∀ js : List (Fin 8), js.Nodup →
    (v.read (Elt Ideal) (v.writes (Elt Ideal) f (buildF v f r W js)) y : EReal) = (v.read (Elt Ideal) f y : EReal) + (js.map fun j => D j y).sum
  | [], _ => (add_zero (v.read (Elt Ideal) f y : EReal)).symm
  | j :: js, hn => by
    rw [List.map_cons, List.sum_cons]
    by_cases hy : y ∈ (r j).set
    · have h0 : (js.map fun j => D j y).sum = 0 := by
        refine List.sum_eq_zero fun z hz => ?_
        obtain ⟨j', hj', rfl⟩ := List.mem_map.mp hz
        refine hD j' y fun h' => ?_
        rw [hdis j j' y hy h'] at hn
        exact (List.nodup_cons.mp hn).1 hj'
      rw [h0, add_zero]
      obtain ⟨x, rfl⟩ := (r j).exists_idx_of_mem hy
      exact (View.read_writes_cons_emb v f (r j) _ _ x).trans (hW j _ x)
    · rw [hD j y hy, zero_add, ← read_buildF v f r W D hW hD hdis y js (List.nodup_cons.mp hn).2]
      exact View.read_writes_cons_miss v f _ _ y hy

theorem sum_down8 (g : Fin 8 → EReal) : (down8.map g).sum = ∑ j : Fin 8, g j := by
  simp only [down8, List.map_cons, List.map_nil, List.sum_cons, List.sum_nil, Fin.sum_univ_eight]
  abel

theorem sum_ite_bij {A B : Type} [Fintype A] [Fintype B] (p : A → Prop) [DecidablePred p] (q : B → Prop) [DecidablePred q]
    (f : A → EReal) (g : B → EReal) (i : A → B) (i' : B → A) (h1 : ∀ a, p a → q (i a)) (h2 : ∀ b, q b → p (i' b))
    (h3 : ∀ a, p a → i' (i a) = a) (h4 : ∀ b, q b → i (i' b) = b) (h5 : ∀ a, p a → f a = g (i a)) :
    (∑ a, if p a then f a else 0) = ∑ b, if q b then g b else 0 := by
  rw [← Finset.sum_filter, ← Finset.sum_filter]
  refine Finset.sum_nbij' i i' ?_ ?_ ?_ ?_ ?_
  · intro a ha; exact Finset.mem_filter.mpr ⟨Finset.mem_univ _, h1 a (Finset.mem_filter.mp ha).2⟩
  · intro a ha; exact Finset.mem_filter.mpr ⟨Finset.mem_univ _, h2 a (Finset.mem_filter.mp ha).2⟩
  · intro a ha; exact h3 a (Finset.mem_filter.mp ha).2
  · intro a ha; exact h4 a (Finset.mem_filter.mp ha).2
  · intro a ha; exact h5 a (Finset.mem_filter.mp ha).2

end Cert.KernelIdeal.Hand

end
-- ==== Proof.Sums.lean ====
module

public import proofs.«01_k».proof.Proof.Elem

/-! A unit of each branch as a sum over the keys a query meets, or over the queries that meet a key. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open scoped BigOperators
set_option maxRecDepth 16384

/-- Row `n` of an array. -/
def rowOf (x : Vec Ideal S4096x128 .f32) (n : ℕ) : Fin 128 → EReal := fun e => if h : n < 4096 then x (ix2 ⟨n, h⟩ e) else 0
/-- Query `t` meets key `t'` in the branch of dilation `d`: not after it, a multiple of `d` before it, at most `128 d` before it. -/
def Md (d t t' : ℕ) : Prop := t' ≤ t ∧ t ≤ t' + 128 * d ∧ t % d = t' % d
instance (d t t' : ℕ) : Decidable (Md d t t') := inferInstanceAs (Decidable (_ ∧ _))
/-- A sum over the keys query `t` meets. -/
def Sq (d : ℕ) (K : ℕ → ℕ → EReal) (t : ℕ) : EReal := ∑ t' : Fin 4096, if Md d t t'.val then K t t'.val else 0
/-- A sum over the queries of unit `n` that meet the key in row `r` of the padded keys. -/
def Sk (d : ℕ) (u : ℕ → ℕ) (n : ℕ) (K : ℕ → ℕ → EReal) (r : ℕ) : EReal :=
  ∑ t : Fin 4096, if (2048 ≤ r ∧ u t.val = n ∧ Md d t.val (r - 2048)) then K t.val (r - 2048) else 0

variable (x1 x2 x3 x4 x5 x6 : Vec Ideal S4096x128 .f32)
/-- The weight query `t` gives to key `t'`, -/
def PP (t t' : ℕ) : EReal := wP (rowOf x1 t) (rowOf x2 t') (rowOf x5 t 0)
/-- and the gradient of their score. -/
def GG (t t' : ℕ) : EReal := wG (rowOf x1 t) (rowOf x4 t) (rowOf x2 t') (rowOf x3 t') (rowOf x5 t 0) (rowOf x6 t 0)

variable {x1 x2 x3 x4 x5 x6}
theorem wG_congr {q g k v q' g' k' v' : Fin 128 → EReal} {l dl l' dl' z z' : EReal} (hq : ∀ e, q e = q' e) (hg : ∀ e, g e = g' e)
    (hk : ∀ e, k e = k' e) (hv : ∀ e, v e = v' e) (hl : l = l') (hdl : dl = dl') (hz : z = z') : wG q g k v l dl * z = wG q' g' k' v' l' dl' * z' := by
  rw [funext hq, funext hg, funext hk, funext hv, hl, hdl, hz]

theorem dq_unit16 (a : ℕ) (ha : a < 16) (q g l dl : Vec Ideal S256x128 .f32) (k v : Vec Ideal S256x128 .f32)
    (hq : ∀ (ii : Fin 256) e, (q (ix2 ii e) : EReal) = rowOf x1 (a + 16 * ii.val) e) (hg : ∀ (ii : Fin 256) e, (g (ix2 ii e) : EReal) = rowOf x4 (a + 16 * ii.val) e)
    (hl : ∀ (ii : Fin 256), (l (ix2 ii 0) : EReal) = rowOf x5 (a + 16 * ii.val) 0) (hk : ∀ (jj : Fin 256) e, (k (ix2 jj e) : EReal) = rowOf x2 (a + 16 * jj.val) e)
    (hdl : ∀ (ii : Fin 256), (dl (ix2 ii 0) : EReal) = rowOf x6 (a + 16 * ii.val) 0) (hv : ∀ (jj : Fin 256) e, (v (ix2 jj e) : EReal) = rowOf x3 (a + 16 * jj.val) e) (x : S256x128.Idx) :
    (dqW maskW q g l dl k v x : EReal) = Sq 16 (fun t t' => GG x1 x2 x3 x4 x5 x6 t t' * rowOf x2 t' (x 1)) (a + 16 * (x 0).val) := by
  have hx : (x 0).val < 256 := (x 0).isLt
  rw [dqW_val]
  unfold Sq
  refine sum_ite_bij _ _ _ _ (fun jj => ⟨(a + 16 * jj.val) % 4096, Nat.mod_lt _ (by decide)⟩) (fun t' => ⟨(t'.val - a) / 16 % 256, Nat.mod_lt _ (by decide)⟩) ?_ ?_ ?_ ?_ ?_
  · intro jj h
    have hj := jj.isLt
    refine ⟨?_, ?_, ?_⟩ <;> dsimp only <;> omega
  · rintro t' ⟨h1, h2, h3⟩
    have ht := t'.isLt
    dsimp only
    omega
  · intro jj h
    have hj := jj.isLt
    refine Fin.ext ?_
    dsimp only
    omega
  · rintro t' ⟨h1, h2, h3⟩
    have ht := t'.isLt
    refine Fin.ext ?_
    dsimp only
    omega
  · intro jj h
    have hj := jj.isLt

    have e : (a + 16 * jj.val) % 4096 = (a + 16 * jj.val) := by omega
    dsimp only
    rw [e]
    exact wG_congr (hq _) (hg _) (fun e => hk jj e) (fun e => hv jj e) (hl _) (hdl _) (hk jj _)

theorem dk_unit16 (a : ℕ) (ha : a < 16) (q g l dl : Vec Ideal S256x128 .f32) (k v : Vec Ideal S256x128 .f32)
    (hq : ∀ (ii : Fin 256) e, (q (ix2 ii e) : EReal) = rowOf x1 (a + 16 * ii.val) e) (hg : ∀ (ii : Fin 256) e, (g (ix2 ii e) : EReal) = rowOf x4 (a + 16 * ii.val) e)
    (hl : ∀ (ii : Fin 256), (l (ix2 ii 0) : EReal) = rowOf x5 (a + 16 * ii.val) 0) (hk : ∀ (jj : Fin 256) e, (k (ix2 jj e) : EReal) = rowOf x2 (a + 16 * jj.val) e)
    (hdl : ∀ (ii : Fin 256), (dl (ix2 ii 0) : EReal) = rowOf x6 (a + 16 * ii.val) 0) (hv : ∀ (jj : Fin 256) e, (v (ix2 jj e) : EReal) = rowOf x3 (a + 16 * jj.val) e) (u : ℕ → ℕ) (hu : ∀ t, u t = t % 16) (x : S256x128.Idx) :
    (dkW maskW q g l dl k v x : EReal) = Sk 16 u (a) (fun t t' => GG x1 x2 x3 x4 x5 x6 t t' * rowOf x1 t (x 1)) (a + 16 * (x 0).val + 2048) := by
  have hx : (x 0).val < 256 := (x 0).isLt
  rw [dkW_val]
  unfold Sk
  refine sum_ite_bij _ _ _ _ (fun ii => ⟨(a + 16 * ii.val) % 4096, Nat.mod_lt _ (by decide)⟩) (fun t => ⟨(t.val - a) / 16 % 256, Nat.mod_lt _ (by decide)⟩) ?_ ?_ ?_ ?_ ?_
  · intro ii h
    have hj := ii.isLt
    refine ⟨?_, ?_, ?_, ?_, ?_⟩ <;> (try rw [hu]) <;> dsimp only <;> omega
  · rintro t ⟨h0, h4, h1, h2, h3⟩
    have ht := t.isLt
    rw [hu] at h4
    dsimp only
    omega
  · intro ii h
    have hj := ii.isLt
    refine Fin.ext ?_
    dsimp only
    omega
  · rintro t ⟨h0, h4, h1, h2, h3⟩
    have ht := t.isLt
    rw [hu] at h4
    refine Fin.ext ?_
    dsimp only
    omega
  · intro ii h
    have hj := ii.isLt

    have e : (a + 16 * ii.val) % 4096 = a + 16 * ii.val := by omega
    have e' : (a + 16 * (x 0).val + 2048) - 2048 = (a + 16 * (x 0).val) := by omega
    dsimp only
    rw [e, e', hq ii (x 1)]
    unfold GG
    simp only [hq, hg, hl, hdl]
    simp only [hk (x 0) _, hv (x 0) _]

theorem dv_unit16 (a : ℕ) (ha : a < 16) (q g l : Vec Ideal S256x128 .f32) (k : Vec Ideal S256x128 .f32)
    (hq : ∀ (ii : Fin 256) e, (q (ix2 ii e) : EReal) = rowOf x1 (a + 16 * ii.val) e) (hg : ∀ (ii : Fin 256) e, (g (ix2 ii e) : EReal) = rowOf x4 (a + 16 * ii.val) e)
    (hl : ∀ (ii : Fin 256), (l (ix2 ii 0) : EReal) = rowOf x5 (a + 16 * ii.val) 0) (hk : ∀ (jj : Fin 256) e, (k (ix2 jj e) : EReal) = rowOf x2 (a + 16 * jj.val) e) (u : ℕ → ℕ) (hu : ∀ t, u t = t % 16) (x : S256x128.Idx) :
    (dvW maskW q g l k x : EReal) = Sk 16 u (a) (fun t t' => PP x1 x2 x5 t t' * rowOf x4 t (x 1)) (a + 16 * (x 0).val + 2048) := by
  have hx : (x 0).val < 256 := (x 0).isLt
  rw [dvW_val]
  unfold Sk
  refine sum_ite_bij _ _ _ _ (fun ii => ⟨(a + 16 * ii.val) % 4096, Nat.mod_lt _ (by decide)⟩) (fun t => ⟨(t.val - a) / 16 % 256, Nat.mod_lt _ (by decide)⟩) ?_ ?_ ?_ ?_ ?_
  · intro ii h
    have hj := ii.isLt
    refine ⟨?_, ?_, ?_, ?_, ?_⟩ <;> (try rw [hu]) <;> dsimp only <;> omega
  · rintro t ⟨h0, h4, h1, h2, h3⟩
    have ht := t.isLt
    rw [hu] at h4
    dsimp only
    omega
  · intro ii h
    have hj := ii.isLt
    refine Fin.ext ?_
    dsimp only
    omega
  · rintro t ⟨h0, h4, h1, h2, h3⟩
    have ht := t.isLt
    rw [hu] at h4
    refine Fin.ext ?_
    dsimp only
    omega
  · intro ii h
    have hj := ii.isLt

    have e : (a + 16 * ii.val) % 4096 = a + 16 * ii.val := by omega
    have e' : (a + 16 * (x 0).val + 2048) - 2048 = (a + 16 * (x 0).val) := by omega
    dsimp only
    rw [e, e', hg ii (x 1)]
    unfold PP
    simp only [hq, hg, hl]
    simp only [hk (x 0) _]

theorem dq_unit4 (b : BitVec 1) (ρ n a : ℕ) (hρ : ρ < 4) (hn : n < 8) (ha : a = ρ + 512 * n) (hb : b = 1#1 ↔ 0 < n) (q g l dl : Vec Ideal S128x128 .f32) (k v : Vec Ideal S256x128 .f32)
    (hq : ∀ (ii : Fin 128) e, (q (ix2 ii e) : EReal) = rowOf x1 (a + 4 * ii.val) e) (hg : ∀ (ii : Fin 128) e, (g (ix2 ii e) : EReal) = rowOf x4 (a + 4 * ii.val) e)
    (hl : ∀ (ii : Fin 128), (l (ix2 ii 0) : EReal) = rowOf x5 (a + 4 * ii.val) 0) (hk : ∀ (jj : Fin 256) e, 512 ≤ a + 4 * jj.val → (k (ix2 jj e) : EReal) = rowOf x2 (a + 4 * jj.val - 512) e)
    (hdl : ∀ (ii : Fin 128), (dl (ix2 ii 0) : EReal) = rowOf x6 (a + 4 * ii.val) 0) (hv : ∀ (jj : Fin 256) e, 512 ≤ a + 4 * jj.val → (v (ix2 jj e) : EReal) = rowOf x3 (a + 4 * jj.val - 512) e) (x : S128x128.Idx) :
    (dqH (maskH b) q g l dl k v x : EReal) = Sq 4 (fun t t' => GG x1 x2 x3 x4 x5 x6 t t' * rowOf x2 t' (x 1)) (a + 4 * (x 0).val) := by
  have hx : (x 0).val < 128 := (x 0).isLt
  rw [dqH_val]
  unfold Sq
  refine sum_ite_bij _ _ _ _ (fun jj => ⟨(a + 4 * jj.val - 512) % 4096, Nat.mod_lt _ (by decide)⟩) (fun t' => ⟨(t'.val + 512 - a) / 4 % 256, Nat.mod_lt _ (by decide)⟩) ?_ ?_ ?_ ?_ ?_
  · intro jj h
    have hj := jj.isLt
    unfold okH at h; rw [hb] at h; refine ⟨?_, ?_, ?_⟩ <;> dsimp only <;> omega
  · rintro t' ⟨h1, h2, h3⟩
    have ht := t'.isLt
    unfold okH; rw [hb]; dsimp only
    omega
  · intro jj h
    have hj := jj.isLt
    refine Fin.ext ?_
    unfold okH at h; rw [hb] at h; dsimp only
    omega
  · rintro t' ⟨h1, h2, h3⟩
    have ht := t'.isLt
    refine Fin.ext ?_
    dsimp only
    omega
  · intro jj h
    have hj := jj.isLt
    unfold okH at h; rw [hb] at h; have hc : 512 ≤ a + 4 * jj.val := by omega
    have e : (a + 4 * jj.val - 512) % 4096 = (a + 4 * jj.val - 512) := by omega
    dsimp only
    rw [e]
    exact wG_congr (hq _) (hg _) (fun e => hk jj e hc) (fun e => hv jj e hc) (hl _) (hdl _) (hk jj _ hc)

theorem dk_unit4 (b : BitVec 1) (ρ n a : ℕ) (hρ : ρ < 4) (hn : n < 8) (ha : a = ρ + 512 * n) (hb : b = 1#1 ↔ 0 < n) (q g l dl : Vec Ideal S128x128 .f32) (k v : Vec Ideal S256x128 .f32)
    (hq : ∀ (ii : Fin 128) e, (q (ix2 ii e) : EReal) = rowOf x1 (a + 4 * ii.val) e) (hg : ∀ (ii : Fin 128) e, (g (ix2 ii e) : EReal) = rowOf x4 (a + 4 * ii.val) e)
    (hl : ∀ (ii : Fin 128), (l (ix2 ii 0) : EReal) = rowOf x5 (a + 4 * ii.val) 0) (hk : ∀ (jj : Fin 256) e, 512 ≤ a + 4 * jj.val → (k (ix2 jj e) : EReal) = rowOf x2 (a + 4 * jj.val - 512) e)
    (hdl : ∀ (ii : Fin 128), (dl (ix2 ii 0) : EReal) = rowOf x6 (a + 4 * ii.val) 0) (hv : ∀ (jj : Fin 256) e, 512 ≤ a + 4 * jj.val → (v (ix2 jj e) : EReal) = rowOf x3 (a + 4 * jj.val - 512) e) (u : ℕ → ℕ) (hu : ∀ t, u t = 8 * (t % 4) + t / 512) (x : S256x128.Idx) :
    (dkH (maskH b) q g l dl k v x : EReal) = Sk 4 u (8 * ρ + n) (fun t t' => GG x1 x2 x3 x4 x5 x6 t t' * rowOf x1 t (x 1)) (a + 4 * (x 0).val + 1536) := by
  have hx : (x 0).val < 256 := (x 0).isLt
  rw [dkH_val]
  unfold Sk
  refine sum_ite_bij _ _ _ _ (fun ii => ⟨(a + 4 * ii.val) % 4096, Nat.mod_lt _ (by decide)⟩) (fun t => ⟨(t.val - a) / 4 % 128, Nat.mod_lt _ (by decide)⟩) ?_ ?_ ?_ ?_ ?_
  · intro ii h
    have hj := ii.isLt
    unfold okH at h; rw [hb] at h; refine ⟨?_, ?_, ?_, ?_, ?_⟩ <;> (try rw [hu]) <;> dsimp only <;> omega
  · rintro t ⟨h0, h4, h1, h2, h3⟩
    have ht := t.isLt
    rw [hu] at h4
    unfold okH; rw [hb]; dsimp only
    omega
  · intro ii h
    have hj := ii.isLt
    refine Fin.ext ?_
    dsimp only
    omega
  · rintro t ⟨h0, h4, h1, h2, h3⟩
    have ht := t.isLt
    rw [hu] at h4
    refine Fin.ext ?_
    dsimp only
    omega
  · intro ii h
    have hj := ii.isLt
    unfold okH at h; rw [hb] at h; have hc : 512 ≤ a + 4 * (x 0).val := by omega
    have e : (a + 4 * ii.val) % 4096 = a + 4 * ii.val := by omega
    have e' : (a + 4 * (x 0).val + 1536) - 2048 = (a + 4 * (x 0).val - 512) := by omega
    dsimp only
    rw [e, e', hq ii (x 1)]
    unfold GG
    simp only [hq, hg, hl, hdl]
    simp only [hk (x 0) _ hc, hv (x 0) _ hc]

theorem dv_unit4 (b : BitVec 1) (ρ n a : ℕ) (hρ : ρ < 4) (hn : n < 8) (ha : a = ρ + 512 * n) (hb : b = 1#1 ↔ 0 < n) (q g l : Vec Ideal S128x128 .f32) (k : Vec Ideal S256x128 .f32)
    (hq : ∀ (ii : Fin 128) e, (q (ix2 ii e) : EReal) = rowOf x1 (a + 4 * ii.val) e) (hg : ∀ (ii : Fin 128) e, (g (ix2 ii e) : EReal) = rowOf x4 (a + 4 * ii.val) e)
    (hl : ∀ (ii : Fin 128), (l (ix2 ii 0) : EReal) = rowOf x5 (a + 4 * ii.val) 0) (hk : ∀ (jj : Fin 256) e, 512 ≤ a + 4 * jj.val → (k (ix2 jj e) : EReal) = rowOf x2 (a + 4 * jj.val - 512) e) (u : ℕ → ℕ) (hu : ∀ t, u t = 8 * (t % 4) + t / 512) (x : S256x128.Idx) :
    (dvH (maskH b) q g l k x : EReal) = Sk 4 u (8 * ρ + n) (fun t t' => PP x1 x2 x5 t t' * rowOf x4 t (x 1)) (a + 4 * (x 0).val + 1536) := by
  have hx : (x 0).val < 256 := (x 0).isLt
  rw [dvH_val]
  unfold Sk
  refine sum_ite_bij _ _ _ _ (fun ii => ⟨(a + 4 * ii.val) % 4096, Nat.mod_lt _ (by decide)⟩) (fun t => ⟨(t.val - a) / 4 % 128, Nat.mod_lt _ (by decide)⟩) ?_ ?_ ?_ ?_ ?_
  · intro ii h
    have hj := ii.isLt
    unfold okH at h; rw [hb] at h; refine ⟨?_, ?_, ?_, ?_, ?_⟩ <;> (try rw [hu]) <;> dsimp only <;> omega
  · rintro t ⟨h0, h4, h1, h2, h3⟩
    have ht := t.isLt
    rw [hu] at h4
    unfold okH; rw [hb]; dsimp only
    omega
  · intro ii h
    have hj := ii.isLt
    refine Fin.ext ?_
    dsimp only
    omega
  · rintro t ⟨h0, h4, h1, h2, h3⟩
    have ht := t.isLt
    rw [hu] at h4
    refine Fin.ext ?_
    dsimp only
    omega
  · intro ii h
    have hj := ii.isLt
    unfold okH at h; rw [hb] at h; have hc : 512 ≤ a + 4 * (x 0).val := by omega
    have e : (a + 4 * ii.val) % 4096 = a + 4 * ii.val := by omega
    have e' : (a + 4 * (x 0).val + 1536) - 2048 = (a + 4 * (x 0).val - 512) := by omega
    dsimp only
    rw [e, e', hg ii (x 1)]
    unfold PP
    simp only [hq, hg, hl]
    simp only [hk (x 0) _ hc]

theorem dq_unit1 (b : BitVec 1) (n a : ℕ) (hn : n < 32) (ha : a = 128 * n) (hb : b = 1#1 ↔ 0 < n) (q g l dl : Vec Ideal S128x128 .f32) (k v : Vec Ideal S256x128 .f32)
    (hq : ∀ (ii : Fin 128) e, (q (ix2 ii e) : EReal) = rowOf x1 (a + 1 * ii.val) e) (hg : ∀ (ii : Fin 128) e, (g (ix2 ii e) : EReal) = rowOf x4 (a + 1 * ii.val) e)
    (hl : ∀ (ii : Fin 128), (l (ix2 ii 0) : EReal) = rowOf x5 (a + 1 * ii.val) 0) (hk : ∀ (jj : Fin 256) e, 128 ≤ a + 1 * jj.val → (k (ix2 jj e) : EReal) = rowOf x2 (a + 1 * jj.val - 128) e)
    (hdl : ∀ (ii : Fin 128), (dl (ix2 ii 0) : EReal) = rowOf x6 (a + 1 * ii.val) 0) (hv : ∀ (jj : Fin 256) e, 128 ≤ a + 1 * jj.val → (v (ix2 jj e) : EReal) = rowOf x3 (a + 1 * jj.val - 128) e) (x : S128x128.Idx) :
    (dqH (maskH b) q g l dl k v x : EReal) = Sq 1 (fun t t' => GG x1 x2 x3 x4 x5 x6 t t' * rowOf x2 t' (x 1)) (a + 1 * (x 0).val) := by
  have hx : (x 0).val < 128 := (x 0).isLt
  rw [dqH_val]
  unfold Sq
  refine sum_ite_bij _ _ _ _ (fun jj => ⟨(a + 1 * jj.val - 128) % 4096, Nat.mod_lt _ (by decide)⟩) (fun t' => ⟨(t'.val + 128 - a) / 1 % 256, Nat.mod_lt _ (by decide)⟩) ?_ ?_ ?_ ?_ ?_
  · intro jj h
    have hj := jj.isLt
    unfold okH at h; rw [hb] at h; refine ⟨?_, ?_, ?_⟩ <;> dsimp only <;> omega
  · rintro t' ⟨h1, h2, h3⟩
    have ht := t'.isLt
    unfold okH; rw [hb]; dsimp only
    omega
  · intro jj h
    have hj := jj.isLt
    refine Fin.ext ?_
    unfold okH at h; rw [hb] at h; dsimp only
    omega
  · rintro t' ⟨h1, h2, h3⟩
    have ht := t'.isLt
    refine Fin.ext ?_
    dsimp only
    omega
  · intro jj h
    have hj := jj.isLt
    unfold okH at h; rw [hb] at h; have hc : 128 ≤ a + 1 * jj.val := by omega
    have e : (a + 1 * jj.val - 128) % 4096 = (a + 1 * jj.val - 128) := by omega
    dsimp only
    rw [e]
    exact wG_congr (hq _) (hg _) (fun e => hk jj e hc) (fun e => hv jj e hc) (hl _) (hdl _) (hk jj _ hc)

theorem dk_unit1 (b : BitVec 1) (n a : ℕ) (hn : n < 32) (ha : a = 128 * n) (hb : b = 1#1 ↔ 0 < n) (q g l dl : Vec Ideal S128x128 .f32) (k v : Vec Ideal S256x128 .f32)
    (hq : ∀ (ii : Fin 128) e, (q (ix2 ii e) : EReal) = rowOf x1 (a + 1 * ii.val) e) (hg : ∀ (ii : Fin 128) e, (g (ix2 ii e) : EReal) = rowOf x4 (a + 1 * ii.val) e)
    (hl : ∀ (ii : Fin 128), (l (ix2 ii 0) : EReal) = rowOf x5 (a + 1 * ii.val) 0) (hk : ∀ (jj : Fin 256) e, 128 ≤ a + 1 * jj.val → (k (ix2 jj e) : EReal) = rowOf x2 (a + 1 * jj.val - 128) e)
    (hdl : ∀ (ii : Fin 128), (dl (ix2 ii 0) : EReal) = rowOf x6 (a + 1 * ii.val) 0) (hv : ∀ (jj : Fin 256) e, 128 ≤ a + 1 * jj.val → (v (ix2 jj e) : EReal) = rowOf x3 (a + 1 * jj.val - 128) e) (u : ℕ → ℕ) (hu : ∀ t, u t = t / 128) (x : S256x128.Idx) :
    (dkH (maskH b) q g l dl k v x : EReal) = Sk 1 u (n) (fun t t' => GG x1 x2 x3 x4 x5 x6 t t' * rowOf x1 t (x 1)) (a + 1 * (x 0).val + 1920) := by
  have hx : (x 0).val < 256 := (x 0).isLt
  rw [dkH_val]
  unfold Sk
  refine sum_ite_bij _ _ _ _ (fun ii => ⟨(a + 1 * ii.val) % 4096, Nat.mod_lt _ (by decide)⟩) (fun t => ⟨(t.val - a) / 1 % 128, Nat.mod_lt _ (by decide)⟩) ?_ ?_ ?_ ?_ ?_
  · intro ii h
    have hj := ii.isLt
    unfold okH at h; rw [hb] at h; refine ⟨?_, ?_, ?_, ?_, ?_⟩ <;> (try rw [hu]) <;> dsimp only <;> omega
  · rintro t ⟨h0, h4, h1, h2, h3⟩
    have ht := t.isLt
    rw [hu] at h4
    unfold okH; rw [hb]; dsimp only
    omega
  · intro ii h
    have hj := ii.isLt
    refine Fin.ext ?_
    dsimp only
    omega
  · rintro t ⟨h0, h4, h1, h2, h3⟩
    have ht := t.isLt
    rw [hu] at h4
    refine Fin.ext ?_
    dsimp only
    omega
  · intro ii h
    have hj := ii.isLt
    unfold okH at h; rw [hb] at h; have hc : 128 ≤ a + 1 * (x 0).val := by omega
    have e : (a + 1 * ii.val) % 4096 = a + 1 * ii.val := by omega
    have e' : (a + 1 * (x 0).val + 1920) - 2048 = (a + 1 * (x 0).val - 128) := by omega
    dsimp only
    rw [e, e', hq ii (x 1)]
    unfold GG
    simp only [hq, hg, hl, hdl]
    simp only [hk (x 0) _ hc, hv (x 0) _ hc]

theorem dv_unit1 (b : BitVec 1) (n a : ℕ) (hn : n < 32) (ha : a = 128 * n) (hb : b = 1#1 ↔ 0 < n) (q g l : Vec Ideal S128x128 .f32) (k : Vec Ideal S256x128 .f32)
    (hq : ∀ (ii : Fin 128) e, (q (ix2 ii e) : EReal) = rowOf x1 (a + 1 * ii.val) e) (hg : ∀ (ii : Fin 128) e, (g (ix2 ii e) : EReal) = rowOf x4 (a + 1 * ii.val) e)
    (hl : ∀ (ii : Fin 128), (l (ix2 ii 0) : EReal) = rowOf x5 (a + 1 * ii.val) 0) (hk : ∀ (jj : Fin 256) e, 128 ≤ a + 1 * jj.val → (k (ix2 jj e) : EReal) = rowOf x2 (a + 1 * jj.val - 128) e) (u : ℕ → ℕ) (hu : ∀ t, u t = t / 128) (x : S256x128.Idx) :
    (dvH (maskH b) q g l k x : EReal) = Sk 1 u (n) (fun t t' => PP x1 x2 x5 t t' * rowOf x4 t (x 1)) (a + 1 * (x 0).val + 1920) := by
  have hx : (x 0).val < 256 := (x 0).isLt
  rw [dvH_val]
  unfold Sk
  refine sum_ite_bij _ _ _ _ (fun ii => ⟨(a + 1 * ii.val) % 4096, Nat.mod_lt _ (by decide)⟩) (fun t => ⟨(t.val - a) / 1 % 128, Nat.mod_lt _ (by decide)⟩) ?_ ?_ ?_ ?_ ?_
  · intro ii h
    have hj := ii.isLt
    unfold okH at h; rw [hb] at h; refine ⟨?_, ?_, ?_, ?_, ?_⟩ <;> (try rw [hu]) <;> dsimp only <;> omega
  · rintro t ⟨h0, h4, h1, h2, h3⟩
    have ht := t.isLt
    rw [hu] at h4
    unfold okH; rw [hb]; dsimp only
    omega
  · intro ii h
    have hj := ii.isLt
    refine Fin.ext ?_
    dsimp only
    omega
  · rintro t ⟨h0, h4, h1, h2, h3⟩
    have ht := t.isLt
    rw [hu] at h4
    refine Fin.ext ?_
    dsimp only
    omega
  · intro ii h
    have hj := ii.isLt
    unfold okH at h; rw [hb] at h; have hc : 128 ≤ a + 1 * (x 0).val := by omega
    have e : (a + 1 * ii.val) % 4096 = a + 1 * ii.val := by omega
    have e' : (a + 1 * (x 0).val + 1920) - 2048 = (a + 1 * (x 0).val - 128) := by omega
    dsimp only
    rw [e, e', hg ii (x 1)]
    unfold PP
    simp only [hq, hg, hl]
    simp only [hk (x 0) _ hc]

end Cert.KernelIdeal.Hand

end
-- ==== Proof.Acc.lean ====
module

public import proofs.«01_k».proof.Proof.Sums

/-! What the branches of dilation 4 and 1 add to the accumulators. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open scoped BigOperators
set_option maxRecDepth 16384

theorem addQ_apply (d c : Vec Ideal S128x128 .f32) (x : S128x128.Idx) : (addQ d c x : EReal) = (c x : EReal) + (d x : EReal) := by
  unfold addQ; rw [shapeCast_self]; rfl
theorem addK_apply (d c : Vec Ideal S256x128 .f32) (x : S256x128.Idx) : (addK d c x : EReal) = (c x : EReal) + (d x : EReal) := by
  unfold addK; rw [shapeCast_self]; rfl

theorem row_at (arg : Memref sig .tc .vmem S4096x128 .f32) (h : arg.IsWhole) (r : LoadRect S4096x128) (z : r.shape.Idx) (x : Vec Ideal S4096x128 .f32) (n : ℕ) (e : Fin 128)
    (h0 : (r.idx z 0).val = n) (h1 : (r.idx z 1).val = e.val) : (View.readAt (Elt Ideal) arg.view r (h.unread x) z : EReal) = rowOf x n e := by
  show (arg.view.read (Elt Ideal) (h.unread x) (r.idx z) : EReal) = _
  rw [h.read_unread]
  have hn : n < 4096 := by rw [← h0]; exact (r.idx z 0).isLt
  unfold rowOf
  rw [dif_pos hn]
  refine congrArg x (funext fun a => Fin.ext ?_)
  revert a
  exact Fin.forall_fin_two.mpr ⟨h0, h1⟩
theorem pad_at (arg : Memref sig .tc .vmem S6144x128 .f32) (h : arg.IsWhole) (r : LoadRect S6144x128) (z : r.shape.Idx) (x : Vec Ideal S4096x128 .f32) (n : ℕ) (e : Fin 128)
    (h0 : (r.idx z 0).val = n + 2048) (h1 : (r.idx z 1).val = e.val) : (View.readAt (Elt Ideal) arg.view r (h.unread (padded x)) z : EReal) = rowOf x n e := by
  show (arg.view.read (Elt Ideal) (h.unread (padded x)) (r.idx z) : EReal) = _
  rw [h.read_unread]
  have hn : n < 4096 := by
    have : (r.idx z 0).val < 6144 := (r.idx z 0).isLt
    omega
  show padded x (r.idx z) = _
  unfold padded rowOf
  rw [dif_pos hn, dif_pos (by omega)]
  refine congrArg x (funext fun a => Fin.ext ?_)
  revert a
  refine Fin.forall_fin_two.mpr ⟨?_, h1⟩
  show (r.idx z 0).val - 2048 = n
  omega

section
variable (x1 x2 x3 x4 x5 x6 : Vec Ideal S4096x128 .f32)
/-- What key `t'` adds to the gradient of query `t`, in column `e`, -/
def KQ (e : Fin 128) (t t' : ℕ) : EReal := GG x1 x2 x3 x4 x5 x6 t t' * rowOf x2 t' e
/-- what query `t` adds to the gradient of key `t'` -/
def KK (e : Fin 128) (t t' : ℕ) : EReal := GG x1 x2 x3 x4 x5 x6 t t' * rowOf x1 t e
/-- and to that of its value. -/
def KV (e : Fin 128) (t t' : ℕ) : EReal := PP x1 x2 x5 t t' * rowOf x4 t e
end
/-- The unit of a query in each branch. -/
def u16 (t : ℕ) : ℕ := t % 16
def u4 (t : ℕ) : ℕ := 8 * (t % 4) + t / 512
def u1 (t : ℕ) : ℕ := t / 128
/-- What unit `n` adds to row `y 0`: nothing to a query outside it. -/
def Dq (d : ℕ) (u : ℕ → ℕ) (n : ℕ) (K : Fin 128 → ℕ → ℕ → EReal) (y : S4096x128.Idx) : EReal := if u (y 0).val = n then Sq d (K (y 1)) (y 0).val else 0
def Dk (d : ℕ) (u : ℕ → ℕ) (n : ℕ) (K : Fin 128 → ℕ → ℕ → EReal) (y : S6144x128.Idx) : EReal := Sk d u n (K (y 1)) (y 0).val
/-- The same sum over every unit. -/
def SkA (d : ℕ) (K : ℕ → ℕ → EReal) (r : ℕ) : EReal :=
  ∑ t : Fin 4096, if (2048 ≤ r ∧ Md d t.val (r - 2048)) then K t.val (r - 2048) else 0

theorem sum_units (m : ℕ) (hm : m < 32) (a : EReal) : (∑ k ∈ Finset.range 4, ∑ j : Fin 8, if m = k + 4 * j.val then a else 0) = a := by
  rw [Finset.sum_eq_single (m % 4)]
  · rw [Finset.sum_eq_single ⟨m / 4, by omega⟩]
    · exact if_pos (by dsimp only; omega)
    · intro j _ hj
      refine if_neg fun h => hj (Fin.ext ?_)
      dsimp only; omega
    · intro h; exact absurd (Finset.mem_univ _) h
  · intro k hk hne
    have hk := Finset.mem_range.mp hk
    refine Finset.sum_eq_zero fun j _ => if_neg fun h => hne ?_
    omega
  · intro h; exact absurd (Finset.mem_range.mpr (by omega)) h
theorem sum_Dq (d : ℕ) (u : ℕ → ℕ) (hu : ∀ t, t < 4096 → u t < 32) (K : Fin 128 → ℕ → ℕ → EReal) (y : S4096x128.Idx) :
    (∑ k ∈ Finset.range 4, ∑ j : Fin 8, Dq d u (k + 4 * j.val) K y) = Sq d (K (y 1)) (y 0).val :=
  sum_units _ (hu _ (y 0).isLt) _
theorem sum_Dk (d : ℕ) (u : ℕ → ℕ) (hu : ∀ t, t < 4096 → u t < 32) (K : Fin 128 → ℕ → ℕ → EReal) (y : S6144x128.Idx) :
    (∑ k ∈ Finset.range 4, ∑ j : Fin 8, Dk d u (k + 4 * j.val) K y) = SkA d (K (y 1)) (y 0).val := by
  unfold Dk Sk SkA
  have e : ∀ k ∈ Finset.range 4, (∑ j : Fin 8, ∑ t : Fin 4096, if (2048 ≤ (y 0).val ∧ u t.val = k + 4 * j.val ∧ Md d t.val ((y 0).val - 2048)) then K (y 1) t.val ((y 0).val - 2048) else 0)
      = ∑ t : Fin 4096, ∑ j : Fin 8, if (2048 ≤ (y 0).val ∧ u t.val = k + 4 * j.val ∧ Md d t.val ((y 0).val - 2048)) then K (y 1) t.val ((y 0).val - 2048) else 0 :=
    fun k _ => Finset.sum_comm
  rw [Finset.sum_congr rfl e, Finset.sum_comm]
  refine Finset.sum_congr rfl fun t _ => ?_
  by_cases h : 2048 ≤ (y 0).val ∧ Md d t.val ((y 0).val - 2048)
  · rw [if_pos h]
    refine Eq.trans (Finset.sum_congr rfl fun k _ => Finset.sum_congr rfl fun j _ => ?_) (sum_units (u t.val) (hu _ t.isLt) _)
    exact if_congr ⟨fun q => q.2.1, fun q => ⟨h.1, q, h.2⟩⟩ rfl rfl
  · rw [if_neg h]
    exact Finset.sum_eq_zero fun k _ => Finset.sum_eq_zero fun j _ => if_neg fun q => h ⟨q.1, q.2.2⟩
theorem u4_lt (t : ℕ) (h : t < 4096) : u4 t < 32 := by unfold u4; omega
theorem u1_lt (t : ℕ) (h : t < 4096) : u1 t < 32 := by unfold u1; omega

theorem u4_at (ρ n ii : ℕ) (hρ : ρ < 4) (hn : n < 8) (hi : ii < 128) : u4 (ρ + 512 * n + 4 * ii) = 8 * ρ + n := by
  unfold u4
  have e1 : (ρ + 512 * n + 4 * ii) % 4 = ρ := by omega
  have e2 : (ρ + 512 * n + 4 * ii) / 512 = n := by omega
  rw [e1, e2]
theorem u1_at (n ii : ℕ) (hi : ii < 128) : u1 (128 * n + 1 * ii) = n := by unfold u1; omega

theorem trips4 : k0_t4_loop.trips = 4 := by decide +kernel
theorem trips5 : k0_t5_loop.trips = 4 := by decide +kernel
theorem lt4 (k : Fin k0_t4_loop.trips) : k.val < 4 := Nat.lt_of_lt_of_eq k.isLt trips4
theorem lt5 (k : Fin k0_t5_loop.trips) : k.val < 4 := Nat.lt_of_lt_of_eq k.isLt trips5
theorem bit_iff (P : Prop) [Decidable P] : ((if P then 1#1 else 0#1 : BitVec 1) = 1#1) ↔ P := by
  by_cases h : P <;> simp [h]

/-! ### The branch of dilation 4 -/

theorem rq4_0 (k : Fin k0_t4_loop.trips) (j : Fin 8) (z : S128x128.Idx) : ((rq4 k j).toLoadRect.idx z 0).val = (j.val / 2 + 512 * (k.val + 4 * (j.val % 2))) + 4 * (z 0).val := by
  have h : k0_off7 k (BitVec.ofNat 32 (4 * j.val)) 0 = _ := congrFun (k0_off7_eq k j) 0
  show k0_off7 k (BitVec.ofNat 32 (4 * j.val)) 0 + 4 * (z 0).val = _
  rw [h]; rfl
theorem rq4_1 (k : Fin k0_t4_loop.trips) (j : Fin 8) (z : S128x128.Idx) : ((rq4 k j).toLoadRect.idx z 1).val = (z 1).val := by
  have h : k0_off7 k (BitVec.ofNat 32 (4 * j.val)) 1 = _ := congrFun (k0_off7_eq k j) 1
  show k0_off7 k (BitVec.ofNat 32 (4 * j.val)) 1 + 1 * (z 1).val = _
  rw [h]
  show 0 + 1 * (z 1).val = _
  omega
theorem rk4_0 (k : Fin k0_t4_loop.trips) (j : Fin 8) (z : S256x128.Idx) : ((rk4 k j).toLoadRect.idx z 0).val = (j.val / 2 + 512 * (k.val + 4 * (j.val % 2))) + 1536 + 4 * (z 0).val := by
  have h : k0_off8 k (BitVec.ofNat 32 (4 * j.val)) 0 = _ := congrFun (k0_off8_eq k j) 0
  show k0_off8 k (BitVec.ofNat 32 (4 * j.val)) 0 + 4 * (z 0).val = _
  rw [h]; rfl
theorem rk4_1 (k : Fin k0_t4_loop.trips) (j : Fin 8) (z : S256x128.Idx) : ((rk4 k j).toLoadRect.idx z 1).val = (z 1).val := by
  have h : k0_off8 k (BitVec.ofNat 32 (4 * j.val)) 1 = _ := congrFun (k0_off8_eq k j) 1
  show k0_off8 k (BitVec.ofNat 32 (4 * j.val)) 1 + 1 * (z 1).val = _
  rw [h]
  show 0 + 1 * (z 1).val = _
  omega
theorem mem_rq4 (k : Fin k0_t4_loop.trips) (j : Fin 8) (y : S4096x128.Idx) (q : ℕ) (hq : q < 128) (h : (y 0).val = (j.val / 2 + 512 * (k.val + 4 * (j.val % 2))) + 4 * q) : y ∈ (rq4 k j).set := by
  have e : (rq4 k j).toLoadRect.idx (ix2 (⟨q, hq⟩ : Fin 128) (y 1) : S128x128.Idx) = y := by
    refine funext fun a => Fin.ext ?_
    revert a
    exact Fin.forall_fin_two.mpr ⟨(rq4_0 k j _).trans h.symm, rq4_1 k j _⟩
  rw [← e]
  exact LoadRect.idx_mem _ _
theorem mem_rk4 (k : Fin k0_t4_loop.trips) (j : Fin 8) (y : S6144x128.Idx) (q : ℕ) (hq : q < 256) (h : (y 0).val = (j.val / 2 + 512 * (k.val + 4 * (j.val % 2))) + 1536 + 4 * q) : y ∈ (rk4 k j).set := by
  have e : (rk4 k j).toLoadRect.idx (ix2 (⟨q, hq⟩ : Fin 256) (y 1) : S256x128.Idx) = y := by
    refine funext fun a => Fin.ext ?_
    revert a
    exact Fin.forall_fin_two.mpr ⟨(rk4_0 k j _).trans h.symm, rk4_1 k j _⟩
  rw [← e]
  exact LoadRect.idx_mem _ _
theorem off_rq4 (k : Fin k0_t4_loop.trips) (j : Fin 8) (K : Fin 128 → ℕ → ℕ → EReal) (y : S4096x128.Idx) (hy : y ∉ (rq4 k j).set) : Dq 4 u4 (k.val + 4 * j.val) K y = 0 := by
  have hk := lt4 k
  have hj := j.isLt
  have h0 : (y 0).val < 4096 := (y 0).isLt
  refine if_neg fun h => hy ?_
  unfold u4 at h
  have e1 : (y 0).val % 4 = j.val / 2 := by omega
  have e2 : (y 0).val / 512 = k.val + 4 * (j.val % 2) := by omega
  refine mem_rq4 k j y (((y 0).val - (j.val / 2 + 512 * (k.val + 4 * (j.val % 2)))) / 4) ?_ ?_ <;> omega
theorem off_rk4 (k : Fin k0_t4_loop.trips) (j : Fin 8) (K : Fin 128 → ℕ → ℕ → EReal) (y : S6144x128.Idx) (hy : y ∉ (rk4 k j).set) : Dk 4 u4 (k.val + 4 * j.val) K y = 0 := by
  have hk := lt4 k
  have hj := j.isLt
  have h0 : (y 0).val < 6144 := (y 0).isLt
  unfold Dk Sk
  refine Finset.sum_eq_zero fun t _ => if_neg fun h => hy ?_
  have ht := t.isLt
  obtain ⟨h1, h2, h3, h4, h5⟩ := h
  unfold u4 at h2
  have e1 : t.val % 4 = j.val / 2 := by omega
  have e2 : t.val / 512 = k.val + 4 * (j.val % 2) := by omega
  refine mem_rk4 k j y (((y 0).val - ((j.val / 2 + 512 * (k.val + 4 * (j.val % 2))) + 1536)) / 4) ?_ ?_ <;> omega

section
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (x1 : Vec Ideal S4096x128 .f32) (x2 : Vec Ideal S4096x128 .f32) (x3 : Vec Ideal S4096x128 .f32) (x4 : Vec Ideal S4096x128 .f32) (x5 : Vec Ideal S4096x128 .f32) (x6 : Vec Ideal S4096x128 .f32)
  (f10 : BufTy.Contents (Elt Ideal) arg10.view.ty) (f11 : BufTy.Contents (Elt Ideal) arg11.view.ty) (f12 : BufTy.Contents (Elt Ideal) arg12.view.ty)

theorem DQ4_val (k : Fin k0_t4_loop.trips) (j : Fin 8) (x : S128x128.Idx) : (DQ4 arg1 arg4 arg5 arg6 arg13 arg14 (harg1.unread x1) (harg4.unread x4) (harg5.unread x5) (harg6.unread x6) (harg13.unread (padded x2)) (harg14.unread (padded x3)) k j x : EReal) = Dq 4 u4 (k.val + 4 * j.val) (KQ x1 x2 x3 x4 x5 x6) ((rq4 k j).toLoadRect.idx x) := by
  have hk := lt4 k
  have hj := j.isLt
  have hx : (x 0).val < 128 := (x 0).isLt
  unfold DQ4
  refine (dq_unit4 (x1 := x1) (x2 := x2) (x3 := x3) (x4 := x4) (x5 := x5) (x6 := x6) (bit4 k j) (j.val / 2) (k.val + 4 * (j.val % 2)) (j.val / 2 + 512 * (k.val + 4 * (j.val % 2))) (by omega) (by omega) rfl (by rw [bit4_eq]; exact bit_iff _) _ _ _ _ _ _ (fun ii e => row_at _ _ _ _ _ _ _ (rq4_0 k j _) (rq4_1 k j _)) (fun ii e => row_at _ _ _ _ _ _ _ (rq4_0 k j _) (rq4_1 k j _)) (fun ii => row_at _ _ _ _ _ _ _ (rq4_0 k j _) (rq4_1 k j _)) (fun jj e hc => pad_at _ _ _ _ _ _ _ ((rk4_0 k j _).trans (by show _ + _ + 4 * jj.val = _; omega)) (rk4_1 k j _)) (fun ii => row_at _ _ _ _ _ _ _ (rq4_0 k j _) (rq4_1 k j _)) (fun jj e hc => pad_at _ _ _ _ _ _ _ ((rk4_0 k j _).trans (by show _ + _ + 4 * jj.val = _; omega)) (rk4_1 k j _)) x).trans ?_
  unfold Dq
  rw [if_pos (by rw [rq4_0]; exact (u4_at _ _ _ (by omega) (by omega) hx).trans (by omega)), rq4_0, show (rq4 k j).toLoadRect.idx x 1 = x 1 from Fin.ext (rq4_1 k j x)]
  rfl
theorem DK4_val (k : Fin k0_t4_loop.trips) (j : Fin 8) (x : S256x128.Idx) : (DK4 arg1 arg4 arg5 arg6 arg13 arg14 (harg1.unread x1) (harg4.unread x4) (harg5.unread x5) (harg6.unread x6) (harg13.unread (padded x2)) (harg14.unread (padded x3)) k j x : EReal) = Dk 4 u4 (k.val + 4 * j.val) (KK x1 x2 x3 x4 x5 x6) ((rk4 k j).toLoadRect.idx x) := by
  have hk := lt4 k
  have hj := j.isLt
  unfold DK4
  refine (dk_unit4 (x1 := x1) (x2 := x2) (x3 := x3) (x4 := x4) (x5 := x5) (x6 := x6) (bit4 k j) (j.val / 2) (k.val + 4 * (j.val % 2)) (j.val / 2 + 512 * (k.val + 4 * (j.val % 2))) (by omega) (by omega) rfl (by rw [bit4_eq]; exact bit_iff _) _ _ _ _ _ _ (fun ii e => row_at _ _ _ _ _ _ _ (rq4_0 k j _) (rq4_1 k j _)) (fun ii e => row_at _ _ _ _ _ _ _ (rq4_0 k j _) (rq4_1 k j _)) (fun ii => row_at _ _ _ _ _ _ _ (rq4_0 k j _) (rq4_1 k j _)) (fun jj e hc => pad_at _ _ _ _ _ _ _ ((rk4_0 k j _).trans (by show _ + _ + 4 * jj.val = _; omega)) (rk4_1 k j _)) (fun ii => row_at _ _ _ _ _ _ _ (rq4_0 k j _) (rq4_1 k j _)) (fun jj e hc => pad_at _ _ _ _ _ _ _ ((rk4_0 k j _).trans (by show _ + _ + 4 * jj.val = _; omega)) (rk4_1 k j _)) u4 (fun t => rfl) x).trans ?_
  unfold Dk
  rw [rk4_0, show (rk4 k j).toLoadRect.idx x 1 = x 1 from Fin.ext (rk4_1 k j x),
    show 8 * (j.val / 2) + (k.val + 4 * (j.val % 2)) = k.val + 4 * j.val by omega, show (j.val / 2 + 512 * (k.val + 4 * (j.val % 2))) + 1536 + 4 * (x 0).val = (j.val / 2 + 512 * (k.val + 4 * (j.val % 2))) + 4 * (x 0).val + 1536 by omega]
  rfl
theorem DV4_val (k : Fin k0_t4_loop.trips) (j : Fin 8) (x : S256x128.Idx) : (DV4 arg1 arg4 arg5 arg13 (harg1.unread x1) (harg4.unread x4) (harg5.unread x5) (harg13.unread (padded x2)) k j x : EReal) = Dk 4 u4 (k.val + 4 * j.val) (KV x1 x2 x4 x5) ((rk4 k j).toLoadRect.idx x) := by
  have hk := lt4 k
  have hj := j.isLt
  unfold DV4
  refine (dv_unit4 (x1 := x1) (x2 := x2) (x4 := x4) (x5 := x5) (bit4 k j) (j.val / 2) (k.val + 4 * (j.val % 2)) (j.val / 2 + 512 * (k.val + 4 * (j.val % 2))) (by omega) (by omega) rfl (by rw [bit4_eq]; exact bit_iff _) _ _ _ _ (fun ii e => row_at _ _ _ _ _ _ _ (rq4_0 k j _) (rq4_1 k j _)) (fun ii e => row_at _ _ _ _ _ _ _ (rq4_0 k j _) (rq4_1 k j _)) (fun ii => row_at _ _ _ _ _ _ _ (rq4_0 k j _) (rq4_1 k j _)) (fun jj e hc => pad_at _ _ _ _ _ _ _ ((rk4_0 k j _).trans (by show _ + _ + 4 * jj.val = _; omega)) (rk4_1 k j _)) u4 (fun t => rfl) x).trans ?_
  unfold Dk
  rw [rk4_0, show (rk4 k j).toLoadRect.idx x 1 = x 1 from Fin.ext (rk4_1 k j x),
    show 8 * (j.val / 2) + (k.val + 4 * (j.val % 2)) = k.val + 4 * j.val by omega, show (j.val / 2 + 512 * (k.val + 4 * (j.val % 2))) + 1536 + 4 * (x 0).val = (j.val / 2 + 512 * (k.val + 4 * (j.val % 2))) + 4 * (x 0).val + 1536 by omega]
  rfl

theorem step4_10 (k : Fin k0_t4_loop.trips) (y : S4096x128.Idx) :
    (arg10.view.read (Elt Ideal) (trip4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 k).1 y : EReal)
      = (arg10.view.read (Elt Ideal) f10 y : EReal) + ∑ j : Fin 8, Dq 4 u4 (k.val + 4 * j.val) (KQ x1 x2 x3 x4 x5 x6) y := by
  rw [trip4_10]
  exact (read_build arg10.view f10 (rq4 k) _ (fun j y => Dq 4 u4 (k.val + 4 * j.val) (KQ x1 x2 x3 x4 x5 x6) y)
    (fun j cc x => (addQ_apply _ _ _).trans (congrArg (fun z : EReal => (cc x : EReal) + z) (DQ4_val arg1 harg1 arg4 harg4 arg5 harg5 arg6 harg6 arg13 harg13 arg14 harg14 x1 x2 x3 x4 x5 x6 k j x)))
    (fun j y hy => off_rq4 k j _ y hy) y down8).trans (congrArg (fun z : EReal => (arg10.view.read (Elt Ideal) f10 y : EReal) + z) (sum_down8 _))

theorem step4_11 (k : Fin k0_t4_loop.trips) (y : S6144x128.Idx) :
    (arg11.view.read (Elt Ideal) (trip4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 k).2.1 y : EReal)
      = (arg11.view.read (Elt Ideal) f11 y : EReal) + ∑ j : Fin 8, Dk 4 u4 (k.val + 4 * j.val) (KK x1 x2 x3 x4 x5 x6) y := by
  rw [trip4_11]
  exact (read_build arg11.view f11 (rk4 k) _ (fun j y => Dk 4 u4 (k.val + 4 * j.val) (KK x1 x2 x3 x4 x5 x6) y)
    (fun j cc x => (addK_apply _ _ _).trans (congrArg (fun z : EReal => (cc x : EReal) + z) (DK4_val arg1 harg1 arg4 harg4 arg5 harg5 arg6 harg6 arg13 harg13 arg14 harg14 x1 x2 x3 x4 x5 x6 k j x)))
    (fun j y hy => off_rk4 k j _ y hy) y down8).trans (congrArg (fun z : EReal => (arg11.view.read (Elt Ideal) f11 y : EReal) + z) (sum_down8 _))

theorem step4_12 (k : Fin k0_t4_loop.trips) (y : S6144x128.Idx) :
    (arg12.view.read (Elt Ideal) (trip4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 k).2.2.1 y : EReal)
      = (arg12.view.read (Elt Ideal) f12 y : EReal) + ∑ j : Fin 8, Dk 4 u4 (k.val + 4 * j.val) (KV x1 x2 x4 x5) y := by
  rw [trip4_12]
  exact (read_build arg12.view f12 (rk4 k) _ (fun j y => Dk 4 u4 (k.val + 4 * j.val) (KV x1 x2 x4 x5) y)
    (fun j cc x => (addK_apply _ _ _).trans (congrArg (fun z : EReal => (cc x : EReal) + z) (DV4_val arg1 harg1 arg4 harg4 arg5 harg5 arg13 harg13 x1 x2 x4 x5 k j x)))
    (fun j y hy => off_rk4 k j _ y hy) y down8).trans (congrArg (fun z : EReal => (arg12.view.read (Elt Ideal) f12 y : EReal) + z) (sum_down8 _))

theorem loop4_10 (y : S4096x128.Idx) : ∀ n : ℕ, n ≤ k0_t4_loop.trips →
    (arg10.view.read (Elt Ideal) (st4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 n).1 y : EReal) = (arg10.view.read (Elt Ideal) f10 y : EReal) + ∑ k ∈ Finset.range n, ∑ j : Fin 8, Dq 4 u4 (k + 4 * j.val) (KQ x1 x2 x3 x4 x5 x6) y
  | 0, _ => (add_zero (arg10.view.read (Elt Ideal) f10 y : EReal)).symm
  | n + 1, h => by
    rw [Finset.sum_range_succ, ← add_assoc (G := EReal), ← loop4_10 y n (Nat.le_of_succ_le h),
      st4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 ⟨n, h⟩ _ rfl]
    exact step4_10 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ ⟨n, h⟩ y
theorem all4_10 (y : S4096x128.Idx) :
    (arg10.view.read (Elt Ideal) (st4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 k0_t4_loop.trips).1 y : EReal) = (arg10.view.read (Elt Ideal) f10 y : EReal) + Sq 4 ((KQ x1 x2 x3 x4 x5 x6) (y 1)) (y 0).val := by
  rw [loop4_10 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 y _ le_rfl, trips4, sum_Dq _ _ u4_lt]

theorem loop4_11 (y : S6144x128.Idx) : ∀ n : ℕ, n ≤ k0_t4_loop.trips →
    (arg11.view.read (Elt Ideal) (st4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 n).2.1 y : EReal) = (arg11.view.read (Elt Ideal) f11 y : EReal) + ∑ k ∈ Finset.range n, ∑ j : Fin 8, Dk 4 u4 (k + 4 * j.val) (KK x1 x2 x3 x4 x5 x6) y
  | 0, _ => (add_zero (arg11.view.read (Elt Ideal) f11 y : EReal)).symm
  | n + 1, h => by
    rw [Finset.sum_range_succ, ← add_assoc (G := EReal), ← loop4_11 y n (Nat.le_of_succ_le h),
      st4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 ⟨n, h⟩ _ rfl]
    exact step4_11 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ ⟨n, h⟩ y
theorem all4_11 (y : S6144x128.Idx) :
    (arg11.view.read (Elt Ideal) (st4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 k0_t4_loop.trips).2.1 y : EReal) = (arg11.view.read (Elt Ideal) f11 y : EReal) + SkA 4 ((KK x1 x2 x3 x4 x5 x6) (y 1)) (y 0).val := by
  rw [loop4_11 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 y _ le_rfl, trips4, sum_Dk _ _ u4_lt]

theorem loop4_12 (y : S6144x128.Idx) : ∀ n : ℕ, n ≤ k0_t4_loop.trips →
    (arg12.view.read (Elt Ideal) (st4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 n).2.2 y : EReal) = (arg12.view.read (Elt Ideal) f12 y : EReal) + ∑ k ∈ Finset.range n, ∑ j : Fin 8, Dk 4 u4 (k + 4 * j.val) (KV x1 x2 x4 x5) y
  | 0, _ => (add_zero (arg12.view.read (Elt Ideal) f12 y : EReal)).symm
  | n + 1, h => by
    rw [Finset.sum_range_succ, ← add_assoc (G := EReal), ← loop4_12 y n (Nat.le_of_succ_le h),
      st4_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 ⟨n, h⟩ _ rfl]
    exact step4_12 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ ⟨n, h⟩ y
theorem all4_12 (y : S6144x128.Idx) :
    (arg12.view.read (Elt Ideal) (st4 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 k0_t4_loop.trips).2.2 y : EReal) = (arg12.view.read (Elt Ideal) f12 y : EReal) + SkA 4 ((KV x1 x2 x4 x5) (y 1)) (y 0).val := by
  rw [loop4_12 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 y _ le_rfl, trips4, sum_Dk _ _ u4_lt]
end

/-! ### The branch of dilation 1 -/

theorem rq5_0 (k : Fin k0_t5_loop.trips) (j : Fin 8) (z : S128x128.Idx) : ((rq5 k j).toLoadRect.idx z 0).val = (128 * (k.val + 4 * j.val)) + 1 * (z 0).val := by
  have h : k0_off9 k (BitVec.ofNat 32 (4 * j.val)) 0 = _ := congrFun (k0_off9_eq k j) 0
  show k0_off9 k (BitVec.ofNat 32 (4 * j.val)) 0 + 1 * (z 0).val = _
  rw [h]; rfl
theorem rq5_1 (k : Fin k0_t5_loop.trips) (j : Fin 8) (z : S128x128.Idx) : ((rq5 k j).toLoadRect.idx z 1).val = (z 1).val := by
  have h : k0_off9 k (BitVec.ofNat 32 (4 * j.val)) 1 = _ := congrFun (k0_off9_eq k j) 1
  show k0_off9 k (BitVec.ofNat 32 (4 * j.val)) 1 + 1 * (z 1).val = _
  rw [h]
  show 0 + 1 * (z 1).val = _
  omega
theorem rk5_0 (k : Fin k0_t5_loop.trips) (j : Fin 8) (z : S256x128.Idx) : ((rk5 k j).toLoadRect.idx z 0).val = (128 * (k.val + 4 * j.val)) + 1920 + 1 * (z 0).val := by
  have h : k0_off10 k (BitVec.ofNat 32 (4 * j.val)) 0 = _ := congrFun (k0_off10_eq k j) 0
  show k0_off10 k (BitVec.ofNat 32 (4 * j.val)) 0 + 1 * (z 0).val = _
  rw [h]; rfl
theorem rk5_1 (k : Fin k0_t5_loop.trips) (j : Fin 8) (z : S256x128.Idx) : ((rk5 k j).toLoadRect.idx z 1).val = (z 1).val := by
  have h : k0_off10 k (BitVec.ofNat 32 (4 * j.val)) 1 = _ := congrFun (k0_off10_eq k j) 1
  show k0_off10 k (BitVec.ofNat 32 (4 * j.val)) 1 + 1 * (z 1).val = _
  rw [h]
  show 0 + 1 * (z 1).val = _
  omega
theorem mem_rq5 (k : Fin k0_t5_loop.trips) (j : Fin 8) (y : S4096x128.Idx) (q : ℕ) (hq : q < 128) (h : (y 0).val = (128 * (k.val + 4 * j.val)) + 1 * q) : y ∈ (rq5 k j).set := by
  have e : (rq5 k j).toLoadRect.idx (ix2 (⟨q, hq⟩ : Fin 128) (y 1) : S128x128.Idx) = y := by
    refine funext fun a => Fin.ext ?_
    revert a
    exact Fin.forall_fin_two.mpr ⟨(rq5_0 k j _).trans h.symm, rq5_1 k j _⟩
  rw [← e]
  exact LoadRect.idx_mem _ _
theorem mem_rk5 (k : Fin k0_t5_loop.trips) (j : Fin 8) (y : S6144x128.Idx) (q : ℕ) (hq : q < 256) (h : (y 0).val = (128 * (k.val + 4 * j.val)) + 1920 + 1 * q) : y ∈ (rk5 k j).set := by
  have e : (rk5 k j).toLoadRect.idx (ix2 (⟨q, hq⟩ : Fin 256) (y 1) : S256x128.Idx) = y := by
    refine funext fun a => Fin.ext ?_
    revert a
    exact Fin.forall_fin_two.mpr ⟨(rk5_0 k j _).trans h.symm, rk5_1 k j _⟩
  rw [← e]
  exact LoadRect.idx_mem _ _
theorem off_rq5 (k : Fin k0_t5_loop.trips) (j : Fin 8) (K : Fin 128 → ℕ → ℕ → EReal) (y : S4096x128.Idx) (hy : y ∉ (rq5 k j).set) : Dq 1 u1 (k.val + 4 * j.val) K y = 0 := by
  have hk := lt5 k
  have hj := j.isLt
  have h0 : (y 0).val < 4096 := (y 0).isLt
  refine if_neg fun h => hy ?_
  unfold u1 at h

  refine mem_rq5 k j y (((y 0).val - (128 * (k.val + 4 * j.val))) / 1) ?_ ?_ <;> omega
theorem off_rk5 (k : Fin k0_t5_loop.trips) (j : Fin 8) (K : Fin 128 → ℕ → ℕ → EReal) (y : S6144x128.Idx) (hy : y ∉ (rk5 k j).set) : Dk 1 u1 (k.val + 4 * j.val) K y = 0 := by
  have hk := lt5 k
  have hj := j.isLt
  have h0 : (y 0).val < 6144 := (y 0).isLt
  unfold Dk Sk
  refine Finset.sum_eq_zero fun t _ => if_neg fun h => hy ?_
  have ht := t.isLt
  obtain ⟨h1, h2, h3, h4, h5⟩ := h
  unfold u1 at h2

  refine mem_rk5 k j y (((y 0).val - ((128 * (k.val + 4 * j.val)) + 1920)) / 1) ?_ ?_ <;> omega

theorem dis_rq5 (k : Fin k0_t5_loop.trips) (j j' : Fin 8) (y : S4096x128.Idx) (h : y ∈ (rq5 k j).set) (h' : y ∈ (rq5 k j').set) : j = j' := by
  obtain ⟨z, rfl⟩ := (rq5 k j).exists_idx_of_mem h
  obtain ⟨z', e⟩ := (rq5 k j').exists_idx_of_mem h'
  have e : ((rq5 k j').toLoadRect.idx z' 0).val = ((rq5 k j).toLoadRect.idx z 0).val := congrArg (fun w => (w 0).val) e
  have e0 := rq5_0 k j z
  have e0' := rq5_0 k j' z'
  have hz : (z 0).val < 128 := (z 0).isLt
  have hz' : (z' 0).val < 128 := (z' 0).isLt
  exact Fin.ext (by omega)
theorem dis_rk5 (k : Fin k0_t5_loop.trips) (j j' : Fin 8) (y : S6144x128.Idx) (h : y ∈ (rk5 k j).set) (h' : y ∈ (rk5 k j').set) : j = j' := by
  obtain ⟨z, rfl⟩ := (rk5 k j).exists_idx_of_mem h
  obtain ⟨z', e⟩ := (rk5 k j').exists_idx_of_mem h'
  have e : ((rk5 k j').toLoadRect.idx z' 0).val = ((rk5 k j).toLoadRect.idx z 0).val := congrArg (fun w => (w 0).val) e
  have e0 := rk5_0 k j z
  have e0' := rk5_0 k j' z'
  have hz : (z 0).val < 256 := (z 0).isLt
  have hz' : (z' 0).val < 256 := (z' 0).isLt
  exact Fin.ext (by omega)

section
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (x1 : Vec Ideal S4096x128 .f32) (x2 : Vec Ideal S4096x128 .f32) (x3 : Vec Ideal S4096x128 .f32) (x4 : Vec Ideal S4096x128 .f32) (x5 : Vec Ideal S4096x128 .f32) (x6 : Vec Ideal S4096x128 .f32)
  (f10 : BufTy.Contents (Elt Ideal) arg10.view.ty) (f11 : BufTy.Contents (Elt Ideal) arg11.view.ty) (f12 : BufTy.Contents (Elt Ideal) arg12.view.ty)

theorem DQ5_val (k : Fin k0_t5_loop.trips) (j : Fin 8) (x : S128x128.Idx) : (DQ5 arg1 arg4 arg5 arg6 arg13 arg14 (harg1.unread x1) (harg4.unread x4) (harg5.unread x5) (harg6.unread x6) (harg13.unread (padded x2)) (harg14.unread (padded x3)) k j x : EReal) = Dq 1 u1 (k.val + 4 * j.val) (KQ x1 x2 x3 x4 x5 x6) ((rq5 k j).toLoadRect.idx x) := by
  have hk := lt5 k
  have hj := j.isLt
  have hx : (x 0).val < 128 := (x 0).isLt
  unfold DQ5
  refine (dq_unit1 (x1 := x1) (x2 := x2) (x3 := x3) (x4 := x4) (x5 := x5) (x6 := x6) (bit5 k j) (k.val + 4 * j.val) (128 * (k.val + 4 * j.val)) (by omega) rfl (by rw [bit5_eq]; exact bit_iff _) _ _ _ _ _ _ (fun ii e => row_at _ _ _ _ _ _ _ (rq5_0 k j _) (rq5_1 k j _)) (fun ii e => row_at _ _ _ _ _ _ _ (rq5_0 k j _) (rq5_1 k j _)) (fun ii => row_at _ _ _ _ _ _ _ (rq5_0 k j _) (rq5_1 k j _)) (fun jj e hc => pad_at _ _ _ _ _ _ _ ((rk5_0 k j _).trans (by show _ + _ + 1 * jj.val = _; omega)) (rk5_1 k j _)) (fun ii => row_at _ _ _ _ _ _ _ (rq5_0 k j _) (rq5_1 k j _)) (fun jj e hc => pad_at _ _ _ _ _ _ _ ((rk5_0 k j _).trans (by show _ + _ + 1 * jj.val = _; omega)) (rk5_1 k j _)) x).trans ?_
  unfold Dq
  rw [if_pos (by rw [rq5_0]; exact (u1_at _ _ hx)), rq5_0, show (rq5 k j).toLoadRect.idx x 1 = x 1 from Fin.ext (rq5_1 k j x)]
  rfl
theorem DK5_val (k : Fin k0_t5_loop.trips) (j : Fin 8) (x : S256x128.Idx) : (DK5 arg1 arg4 arg5 arg6 arg13 arg14 (harg1.unread x1) (harg4.unread x4) (harg5.unread x5) (harg6.unread x6) (harg13.unread (padded x2)) (harg14.unread (padded x3)) k j x : EReal) = Dk 1 u1 (k.val + 4 * j.val) (KK x1 x2 x3 x4 x5 x6) ((rk5 k j).toLoadRect.idx x) := by
  have hk := lt5 k
  have hj := j.isLt
  unfold DK5
  refine (dk_unit1 (x1 := x1) (x2 := x2) (x3 := x3) (x4 := x4) (x5 := x5) (x6 := x6) (bit5 k j) (k.val + 4 * j.val) (128 * (k.val + 4 * j.val)) (by omega) rfl (by rw [bit5_eq]; exact bit_iff _) _ _ _ _ _ _ (fun ii e => row_at _ _ _ _ _ _ _ (rq5_0 k j _) (rq5_1 k j _)) (fun ii e => row_at _ _ _ _ _ _ _ (rq5_0 k j _) (rq5_1 k j _)) (fun ii => row_at _ _ _ _ _ _ _ (rq5_0 k j _) (rq5_1 k j _)) (fun jj e hc => pad_at _ _ _ _ _ _ _ ((rk5_0 k j _).trans (by show _ + _ + 1 * jj.val = _; omega)) (rk5_1 k j _)) (fun ii => row_at _ _ _ _ _ _ _ (rq5_0 k j _) (rq5_1 k j _)) (fun jj e hc => pad_at _ _ _ _ _ _ _ ((rk5_0 k j _).trans (by show _ + _ + 1 * jj.val = _; omega)) (rk5_1 k j _)) u1 (fun t => rfl) x).trans ?_
  unfold Dk
  rw [rk5_0, show (rk5 k j).toLoadRect.idx x 1 = x 1 from Fin.ext (rk5_1 k j x),
    show k.val + 4 * j.val = k.val + 4 * j.val by omega, show (128 * (k.val + 4 * j.val)) + 1920 + 1 * (x 0).val = (128 * (k.val + 4 * j.val)) + 1 * (x 0).val + 1920 by omega]
  rfl
theorem DV5_val (k : Fin k0_t5_loop.trips) (j : Fin 8) (x : S256x128.Idx) : (DV5 arg1 arg4 arg5 arg13 (harg1.unread x1) (harg4.unread x4) (harg5.unread x5) (harg13.unread (padded x2)) k j x : EReal) = Dk 1 u1 (k.val + 4 * j.val) (KV x1 x2 x4 x5) ((rk5 k j).toLoadRect.idx x) := by
  have hk := lt5 k
  have hj := j.isLt
  unfold DV5
  refine (dv_unit1 (x1 := x1) (x2 := x2) (x4 := x4) (x5 := x5) (bit5 k j) (k.val + 4 * j.val) (128 * (k.val + 4 * j.val)) (by omega) rfl (by rw [bit5_eq]; exact bit_iff _) _ _ _ _ (fun ii e => row_at _ _ _ _ _ _ _ (rq5_0 k j _) (rq5_1 k j _)) (fun ii e => row_at _ _ _ _ _ _ _ (rq5_0 k j _) (rq5_1 k j _)) (fun ii => row_at _ _ _ _ _ _ _ (rq5_0 k j _) (rq5_1 k j _)) (fun jj e hc => pad_at _ _ _ _ _ _ _ ((rk5_0 k j _).trans (by show _ + _ + 1 * jj.val = _; omega)) (rk5_1 k j _)) u1 (fun t => rfl) x).trans ?_
  unfold Dk
  rw [rk5_0, show (rk5 k j).toLoadRect.idx x 1 = x 1 from Fin.ext (rk5_1 k j x),
    show k.val + 4 * j.val = k.val + 4 * j.val by omega, show (128 * (k.val + 4 * j.val)) + 1920 + 1 * (x 0).val = (128 * (k.val + 4 * j.val)) + 1 * (x 0).val + 1920 by omega]
  rfl

theorem step5_10 (k : Fin k0_t5_loop.trips) (y : S4096x128.Idx) :
    (arg10.view.read (Elt Ideal) (trip5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 k).1 y : EReal)
      = (arg10.view.read (Elt Ideal) f10 y : EReal) + ∑ j : Fin 8, Dq 1 u1 (k.val + 4 * j.val) (KQ x1 x2 x3 x4 x5 x6) y := by
  rw [trip5_10]
  exact (read_buildF arg10.view f10 (rq5 k) _ (fun j y => Dq 1 u1 (k.val + 4 * j.val) (KQ x1 x2 x3 x4 x5 x6) y)
    (fun j cc x => (addQ_apply _ _ _).trans (congrArg (fun z : EReal => (cc x : EReal) + z) (DQ5_val arg1 harg1 arg4 harg4 arg5 harg5 arg6 harg6 arg13 harg13 arg14 harg14 x1 x2 x3 x4 x5 x6 k j x)))
    (fun j y hy => off_rq5 k j _ y hy) (dis_rq5 k) y down8 (by decide)).trans (congrArg (fun z : EReal => (arg10.view.read (Elt Ideal) f10 y : EReal) + z) (sum_down8 _))

theorem step5_11 (k : Fin k0_t5_loop.trips) (y : S6144x128.Idx) :
    (arg11.view.read (Elt Ideal) (trip5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 k).2.1 y : EReal)
      = (arg11.view.read (Elt Ideal) f11 y : EReal) + ∑ j : Fin 8, Dk 1 u1 (k.val + 4 * j.val) (KK x1 x2 x3 x4 x5 x6) y := by
  rw [trip5_11]
  exact (read_buildF arg11.view f11 (rk5 k) _ (fun j y => Dk 1 u1 (k.val + 4 * j.val) (KK x1 x2 x3 x4 x5 x6) y)
    (fun j cc x => (addK_apply _ _ _).trans (congrArg (fun z : EReal => (cc x : EReal) + z) (DK5_val arg1 harg1 arg4 harg4 arg5 harg5 arg6 harg6 arg13 harg13 arg14 harg14 x1 x2 x3 x4 x5 x6 k j x)))
    (fun j y hy => off_rk5 k j _ y hy) (dis_rk5 k) y down8 (by decide)).trans (congrArg (fun z : EReal => (arg11.view.read (Elt Ideal) f11 y : EReal) + z) (sum_down8 _))

theorem step5_12 (k : Fin k0_t5_loop.trips) (y : S6144x128.Idx) :
    (arg12.view.read (Elt Ideal) (trip5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 k).2.2.1 y : EReal)
      = (arg12.view.read (Elt Ideal) f12 y : EReal) + ∑ j : Fin 8, Dk 1 u1 (k.val + 4 * j.val) (KV x1 x2 x4 x5) y := by
  rw [trip5_12]
  exact (read_buildF arg12.view f12 (rk5 k) _ (fun j y => Dk 1 u1 (k.val + 4 * j.val) (KV x1 x2 x4 x5) y)
    (fun j cc x => (addK_apply _ _ _).trans (congrArg (fun z : EReal => (cc x : EReal) + z) (DV5_val arg1 harg1 arg4 harg4 arg5 harg5 arg13 harg13 x1 x2 x4 x5 k j x)))
    (fun j y hy => off_rk5 k j _ y hy) (dis_rk5 k) y down8 (by decide)).trans (congrArg (fun z : EReal => (arg12.view.read (Elt Ideal) f12 y : EReal) + z) (sum_down8 _))

theorem loop5_10 (y : S4096x128.Idx) : ∀ n : ℕ, n ≤ k0_t5_loop.trips →
    (arg10.view.read (Elt Ideal) (st5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 n).1 y : EReal) = (arg10.view.read (Elt Ideal) f10 y : EReal) + ∑ k ∈ Finset.range n, ∑ j : Fin 8, Dq 1 u1 (k + 4 * j.val) (KQ x1 x2 x3 x4 x5 x6) y
  | 0, _ => (add_zero (arg10.view.read (Elt Ideal) f10 y : EReal)).symm
  | n + 1, h => by
    rw [Finset.sum_range_succ, ← add_assoc (G := EReal), ← loop5_10 y n (Nat.le_of_succ_le h),
      st5_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 ⟨n, h⟩ _ rfl]
    exact step5_10 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ ⟨n, h⟩ y
theorem all5_10 (y : S4096x128.Idx) :
    (arg10.view.read (Elt Ideal) (st5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 k0_t5_loop.trips).1 y : EReal) = (arg10.view.read (Elt Ideal) f10 y : EReal) + Sq 1 ((KQ x1 x2 x3 x4 x5 x6) (y 1)) (y 0).val := by
  rw [loop5_10 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 y _ le_rfl, trips5, sum_Dq _ _ u1_lt]

theorem loop5_11 (y : S6144x128.Idx) : ∀ n : ℕ, n ≤ k0_t5_loop.trips →
    (arg11.view.read (Elt Ideal) (st5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 n).2.1 y : EReal) = (arg11.view.read (Elt Ideal) f11 y : EReal) + ∑ k ∈ Finset.range n, ∑ j : Fin 8, Dk 1 u1 (k + 4 * j.val) (KK x1 x2 x3 x4 x5 x6) y
  | 0, _ => (add_zero (arg11.view.read (Elt Ideal) f11 y : EReal)).symm
  | n + 1, h => by
    rw [Finset.sum_range_succ, ← add_assoc (G := EReal), ← loop5_11 y n (Nat.le_of_succ_le h),
      st5_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 ⟨n, h⟩ _ rfl]
    exact step5_11 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ ⟨n, h⟩ y
theorem all5_11 (y : S6144x128.Idx) :
    (arg11.view.read (Elt Ideal) (st5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 k0_t5_loop.trips).2.1 y : EReal) = (arg11.view.read (Elt Ideal) f11 y : EReal) + SkA 1 ((KK x1 x2 x3 x4 x5 x6) (y 1)) (y 0).val := by
  rw [loop5_11 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 y _ le_rfl, trips5, sum_Dk _ _ u1_lt]

theorem loop5_12 (y : S6144x128.Idx) : ∀ n : ℕ, n ≤ k0_t5_loop.trips →
    (arg12.view.read (Elt Ideal) (st5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 n).2.2 y : EReal) = (arg12.view.read (Elt Ideal) f12 y : EReal) + ∑ k ∈ Finset.range n, ∑ j : Fin 8, Dk 1 u1 (k + 4 * j.val) (KV x1 x2 x4 x5) y
  | 0, _ => (add_zero (arg12.view.read (Elt Ideal) f12 y : EReal)).symm
  | n + 1, h => by
    rw [Finset.sum_range_succ, ← add_assoc (G := EReal), ← loop5_12 y n (Nat.le_of_succ_le h),
      st5_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 ⟨n, h⟩ _ rfl]
    exact step5_12 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ ⟨n, h⟩ y
theorem all5_12 (y : S6144x128.Idx) :
    (arg12.view.read (Elt Ideal) (st5 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) f10 f11 f12 k0_t5_loop.trips).2.2 y : EReal) = (arg12.view.read (Elt Ideal) f12 y : EReal) + SkA 1 ((KV x1 x2 x4 x5) (y 1)) (y 0).val := by
  rw [loop5_12 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 y _ le_rfl, trips5, sum_Dk _ _ u1_lt]
end

end Cert.KernelIdeal.Hand

end
-- ==== Proof.Outs.lean ====
module

public import proofs.«01_k».proof.Proof.Acc
public import proofs.«01_k».proof.Proof.Whole

/-! What the body stores into its three results, as sums over the three branches. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open scoped BigOperators
set_option maxRecDepth 16384

theorem r5_0 (k : Fin k0_t3_loop.trips) (u : Fin 2) (z : S256x128.Idx) : ((rect5 k u).toLoadRect.idx z 0).val = (k.val + 8 * u.val) + 16 * (z 0).val := by
  show k0_off5 k (BitVec.ofNat 32 (8 * u.val)) 0 + 16 * (z 0).val = _
  have := off5_0 k u
  omega
theorem r5_1 (k : Fin k0_t3_loop.trips) (u : Fin 2) (z : S256x128.Idx) : ((rect5 k u).toLoadRect.idx z 1).val = (z 1).val := by
  show k0_off5 k (BitVec.ofNat 32 (8 * u.val)) 1 + 1 * (z 1).val = _
  have := off5_1 k u
  omega

theorem r6_0 (k : Fin k0_t3_loop.trips) (u : Fin 2) (z : S256x128.Idx) : ((rect6 k u).toLoadRect.idx z 0).val = (k.val + 8 * u.val) + 2048 + 16 * (z 0).val := by
  show k0_off6 k (BitVec.ofNat 32 (8 * u.val)) 0 + 16 * (z 0).val = _
  have := off6_0 k u
  omega
theorem r6_1 (k : Fin k0_t3_loop.trips) (u : Fin 2) (z : S256x128.Idx) : ((rect6 k u).toLoadRect.idx z 1).val = (z 1).val := by
  show k0_off6 k (BitVec.ofNat 32 (8 * u.val)) 1 + 1 * (z 1).val = _
  have := off6_1 k u
  omega

theorem lt3 (k : Fin k0_t3_loop.trips) : k.val < 8 := Nat.lt_of_lt_of_eq k.isLt trips3
theorem SkA_of_Sk16 (n : ℕ) (K : ℕ → ℕ → EReal) (r : ℕ) (h : r % 16 = n) : Sk 16 u16 n K r = SkA 16 K r := by
  unfold Sk SkA
  refine Finset.sum_congr rfl fun t _ => if_congr ⟨fun q => ⟨q.1, q.2.2⟩, fun q => ⟨q.1, ?_, q.2⟩⟩ rfl rfl
  have h1 := q.2.2.2
  have h2 := q.1
  unfold u16
  omega
theorem SkA_low (d : ℕ) (K : ℕ → ℕ → EReal) (r : ℕ) (h : r < 2048) : SkA d K r = 0 :=
  Finset.sum_eq_zero fun t _ => if_neg fun q => absurd q.1 (by omega)
/-- A sum over the queries that meet key `t'`. -/
def Sc (d : ℕ) (K : ℕ → ℕ → EReal) (t' : ℕ) : EReal := ∑ t : Fin 4096, if Md d t.val t' then K t.val t' else 0
theorem SkA_high (d : ℕ) (K : ℕ → ℕ → EReal) (t' : ℕ) : SkA d K (2048 + t') = Sc d K t' := by
  unfold SkA Sc
  rw [Nat.add_sub_cancel_left]
  exact Finset.sum_congr rfl fun t _ => if_congr ⟨fun q => q.2, fun q => ⟨Nat.le_add_right _ _, q⟩⟩ rfl rfl
theorem pay233_zero (z : S2048x128.Idx) : (k0_pay231 (F := Ideal) z : EReal) = 0 := by
  unfold k0_pay231
  pointwise
theorem pay234_zero (z : S2048x128.Idx) : (k0_pay232 (F := Ideal) z : EReal) = 0 := by
  unfold k0_pay232
  pointwise

section
variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S4096x128 .f32) (harg5 : arg5.IsWhole) (arg6 : Memref sig .tc .vmem S4096x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S6144x128 .f32) (harg11 : arg11.IsWhole) (arg12 : Memref sig .tc .vmem S6144x128 .f32) (harg12 : arg12.IsWhole) (arg13 : Memref sig .tc .vmem S6144x128 .f32) (harg13 : arg13.IsWhole) (arg14 : Memref sig .tc .vmem S6144x128 .f32) (harg14 : arg14.IsWhole) (x1 : Vec Ideal S4096x128 .f32) (x2 : Vec Ideal S4096x128 .f32) (x3 : Vec Ideal S4096x128 .f32) (x4 : Vec Ideal S4096x128 .f32) (x5 : Vec Ideal S4096x128 .f32) (x6 : Vec Ideal S4096x128 .f32)

theorem DQ3_val (k : Fin k0_t3_loop.trips) (u : Fin 2) (x : S256x128.Idx) : (DQ3 arg1 arg4 arg5 arg6 arg13 arg14 (harg1.unread x1) (harg4.unread x4) (harg5.unread x5) (harg6.unread x6) (harg13.unread (padded x2)) (harg14.unread (padded x3)) k u x : EReal)
    = Sq 16 (KQ x1 x2 x3 x4 x5 x6 ((rect5 k u).toLoadRect.idx x 1)) ((rect5 k u).toLoadRect.idx x 0).val := by
  have hk := lt3 k
  have hu := u.isLt
  unfold DQ3
  rw [shapeCast_self]
  refine (dq_unit16 (x1 := x1) (x2 := x2) (x3 := x3) (x4 := x4) (x5 := x5) (x6 := x6) (k.val + 8 * u.val) (by omega) _ _ _ _ _ _ (fun ii e => row_at _ _ _ _ _ _ _ (r5_0 k u _) (r5_1 k u _)) (fun ii e => row_at _ _ _ _ _ _ _ (r5_0 k u _) (r5_1 k u _)) (fun ii => row_at _ _ _ _ _ _ _ (r5_0 k u _) (r5_1 k u _)) (fun jj e => pad_at _ _ _ _ _ _ _ ((r6_0 k u _).trans (by show _ + _ + 16 * jj.val = _; omega)) (r6_1 k u _)) (fun ii => row_at _ _ _ _ _ _ _ (r5_0 k u _) (r5_1 k u _)) (fun jj e => pad_at _ _ _ _ _ _ _ ((r6_0 k u _).trans (by show _ + _ + 16 * jj.val = _; omega)) (r6_1 k u _)) x).trans ?_
  rw [r5_0, show (rect5 k u).toLoadRect.idx x 1 = x 1 from Fin.ext (r5_1 k u x)]
  rfl
theorem DK3_val (k : Fin k0_t3_loop.trips) (u : Fin 2) (x : S256x128.Idx) : (DK3 arg1 arg4 arg5 arg6 arg13 arg14 (harg1.unread x1) (harg4.unread x4) (harg5.unread x5) (harg6.unread x6) (harg13.unread (padded x2)) (harg14.unread (padded x3)) k u x : EReal)
    = SkA 16 (KK x1 x2 x3 x4 x5 x6 ((rect6 k u).toLoadRect.idx x 1)) ((rect6 k u).toLoadRect.idx x 0).val := by
  have hk := lt3 k
  have hu := u.isLt
  unfold DK3
  rw [shapeCast_self]
  refine (dk_unit16 (x1 := x1) (x2 := x2) (x3 := x3) (x4 := x4) (x5 := x5) (x6 := x6) (k.val + 8 * u.val) (by omega) _ _ _ _ _ _ (fun ii e => row_at _ _ _ _ _ _ _ (r5_0 k u _) (r5_1 k u _)) (fun ii e => row_at _ _ _ _ _ _ _ (r5_0 k u _) (r5_1 k u _)) (fun ii => row_at _ _ _ _ _ _ _ (r5_0 k u _) (r5_1 k u _)) (fun jj e => pad_at _ _ _ _ _ _ _ ((r6_0 k u _).trans (by show _ + _ + 16 * jj.val = _; omega)) (r6_1 k u _)) (fun ii => row_at _ _ _ _ _ _ _ (r5_0 k u _) (r5_1 k u _)) (fun jj e => pad_at _ _ _ _ _ _ _ ((r6_0 k u _).trans (by show _ + _ + 16 * jj.val = _; omega)) (r6_1 k u _)) u16 (fun t => rfl) x).trans ?_
  rw [r6_0, show (rect6 k u).toLoadRect.idx x 1 = x 1 from Fin.ext (r6_1 k u x), SkA_of_Sk16 _ _ _ (by omega),
    show (k.val + 8 * u.val) + 2048 + 16 * (x 0).val = (k.val + 8 * u.val) + 16 * (x 0).val + 2048 by omega]
  rfl
theorem DV3_val (k : Fin k0_t3_loop.trips) (u : Fin 2) (x : S256x128.Idx) : (DV3 arg1 arg4 arg5 arg13 (harg1.unread x1) (harg4.unread x4) (harg5.unread x5) (harg13.unread (padded x2)) k u x : EReal)
    = SkA 16 (KV x1 x2 x4 x5 ((rect6 k u).toLoadRect.idx x 1)) ((rect6 k u).toLoadRect.idx x 0).val := by
  have hk := lt3 k
  have hu := u.isLt
  unfold DV3
  rw [shapeCast_self]
  refine (dv_unit16 (x1 := x1) (x2 := x2) (x4 := x4) (x5 := x5) (k.val + 8 * u.val) (by omega) _ _ _ _ (fun ii e => row_at _ _ _ _ _ _ _ (r5_0 k u _) (r5_1 k u _)) (fun ii e => row_at _ _ _ _ _ _ _ (r5_0 k u _) (r5_1 k u _)) (fun ii => row_at _ _ _ _ _ _ _ (r5_0 k u _) (r5_1 k u _)) (fun jj e => pad_at _ _ _ _ _ _ _ ((r6_0 k u _).trans (by show _ + _ + 16 * jj.val = _; omega)) (r6_1 k u _)) u16 (fun t => rfl) x).trans ?_
  rw [r6_0, show (rect6 k u).toLoadRect.idx x 1 = x 1 from Fin.ext (r6_1 k u x), SkA_of_Sk16 _ _ _ (by omega),
    show (k.val + 8 * u.val) + 2048 + 16 * (x 0).val = (k.val + 8 * u.val) + 16 * (x 0).val + 2048 by omega]
  rfl

theorem all3_10 (f : BufTy.Contents (Elt Ideal) arg10.view.ty) (y : S4096x128.Idx) :
    (arg10.view.read (Elt Ideal) (arg10.view.writes (Elt Ideal) f (Q3 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 (harg13.unread (padded x2)) (harg14.unread (padded x3))).1) y : EReal) = Sq 16 (KQ x1 x2 x3 x4 x5 x6 (y 1)) (y 0).val := by
  refine View.read_writes_apply_of_pieces _ _ (fun y => (Sq 16 (KQ x1 x2 x3 x4 x5 x6 (y 1)) (y 0).val : EReal)) _ ?_ y (cover10 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 (harg13.unread (padded x2)) (harg14.unread (padded x3)) y)
  intro p hp
  obtain ⟨k, -, hp⟩ := (mem_q10 (F := Ideal) c i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) _ le_rfl p).mp hp
  rw [trip3_10] at hp
  rcases List.mem_cons.mp hp with rfl | hp
  · exact fun z => DQ3_val arg1 harg1 arg4 harg4 arg5 harg5 arg6 harg6 arg13 harg13 arg14 harg14 x1 x2 x3 x4 x5 x6 k 1 z
  · obtain rfl := List.mem_singleton.mp hp
    exact fun z => DQ3_val arg1 harg1 arg4 harg4 arg5 harg5 arg6 harg6 arg13 harg13 arg14 harg14 x1 x2 x3 x4 x5 x6 k 0 z

theorem all3_11 (f : BufTy.Contents (Elt Ideal) arg11.view.ty) (y : S6144x128.Idx) :
    (arg11.view.read (Elt Ideal) (arg11.view.writes (Elt Ideal) f (P11 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 (harg13.unread (padded x2)) (harg14.unread (padded x3)))) y : EReal) = SkA 16 ((KK x1 x2 x3 x4 x5 x6) (y 1)) (y 0).val := by
  refine View.read_writes_apply_of_pieces _ _ (fun y => (SkA 16 ((KK x1 x2 x3 x4 x5 x6) (y 1)) (y 0).val : EReal)) _ ?_ y (cover11 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 (harg13.unread (padded x2)) (harg14.unread (padded x3)) y)
  intro p hp
  rcases List.mem_append.mp hp with hp | hp
  · obtain ⟨k, -, hp⟩ := (mem_q11 (F := Ideal) c i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) _ le_rfl p).mp hp
    rw [trip3_11] at hp
    rcases List.mem_cons.mp hp with rfl | hp
    · exact fun z => DK3_val arg1 harg1 arg4 harg4 arg5 harg5 arg6 harg6 arg13 harg13 arg14 harg14 x1 x2 x3 x4 x5 x6 k 1 z
    · obtain rfl := List.mem_singleton.mp hp
      exact fun z => DK3_val arg1 harg1 arg4 harg4 arg5 harg5 arg6 harg6 arg13 harg13 arg14 harg14 x1 x2 x3 x4 x5 x6 k 0 z
  · obtain rfl := List.mem_singleton.mp hp
    intro z
    have hz : (z 0).val < 2048 := (z 0).isLt
    refine (pay233_zero z).trans (SkA_low _ _ _ ?_).symm
    show 0 + 1 * (z 0).val < 2048
    omega

theorem all3_12 (f : BufTy.Contents (Elt Ideal) arg12.view.ty) (y : S6144x128.Idx) :
    (arg12.view.read (Elt Ideal) (arg12.view.writes (Elt Ideal) f (P12 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 (harg13.unread (padded x2)) (harg14.unread (padded x3)))) y : EReal) = SkA 16 ((KV x1 x2 x4 x5) (y 1)) (y 0).val := by
  refine View.read_writes_apply_of_pieces _ _ (fun y => (SkA 16 ((KV x1 x2 x4 x5) (y 1)) (y 0).val : EReal)) _ ?_ y (cover12 c i arg1 harg1 arg2 harg2 arg3 harg3 arg4 harg4 arg5 harg5 arg6 harg6 arg7 harg7 arg8 harg8 arg9 harg9 arg10 harg10 arg11 harg11 arg12 harg12 arg13 harg13 arg14 harg14 x1 x4 x5 x6 (harg13.unread (padded x2)) (harg14.unread (padded x3)) y)
  intro p hp
  rcases List.mem_append.mp hp with hp | hp
  · obtain ⟨k, -, hp⟩ := (mem_q12 (F := Ideal) c i arg1 harg1 arg2 harg2 arg3 harg3 arg4 harg4 arg5 harg5 arg6 harg6 arg7 harg7 arg8 harg8 arg9 harg9 arg10 harg10 arg11 harg11 arg12 harg12 arg13 harg13 arg14 harg14 (harg1.unread x1) (harg4.unread x4) (harg5.unread x5) (harg6.unread x6) (harg13.unread (padded x2)) (harg14.unread (padded x3)) _ le_rfl p).mp hp
    rw [trip3_12] at hp
    rcases List.mem_cons.mp hp with rfl | hp
    · exact fun z => DV3_val arg1 harg1 arg4 harg4 arg5 harg5 arg13 harg13 x1 x2 x4 x5 k 1 z
    · obtain rfl := List.mem_singleton.mp hp
      exact fun z => DV3_val arg1 harg1 arg4 harg4 arg5 harg5 arg13 harg13 x1 x2 x4 x5 k 0 z
  · obtain rfl := List.mem_singleton.mp hp
    intro z
    have hz : (z 0).val < 2048 := (z 0).isLt
    refine (pay234_zero z).trans (SkA_low _ _ _ ?_).symm
    show 0 + 1 * (z 0).val < 2048
    omega

theorem fin_10 (f10 : BufTy.Contents (Elt Ideal) arg10.view.ty) (f11 : BufTy.Contents (Elt Ideal) arg11.view.ty) (f12 : BufTy.Contents (Elt Ideal) arg12.view.ty)
    (f13 : BufTy.Contents (Elt Ideal) arg13.view.ty) (f14 : BufTy.Contents (Elt Ideal) arg14.view.ty) (y : S4096x128.Idx) :
    (arg10.view.read (Elt Ideal) (fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14).1 y : EReal)
      = Sq 16 ((KQ x1 x2 x3 x4 x5 x6) (y 1)) (y 0).val + Sq 4 ((KQ x1 x2 x3 x4 x5 x6) (y 1)) (y 0).val + Sq 1 ((KQ x1 x2 x3 x4 x5 x6) (y 1)) (y 0).val := by
  unfold fin
  dsimp only
  rw [pad13, pad14]
  refine (all5_10 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ y).trans (congrArg (fun z : EReal => z + Sq 1 ((KQ x1 x2 x3 x4 x5 x6) (y 1)) (y 0).val) ?_)
  refine (all4_10 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ y).trans (congrArg (fun z : EReal => z + Sq 4 ((KQ x1 x2 x3 x4 x5 x6) (y 1)) (y 0).val) ?_)
  exact all3_10 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ y

theorem fin_11 (f10 : BufTy.Contents (Elt Ideal) arg10.view.ty) (f11 : BufTy.Contents (Elt Ideal) arg11.view.ty) (f12 : BufTy.Contents (Elt Ideal) arg12.view.ty)
    (f13 : BufTy.Contents (Elt Ideal) arg13.view.ty) (f14 : BufTy.Contents (Elt Ideal) arg14.view.ty) (y : S6144x128.Idx) :
    (arg11.view.read (Elt Ideal) (fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14).2.1 y : EReal)
      = SkA 16 ((KK x1 x2 x3 x4 x5 x6) (y 1)) (y 0).val + SkA 4 ((KK x1 x2 x3 x4 x5 x6) (y 1)) (y 0).val + SkA 1 ((KK x1 x2 x3 x4 x5 x6) (y 1)) (y 0).val := by
  unfold fin
  dsimp only
  rw [pad13, pad14]
  refine (all5_11 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ y).trans (congrArg (fun z : EReal => z + SkA 1 ((KK x1 x2 x3 x4 x5 x6) (y 1)) (y 0).val) ?_)
  refine (all4_11 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ y).trans (congrArg (fun z : EReal => z + SkA 4 ((KK x1 x2 x3 x4 x5 x6) (y 1)) (y 0).val) ?_)
  exact all3_11 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ y

theorem fin_12 (f10 : BufTy.Contents (Elt Ideal) arg10.view.ty) (f11 : BufTy.Contents (Elt Ideal) arg11.view.ty) (f12 : BufTy.Contents (Elt Ideal) arg12.view.ty)
    (f13 : BufTy.Contents (Elt Ideal) arg13.view.ty) (f14 : BufTy.Contents (Elt Ideal) arg14.view.ty) (y : S6144x128.Idx) :
    (arg12.view.read (Elt Ideal) (fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 f10 f11 f12 f13 f14).2.2 y : EReal)
      = SkA 16 ((KV x1 x2 x4 x5) (y 1)) (y 0).val + SkA 4 ((KV x1 x2 x4 x5) (y 1)) (y 0).val + SkA 1 ((KV x1 x2 x4 x5) (y 1)) (y 0).val := by
  unfold fin
  dsimp only
  rw [pad13, pad14]
  refine (all5_12 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ y).trans (congrArg (fun z : EReal => z + SkA 1 ((KV x1 x2 x4 x5) (y 1)) (y 0).val) ?_)
  refine (all4_12 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ y).trans (congrArg (fun z : EReal => z + SkA 4 ((KV x1 x2 x4 x5) (y 1)) (y 0).val) ?_)
  exact all3_12 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ y

theorem out7_val (y : S4096x128.Idx) : (out7 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 y : EReal)
    = Sq 16 (KQ x1 x2 x3 x4 x5 x6 (y 1)) (y 0).val + Sq 4 (KQ x1 x2 x3 x4 x5 x6 (y 1)) (y 0).val + Sq 1 (KQ x1 x2 x3 x4 x5 x6 (y 1)) (y 0).val := by
  unfold out7 k0_pay3
  have e : (Rect.unit (s := S4096x128) ![0, 0] S4096x128.size inb_S4096x128_S4096x128_0_0).toLoadRect.idx y = y := by
    refine funext fun a => Fin.ext ?_
    revert a
    refine Fin.forall_fin_two.mpr ⟨?_, ?_⟩
    · show 0 + 1 * (y 0).val = _
      omega
    · show 0 + 1 * (y 1).val = _
      omega
  show (arg10.view.read (Elt Ideal) (fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 (harg10.unread zeroV) (harg11.unread zeroW) (harg12.unread zeroW) (harg13.unread zeroW) (harg14.unread zeroW)).1 ((Rect.unit (s := S4096x128) ![0, 0] S4096x128.size inb_S4096x128_S4096x128_0_0).toLoadRect.idx y) : EReal) = _
  rw [e]
  exact fin_10 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ _ _ y

theorem out8_val (y : S4096x128.Idx) : (out8 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 y : EReal)
    = Sc 16 ((KK x1 x2 x3 x4 x5 x6) (y 1)) (y 0).val + Sc 4 ((KK x1 x2 x3 x4 x5 x6) (y 1)) (y 0).val + Sc 1 ((KK x1 x2 x3 x4 x5 x6) (y 1)) (y 0).val := by
  have e0 : (((Rect.unit (s := S6144x128) ![2048, 0] S4096x128.size inb_S6144x128_S4096x128_2048_0).toLoadRect.idx y) 0).val = 2048 + (y 0).val := by
    show 2048 + 1 * (y 0).val = _
    omega
  have e1 : (((Rect.unit (s := S6144x128) ![2048, 0] S4096x128.size inb_S6144x128_S4096x128_2048_0).toLoadRect.idx y) 1) = y 1 := Fin.ext (by
    show 0 + 1 * (y 1).val = _
    omega)
  unfold out8 k0_pay4
  show (arg11.view.read (Elt Ideal) (fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 (harg10.unread zeroV) (harg11.unread zeroW) (harg12.unread zeroW) (harg13.unread zeroW) (harg14.unread zeroW)).2.1 ((Rect.unit (s := S6144x128) ![2048, 0] S4096x128.size inb_S6144x128_S4096x128_2048_0).toLoadRect.idx y) : EReal) = _
  refine (fin_11 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ _ _ _).trans ?_
  rw [e0, e1, SkA_high, SkA_high, SkA_high]

theorem out9_val (y : S4096x128.Idx) : (out9 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 y : EReal)
    = Sc 16 ((KV x1 x2 x4 x5) (y 1)) (y 0).val + Sc 4 ((KV x1 x2 x4 x5) (y 1)) (y 0).val + Sc 1 ((KV x1 x2 x4 x5) (y 1)) (y 0).val := by
  have e0 : (((Rect.unit (s := S6144x128) ![2048, 0] S4096x128.size inb_S6144x128_S4096x128_2048_0).toLoadRect.idx y) 0).val = 2048 + (y 0).val := by
    show 2048 + 1 * (y 0).val = _
    omega
  have e1 : (((Rect.unit (s := S6144x128) ![2048, 0] S4096x128.size inb_S6144x128_S4096x128_2048_0).toLoadRect.idx y) 1) = y 1 := Fin.ext (by
    show 0 + 1 * (y 1).val = _
    omega)
  unfold out9 k0_pay5
  show (arg12.view.read (Elt Ideal) (fin c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 (harg10.unread zeroV) (harg11.unread zeroW) (harg12.unread zeroW) (harg13.unread zeroW) (harg14.unread zeroW)).2.2 ((Rect.unit (s := S6144x128) ![2048, 0] S4096x128.size inb_S6144x128_S4096x128_2048_0).toLoadRect.idx y) : EReal) = _
  refine (fin_12 c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 _ _ _ _ _ _).trans ?_
  rw [e0, e1, SkA_high, SkA_high, SkA_high]
end

end Cert.KernelIdeal.Hand

end
-- ==== Proof.Value.lean ====
module

public import proofs.«01_k».proof.Proof.Outs
public import Idealize.ShloMosaic.Lib.Pipeline.ValueKit

/-! The result arrays after the run. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

open scoped BigOperators
set_option maxRecDepth 16384

/-- The `b`-th block of 128 columns. -/
def col8 (X : S4096x1024.Idx → EReal) (b : ℕ) (hb : b < 8) : Vec Ideal S4096x128 .f32 :=
  fun y => X (ix2 (y 0) (⟨128 * b + (y 1).val, by have : (y 1).val < 128 := (y 1).isLt; omega⟩ : Fin 1024))
def col32 (X : S4096x4096.Idx → EReal) (b : ℕ) (hb : b < 32) : Vec Ideal S4096x128 .f32 :=
  fun y => X (ix2 (y 0) (⟨128 * b + (y 1).val, by have : (y 1).val < 128 := (y 1).isLt; omega⟩ : Fin 4096))

theorem lt8 (t : Fin cfg0.N) : t.val < 8 := Nat.lt_of_lt_of_eq t.isLt (by decide)

theorem idx0 : ∀ t : Fin cfg0.N, win0_0.index t = ![0, t.val] := by decide +kernel
theorem idx1 : ∀ t : Fin cfg0.N, win0_1.index t = ![0, 8 + t.val] := by decide +kernel
theorem idx2 : ∀ t : Fin cfg0.N, win0_2.index t = ![0, 16 + t.val] := by decide +kernel
theorem idx3 : ∀ t : Fin cfg0.N, win0_3.index t = ![0, t.val] := by decide +kernel
theorem idx4 : ∀ t : Fin cfg0.N, win0_4.index t = ![0, t.val] := by decide +kernel
theorem idx5 : ∀ t : Fin cfg0.N, win0_5.index t = ![0, t.val] := by decide +kernel
theorem idx6 : ∀ t : Fin cfg0.N, win0_6.index t = ![0, t.val] := by decide +kernel
theorem idx7 : ∀ t : Fin cfg0.N, win0_7.index t = ![0, t.val] := by decide +kernel
theorem idx8 : ∀ t : Fin cfg0.N, win0_8.index t = ![0, t.val] := by decide +kernel

variable (m : (ℓ : Loc nD τ sig) → Buf (Elt Ideal) ℓ)

theorem blk_0 (c : Dev nD) (t : Fin cfg0.N) (h : t.val < 32) : (iblk m c 0 t : Vec Ideal S4096x128 .f32) = col32 (V m c (Pipeline.arrRef spec0 0)) (t.val) h := by
  funext y
  unfold col32
  blk_ext [iblk, idx0]

theorem blk_1 (c : Dev nD) (t : Fin cfg0.N) (h : 8 + t.val < 32) : (iblk m c 1 t : Vec Ideal S4096x128 .f32) = col32 (V m c (Pipeline.arrRef spec0 1)) (8 + t.val) h := by
  funext y
  unfold col32
  blk_ext [iblk, idx1]

theorem blk_2 (c : Dev nD) (t : Fin cfg0.N) (h : 16 + t.val < 32) : (iblk m c 2 t : Vec Ideal S4096x128 .f32) = col32 (V m c (Pipeline.arrRef spec0 2)) (16 + t.val) h := by
  funext y
  unfold col32
  blk_ext [iblk, idx2]

theorem blk_3 (c : Dev nD) (t : Fin cfg0.N) (h : t.val < 8) : (iblk m c 3 t : Vec Ideal S4096x128 .f32) = col8 (V m c (Pipeline.arrRef spec0 3)) (t.val) h := by
  funext y
  unfold col8
  blk_ext [iblk, idx3]

theorem blk_4 (c : Dev nD) (t : Fin cfg0.N) (h : t.val < 8) : (iblk m c 4 t : Vec Ideal S4096x128 .f32) = col8 (V m c (Pipeline.arrRef spec0 4)) (t.val) h := by
  funext y
  unfold col8
  blk_ext [iblk, idx4]

theorem blk_5 (c : Dev nD) (t : Fin cfg0.N) (h : t.val < 8) : (iblk m c 5 t : Vec Ideal S4096x128 .f32) = col8 (V m c (Pipeline.arrRef spec0 5)) (t.val) h := by
  funext y
  unfold col8
  blk_ext [iblk, idx5]

/-- Result 1 in head `h`, at row `i` and lane `e`. -/
def val7 (A : S4096x4096.Idx → EReal) (B L D : S4096x1024.Idx → EReal) (h : ℕ) (hh : h < 8) (e : Fin 128) (i : ℕ) : EReal :=
  Sq 16 (KQ (col32 A h (by omega)) (col32 A (8 + h) (by omega)) (col32 A (16 + h) (by omega)) (col8 B h hh) (col8 L h hh) (col8 D h hh) e) i + Sq 4 (KQ (col32 A h (by omega)) (col32 A (8 + h) (by omega)) (col32 A (16 + h) (by omega)) (col8 B h hh) (col8 L h hh) (col8 D h hh) e) i + Sq 1 (KQ (col32 A h (by omega)) (col32 A (8 + h) (by omega)) (col32 A (16 + h) (by omega)) (col8 B h hh) (col8 L h hh) (col8 D h hh) e) i

theorem val7_congr (A : S4096x4096.Idx → EReal) (B L D : S4096x1024.Idx → EReal) (h h' : ℕ) (hh : h < 8) (hh' : h' < 8) (e e' : Fin 128) (i : ℕ)
    (eh : h = h') (ee : e = e') : val7 A B L D h hh e i = val7 A B L D h' hh' e' i := by
  subst eh
  subst ee
  rfl

theorem arr7 (c : Dev nD) : (dats m 0 c).arrAt 6 cfg0.N = fun y : S4096x1024.Idx =>
    val7 (V m c (Pipeline.arrRef spec0 0)) (V m c (Pipeline.arrRef spec0 3)) (V m c (Pipeline.arrRef spec0 4)) (V m c (Pipeline.arrRef spec0 5))
      ((y 1).val / 128) (by have : (y 1).val < 1024 := (y 1).isLt; omega) ⟨(y 1).val % 128, Nat.mod_lt _ (by omega)⟩ (y 0).val := by
  refine (dats m 0 c).arrAt_eq_of_covers 6 _ (by decide +kernel) fun t hf y => ?_
  blk_simp [idx6]
  rw [after_6]
  unfold at7
  have ht := lt8 t
  have hy : (y 1).val < 128 := (y 1).isLt
  rw [blk_0 m c t (by omega), blk_1 m c t (by omega), blk_2 m c t (by omega), blk_3 m c t (by omega), blk_4 m c t (by omega), blk_5 m c t (by omega)]
  refine (out7_val _ _ _ _ _ _ _ _ _ _ _ _ _ _ _ _ _ _ _ _ _ _ _ _ _ _ _ _ _ _ _ _ _ _ _ _ _).trans (val7_congr (V m c (Pipeline.arrRef spec0 0)) (V m c (Pipeline.arrRef spec0 3)) (V m c (Pipeline.arrRef spec0 4)) (V m c (Pipeline.arrRef spec0 5))
    t.val _ ht _ (y 1) _ (y 0).val (by omega) (Fin.ext ?_))
  show (y 1).val = (t.val * 128 + (y 1).val) % 128
  omega

/-- Result 2 in head `h`, at row `i` and lane `e`. -/
def val8 (A : S4096x4096.Idx → EReal) (B L D : S4096x1024.Idx → EReal) (h : ℕ) (hh : h < 8) (e : Fin 128) (i : ℕ) : EReal :=
  Sc 16 (KK (col32 A h (by omega)) (col32 A (8 + h) (by omega)) (col32 A (16 + h) (by omega)) (col8 B h hh) (col8 L h hh) (col8 D h hh) e) i + Sc 4 (KK (col32 A h (by omega)) (col32 A (8 + h) (by omega)) (col32 A (16 + h) (by omega)) (col8 B h hh) (col8 L h hh) (col8 D h hh) e) i + Sc 1 (KK (col32 A h (by omega)) (col32 A (8 + h) (by omega)) (col32 A (16 + h) (by omega)) (col8 B h hh) (col8 L h hh) (col8 D h hh) e) i

theorem val8_congr (A : S4096x4096.Idx → EReal) (B L D : S4096x1024.Idx → EReal) (h h' : ℕ) (hh : h < 8) (hh' : h' < 8) (e e' : Fin 128) (i : ℕ)
    (eh : h = h') (ee : e = e') : val8 A B L D h hh e i = val8 A B L D h' hh' e' i := by
  subst eh
  subst ee
  rfl

theorem arr8 (c : Dev nD) : (dats m 0 c).arrAt 7 cfg0.N = fun y : S4096x1024.Idx =>
    val8 (V m c (Pipeline.arrRef spec0 0)) (V m c (Pipeline.arrRef spec0 3)) (V m c (Pipeline.arrRef spec0 4)) (V m c (Pipeline.arrRef spec0 5))
      ((y 1).val / 128) (by have : (y 1).val < 1024 := (y 1).isLt; omega) ⟨(y 1).val % 128, Nat.mod_lt _ (by omega)⟩ (y 0).val := by
  refine (dats m 0 c).arrAt_eq_of_covers 7 _ (by decide +kernel) fun t hf y => ?_
  blk_simp [idx7]
  rw [after_7]
  unfold at8
  have ht := lt8 t
  have hy : (y 1).val < 128 := (y 1).isLt
  rw [blk_0 m c t (by omega), blk_1 m c t (by omega), blk_2 m c t (by omega), blk_3 m c t (by omega), blk_4 m c t (by omega), blk_5 m c t (by omega)]
  refine (out8_val _ _ _ _ _ _ _ _ _ _ _ _ _ _ _ _ _ _ _ _ _ _ _ _ _ _ _ _ _ _ _ _ _ _ _ _ _).trans (val8_congr (V m c (Pipeline.arrRef spec0 0)) (V m c (Pipeline.arrRef spec0 3)) (V m c (Pipeline.arrRef spec0 4)) (V m c (Pipeline.arrRef spec0 5))
    t.val _ ht _ (y 1) _ (y 0).val (by omega) (Fin.ext ?_))
  show (y 1).val = (t.val * 128 + (y 1).val) % 128
  omega

/-- Result 3 in head `h`, at row `i` and lane `e`. -/
def val9 (A : S4096x4096.Idx → EReal) (B L : S4096x1024.Idx → EReal) (h : ℕ) (hh : h < 8) (e : Fin 128) (i : ℕ) : EReal :=
  Sc 16 (KV (col32 A h (by omega)) (col32 A (8 + h) (by omega)) (col8 B h hh) (col8 L h hh) e) i + Sc 4 (KV (col32 A h (by omega)) (col32 A (8 + h) (by omega)) (col8 B h hh) (col8 L h hh) e) i + Sc 1 (KV (col32 A h (by omega)) (col32 A (8 + h) (by omega)) (col8 B h hh) (col8 L h hh) e) i

theorem val9_congr (A : S4096x4096.Idx → EReal) (B L : S4096x1024.Idx → EReal) (h h' : ℕ) (hh : h < 8) (hh' : h' < 8) (e e' : Fin 128) (i : ℕ)
    (eh : h = h') (ee : e = e') : val9 A B L h hh e i = val9 A B L h' hh' e' i := by
  subst eh
  subst ee
  rfl

theorem arr9 (c : Dev nD) : (dats m 0 c).arrAt 8 cfg0.N = fun y : S4096x1024.Idx =>
    val9 (V m c (Pipeline.arrRef spec0 0)) (V m c (Pipeline.arrRef spec0 3)) (V m c (Pipeline.arrRef spec0 4))
      ((y 1).val / 128) (by have : (y 1).val < 1024 := (y 1).isLt; omega) ⟨(y 1).val % 128, Nat.mod_lt _ (by omega)⟩ (y 0).val := by
  refine (dats m 0 c).arrAt_eq_of_covers 8 _ (by decide +kernel) fun t hf y => ?_
  blk_simp [idx8]
  rw [after_8]
  unfold at9
  have ht := lt8 t
  have hy : (y 1).val < 128 := (y 1).isLt
  rw [blk_0 m c t (by omega), blk_1 m c t (by omega), blk_2 m c t (by omega), blk_3 m c t (by omega), blk_4 m c t (by omega), blk_5 m c t (by omega)]
  refine (out9_val _ _ _ _ _ _ _ _ _ _ _ _ _ _ _ _ _ _ _ _ _ _ _ _ _ _ _ _ _ _ _ _ _ _ _ _ _).trans (val9_congr (V m c (Pipeline.arrRef spec0 0)) (V m c (Pipeline.arrRef spec0 3)) (V m c (Pipeline.arrRef spec0 4))
    t.val _ ht _ (y 1) _ (y 0).val (by omega) (Fin.ext ?_))
  show (y 1).val = (t.val * 128 + (y 1).val) % 128
  omega

end Cert.KernelIdeal.Hand

end
-- ==== Proof.Points.lean ====
module

public import proofs.«01_k».proof.Proof.Host
public import proofs.«01_k».proof.Proof.Value
public import Idealize.ShloMosaic.Lib.WordCmp
public import Idealize.ShloMosaic.Lib.Affine

/-! The host operations of `Proof.Host`, each read at an index. -/

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Idealize.ShloMosaic.WordCmp
open scoped BigOperators

theorem hd_at (X : FVec Ideal S4096x1024 .f32) (t : Fin 4096) (h : Fin 8) (e : Fin 128) :
    (hd X (ix3 t h e) : EReal) = X (ix2 t (⟨128 * h.val + e.val, by omega⟩ : Fin 1024)) := by
  unfold hd
  pointwise
  exact congrArg (fun a => X (ix2 t a)) (Fin.ext (by show h.val * 128 + e.val = 128 * h.val + e.val; omega))
theorem cq_at (A : FVec Ideal S4096x4096 .f32) (t : Fin 4096) (h : Fin 8) (e : Fin 128) :
    (cq A (ix3 t h e) : EReal) = A (ix2 t (⟨128 * h.val + e.val, by omega⟩ : Fin 4096)) := by
  unfold cq
  refine (hd_at _ t h e).trans ?_
  pointwise
theorem ck_at (A : FVec Ideal S4096x4096 .f32) (t : Fin 4096) (h : Fin 8) (e : Fin 128) :
    (ck A (ix3 t h e) : EReal) = A (ix2 t (⟨128 * (8 + h.val) + e.val, by omega⟩ : Fin 4096)) := by
  unfold ck
  refine (hd_at _ t h e).trans ?_
  pointwise
  exact congrArg (fun a => A (ix2 t a)) (Fin.ext (by show 1024 + (128 * h.val + e.val) = 128 * (8 + h.val) + e.val; omega))
theorem cv_at (A : FVec Ideal S4096x4096 .f32) (t : Fin 4096) (h : Fin 8) (e : Fin 128) :
    (cv A (ix3 t h e) : EReal) = A (ix2 t (⟨128 * (16 + h.val) + e.val, by omega⟩ : Fin 4096)) := by
  unfold cv
  refine (hd_at _ t h e).trans ?_
  pointwise
  exact congrArg (fun a => A (ix2 t a)) (Fin.ext (by show 2048 + (128 * h.val + e.val) = 128 * (16 + h.val) + e.val; omega))
theorem dotL_at (X Y : FVec Ideal S4096x8x128 .f32) (t t' : Fin 4096) (h : Fin 8) :
    (dotL X Y (ix3 h t t') : EReal) = ∑ e : Fin 128, X (ix3 t h e) * Y (ix3 t' h e) := by
  unfold dotL
  pointwise
theorem sc_at (y : S8x4096x4096.Idx) : (sc y : EReal) = Cert.KernelIdeal.Hand.Scl := by
  unfold sc Cert.KernelIdeal.Hand.Scl
  pointwise

theorem flat_at (X : FVec Ideal S4096x8x128 .f32) (y : S4096x1024.Idx) :
    (flat X y : EReal) = X (ix3 (y 0) (⟨(y 1).val / 128, by have : (y 1).val < 1024 := (y 1).isLt; omega⟩ : Fin 8) (⟨(y 1).val % 128, Nat.mod_lt _ (by omega)⟩ : Fin 128)) := by
  unfold flat
  pointwise

section
open Cert.KernelIdeal.Hand
theorem sub_of_le (a b : ℕ) (h : b ≤ a) (ha : a < 4096) : IntOp.subi (BitVec.ofNat 32 a) (BitVec.ofNat 32 b) = BitVec.ofNat 32 (a - b) := by
  apply BitVec.eq_of_toNat_eq
  show (BitVec.ofNat 32 a - BitVec.ofNat 32 b).toNat = _
  rw [BitVec.toNat_sub, BitVec.toNat_ofNat, BitVec.toNat_ofNat, BitVec.toNat_ofNat]
  omega
theorem neg_of_lt (a b : ℕ) (h : a < b) (hb : b < 4096) : IntOp.cmpi .sge (IntOp.subi (BitVec.ofNat 32 a) (BitVec.ofNat 32 b)) 0#32 = 0#1 := by
  rw [cmpi_sge_zero]
  have : ¬ (IntOp.subi (BitVec.ofNat 32 a) (BitVec.ofNat 32 b)).toNat < 2 ^ (32 - 1) := by
    show ¬ (BitVec.ofNat 32 a - BitVec.ofNat 32 b).toNat < 2 ^ (32 - 1)
    rw [BitVec.toNat_sub, BitVec.toNat_ofNat, BitVec.toNat_ofNat]
    omega
  rw [decide_eq_false this]
  rfl
theorem mask_word (w d : ℕ) (hw : w < 4096) (hd : 0 < d) (hd' : d < 4096) (t t' : Fin 4096) :
    (IntOp.andi (IntOp.andi (IntOp.cmpi CmpIPredicate.sge (IntOp.subi (BitVec.ofNat 32 t.val) (BitVec.ofNat 32 t'.val)) 0#32)
        (IntOp.cmpi CmpIPredicate.sle (IntOp.subi (BitVec.ofNat 32 t.val) (BitVec.ofNat 32 t'.val)) (BitVec.ofNat 32 w)))
      (IntOp.cmpi CmpIPredicate.eq (IntOp.remsi ArithUnit.host (IntOp.subi (BitVec.ofNat 32 t.val) (BitVec.ofNat 32 t'.val)) (BitVec.ofNat 32 d)) 0#32) = 1#1)
      ↔ t'.val ≤ t.val ∧ t.val - t'.val ≤ w ∧ (t.val - t'.val) % d = 0 := by
  have ht := t.isLt
  by_cases h : t'.val ≤ t.val
  · rw [sub_of_le _ _ h ht]
    have e0 : (BitVec.ofNat 32 (t.val - t'.val)).toNat = t.val - t'.val := by rw [BitVec.toNat_ofNat]; omega
    have e1 : ((BitVec.ofNat 32 (t.val - t'.val)).toNat < 2 ^ (32 - 1)) := by rw [e0]; omega
    rw [cmpi_sge_zero, decide_eq_true e1, cmpi_sle_ofNat (by omega) (by omega), cmpi_eq_eq, andi_ofBool, andi_ofBool, ofBool_eq_one_iff,
      Bool.and_eq_true, Bool.and_eq_true, decide_eq_true_iff, decide_eq_true_iff, IntOp.remsi_eq_zero_iff _ (by rw [e0]; omega) d hd (by omega), e0]
    exact ⟨fun q => ⟨h, q.1.2, Nat.mod_eq_zero_of_dvd q.2⟩, fun q => ⟨⟨rfl, q.2.1⟩, Nat.dvd_of_mod_eq_zero q.2.2⟩⟩
  · rw [neg_of_lt _ _ (by omega) t'.isLt]
    have e : ∀ x y : BitVec 1, IntOp.andi (IntOp.andi 0#1 x) y = 0#1 := by decide
    rw [e]
    exact ⟨fun q => absurd q (by decide), fun q => absurd q.1 h⟩
theorem mask_at (w d : ℕ) (hw : w < 4096) (hd : 0 < d) (hd' : d < 4096) (hwd : w = 128 * d) (t t' : Fin 4096) :
    mask (BitVec.ofNat 32 w) (BitVec.ofNat 32 d) (ix2 t t') = 1#1 ↔ Md d t.val t'.val := by
  unfold mask back
  pointwise
  rw [mask_word w d hw hd hd']
  unfold Md
  refine and_congr_right fun h => and_congr ⟨fun q => by omega, fun q => by omega⟩ ?_
  constructor
  · intro q
    exact ((Nat.modEq_iff_dvd' h).mpr (Nat.dvd_of_mod_eq_zero q)).symm
  · intro q
    exact Nat.mod_eq_zero_of_dvd ((Nat.modEq_iff_dvd' h).mp (show t'.val ≡ t.val [MOD d] from q.symm))
theorem rowOf_at (x : Vec Ideal Cert.KernelIdeal.S4096x128 .f32) (t : Fin 4096) : rowOf x t.val = fun e => x (ix2 t e) := by
  funext e
  unfold rowOf
  exact dif_pos t.isLt
end
theorem zro_at (i : S_.Idx) : (zro i : EReal) = 0 := by
  unfold zro
  pointwise
theorem bot_at (i : S_.Idx) : (bot i : EReal) = ⊥ := by
  unfold bot
  pointwise
  simp [Ideal.ofBits, Ideal.ieee]
/-- The distance between the keys of a branch. -/
def dil (b : Fin 3) : ℕ := ![1, 4, 16] b
theorem mask1_at (w d : BitVec 32) (t t' : Fin 4096) : mask1 w d (ix3 (0 : Fin 1) t t') = mask w d (ix2 t t') := by
  unfold mask1
  pointwise
theorem masks1_at (b : Fin 3) (t t' : Fin 4096) : masks1 (ix4 b (0 : Fin 1) t t') = 1#1 ↔ Cert.KernelIdeal.Hand.Md (dil b) t.val t'.val := by
  unfold masks1
  fin_cases b
  · refine Iff.trans (iff_of_eq (congrArg (· = 1#1) ?_)) (mask_at 128 1 (by omega) (by omega) (by omega) rfl t t')
    refine Eq.trans ?_ (mask1_at _ _ _ _)
    pointwise
  · refine Iff.trans (iff_of_eq (congrArg (· = 1#1) ?_)) (mask_at 512 4 (by omega) (by omega) (by omega) rfl t t')
    refine Eq.trans ?_ (mask1_at _ _ _ _)
    pointwise
  · refine Iff.trans (iff_of_eq (congrArg (· = 1#1) ?_)) (mask_at 2048 16 (by omega) (by omega) (by omega) rfl t t')
    refine Eq.trans ?_ (mask1_at _ _ _ _)
    pointwise
theorem masks_at (b : Fin 3) (h : Fin 8) (t t' : Fin 4096) : masks (ix4 b h t t') = masks1 (ix4 b (0 : Fin 1) t t') := by
  unfold masks
  pointwise
theorem masked_at (M : Vec Ideal S3x1x4096x4096 .i1) (X : FVec Ideal S8x4096x4096 .f32) (b : Fin 3) (h : Fin 8) (t t' : Fin 4096) :
    (masked M X (ix4 b h t t') : EReal) = if M (ix4 b (0 : Fin 1) t t') = 1#1 then (X (ix3 h t t') : EReal) else ⊥ := by
  rw [← bot_at ix0]
  unfold masked
  pointwise
  rfl
theorem along_at (X : FVec Ideal S3x8x4096x1 .f32) (b : Fin 3) (h : Fin 8) (t t' : Fin 4096) : (along X (ix4 b h t t') : EReal) = X (ix4 b h t (0 : Fin 1)) := by
  unfold along
  pointwise
theorem col_at (X : FVec Ideal S3x8x4096 .f32) (b : Fin 3) (h : Fin 8) (t : Fin 4096) : (col X (ix4 b h t (0 : Fin 1)) : EReal) = X (ix3 b h t) := by
  unfold col
  pointwise
theorem top_at (s : FVec Ideal S3x8x4096x4096 .f32) (b : Fin 3) (h : Fin 8) (t : Fin 4096) :
    (top s (ix4 b h t (0 : Fin 1)) : EReal) = Finset.univ.fold max ⊥ fun t' : Fin 4096 => (s (ix4 b h t t') : EReal) := by
  unfold top
  rw [col_at, ← bot_at (Shape.Idx.first h_S_)]
  pointwise
theorem exps_at (s : FVec Ideal S3x8x4096x4096 .f32) (b : Fin 3) (h : Fin 8) (t t' : Fin 4096) :
    (exps s (ix4 b h t t') : EReal) = Ideal.exp ((s (ix4 b h t t') : EReal) - top s (ix4 b h t (0 : Fin 1))) := by
  rw [← along_at (top s) b h t t']
  unfold exps
  pointwise
theorem sums_at (s : FVec Ideal S3x8x4096x4096 .f32) (b : Fin 3) (h : Fin 8) (t : Fin 4096) :
    (sums s (ix3 b h t) : EReal) = ∑ t' : Fin 4096, (exps s (ix4 b h t t') : EReal) := by
  refine Eq.trans ?_ (zero_add _)
  rw [← zro_at (Shape.Idx.first h_S_)]
  unfold sums
  pointwise
theorem logs_at (s : FVec Ideal S3x8x4096x4096 .f32) (b : Fin 3) (h : Fin 8) (t : Fin 4096) :
    (logs s (ix3 b h t) : EReal) = Ideal.log (sums s (ix3 b h t)) + top s (ix4 b h t (0 : Fin 1)) := by
  unfold logs
  pointwise
theorem prob_at (s : FVec Ideal S3x8x4096x4096 .f32) (l : FVec Ideal S3x8x4096 .f32) (b : Fin 3) (h : Fin 8) (t t' : Fin 4096) :
    (prob s l (ix4 b h t t') : EReal) = Ideal.exp ((s (ix4 b h t t') : EReal) - l (ix3 b h t)) := by
  rw [← col_at l, ← along_at (col l) b h t t']
  unfold prob
  pointwise
theorem outs_at (v : FVec Ideal S4096x8x128 .f32) (p : FVec Ideal S3x8x4096x4096 .f32) (b : Fin 3) (t : Fin 4096) (h : Fin 8) (e : Fin 128) :
    (outs v p (ix4 b t h e) : EReal) = ∑ t' : Fin 4096, (v (ix3 t' h e) : EReal) * p (ix4 b h t t') := by
  unfold outs
  pointwise
theorem top3_at (l : FVec Ideal S3x8x4096 .f32) (h : Fin 8) (t : Fin 4096) :
    (top3 l (ix2 h t) : EReal) = Finset.univ.fold max ⊥ fun b : Fin 3 => (l (ix3 b h t) : EReal) := by
  rw [← bot_at (Shape.Idx.first h_S_)]
  unfold top3
  pointwise
theorem top3'_at (l : FVec Ideal S3x8x4096 .f32) (h : Fin 8) (t : Fin 4096) : (top3' l (ix2 h t) : EReal) = top3 l (ix2 h t) := by
  refine Eq.trans ?_ (max_eq_right (bot_le : (⊥ : EReal) ≤ _))
  rw [← bot_at ix0]
  unfold top3'
  pointwise
theorem one3_at (x : FVec Ideal S8x4096 .f32) (h : Fin 8) (t : Fin 4096) : (one3 x (ix3 (0 : Fin 1) h t) : EReal) = x (ix2 h t) := by
  unfold one3
  pointwise
theorem to3_at (x : FVec Ideal S1x8x4096 .f32) (b : Fin 3) (h : Fin 8) (t : Fin 4096) : (to3 x (ix3 b h t) : EReal) = x (ix3 (0 : Fin 1) h t) := by
  unfold to3
  pointwise
theorem exp3_at (l : FVec Ideal S3x8x4096 .f32) (x : FVec Ideal S8x4096 .f32) (b : Fin 3) (h : Fin 8) (t : Fin 4096) :
    (exp3 l x (ix3 b h t) : EReal) = Ideal.exp ((l (ix3 b h t) : EReal) - x (ix2 h t)) := by
  rw [← one3_at x, ← to3_at (one3 x) b h t]
  unfold exp3
  pointwise
theorem sum3_at (x : FVec Ideal S3x8x4096 .f32) (h : Fin 8) (t : Fin 4096) :
    (sum3 x (ix3 (0 : Fin 1) h t) : EReal) = ∑ b : Fin 3, (x (ix3 b h t) : EReal) := by
  unfold sum3
  rw [one3_at]
  refine Eq.trans ?_ (zero_add _)
  rw [← zro_at (Shape.Idx.first h_S_)]
  pointwise
theorem shares_at (x : FVec Ideal S3x8x4096 .f32) (b : Fin 3) (t : Fin 4096) (h : Fin 8) :
    (shares x (ix4 b t h (0 : Fin 1)) : EReal) = Ideal.div (x (ix3 b h t)) (sum3 x (ix3 (0 : Fin 1) h t)) := by
  rw [← to3_at (sum3 x) b h t]
  unfold shares
  pointwise
theorem lanes_at (x : FVec Ideal S3x4096x8x1 .f32) (b : Fin 3) (t : Fin 4096) (h : Fin 8) (e : Fin 128) :
    (lanes x (ix4 b t h e) : EReal) = x (ix4 b t h (0 : Fin 1)) := by
  unfold lanes
  pointwise
theorem grads_at (G : FVec Ideal S4096x1024 .f32) (b : Fin 3) (t : Fin 4096) (h : Fin 8) (e : Fin 128) : (grads G (ix4 b t h e) : EReal) = hd G (ix3 t h e) := by
  unfold grads
  pointwise
theorem gShare_at (g o : FVec Ideal S3x4096x8x128 .f32) (b : Fin 3) (h : Fin 8) (t : Fin 4096) :
    (gShare g o (ix3 b h t) : EReal) = ∑ e : Fin 128, (g (ix4 b t h e) : EReal) * o (ix4 b t h e) := by
  unfold gShare
  pointwise
  simp only [zro_at, zero_add, Fin.sum_univ_one]
theorem gOut_at (w : FVec Ideal S3x4096x8x1 .f32) (g : FVec Ideal S3x4096x8x128 .f32) (h : Fin 8) (e : Fin 128) (b : Fin 3) (t : Fin 4096) :
    (gOut w g (ix4 h e b t) : EReal) = (w (ix4 b t h (0 : Fin 1)) : EReal) * g (ix4 b t h e) := by
  rw [← lanes_at w b t h e]
  unfold gOut
  pointwise
theorem gWeight_at (x : FVec Ideal S8x128x3x4096 .f32) (v : FVec Ideal S4096x8x128 .f32) (p : FVec Ideal S3x8x4096x4096 .f32) (b : Fin 3) (h : Fin 8) (t t' : Fin 4096) :
    (gWeight x v p (ix4 b h t t') : EReal) = (∑ e : Fin 128, (x (ix4 h e b t) : EReal) * v (ix3 t' h e)) * p (ix4 b h t t') := by
  unfold gWeight
  pointwise
theorem gSum_at (dw e : FVec Ideal S3x8x4096 .f32) (h : Fin 8) (t : Fin 4096) :
    (gSum dw e (ix2 h t) : EReal) = -(∑ b : Fin 3, (dw (ix3 b h t) : EReal) * Ideal.div 1 ((sum3 e (ix3 (0 : Fin 1) h t) : EReal) * sum3 e (ix3 (0 : Fin 1) h t)) * e (ix3 b h t)) := by
  unfold gSum to3
  pointwise
  simp only [zro_at, zero_add, Fin.sum_univ_one, Ideal.ofBits_one_f32]
theorem gLog_at (dw e : FVec Ideal S3x8x4096 .f32) (y : FVec Ideal S3x8x4096x4096 .f32) (b : Fin 3) (h : Fin 8) (t : Fin 4096) :
    (gLog dw e y (ix3 b h t) : EReal) = (Ideal.div (dw (ix3 b h t)) (sum3 e (ix3 (0 : Fin 1) h t)) + gSum dw e (ix2 h t)) * e (ix3 b h t) + ∑ t' : Fin 4096, -(y (ix4 b h t t') : EReal) := by
  unfold gLog to3
  pointwise
  simp only [zro_at, zero_add, Fin.sum_univ_one]
theorem gScore_at (M : Vec Ideal S3x8x4096x4096 .i1) (y : FVec Ideal S3x8x4096x4096 .f32) (gl z : FVec Ideal S3x8x4096 .f32) (x : FVec Ideal S3x8x4096x4096 .f32) (h : Fin 8) (t t' : Fin 4096) :
    (gScore M y gl z x (ix3 h t t') : EReal) = (∑ b : Fin 3, if M (ix4 b h t t') = 1#1 then (y (ix4 b h t t') : EReal) + Ideal.div (gl (ix3 b h t)) (z (ix3 b h t)) * x (ix4 b h t t') else 0) * Cert.KernelIdeal.Hand.Scl := by
  rw [← sc_at (ix3 h t t')]
  unfold gScore
  pointwise
  simp only [zro_at, zero_add]
  rfl
theorem mix_at (w : FVec Ideal S3x4096x8x1 .f32) (o : FVec Ideal S3x4096x8x128 .f32) (t : Fin 4096) (h : Fin 8) (e : Fin 128) :
    (mix w o (ix3 t h e) : EReal) = ∑ b : Fin 3, (w (ix4 b t h (0 : Fin 1)) : EReal) * o (ix4 b t h e) := by
  unfold mix lanes
  pointwise
  simp only [zro_at, zero_add]
theorem log3_at (l : FVec Ideal S3x8x4096 .f32) (h : Fin 8) (t : Fin 4096) :
    (log3 l (ix2 h t) : EReal) = Ideal.log (∑ b : Fin 3, (exp3 l (top3 l) (ix3 b h t) : EReal)) + top3 l (ix2 h t) := by
  unfold log3 one3
  pointwise
  simp only [zro_at, zero_add]
theorem wide_at (x : FVec Ideal Cert.KernelIdeal.S4096x8 .f32) (t : Fin 4096) (h : Fin 8) (e : Fin 128) :
    (wide x (ix2 t (⟨128 * h.val + e.val, by omega⟩ : Fin 1024)) : EReal) = x (ix2 t h) := by
  unfold wide
  pointwise
theorem kL_at (l : FVec Ideal S3x8x4096 .f32) (t : Fin 4096) (h : Fin 8) (e : Fin 128) :
    (kL l (ix2 t (⟨128 * h.val + e.val, by omega⟩ : Fin 1024)) : EReal) = log3 l (ix2 h t) := by
  unfold kL
  rw [wide_at]
  pointwise
theorem kD_at (G : FVec Ideal S4096x1024 .f32) (o : FVec Ideal S4096x8x128 .f32) (t : Fin 4096) (h : Fin 8) (e : Fin 128) :
    (kD G o (ix2 t (⟨128 * h.val + e.val, by omega⟩ : Fin 1024)) : EReal) = ∑ e' : Fin 128, (o (ix3 t h e') : EReal) * hd G (ix3 t h e') := by
  unfold kD
  rw [wide_at]
  pointwise
  simp only [zro_at, zero_add]
theorem perQ_at (X : FVec Ideal S8x4096x4096 .f32) (k : FVec Ideal S4096x8x128 .f32) (t : Fin 4096) (h : Fin 8) (e : Fin 128) :
    (perQ X k (ix3 t h e) : EReal) = ∑ t' : Fin 4096, X (ix3 h t t') * k (ix3 t' h e) := by
  unfold perQ
  pointwise
theorem perK_at (X : FVec Ideal S8x4096x4096 .f32) (q : FVec Ideal S4096x8x128 .f32) (t' : Fin 4096) (h : Fin 8) (e : Fin 128) :
    (perK X q (ix3 t' h e) : EReal) = ∑ t : Fin 4096, X (ix3 h t t') * q (ix3 t h e) := by
  unfold perK
  pointwise
theorem perV_at (x : FVec Ideal S8x128x3x4096 .f32) (p : FVec Ideal S3x8x4096x4096 .f32) (t' : Fin 4096) (h : Fin 8) (e : Fin 128) :
    (perV x p (ix3 t' h e) : EReal) = ∑ b : Fin 3, ∑ t : Fin 4096, (x (ix4 h e b t) : EReal) * p (ix4 b h t t') := by
  unfold perV
  pointwise

end Cert.ReferenceIdeal.Hand

end
-- ==== Proof.Soft.lean ====
module

public import Idealize.ShloMosaic.Lib.Pipeline.ValueKit

@[expose] public section

noncomputable section

/-! One query row of the dilated attention over the reals: three sets of keys, the weights of each, their
mixture, and the gradient of the mixture. -/

namespace Cert.Soft

open Idealize.ShloMosaic
open scoped BigOperators

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals and minus infinities, one of them real, is real. -/
theorem fold_max_real {ι : Type} [Fintype ι] (f : ι → EReal) (ht : ∀ i, f i ≠ ⊤) (i₀ : ι) (h₀ : f i₀ ≠ ⊥) :
    ∃ r : ℝ, Finset.univ.fold max ⊥ f = (r : EReal) := by
  have e : Finset.univ.fold max ⊥ f = Finset.univ.sup f := rfl
  obtain ⟨i, -, hi⟩ := Finset.exists_mem_eq_sup Finset.univ ⟨i₀, Finset.mem_univ _⟩ f
  have hle : f i₀ ≤ Finset.univ.sup f := Finset.le_sup (Finset.mem_univ i₀)
  rw [e]
  refine ⟨(Finset.univ.sup f).toReal, (EReal.coe_toReal ?_ ?_).symm⟩
  · rw [hi]; exact ht i
  · intro hb
    rw [hb] at hle
    exact h₀ (le_bot_iff.mp hle)

variable {ι ε : Type} [Fintype ι] [Fintype ε]

section one
variable (S : ι → ℝ) (N : ι → Prop) [DecidablePred N]

/-- The denominator of one set of keys. -/
def Zb : ℝ := ∑ i, if N i then Real.exp (S i) else 0
/-- The weight of a key. -/
def pr (i : ι) : ℝ := if N i then Real.exp (S i) / Zb S N else 0

theorem Zb_pos (i₀ : ι) (h₀ : N i₀) : 0 < Zb S N := by
  unfold Zb
  refine Finset.sum_pos' (fun i _ => ?_) ⟨i₀, Finset.mem_univ _, ?_⟩
  · split
    · exact (Real.exp_pos _).le
    · exact le_rfl
  · rw [if_pos h₀]; exact Real.exp_pos _

theorem exp_masked (i : ι) (m : ℝ) : Ideal.exp ((if N i then (S i : EReal) else ⊥) - (m : EReal)) = ((if N i then Real.exp (S i) * Real.exp (-m) else 0 : ℝ) : EReal) := by
  by_cases h : N i
  · rw [if_pos h, if_pos h, ← EReal.coe_sub, Ideal.exp_coe, ← Real.exp_add, sub_eq_add_neg]
  · rw [if_neg h, if_neg h, EReal.bot_sub, Ideal.exp_bot, EReal.coe_zero]

theorem sum_exp_masked (m : ℝ) : ∑ i, Ideal.exp ((if N i then (S i : EReal) else ⊥) - (m : EReal)) = ((Zb S N * Real.exp (-m) : ℝ) : EReal) := by
  rw [Finset.sum_congr rfl fun i _ => exp_masked S N i m, sum_coe]
  congr 1
  unfold Zb
  rw [Finset.sum_mul]
  refine Finset.sum_congr rfl fun i _ => ?_
  split
  · rfl
  · rw [zero_mul]

theorem log_shift {z : ℝ} (hz : 0 < z) (m : ℝ) : Ideal.log ((z * Real.exp (-m) : ℝ) : EReal) + (m : EReal) = ((Real.log z : ℝ) : EReal) := by
  have hp : 0 < z * Real.exp (-m) := mul_pos hz (Real.exp_pos _)
  rw [Ideal.log_coe, if_neg (not_le.mpr hp), Real.log_mul hz.ne' (Real.exp_pos _).ne', Real.log_exp, ← EReal.coe_add, neg_add_cancel_right]

theorem weight (hz : 0 < Zb S N) (i : ι) : Ideal.exp ((if N i then (S i : EReal) else ⊥) - ((Real.log (Zb S N) : ℝ) : EReal)) = ((pr S N i : ℝ) : EReal) := by
  rw [exp_masked]
  unfold pr
  rw [Real.exp_neg, Real.exp_log hz, div_eq_mul_inv]

theorem exp_log_sub {z : ℝ} (hz : 0 < z) (m : ℝ) : Ideal.exp (((Real.log z : ℝ) : EReal) - (m : EReal)) = ((z * Real.exp (-m) : ℝ) : EReal) := by
  rw [← EReal.coe_sub, Ideal.exp_coe, sub_eq_add_neg, Real.exp_add, Real.exp_log hz]

theorem div_real {y : ℝ} (hy : y ≠ 0) (x : ℝ) : Ideal.div (x : EReal) (y : EReal) = ((x / y : ℝ) : EReal) := by
  rw [Ideal.div_coe hy, ← EReal.coe_mul, mul_one_div]
end one

variable (S : ι → ℝ) (N : Fin 3 → ι → Prop) [∀ b, DecidablePred (N b)] (v : ι → ε → ℝ) (g : ε → ℝ)

/-- The denominator of the mixture. -/
def Z : ℝ := ∑ b, Zb S (N b)
/-- The output of one set of keys. -/
def ob (b : Fin 3) (e : ε) : ℝ := ∑ i, v i e * pr S (N b) i
/-- The share of one set of keys. -/
def w (b : Fin 3) : ℝ := Zb S (N b) / Z S N
/-- The gradient of the weights. -/
def D (i : ι) : ℝ := ∑ e, g e * v i e
/-- The gradient of the shares. -/
def dw (b : Fin 3) : ℝ := ∑ e, g e * ob S N v b e
/-- The row sum of output and gradient. -/
def del : ℝ := ∑ e, (∑ b, w S N b * ob S N v b e) * g e

theorem Z_pos (h : ∀ b, 0 < Zb S (N b)) : 0 < Z S N := Finset.sum_pos (fun b _ => h b) ⟨0, Finset.mem_univ _⟩

theorem del_eq : del S N v g = ∑ b, w S N b * dw S N v g b := by
  unfold del dw
  simp only [Finset.sum_mul, Finset.mul_sum]
  rw [Finset.sum_comm]
  exact Finset.sum_congr rfl fun b _ => Finset.sum_congr rfl fun e _ => by ring

theorem sum_D (b : Fin 3) : ∑ i, D v g i * pr S (N b) i = dw S N v g b := by
  unfold D dw ob
  simp only [Finset.sum_mul, Finset.mul_sum]
  rw [Finset.sum_comm]
  exact Finset.sum_congr rfl fun e _ => Finset.sum_congr rfl fun i _ => by ring

/-- The gradient that reaches the log-denominators through the shares (`E` their exponentials, `T` the sum of these). -/
def gl (E : Fin 3 → ℝ) (T : ℝ) (b : Fin 3) : ℝ :=
  (dw S N v g b / T + -(∑ c, dw S N v g c * (1 / (T * T)) * E c)) * E b

theorem gl_eq (h : ∀ b, 0 < Zb S (N b)) (M : ℝ) (b : Fin 3) :
    gl S N v g (fun c => Zb S (N c) * Real.exp (-M)) (Z S N * Real.exp (-M)) b = w S N b * (dw S N v g b - del S N v g) := by
  have hZ := (Z_pos S N h).ne'
  have hM := (Real.exp_pos (-M)).ne'
  rw [del_eq]
  unfold gl
  have e1 : ∑ c, dw S N v g c * (1 / (Z S N * Real.exp (-M) * (Z S N * Real.exp (-M)))) * (Zb S (N c) * Real.exp (-M))
      = (∑ c, w S N c * dw S N v g c) / (Z S N * Real.exp (-M)) := by
    rw [Finset.sum_div]
    refine Finset.sum_congr rfl fun c _ => ?_
    unfold w
    field_simp
  rw [e1]
  unfold w
  field_simp
  ring

/-- The gradient of a masked score, by the chain rule, is the weight times the gradient less the row sum. -/
theorem grad (h : ∀ b, 0 < Zb S (N b)) (M : ℝ) (m : Fin 3 → ℝ) (b : Fin 3) (i : ι) :
    (if N b i then (w S N b * D v g i) * pr S (N b) i
      + (gl S N v g (fun c => Zb S (N c) * Real.exp (-M)) (Z S N * Real.exp (-M)) b + ∑ j, -((w S N b * D v g j) * pr S (N b) j))
        / (Zb S (N b) * Real.exp (-m b)) * (if N b i then Real.exp (S i) * Real.exp (-m b) else 0) else 0)
      = if N b i then Real.exp (S i - Real.log (Z S N)) * (D v g i - del S N v g) else 0 := by
  by_cases hi : N b i
  · simp only [if_pos hi]
    have e1 : ∑ j, -((w S N b * D v g j) * pr S (N b) j) = -(w S N b * dw S N v g b) := by
      rw [← sum_D, Finset.mul_sum, ← Finset.sum_neg_distrib]
      exact Finset.sum_congr rfl fun j _ => by ring
    have hZ := (Z_pos S N h).ne'
    have hb := (h b).ne'
    have hm := (Real.exp_pos (-m b)).ne'
    rw [gl_eq S N v g h, e1, Real.exp_sub, Real.exp_log (Z_pos S N h), show pr S (N b) i = Real.exp (S i) / Zb S (N b) from if_pos hi]
    unfold w
    field_simp
    ring
  · simp only [if_neg hi]

/-- The weight of a key in the mixture. -/
theorem share (h : ∀ b, 0 < Zb S (N b)) (b : Fin 3) (i : ι) :
    w S N b * pr S (N b) i = if N b i then Real.exp (S i - Real.log (Z S N)) else 0 := by
  unfold pr
  by_cases hi : N b i
  · rw [if_pos hi, if_pos hi, Real.exp_sub, Real.exp_log (Z_pos S N h)]
    have hb := (h b).ne'
    unfold w
    field_simp
  · rw [if_neg hi, if_neg hi, mul_zero]

end Cert.Soft

end
-- ==== Proof.Fwd.lean ====
module

public import proofs.«01_k».proof.Proof.Points
public import proofs.«01_k».proof.Proof.Soft

/-! The host operations on real arguments: every array of the forward pass and of the reference's backward pass holds the
real numbers of `Proof.Soft`. -/

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Cert.KernelIdeal.Hand (Scl Md)
open Cert.Soft
open scoped BigOperators

theorem Scl_real : ∃ r : ℝ, Scl = (r : EReal) := by
  unfold Scl
  simp [Ideal.ofBits, Ideal.ieee]
  exact ⟨_, rfl⟩
def kap : ℝ := Scl.toReal
theorem kap_eq : Scl = (kap : EReal) := by
  obtain ⟨r, hr⟩ := Scl_real
  unfold kap
  rw [hr, EReal.toReal_coe]

section
variable (A : FVec Ideal S4096x4096 .f32) (G : FVec Ideal S4096x1024 .f32)
/-- Queries, keys, values and gradients of head `h` as reals, -/
def rq (h : Fin 8) (t : Fin 4096) (e : Fin 128) : ℝ := (cq A (ix3 t h e) : EReal).toReal
def rk (h : Fin 8) (t : Fin 4096) (e : Fin 128) : ℝ := (ck A (ix3 t h e) : EReal).toReal
def rv (h : Fin 8) (t : Fin 4096) (e : Fin 128) : ℝ := (cv A (ix3 t h e) : EReal).toReal
def rg (h : Fin 8) (t : Fin 4096) (e : Fin 128) : ℝ := (hd G (ix3 t h e) : EReal).toReal
/-- the scores of a query, -/
def rS (h : Fin 8) (t t' : Fin 4096) : ℝ := (∑ e, rq A h t e * rk A h t' e) * kap
/-- and the keys it meets in a branch. -/
def rN (t : Fin 4096) (b : Fin 3) (t' : Fin 4096) : Prop := Md (dil b) t.val t'.val
instance (t : Fin 4096) (b : Fin 3) : DecidablePred (rN t b) := fun t' => inferInstanceAs (Decidable (Md (dil b) t.val t'.val))
theorem rN_self (t : Fin 4096) (b : Fin 3) : rN t b t := ⟨le_rfl, Nat.le_add_right _ _, rfl⟩

def rZb (h : Fin 8) (t : Fin 4096) (b : Fin 3) : ℝ := Zb (rS A h t) (rN t b)
def rZ (h : Fin 8) (t : Fin 4096) : ℝ := Z (rS A h t) (rN t)
def rP (h : Fin 8) (t : Fin 4096) (b : Fin 3) (t' : Fin 4096) : ℝ := pr (rS A h t) (rN t b) t'
def rO (h : Fin 8) (t : Fin 4096) (b : Fin 3) (e : Fin 128) : ℝ := ob (rS A h t) (rN t) (rv A h) b e
def rW (h : Fin 8) (t : Fin 4096) (b : Fin 3) : ℝ := w (rS A h t) (rN t) b
def rD (h : Fin 8) (t t' : Fin 4096) : ℝ := D (rv A h) (rg G h t) t'
def rDw (h : Fin 8) (t : Fin 4096) (b : Fin 3) : ℝ := dw (rS A h t) (rN t) (rv A h) (rg G h t) b
def rdel (h : Fin 8) (t : Fin 4096) : ℝ := del (rS A h t) (rN t) (rv A h) (rg G h t)
theorem rZb_pos (h : Fin 8) (t : Fin 4096) (b : Fin 3) : 0 < Zb (rS A h t) (rN t b) := Zb_pos _ _ t (rN_self t b)
theorem rZ_pos (h : Fin 8) (t : Fin 4096) : 0 < rZ A h t := Z_pos _ _ (rZb_pos A h t)
/-- The greatest score of a branch, and the greatest log-denominator. -/
def rm (h : Fin 8) (t : Fin 4096) (b : Fin 3) : ℝ := (top (fS A) (ix4 b h t (0 : Fin 1)) : EReal).toReal
def rM (h : Fin 8) (t : Fin 4096) : ℝ := (top3 (fL A) (ix2 h t) : EReal).toReal

variable (hA : ∀ y, (A y : EReal) = ((A y : EReal).toReal : EReal)) (hG : ∀ y, (G y : EReal) = ((G y : EReal).toReal : EReal))
include hA
theorem cq_real (h : Fin 8) (t : Fin 4096) (e : Fin 128) : (cq A (ix3 t h e) : EReal) = (rq A h t e : EReal) := by
  unfold rq
  rw [cq_at]
  exact hA _
theorem ck_real (h : Fin 8) (t : Fin 4096) (e : Fin 128) : (ck A (ix3 t h e) : EReal) = (rk A h t e : EReal) := by
  unfold rk
  rw [ck_at]
  exact hA _
theorem cv_real (h : Fin 8) (t : Fin 4096) (e : Fin 128) : (cv A (ix3 t h e) : EReal) = (rv A h t e : EReal) := by
  unfold rv
  rw [cv_at]
  exact hA _
theorem scores_real (h : Fin 8) (t t' : Fin 4096) : (scores A (ix3 h t t') : EReal) = (rS A h t t' : EReal) := by
  unfold scores
  show (dotL (cq A) (ck A) (ix3 h t t') : EReal) * sc (ix3 h t t') = _
  rw [dotL_at, sc_at, kap_eq]
  simp only [cq_real A hA, ck_real A hA, ← EReal.coe_mul]
  rw [sum_coe, ← EReal.coe_mul]
  rfl
theorem fS_real (b : Fin 3) (h : Fin 8) (t t' : Fin 4096) : (fS A (ix4 b h t t') : EReal) = if rN t b t' then (rS A h t t' : EReal) else ⊥ := by
  unfold fS
  rw [masked_at, scores_real A hA]
  exact if_congr (masks1_at b t t') rfl rfl
theorem top_real (b : Fin 3) (h : Fin 8) (t : Fin 4096) : (top (fS A) (ix4 b h t (0 : Fin 1)) : EReal) = (rm A h t b : EReal) := by
  obtain ⟨r, hr⟩ := fold_max_real (fun t' : Fin 4096 => (fS A (ix4 b h t t') : EReal)) (fun t' => by
    rw [fS_real A hA]
    split
    · exact EReal.coe_ne_top _
    · exact bot_ne_top) t (by
    rw [fS_real A hA, if_pos (rN_self t b)]
    exact EReal.coe_ne_bot _)
  unfold rm
  rw [top_at, hr, EReal.toReal_coe]
theorem exps_real (b : Fin 3) (h : Fin 8) (t t' : Fin 4096) :
    (exps (fS A) (ix4 b h t t') : EReal) = ((if rN t b t' then Real.exp (rS A h t t') * Real.exp (-rm A h t b) else 0 : ℝ) : EReal) := by
  rw [exps_at, top_real A hA, fS_real A hA]
  exact exp_masked _ _ _ _
theorem sums_real (b : Fin 3) (h : Fin 8) (t : Fin 4096) : (sums (fS A) (ix3 b h t) : EReal) = ((rZb A h t b * Real.exp (-rm A h t b) : ℝ) : EReal) := by
  rw [sums_at]
  simp only [exps_at, top_real A hA, fS_real A hA]
  exact sum_exp_masked _ _ _
theorem fL_real (b : Fin 3) (h : Fin 8) (t : Fin 4096) : (fL A (ix3 b h t) : EReal) = ((Real.log (rZb A h t b) : ℝ) : EReal) := by
  unfold fL
  rw [logs_at, sums_real A hA, top_real A hA]
  exact log_shift (rZb_pos A h t b) _
theorem fP_real (b : Fin 3) (h : Fin 8) (t t' : Fin 4096) : (fP A (ix4 b h t t') : EReal) = (rP A h t b t' : EReal) := by
  unfold fP
  rw [prob_at, fL_real A hA, fS_real A hA]
  exact weight _ _ (rZb_pos A h t b) _
theorem fO_real (b : Fin 3) (h : Fin 8) (t : Fin 4096) (e : Fin 128) : (fO A (ix4 b t h e) : EReal) = (rO A h t b e : EReal) := by
  unfold fO
  rw [outs_at]
  simp only [cv_real A hA, fP_real A hA, ← EReal.coe_mul]
  exact sum_coe _ _
theorem top3_real (h : Fin 8) (t : Fin 4096) : (top3 (fL A) (ix2 h t) : EReal) = (rM A h t : EReal) := by
  obtain ⟨r, hr⟩ := fold_max_real (fun b : Fin 3 => (fL A (ix3 b h t) : EReal)) (fun b => by
    rw [fL_real A hA]
    exact EReal.coe_ne_top _) 0 (by
    rw [fL_real A hA]
    exact EReal.coe_ne_bot _)
  unfold rM
  rw [top3_at, hr, EReal.toReal_coe]
theorem fE_real (b : Fin 3) (h : Fin 8) (t : Fin 4096) : (fE A (ix3 b h t) : EReal) = ((rZb A h t b * Real.exp (-rM A h t) : ℝ) : EReal) := by
  unfold fE
  rw [exp3_at, top3'_at, top3_real A hA, fL_real A hA]
  exact exp_log_sub (rZb_pos A h t b) _
theorem sum3_real (h : Fin 8) (t : Fin 4096) : (sum3 (fE A) (ix3 (0 : Fin 1) h t) : EReal) = ((rZ A h t * Real.exp (-rM A h t) : ℝ) : EReal) := by
  rw [sum3_at]
  simp only [fE_real A hA]
  rw [sum_coe, ← Finset.sum_mul]
  rfl
theorem rT_ne (h : Fin 8) (t : Fin 4096) : rZ A h t * Real.exp (-rM A h t) ≠ 0 := (mul_pos (rZ_pos A h t) (Real.exp_pos _)).ne'
theorem shares_real (b : Fin 3) (h : Fin 8) (t : Fin 4096) : (shares (fE A) (ix4 b t h (0 : Fin 1)) : EReal) = (rW A h t b : EReal) := by
  rw [shares_at, fE_real A hA, sum3_real A hA, div_real (rT_ne A hA h t)]
  refine congrArg _ (mul_div_mul_right _ _ (Real.exp_pos _).ne')
theorem kL_real (h : Fin 8) (t : Fin 4096) (e : Fin 128) :
    (kL (fL A) (ix2 t (⟨128 * h.val + e.val, by omega⟩ : Fin 1024)) : EReal) = ((Real.log (rZ A h t) : ℝ) : EReal) := by
  rw [kL_at, log3_at]
  simp only [exp3_at, top3_real A hA, fL_real A hA]
  have e1 : ∀ b : Fin 3, Ideal.exp (((Real.log (rZb A h t b) : ℝ) : EReal) - (rM A h t : EReal)) = ((rZb A h t b * Real.exp (-rM A h t) : ℝ) : EReal) :=
    fun b => exp_log_sub (rZb_pos A h t b) _
  rw [Finset.sum_congr rfl fun b _ => e1 b, sum_coe, ← Finset.sum_mul]
  exact log_shift (rZ_pos A h t) _
include hG
theorem hd_real (h : Fin 8) (t : Fin 4096) (e : Fin 128) : (hd G (ix3 t h e) : EReal) = (rg G h t e : EReal) := by
  unfold rg
  rw [hd_at]
  exact hG _
theorem kD_real (h : Fin 8) (t : Fin 4096) (e : Fin 128) :
    (kD G (mix (shares (fE A)) (fO A)) (ix2 t (⟨128 * h.val + e.val, by omega⟩ : Fin 1024)) : EReal) = (rdel A G h t : EReal) := by
  rw [kD_at]
  simp only [mix_at, shares_real A hA, fO_real A hA, hd_real A G hA hG, ← EReal.coe_mul, sum_coe]
  rfl
theorem fX_real (h : Fin 8) (e : Fin 128) (b : Fin 3) (t : Fin 4096) : (fX A G (ix4 h e b t) : EReal) = ((rW A h t b * rg G h t e : ℝ) : EReal) := by
  unfold fX
  rw [gOut_at, shares_real A hA, grads_at, hd_real A G hA hG, ← EReal.coe_mul]
theorem fY_real (b : Fin 3) (h : Fin 8) (t t' : Fin 4096) : (fY A G (ix4 b h t t') : EReal) = (((rW A h t b * rD A G h t t') * rP A h t b t' : ℝ) : EReal) := by
  unfold fY
  rw [gWeight_at]
  simp only [fX_real A G hA hG, cv_real A hA, fP_real A hA, ← EReal.coe_mul, sum_coe]
  unfold rD D
  rw [Finset.mul_sum]
  refine congrArg _ (congrArg (· * _) (Finset.sum_congr rfl fun e _ => ?_))
  exact mul_assoc _ _ _
theorem fDw_real (b : Fin 3) (h : Fin 8) (t : Fin 4096) : (fDw A G (ix3 b h t) : EReal) = (rDw A G h t b : EReal) := by
  unfold fDw
  rw [gShare_at]
  simp only [grads_at, hd_real A G hA hG, fO_real A hA, ← EReal.coe_mul, sum_coe]
  rfl
/-- The gradient of a score. -/
def rds (h : Fin 8) (t t' : Fin 4096) (b : Fin 3) : ℝ := if rN t b t' then Real.exp (rS A h t t' - Real.log (rZ A h t)) * (rD A G h t t' - rdel A G h t) else 0
omit hA hG in
theorem coe_if (p : Prop) [Decidable p] (x : ℝ) : (if p then (x : EReal) else 0) = ((if p then x else 0 : ℝ) : EReal) := by
  split <;> simp
theorem fDs_real (h : Fin 8) (t t' : Fin 4096) : (fDs A G (ix3 h t t') : EReal) = (((∑ b, rds A G h t t' b) * kap : ℝ) : EReal) := by
  unfold fDs
  rw [gScore_at, kap_eq]
  have hne : ∀ b, rZb A h t b * Real.exp (-rm A h t b) ≠ 0 := fun b => (mul_pos (rZb_pos A h t b) (Real.exp_pos _)).ne'
  have one : (1 : EReal) = ((1 : ℝ) : EReal) := EReal.coe_one.symm
  have e1 : ∀ b, (gLog (fDw A G) (fE A) (fY A G) (ix3 b h t) : EReal)
      = ((gl (rS A h t) (rN t) (rv A h) (rg G h t) (fun c => Zb (rS A h t) (rN t c) * Real.exp (-rM A h t)) (Z (rS A h t) (rN t) * Real.exp (-rM A h t)) b
        + ∑ j, -((rW A h t b * rD A G h t j) * rP A h t b j) : ℝ) : EReal) := fun b => by
    rw [gLog_at, gSum_at]
    simp only [fDw_real A G hA hG, fE_real A hA, sum3_real A hA, fY_real A G hA hG, one, ← EReal.coe_mul, ← EReal.coe_neg, sum_coe,
      div_real (rT_ne A hA h t), div_real (mul_ne_zero (rT_ne A hA h t) (rT_ne A hA h t)), ← EReal.coe_add]
    rfl
  simp only [e1, fY_real A G hA hG, sums_real A hA, exps_real A hA, div_real (hne _), ← EReal.coe_mul, ← EReal.coe_add]
  have e2 : ∀ b : Fin 3, masks (ix4 b h t t') = 1#1 ↔ rN t b t' := fun b => by
    rw [masks_at]
    exact masks1_at b t t'
  simp only [e2, coe_if, sum_coe, ← EReal.coe_mul]
  refine congrArg _ (congrArg (· * kap) (Finset.sum_congr rfl fun b _ => ?_))
  exact grad (rS A h t) (rN t) (rv A h) (rg G h t) (rZb_pos A h t) (rM A h t) (rm A h t) b t'
end

end Cert.ReferenceIdeal.Hand

end
-- ==== Proof.Prefix.lean ====
module

public import proofs.«01_k».proof.Proof.Host

/-! What the kernel is given: its host operations, read window by window, end in the log-denominators and the row sums of
`Proof.Host`. -/

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.StableHlo
open Cert.ReferenceIdeal.Hand (scores cv masks1 mask1 masked logs prob outs shares exp3 top3 top3' mix log3 kL kD wide hd fS fL fP fO fE)

abbrev Hops : Type := List (HloOp τ sig (Elt Ideal))
def w0a : Hops := (main_part0_ops0 (F := Ideal)).take 58
def w0b : Hops := (main_part0_ops0 (F := Ideal)).drop 58
def w1a : Hops := (main_part1_ops0 (F := Ideal)).take 5
def w1b : Hops := ((main_part1_ops0 (F := Ideal)).drop 5).take 11
def w1c : Hops := ((main_part1_ops0 (F := Ideal)).drop 16).take 6
def w1d : Hops := ((main_part1_ops0 (F := Ideal)).drop 22).take 20
def w1e : Hops := (main_part1_ops0 (F := Ideal)).drop 42
def w2 : Hops := main_part2_ops0 (F := Ideal)

theorem split : (hostOps0 : Hops) = w0a ++ (w0b ++ (w1a ++ (w1b ++ (w1c ++ (w1d ++ (w1e ++ w2)))))) := rfl

variable (X : Valuation τ sig (Elt Ideal))

theorem a8 : (after w0a X (Proc.devRef .tc main_v8) : FVec Ideal S8x4096x4096 .f32) = scores (X (Proc.devRef .tc main_arg0)) := by
  simp only [w0a, List.take_succ_cons, List.take_zero]
  after_results_simp
  rfl
theorem a5 : (after w0a X (Proc.devRef .tc main_v5) : FVec Ideal S4096x8x128 .f32) = cv (X (Proc.devRef .tc main_arg0)) := by
  simp only [w0a, List.take_succ_cons, List.take_zero]
  after_results_simp
  rfl
theorem a42 : (after w0a X (Proc.devRef .tc main_v42) : Vec Ideal S1x4096x4096 .i1) = mask1 128#32 1#32 := by
  simp only [w0a, List.take_succ_cons, List.take_zero]
  after_results_simp
  rfl
theorem a43 : (after w0a X (Proc.devRef .tc main_v43) : Vec Ideal S1x4096x4096 .i1) = mask1 512#32 4#32 := by
  simp only [w0a, List.take_succ_cons, List.take_zero]
  after_results_simp
  rfl
theorem a44 : (after w0a X (Proc.devRef .tc main_v44) : Vec Ideal S1x4096x4096 .i1) = mask1 2048#32 16#32 := by
  simp only [w0a, List.take_succ_cons, List.take_zero]
  after_results_simp
  rfl
theorem a_arg1 : after w0a X (Proc.devRef .tc main_arg1) = X (Proc.devRef .tc main_arg1) := by
  simp only [w0a, List.take_succ_cons, List.take_zero]
  after_results_simp
theorem b46 (h42 : (X (Proc.devRef .tc main_v42) : Vec Ideal S1x4096x4096 .i1) = mask1 128#32 1#32)
    (h43 : (X (Proc.devRef .tc main_v43) : Vec Ideal S1x4096x4096 .i1) = mask1 512#32 4#32)
    (h44 : (X (Proc.devRef .tc main_v44) : Vec Ideal S1x4096x4096 .i1) = mask1 2048#32 16#32) :
    (after w0b X (Proc.devRef .tc main_v46) : Vec Ideal S3x1x4096x4096 .i1) = masks1 := by
  simp only [w0b, List.drop_succ_cons, List.drop_zero]
  after_results_simp
  dsimp only [Matrix.cons_val]
  unfold masks1
  rw [← h42, ← h43, ← h44]
theorem b8 : after w0b X (Proc.devRef .tc main_v8) = X (Proc.devRef .tc main_v8) := by
  simp only [w0b, List.drop_succ_cons, List.drop_zero]
  after_results_simp
theorem b5 : after w0b X (Proc.devRef .tc main_v5) = X (Proc.devRef .tc main_v5) := by
  simp only [w0b, List.drop_succ_cons, List.drop_zero]
  after_results_simp
theorem b_arg1 : after w0b X (Proc.devRef .tc main_arg1) = X (Proc.devRef .tc main_arg1) := by
  simp only [w0b, List.drop_succ_cons, List.drop_zero]
  after_results_simp
theorem c50 : (after w1a X (Proc.devRef .tc main_v50) : FVec Ideal S3x8x4096x4096 .f32) = masked (X (Proc.devRef .tc main_v46)) (X (Proc.devRef .tc main_v8)) := by
  simp only [w1a, List.take_succ_cons, List.take_zero]
  after_results_simp
  rfl
theorem c5 : after w1a X (Proc.devRef .tc main_v5) = X (Proc.devRef .tc main_v5) := by
  simp only [w1a, List.take_succ_cons, List.take_zero]
  after_results_simp
theorem c_arg1 : after w1a X (Proc.devRef .tc main_arg1) = X (Proc.devRef .tc main_arg1) := by
  simp only [w1a, List.take_succ_cons, List.take_zero]
  after_results_simp
theorem d59 : (after w1b X (Proc.devRef .tc main_v59) : FVec Ideal S3x8x4096 .f32) = logs (X (Proc.devRef .tc main_v50)) := by
  simp only [w1b, List.take_succ_cons, List.take_zero, List.drop_succ_cons, List.drop_zero]
  after_results_simp
  rfl
theorem d50 : after w1b X (Proc.devRef .tc main_v50) = X (Proc.devRef .tc main_v50) := by
  simp only [w1b, List.take_succ_cons, List.take_zero, List.drop_succ_cons, List.drop_zero]
  after_results_simp
theorem d5 : after w1b X (Proc.devRef .tc main_v5) = X (Proc.devRef .tc main_v5) := by
  simp only [w1b, List.take_succ_cons, List.take_zero, List.drop_succ_cons, List.drop_zero]
  after_results_simp
theorem d_arg1 : after w1b X (Proc.devRef .tc main_arg1) = X (Proc.devRef .tc main_arg1) := by
  simp only [w1b, List.take_succ_cons, List.take_zero, List.drop_succ_cons, List.drop_zero]
  after_results_simp
theorem e65 : (after w1c X (Proc.devRef .tc main_v65) : FVec Ideal S3x4096x8x128 .f32) = outs (X (Proc.devRef .tc main_v5)) (prob (X (Proc.devRef .tc main_v50)) (X (Proc.devRef .tc main_v59))) := by
  simp only [w1c, List.take_succ_cons, List.take_zero, List.drop_succ_cons, List.drop_zero]
  after_results_simp
  rfl
theorem e59 : after w1c X (Proc.devRef .tc main_v59) = X (Proc.devRef .tc main_v59) := by
  simp only [w1c, List.take_succ_cons, List.take_zero, List.drop_succ_cons, List.drop_zero]
  after_results_simp
theorem e_arg1 : after w1c X (Proc.devRef .tc main_arg1) = X (Proc.devRef .tc main_arg1) := by
  simp only [w1c, List.take_succ_cons, List.take_zero, List.drop_succ_cons, List.drop_zero]
  after_results_simp
theorem f81 : (after w1d X (Proc.devRef .tc main_v81) : FVec Ideal S4096x8x128 .f32) = mix (shares (exp3 (X (Proc.devRef .tc main_v59)) (top3' (X (Proc.devRef .tc main_v59))))) (X (Proc.devRef .tc main_v65)) := by
  simp only [w1d, List.take_succ_cons, List.take_zero, List.drop_succ_cons, List.drop_zero]
  after_results_simp
  rfl
theorem f59 : after w1d X (Proc.devRef .tc main_v59) = X (Proc.devRef .tc main_v59) := by
  simp only [w1d, List.take_succ_cons, List.take_zero, List.drop_succ_cons, List.drop_zero]
  after_results_simp
theorem f_arg1 : after w1d X (Proc.devRef .tc main_arg1) = X (Proc.devRef .tc main_arg1) := by
  simp only [w1d, List.take_succ_cons, List.take_zero, List.drop_succ_cons, List.drop_zero]
  after_results_simp
theorem g97 : (after (w1e ++ w2) X (Proc.devRef .tc main_v97) : FVec Ideal S4096x1024 .f32) = kL (X (Proc.devRef .tc main_v59)) := by
  simp only [w1e, w2, List.drop_succ_cons, List.drop_zero, List.cons_append, List.nil_append]
  after_results_simp
  rfl
theorem g100 : (after (w1e ++ w2) X (Proc.devRef .tc main_v100) : FVec Ideal S4096x1024 .f32) = kD (X (Proc.devRef .tc main_arg1)) (X (Proc.devRef .tc main_v81)) := by
  simp only [w1e, w2, List.drop_succ_cons, List.drop_zero, List.cons_append, List.nil_append]
  after_results_simp
  rfl

theorem all97 : (after hostOps0 X (Proc.devRef .tc main_v97) : FVec Ideal S4096x1024 .f32) = kL (fL (X (Proc.devRef .tc main_arg0))) := by
  rw [split, after_append, after_append, after_append, after_append, after_append, after_append, g97, f59, e59, d59, c50, b46 _ (a42 X) (a43 X) (a44 X), b8, a8]
  rfl
theorem all100 : (after hostOps0 X (Proc.devRef .tc main_v100) : FVec Ideal S4096x1024 .f32)
    = kD (X (Proc.devRef .tc main_arg1)) (mix (shares (fE (X (Proc.devRef .tc main_arg0)))) (fO (X (Proc.devRef .tc main_arg0)))) := by
  rw [split, after_append, after_append, after_append, after_append, after_append, after_append, g100, f_arg1, e_arg1, d_arg1, c_arg1, b_arg1, a_arg1,
    f81, e65, e59, d59, d50, d5, c50, c5, b46 _ (a42 X) (a43 X) (a44 X), b8, a8, b5, a5]
  rfl

end Cert.KernelIdeal.Hand

end
-- ==== Proof.Ref.lean ====
module

public import proofs.«01_k».proof.Proof.Fwd
public import proofs.«01_k».proof.Proof.Prefix

/-! On real arguments the reference's results are the kernel's sums. -/

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Cert.KernelIdeal.Hand (Scl Md rowOf col8 col32 wP wG PP GG KQ KK KV Sq Sc val7 val8 val9)
open Cert.Soft
open Idealize.SL.Sem
open scoped BigOperators

theorem three (x k : Fin 4096 → ℝ) (p : Fin 3 → Fin 4096 → Prop) [∀ b, DecidablePred (p b)] (c : ℝ) :
    ∑ i, ((∑ b, if p b i then x i else 0) * c) * k i
      = (∑ i, if p 2 i then x i * c * k i else 0) + (∑ i, if p 1 i then x i * c * k i else 0) + ∑ i, if p 0 i then x i * c * k i else 0 := by
  rw [← Finset.sum_add_distrib, ← Finset.sum_add_distrib]
  refine Finset.sum_congr rfl fun i _ => ?_
  rw [Fin.sum_univ_three]
  split_ifs <;> ring

section
variable (A : FVec Ideal S4096x4096 .f32) (G : FVec Ideal S4096x1024 .f32)
variable (hA : ∀ y, (A y : EReal) = ((A y : EReal).toReal : EReal)) (hG : ∀ y, (G y : EReal) = ((G y : EReal).toReal : EReal))
/-- What the kernel is given of the forward pass. -/
def gL : FVec Ideal S4096x1024 .f32 := kL (fL A)
def gD : FVec Ideal S4096x1024 .f32 := kD G (mix (shares (fE A)) (fO A))
include hA
theorem row_q (h : Fin 8) (t : Fin 4096) : rowOf (col32 A h.val (by omega)) t.val = fun e => (rq A h t e : EReal) := by
  rw [rowOf_at]
  funext e
  exact (cq_at A t h e).symm.trans (cq_real A hA h t e)
theorem row_k (h : Fin 8) (t : Fin 4096) : rowOf (col32 A (8 + h.val) (by omega)) t.val = fun e => (rk A h t e : EReal) := by
  rw [rowOf_at]
  funext e
  exact (ck_at A t h e).symm.trans (ck_real A hA h t e)
theorem row_v (h : Fin 8) (t : Fin 4096) : rowOf (col32 A (16 + h.val) (by omega)) t.val = fun e => (rv A h t e : EReal) := by
  rw [rowOf_at]
  funext e
  exact (cv_at A t h e).symm.trans (cv_real A hA h t e)
theorem row_L (h : Fin 8) (t : Fin 4096) : rowOf (col8 (gL A) h.val h.isLt) t.val = fun e => ((Real.log (rZ A h t) : ℝ) : EReal) := by
  rw [rowOf_at]
  funext e
  exact kL_real A hA h t e
theorem PP_real (h : Fin 8) (t t' : Fin 4096) :
    PP (col32 A h.val (by omega)) (col32 A (8 + h.val) (by omega)) (col8 (gL A) h.val h.isLt) t.val t'.val
      = ((Real.exp (rS A h t t' - Real.log (rZ A h t)) : ℝ) : EReal) := by
  unfold PP wP
  rw [row_q A hA, row_k A hA, row_L A hA, kap_eq]
  simp only [← EReal.coe_mul, sum_coe]
  rw [← EReal.coe_sub, Ideal.exp_coe]
  rfl
include hG
theorem row_g (h : Fin 8) (t : Fin 4096) : rowOf (col8 G h.val h.isLt) t.val = fun e => (rg G h t e : EReal) := by
  rw [rowOf_at]
  funext e
  exact (hd_at G t h e).symm.trans (hd_real A G hA hG h t e)
theorem row_D (h : Fin 8) (t : Fin 4096) : rowOf (col8 (gD A G) h.val h.isLt) t.val = fun e => (rdel A G h t : EReal) := by
  rw [rowOf_at]
  funext e
  exact kD_real A G hA hG h t e
theorem GG_real (h : Fin 8) (t t' : Fin 4096) :
    GG (col32 A h.val (by omega)) (col32 A (8 + h.val) (by omega)) (col32 A (16 + h.val) (by omega)) (col8 G h.val h.isLt) (col8 (gL A) h.val h.isLt) (col8 (gD A G) h.val h.isLt) t.val t'.val
      = ((Real.exp (rS A h t t' - Real.log (rZ A h t)) * (rD A G h t t' - rdel A G h t) * kap : ℝ) : EReal) := by
  have e1 := PP_real A hA h t t'
  unfold PP at e1
  unfold GG wG
  rw [e1, row_v A hA, row_g A G hA hG, row_D A G hA hG, kap_eq]
  simp only [← EReal.coe_mul, sum_coe]
  rw [← EReal.coe_sub, ← EReal.coe_mul, ← EReal.coe_mul]
  rfl

theorem cell0 (t : Fin 4096) (h : Fin 8) (e : Fin 128) :
    (perQ (fDs A G) (ck A) (ix3 t h e) : EReal) = val7 A G (gL A) (gD A G) h.val h.isLt e t.val := by
  rw [perQ_at]
  unfold val7 Sq KQ
  simp only [fDs_real A G hA hG, ck_real A hA, GG_real A G hA hG, row_k A hA, ← EReal.coe_mul, coe_if, sum_coe]
  rw [← EReal.coe_add, ← EReal.coe_add]
  exact congrArg _ (three _ _ (rN t) kap)
theorem cell1 (t' : Fin 4096) (h : Fin 8) (e : Fin 128) :
    (perK (fDs A G) (cq A) (ix3 t' h e) : EReal) = val8 A G (gL A) (gD A G) h.val h.isLt e t'.val := by
  rw [perK_at]
  unfold val8 Sc KK
  simp only [fDs_real A G hA hG, cq_real A hA, GG_real A G hA hG, row_q A hA, ← EReal.coe_mul, coe_if, sum_coe]
  rw [← EReal.coe_add, ← EReal.coe_add]
  exact congrArg _ (three _ _ (fun b t => rN t b t') kap)
theorem cell2 (t' : Fin 4096) (h : Fin 8) (e : Fin 128) :
    (perV (fX A G) (fP A) (ix3 t' h e) : EReal) = val9 A G (gL A) h.val h.isLt e t'.val := by
  rw [perV_at]
  unfold val9 Sc KV
  simp only [fX_real A G hA hG, fP_real A hA, PP_real A hA, row_g A G hA hG, ← EReal.coe_mul, coe_if, sum_coe]
  rw [← EReal.coe_add, ← EReal.coe_add, Fin.sum_univ_three]
  have e1 : ∀ b, ∑ t, rW A h t b * rg G h t e * rP A h t b t' = ∑ t, if rN t b t' then Real.exp (rS A h t t' - Real.log (rZ A h t)) * rg G h t e else 0 := fun b => by
    refine Finset.sum_congr rfl fun t _ => ?_
    have e2 : rW A h t b * rP A h t b t' = if rN t b t' then Real.exp (rS A h t t' - Real.log (rZ A h t)) else 0 := share (rS A h t) (rN t) (rZb_pos A h t) b t'
    rw [mul_right_comm, e2]
    split
    · rfl
    · exact zero_mul _
  rw [e1, e1, e1, add_comm, add_comm (∑ t, if rN t 0 t' then _ else _), ← add_assoc]
  rfl

theorem out0 : flat (perQ (fDs A G) (ck A)) = fun y : S4096x1024.Idx => val7 A G (gL A) (gD A G)
      ((y 1).val / 128) (by have : (y 1).val < 1024 := (y 1).isLt; omega) ⟨(y 1).val % 128, Nat.mod_lt _ (by omega)⟩ (y 0).val := by
  funext y
  exact (flat_at _ y).trans (cell0 A G hA hG (y 0) _ _)
theorem out1 : flat (perK (fDs A G) (cq A)) = fun y : S4096x1024.Idx => val8 A G (gL A) (gD A G)
      ((y 1).val / 128) (by have : (y 1).val < 1024 := (y 1).isLt; omega) ⟨(y 1).val % 128, Nat.mod_lt _ (by omega)⟩ (y 0).val := by
  funext y
  exact (flat_at _ y).trans (cell1 A G hA hG (y 0) _ _)
theorem out2 : flat (perV (fX A G) (fP A)) = fun y : S4096x1024.Idx => val9 A G (gL A)
      ((y 1).val / 128) (by have : (y 1).val < 1024 := (y 1).isLt; omega) ⟨(y 1).val % 128, Nat.mod_lt _ (by omega)⟩ (y 0).val := by
  funext y
  exact (flat_at _ y).trans (cell2 A G hA hG (y 0) _ _)
end

section
variable (m : (ℓ : Loc nD τ sig) → Buf (Elt Ideal) ℓ) (ρ : Dev nD → PrngReg) (c : Dev nD)
/-- The reference's two arguments, and its three results. -/
def mA : FVec Ideal S4096x4096 .f32 := m ((c.tc : Thread nD τ).loc main_arg0)
def mG : FVec Ideal S4096x1024 .f32 := m ((c.tc : Thread nD τ).loc main_arg1)
def resQ : FVec Ideal S4096x1024 .bf16 := flat (perQ (fDs (mA m c) (mG m c)) (ck (mA m c)))
def resK : FVec Ideal S4096x1024 .bf16 := flat (perK (fDs (mA m c) (mG m c)) (cq (mA m c)))
def resV : FVec Ideal S4096x1024 .bf16 := flat (perV (fX (mA m c) (mG m c)) (fP (mA m c)))
theorem run_res : θ_run defs (onTc (τ := τ) (main (F := Ideal))) ⟨m, fun _ => 0, ρ⟩ fun r => ∀ c : Dev nD,
      r.2.mem ((c.tc : Thread nD τ).loc main_v146) = resQ m c
      ∧ r.2.mem ((c.tc : Thread nD τ).loc main_v148) = resK m c
      ∧ r.2.mem ((c.tc : Thread nD τ).loc main_v150) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (Cert.ReferenceIdeal.Value.run m ρ)
  obtain ⟨h0, h1, h2, h3, h4⟩ := h c
  rw [v140_eq] at h0 h1
  rw [v121_eq, v64_eq] at h2
  exact ⟨h0, h1, h2, h3, h4⟩
end

end Cert.ReferenceIdeal.Hand

end
-- ==== Proof.Finite.lean ====
module

public import proofs.«01_k».proof.Pre_finite
public import Idealize.ShloMosaic.Lib.Pipeline.ValueKit
public import Idealize.ShloMosaic.Lib.ReduceAll

/-! The precondition: every element of both arguments is a real number. -/

@[expose] public section

set_option maxRecDepth 16384

noncomputable section

namespace Cert.Pre_finite.Hand

open Cert.Pre_finite Idealize.ShloMosaic

theorem facts : Cert.Pre_finite.Facts where
  bcast_S_S4096x4096 := by decide
  reducesTo_S4096x4096_S_d0_1 := by decide
  h_S_ := by decide
  bcast_S_S4096x1024 := by decide
  reducesTo_S4096x1024_S_d0_1 := by decide

/-- A number whose absolute value compares below infinity is real. -/
theorem real_of_lt (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have e : (FloatOps.ofBits (F := Ideal) .f32 0x7F800000#32 : EReal) = ⊤ := by
    show Ideal.ofBits .f32 0x7F800000#32 = ⊤
    simp [Ideal.ofBits, Ideal.ieee]
  rw [e] at h
  induction x with
  | coe r => simp
  | bot =>
    exfalso
    revert h
    simp [FloatOps.cmpf, FloatOps.absf, Ideal.cmp]
  | top =>
    exfalso
    revert h
    simp [FloatOps.cmpf, FloatOps.absf, Ideal.cmp]

theorem reals [Cert.Pre_finite.Facts] (A : FVec Ideal S4096x4096 .f32) (G : FVec Ideal S4096x1024 .f32) (h : fn (F := Ideal) A G = fun _ => 1#1) :
    (∀ y, (A y : EReal) = ((A y : EReal).toReal : EReal)) ∧ ∀ y, (G y : EReal) = ((G y : EReal).toReal : EReal) := by
  have h0 := congrFun h ix0
  dsimp only [fn] at h0
  obtain ⟨hA, hG⟩ := IntOp.andi_eq_one.mp h0
  exact ⟨fun y => real_of_lt _ (Host.reduce_andi_all _ _ _ _ _ hA y), fun y => real_of_lt _ (Host.reduce_andi_all _ _ _ _ _ hG y)⟩

end Cert.Pre_finite.Hand

end
-- ==== Proof.lean ====
module

public import proofs.«01_k».proof.Proof.Gen.ReferenceIdeal.Run
public import proofs.«01_k».proof.Defs
public import proofs.«01_k».proof.Proof.Gen.Kernel
public import proofs.«01_k».proof.Proof.Gen.KernelIdeal
public import proofs.«01_k».proof.Proof.Gen.Kernel2
public import proofs.«01_k».proof.Proof.Gen.Kernel2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal.Run
public import proofs.«01_k».proof.Proof.Gen.Kernel7
public import proofs.«01_k».proof.Proof.Gen.Kernel7Ideal
public import proofs.«01_k».proof.Proof.Gen.Reference7Ideal.Run
public import proofs.«01_k».proof.Proof.Gen.Kernel8
public import proofs.«01_k».proof.Proof.Gen.Kernel8Ideal
public import proofs.«01_k».proof.Proof.Gen.Reference8Ideal.Run
public import proofs.«01_k».proof.Proof.Gen.Kernel9
public import proofs.«01_k».proof.Proof.Gen.Kernel9Ideal
public import proofs.«01_k».proof.Proof.Gen.Reference9Ideal.Run
public import proofs.«01_k».proof.Proof.Gen.Kernel10
public import proofs.«01_k».proof.Proof.Gen.Kernel10Ideal
public import proofs.«01_k».proof.Proof.Gen.Reference10Ideal.Run
public import proofs.«01_k».proof.Proof.Gen.Kernel11
public import proofs.«01_k».proof.Proof.Gen.Kernel11Ideal
public import proofs.«01_k».proof.Proof.Gen.Reference11Ideal.Run
public import proofs.«01_k».proof.Proof.Gen.Kernel12
public import proofs.«01_k».proof.Proof.Gen.Kernel12Ideal
public import proofs.«01_k».proof.Proof.Gen.Reference12Ideal.Run
public import proofs.«01_k».proof.Proof.Gen.Kernel13
public import proofs.«01_k».proof.Proof.Gen.Kernel13Ideal
public import proofs.«01_k».proof.Proof.Gen.Reference13Ideal.Run
public import proofs.«01_k».proof.Proof.Gen.Kernel14
public import proofs.«01_k».proof.Proof.Gen.Kernel14Ideal
public import proofs.«01_k».proof.Proof.Gen.Reference14Ideal.Run
public import proofs.«01_k».proof.Proof.Gen.Kernel15
public import proofs.«01_k».proof.Proof.Gen.Kernel15Ideal
public import proofs.«01_k».proof.Proof.Gen.Reference15Ideal.Run
public import proofs.«01_k».proof.Proof.Whole
public import proofs.«01_k».proof.Proof.Mlp2
public import proofs.«01_k».proof.Proof.Mlp3
public import proofs.«01_k».proof.Proof.Mlp4
public import proofs.«01_k».proof.Proof.Mlp5
public import proofs.«01_k».proof.Proof.Mlp6
public import proofs.«01_k».proof.Proof.Mlp7
public import proofs.«01_k».proof.Proof.Mlp8
public import proofs.«01_k».proof.Proof.Mlp9
public import proofs.«01_k».proof.Proof.Mlp10
public import proofs.«01_k».proof.Proof.Mlp11
public import proofs.«01_k».proof.Proof.Mlp12
public import proofs.«01_k».proof.Proof.Mlp13
public import proofs.«01_k».proof.Proof.Mlp14
public import proofs.«01_k».proof.Proof.Mlp15
public import proofs.«01_k».proof.Proof.Ref
public import proofs.«01_k».proof.Proof.Finite

/-! The certificate: the frames, that idealisation changes nothing, and that the kernel computes the gradient that the
reference takes of the forward pass. -/

@[expose] public section

noncomputable section

namespace Cert.Proof

open Idealize.ShloMosaic Idealize.SL.Sem Idealize.ShloMosaic.Tactic

/-- The frame of the kernel at the machine's words: the run proved over any values, read at those; the two programs are the
    same text, so the two statements are the same by computation. -/
theorem frame_kernel : Cert.quiescent_Kernel :=
  fun m ρ _ => Eq.mp (by sl_kernel_rfl) (Cert.KernelIdeal.Hand.frame_main (F := Bits) m ρ)

/-- The reference names no semaphore, so its counters are at zero. -/
theorem frame_reference : Cert.quiescent_ReferenceIdeal := fun m g _ =>
  (θ_run _ _ _).mono (fun r h => ⟨fun c => (h c).2.2.2, sem_eq_zero_of_no_sems rfl r.2⟩) (Cert.ReferenceIdeal.Value.run (F := Ideal) m g)

section
open Cert.ReferenceIdeal.Hand
variable (m : (ℓ : Loc Cert.KernelIdeal.nD Cert.KernelIdeal.τ Cert.KernelIdeal.sig) → Buf (Elt Ideal) ℓ) (c : Dev Cert.KernelIdeal.nD)
/-- The kernel's two arguments. -/
def kA : FVec Ideal Cert.ReferenceIdeal.S4096x4096 .f32 := m ((c.tc : Thread Cert.KernelIdeal.nD Cert.KernelIdeal.τ).loc Cert.KernelIdeal.main_arg0)
def kG : FVec Ideal Cert.ReferenceIdeal.S4096x1024 .f32 := m ((c.tc : Thread Cert.KernelIdeal.nD Cert.KernelIdeal.τ).loc Cert.KernelIdeal.main_arg1)
/-- The four arrays that its launch reads. -/
theorem in0 : (Cert.KernelIdeal.Gen.V m c (Pipeline.arrRef Cert.KernelIdeal.spec0 0) : FVec Ideal Cert.ReferenceIdeal.S4096x4096 .f32) = kA m c :=
  Cert.KernelIdeal.Gen.V_main_arg0 m c
theorem in3 : (Cert.KernelIdeal.Gen.V m c (Pipeline.arrRef Cert.KernelIdeal.spec0 3) : FVec Ideal Cert.ReferenceIdeal.S4096x1024 .f32) = kG m c :=
  Cert.KernelIdeal.Gen.V_main_arg1 m c
theorem in4 : (Cert.KernelIdeal.Gen.V m c (Pipeline.arrRef Cert.KernelIdeal.spec0 4) : FVec Ideal Cert.ReferenceIdeal.S4096x1024 .f32) = gL (kA m c) :=
  Cert.KernelIdeal.Hand.all97 _
theorem in5 : (Cert.KernelIdeal.Gen.V m c (Pipeline.arrRef Cert.KernelIdeal.spec0 5) : FVec Ideal Cert.ReferenceIdeal.S4096x1024 .f32) = gD (kA m c) (kG m c) :=
  Cert.KernelIdeal.Hand.all100 _
end

section
open Cert.KernelIdeal Cert.KernelIdeal.Gen Cert.KernelIdeal.Hand Idealize.ShloMosaic.TcCoe
/-- The kernel's run: its results are what the launch leaves in its three output arrays. -/
theorem run_vals (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v101_0) = (dats m 0 c).arrAt 6 cfg0.N
      ∧ r.2.mem ((c.tc : Thread nD τ).loc main_v101_1) = (dats m 0 c).arrAt 7 cfg0.N
      ∧ r.2.mem ((c.tc : Thread nD τ).loc main_v101_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 6, (h c).1 7, (h c).1 8,
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c)))⟩) (run_main m g)
end

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hpre : @Cert.Pre_finite.fn Cert.Pre_finite.Hand.facts Ideal _ (kA m c) (kG m c) = fun _ => 1#1)
  (h0 : Cert.ReferenceIdeal.Hand.mA m' c = kA m c) (h1 : Cert.ReferenceIdeal.Hand.mG m' c = kG m c)
include hpre h0 h1
open Cert.ReferenceIdeal.Hand
theorem eqQ : resQ m' c = (Cert.KernelIdeal.Hand.dats m 0 c).arrAt 6 Cert.KernelIdeal.cfg0.N := by
  have hr := @Cert.Pre_finite.Hand.reals Cert.Pre_finite.Hand.facts (kA m c) (kG m c) hpre
  rw [Cert.KernelIdeal.Hand.arr7 m c, in0, in3, in4, in5]
  unfold resQ
  rw [h0, h1]
  exact out0 _ _ hr.1 hr.2
theorem eqK : resK m' c = (Cert.KernelIdeal.Hand.dats m 0 c).arrAt 7 Cert.KernelIdeal.cfg0.N := by
  have hr := @Cert.Pre_finite.Hand.reals Cert.Pre_finite.Hand.facts (kA m c) (kG m c) hpre
  rw [Cert.KernelIdeal.Hand.arr8 m c, in0, in3, in4, in5]
  unfold resK
  rw [h0, h1]
  exact out1 _ _ hr.1 hr.2
theorem eqV : resV m' c = (Cert.KernelIdeal.Hand.dats m 0 c).arrAt 8 Cert.KernelIdeal.cfg0.N := by
  have hr := @Cert.Pre_finite.Hand.reals Cert.Pre_finite.Hand.facts (kA m c) (kG m c) hpre
  rw [Cert.KernelIdeal.Hand.arr9 m c, in0, in3, in4]
  unfold resV
  rw [h0, h1]
  exact out2 _ _ hr.1 hr.2
end

/-- Over the extended reals, and from finite arguments, the kernel and the reference leave the same three arrays. -/
theorem algebraic : Cert.algebraic_KernelIdeal_ReferenceIdeal_pre_finite (hPre_finite := Cert.Pre_finite.Hand.facts) := by
  intro m g m' g' hpre hagree
  refine ⟨fun c => (Cert.KernelIdeal.Hand.dats m 0 c).arrAt 6 Cert.KernelIdeal.cfg0.N, fun c => (Cert.KernelIdeal.Hand.dats m 0 c).arrAt 7 Cert.KernelIdeal.cfg0.N,
    fun c => (Cert.KernelIdeal.Hand.dats m 0 c).arrAt 8 Cert.KernelIdeal.cfg0.N, run_vals m g, (θ_run _ _ _).mono (fun r h c => ?_) (Cert.ReferenceIdeal.Hand.run_res m' g')⟩
  obtain ⟨a, b, d, e, f⟩ := h c
  exact ⟨a.trans (eqQ m m' c (hpre c) (hagree c).1 (hagree c).2), b.trans (eqK m m' c (hpre c) (hagree c).1 (hagree c).2),
    d.trans (eqV m m' c (hpre c) (hagree c).1 (hagree c).2), e, f⟩

/-! The products. Each program's frame is its run's, at the machine's words and over the extended reals; each reference names no
semaphore; and each launch leaves the reference's arrays, from any arguments. -/

theorem frame_kernel2 : Cert.quiescent_Kernel2 :=
  fun m ρ _ => Eq.mp (by sl_kernel_rfl) (Cert.Kernel2Ideal.Gen.frame (F := Bits) m ρ)
theorem frame_reference2 : Cert.quiescent_Reference2Ideal := fun m g _ =>
  (θ_run _ _ _).mono (fun r h => ⟨fun c => (h c).2, sem_eq_zero_of_no_sems rfl r.2⟩) (Cert.Reference2Ideal.Value.run (F := Ideal) m g)
theorem algebraic2 : Cert.algebraic_Kernel2Ideal_Reference2Ideal := by
  intro m g m' g' _ hagree
  refine ⟨fun c => (Cert.Kernel2Ideal.Gen.dats m 0 c).arrAt 3 Cert.Kernel2Ideal.cfg0.N, Cert.Kernel2Ideal.Value.run_blocks m g,
    (θ_run _ _ _).mono (fun r h c => ⟨(h c).1.trans ?_, (h c).2⟩) (Cert.Reference2Ideal.Value.run m' g')⟩
  rw [(hagree c).1, (hagree c).2.1, (hagree c).2.2.1, (hagree c).2.2.2]
  exact (Cert.Kernel2Ideal.Hand.value m c).symm

theorem frame_kernel3 : Cert.quiescent_Kernel3 :=
  fun m ρ _ => Eq.mp (by sl_kernel_rfl) (Cert.Kernel3Ideal.Gen.frame (F := Bits) m ρ)
theorem frame_reference3 : Cert.quiescent_Reference3Ideal := fun m g _ =>
  (θ_run _ _ _).mono (fun r h => ⟨fun c => (h c).2, sem_eq_zero_of_no_sems rfl r.2⟩) (Cert.Reference3Ideal.Value.run (F := Ideal) m g)
theorem algebraic3 : Cert.algebraic_Kernel3Ideal_Reference3Ideal := by
  intro m g m' g' _ hagree
  refine ⟨fun c => Cert.Kernel3Ideal.Value.G2 m c, Cert.Kernel3Ideal.Value.run m g,
    (θ_run _ _ _).mono (fun r h c => ⟨(h c).1.trans ?_, (h c).2⟩) (Cert.Reference3Ideal.Value.run m' g')⟩
  rw [(hagree c).1, (hagree c).2.1, (hagree c).2.2.2]
  exact (Cert.Kernel3Ideal.Hand.value m c).symm

theorem frame_kernel4 : Cert.quiescent_Kernel4 :=
  fun m ρ _ => Eq.mp (by sl_kernel_rfl) (Cert.Kernel4Ideal.Gen.frame (F := Bits) m ρ)
theorem frame_reference4 : Cert.quiescent_Reference4Ideal := fun m g _ =>
  (θ_run _ _ _).mono (fun r h => ⟨fun c => (h c).2, sem_eq_zero_of_no_sems rfl r.2⟩) (Cert.Reference4Ideal.Value.run (F := Ideal) m g)
theorem algebraic4 : Cert.algebraic_Kernel4Ideal_Reference4Ideal := by
  intro m g m' g' _ hagree
  refine ⟨fun c => Cert.Kernel4Ideal.Value.G2 m c, Cert.Kernel4Ideal.Value.run m g,
    (θ_run _ _ _).mono (fun r h c => ⟨(h c).1.trans ?_, (h c).2⟩) (Cert.Reference4Ideal.Value.run m' g')⟩
  rw [(hagree c).1, (hagree c).2.1, (hagree c).2.2.1, (hagree c).2.2.2]
  exact (Cert.Kernel4Ideal.Hand.value m c).symm

theorem frame_kernel5 : Cert.quiescent_Kernel5 :=
  fun m ρ _ => Eq.mp (by sl_kernel_rfl) (Cert.Kernel5Ideal.Gen.frame (F := Bits) m ρ)
theorem frame_reference5 : Cert.quiescent_Reference5Ideal := fun m g _ =>
  (θ_run _ _ _).mono (fun r h => ⟨fun c => (h c).2, sem_eq_zero_of_no_sems rfl r.2⟩) (Cert.Reference5Ideal.Value.run (F := Ideal) m g)
theorem algebraic5 : Cert.algebraic_Kernel5Ideal_Reference5Ideal := by
  intro m g m' g' _ hagree
  refine ⟨fun c => Cert.Kernel5Ideal.Value.G2 m c, Cert.Kernel5Ideal.Value.run m g,
    (θ_run _ _ _).mono (fun r h c => ⟨(h c).1.trans ?_, (h c).2⟩) (Cert.Reference5Ideal.Value.run m' g')⟩
  rw [(hagree c).1, (hagree c).2.1, (hagree c).2.2.1, (hagree c).2.2.2]
  exact (Cert.Kernel5Ideal.Hand.value m c).symm

theorem frame_kernel6 : Cert.quiescent_Kernel6 :=
  fun m ρ _ => Eq.mp (by sl_kernel_rfl) (Cert.Kernel6Ideal.Gen.frame (F := Bits) m ρ)
theorem frame_reference6 : Cert.quiescent_Reference6Ideal := fun m g _ =>
  (θ_run _ _ _).mono (fun r h => ⟨fun c => (h c).2.2, sem_eq_zero_of_no_sems rfl r.2⟩) (Cert.Reference6Ideal.Value.run (F := Ideal) m g)
theorem algebraic6 : Cert.algebraic_Kernel6Ideal_Reference6Ideal := by
  intro m g m' g' _ hagree
  refine ⟨fun c => (Cert.Kernel6Ideal.Gen.dats m 0 c).arrAt 2 Cert.Kernel6Ideal.cfg0.N, fun c => (Cert.Kernel6Ideal.Gen.dats m 0 c).arrAt 3 Cert.Kernel6Ideal.cfg0.N, Cert.Kernel6Ideal.Value.run_blocks m g,
    (θ_run _ _ _).mono (fun r h c => ⟨(h c).1.trans ?_, (h c).2.1.trans ?_, (h c).2.2⟩) (Cert.Reference6Ideal.Value.run m' g')⟩
  · rw [(hagree c).1, (hagree c).2]
    exact (Cert.Kernel6Ideal.Hand.value_up m c).symm
  · rw [(hagree c).1, (hagree c).2]
    exact (Cert.Kernel6Ideal.Hand.value_act m c).symm

theorem frame_kernel7 : Cert.quiescent_Kernel7 :=
  fun m ρ _ => Eq.mp (by sl_kernel_rfl) (Cert.Kernel7Ideal.Gen.frame (F := Bits) m ρ)
theorem frame_reference7 : Cert.quiescent_Reference7Ideal := fun m g _ =>
  (θ_run _ _ _).mono (fun r h => ⟨fun c => (h c).2, sem_eq_zero_of_no_sems rfl r.2⟩) (Cert.Reference7Ideal.Value.run (F := Ideal) m g)
theorem algebraic7 : Cert.algebraic_Kernel7Ideal_Reference7Ideal := by
  intro m g m' g' _ hagree
  refine ⟨fun c => Cert.Kernel7Ideal.Value.G2 m c, Cert.Kernel7Ideal.Value.run m g,
    (θ_run _ _ _).mono (fun r h c => ⟨(h c).1.trans ?_, (h c).2⟩) (Cert.Reference7Ideal.Value.run m' g')⟩
  rw [(hagree c).1, (hagree c).2.1, (hagree c).2.2]
  exact (Cert.Kernel7Ideal.Hand.value m c).symm

theorem frame_kernel8 : Cert.quiescent_Kernel8 :=
  fun m ρ _ => Eq.mp (by sl_kernel_rfl) (Cert.Kernel8Ideal.Gen.frame (F := Bits) m ρ)
theorem frame_reference8 : Cert.quiescent_Reference8Ideal := fun m g _ =>
  (θ_run _ _ _).mono (fun r h => ⟨fun c => (h c).2, sem_eq_zero_of_no_sems rfl r.2⟩) (Cert.Reference8Ideal.Value.run (F := Ideal) m g)
theorem algebraic8 : Cert.algebraic_Kernel8Ideal_Reference8Ideal := by
  intro m g m' g' _ hagree
  refine ⟨fun c => (Cert.Kernel8Ideal.Gen.dats m 0 c).arrAt 2 Cert.Kernel8Ideal.cfg0.N, Cert.Kernel8Ideal.Value.run_blocks m g,
    (θ_run _ _ _).mono (fun r h c => ⟨(h c).1.trans ?_, (h c).2⟩) (Cert.Reference8Ideal.Value.run m' g')⟩
  rw [(hagree c).1, (hagree c).2]
  exact (Cert.Kernel8Ideal.Hand.value m c).symm

theorem frame_kernel9 : Cert.quiescent_Kernel9 :=
  fun m ρ _ => Eq.mp (by sl_kernel_rfl) (Cert.Kernel9Ideal.Gen.frame (F := Bits) m ρ)
theorem frame_reference9 : Cert.quiescent_Reference9Ideal := fun m g _ =>
  (θ_run _ _ _).mono (fun r h => ⟨fun c => (h c).2, sem_eq_zero_of_no_sems rfl r.2⟩) (Cert.Reference9Ideal.Value.run (F := Ideal) m g)
theorem algebraic9 : Cert.algebraic_Kernel9Ideal_Reference9Ideal := by
  intro m g m' g' _ hagree
  refine ⟨fun c => (Cert.Kernel9Ideal.Gen.dats m 0 c).arrAt 3 Cert.Kernel9Ideal.cfg0.N, Cert.Kernel9Ideal.Value.run_blocks m g,
    (θ_run _ _ _).mono (fun r h c => ⟨(h c).1.trans ?_, (h c).2⟩) (Cert.Reference9Ideal.Value.run m' g')⟩
  rw [(hagree c).1, (hagree c).2.1, (hagree c).2.2]
  exact (Cert.Kernel9Ideal.Hand.value m c).symm

theorem frame_kernel10 : Cert.quiescent_Kernel10 :=
  fun m ρ _ => Eq.mp (by sl_kernel_rfl) (Cert.Kernel10Ideal.Gen.frame (F := Bits) m ρ)
theorem frame_reference10 : Cert.quiescent_Reference10Ideal := fun m g _ =>
  (θ_run _ _ _).mono (fun r h => ⟨fun c => (h c).2, sem_eq_zero_of_no_sems rfl r.2⟩) (Cert.Reference10Ideal.Value.run (F := Ideal) m g)
theorem algebraic10 : Cert.algebraic_Kernel10Ideal_Reference10Ideal := by
  intro m g m' g' _ hagree
  refine ⟨fun c => (Cert.Kernel10Ideal.Gen.dats m 0 c).arrAt 2 Cert.Kernel10Ideal.cfg0.N, Cert.Kernel10Ideal.Value.run_blocks m g,
    (θ_run _ _ _).mono (fun r h c => ⟨(h c).1.trans ?_, (h c).2⟩) (Cert.Reference10Ideal.Value.run m' g')⟩
  rw [(hagree c).1, (hagree c).2]
  exact (Cert.Kernel10Ideal.Hand.value m c).symm

theorem frame_kernel11 : Cert.quiescent_Kernel11 :=
  fun m ρ _ => Eq.mp (by sl_kernel_rfl) (Cert.Kernel11Ideal.Gen.frame (F := Bits) m ρ)
theorem frame_reference11 : Cert.quiescent_Reference11Ideal := fun m g _ =>
  (θ_run _ _ _).mono (fun r h => ⟨fun c => (h c).2, sem_eq_zero_of_no_sems rfl r.2⟩) (Cert.Reference11Ideal.Value.run (F := Ideal) m g)
theorem algebraic11 : Cert.algebraic_Kernel11Ideal_Reference11Ideal := by
  intro m g m' g' _ hagree
  refine ⟨fun c => (Cert.Kernel11Ideal.Gen.dats m 0 c).arrAt 2 Cert.Kernel11Ideal.cfg0.N, Cert.Kernel11Ideal.Value.run_blocks m g,
    (θ_run _ _ _).mono (fun r h c => ⟨(h c).1.trans ?_, (h c).2⟩) (Cert.Reference11Ideal.Value.run m' g')⟩
  rw [(hagree c).1, (hagree c).2]
  exact (Cert.Kernel11Ideal.Hand.value m c).symm

theorem frame_kernel12 : Cert.quiescent_Kernel12 :=
  fun m ρ _ => Eq.mp (by sl_kernel_rfl) (Cert.Kernel12Ideal.Gen.frame (F := Bits) m ρ)
theorem frame_reference12 : Cert.quiescent_Reference12Ideal := fun m g _ =>
  (θ_run _ _ _).mono (fun r h => ⟨fun c => (h c).2, sem_eq_zero_of_no_sems rfl r.2⟩) (Cert.Reference12Ideal.Value.run (F := Ideal) m g)
theorem algebraic12 : Cert.algebraic_Kernel12Ideal_Reference12Ideal := by
  intro m g m' g' _ hagree
  refine ⟨fun c => Cert.Kernel12Ideal.Value.G5 m c, Cert.Kernel12Ideal.Value.run m g,
    (θ_run _ _ _).mono (fun r h c => ⟨(h c).1.trans ?_, (h c).2⟩) (Cert.Reference12Ideal.Value.run m' g')⟩
  rw [(hagree c).1, (hagree c).2.1, (hagree c).2.2.1, (hagree c).2.2.2.1, (hagree c).2.2.2.2]
  exact (Cert.Kernel12Ideal.Hand.value m c).symm

theorem frame_kernel13 : Cert.quiescent_Kernel13 :=
  fun m ρ _ => Eq.mp (by sl_kernel_rfl) (Cert.Kernel13Ideal.Gen.frame (F := Bits) m ρ)
theorem frame_reference13 : Cert.quiescent_Reference13Ideal := fun m g _ =>
  (θ_run _ _ _).mono (fun r h => ⟨fun c => (h c).2, sem_eq_zero_of_no_sems rfl r.2⟩) (Cert.Reference13Ideal.Value.run (F := Ideal) m g)
theorem algebraic13 : Cert.algebraic_Kernel13Ideal_Reference13Ideal := by
  intro m g m' g' _ hagree
  refine ⟨fun c => Cert.Kernel13Ideal.Value.G2 m c, Cert.Kernel13Ideal.Value.run m g,
    (θ_run _ _ _).mono (fun r h c => ⟨(h c).1.trans ?_, (h c).2⟩) (Cert.Reference13Ideal.Value.run m' g')⟩
  rw [(hagree c).1, (hagree c).2]
  exact (Cert.Kernel13Ideal.Hand.value m c).symm

theorem frame_kernel14 : Cert.quiescent_Kernel14 :=
  fun m ρ _ => Eq.mp (by sl_kernel_rfl) (Cert.Kernel14Ideal.Gen.frame (F := Bits) m ρ)
theorem frame_reference14 : Cert.quiescent_Reference14Ideal := fun m g _ =>
  (θ_run _ _ _).mono (fun r h => ⟨fun c => (h c).2, sem_eq_zero_of_no_sems rfl r.2⟩) (Cert.Reference14Ideal.Value.run (F := Ideal) m g)
theorem algebraic14 : Cert.algebraic_Kernel14Ideal_Reference14Ideal := by
  intro m g m' g' _ hagree
  refine ⟨fun c => Cert.Kernel14Ideal.Value.G3 m c, Cert.Kernel14Ideal.Value.run m g,
    (θ_run _ _ _).mono (fun r h c => ⟨(h c).1.trans ?_, (h c).2⟩) (Cert.Reference14Ideal.Value.run m' g')⟩
  rw [(hagree c).1, (hagree c).2.1, (hagree c).2.2]
  exact (Cert.Kernel14Ideal.Hand.value m c).symm

theorem frame_kernel15 : Cert.quiescent_Kernel15 :=
  fun m ρ _ => Eq.mp (by sl_kernel_rfl) (Cert.Kernel15Ideal.Gen.frame (F := Bits) m ρ)
theorem frame_reference15 : Cert.quiescent_Reference15Ideal := fun m g _ =>
  (θ_run _ _ _).mono (fun r h => ⟨fun c => (h c).2, sem_eq_zero_of_no_sems rfl r.2⟩) (Cert.Reference15Ideal.Value.run (F := Ideal) m g)
theorem algebraic15 : Cert.algebraic_Kernel15Ideal_Reference15Ideal := by
  intro m g m' g' _ hagree
  refine ⟨fun c => (Cert.Kernel15Ideal.Gen.dats m 0 c).arrAt 5 Cert.Kernel15Ideal.cfg0.N, Cert.Kernel15Ideal.Hand.run m g,
    (θ_run _ _ _).mono (fun r h c => ⟨(h c).1.trans ?_, (h c).2⟩) (Cert.Reference15Ideal.Value.run m' g')⟩
  rw [(hagree c).1, (hagree c).2.1, (hagree c).2.2.1, (hagree c).2.2.2.1, (hagree c).2.2.2.2]
  exact (Cert.Kernel15Ideal.Hand.value m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_finite.Hand.facts,
  frame_kernel, fun m ρ _ => Cert.KernelIdeal.Hand.frame_main m ρ, fun m ρ _ => Cert.KernelIdeal.Hand.frame_main m ρ, frame_reference,
  fun m g _ => frame_reference m g trivial,
  frame_kernel2, fun m ρ _ => Cert.Kernel2Ideal.Gen.frame m ρ, frame_reference2,
  frame_kernel3, fun m ρ _ => Cert.Kernel3Ideal.Gen.frame m ρ, frame_reference3,
  frame_kernel4, fun m ρ _ => Cert.Kernel4Ideal.Gen.frame m ρ, frame_reference4,
  frame_kernel5, fun m ρ _ => Cert.Kernel5Ideal.Gen.frame m ρ, frame_reference5,
  frame_kernel6, fun m ρ _ => Cert.Kernel6Ideal.Gen.frame m ρ, frame_reference6,
  frame_kernel7, fun m ρ _ => Cert.Kernel7Ideal.Gen.frame m ρ, frame_reference7,
  frame_kernel8, fun m ρ _ => Cert.Kernel8Ideal.Gen.frame m ρ, frame_reference8,
  frame_kernel9, fun m ρ _ => Cert.Kernel9Ideal.Gen.frame m ρ, frame_reference9,
  frame_kernel10, fun m ρ _ => Cert.Kernel10Ideal.Gen.frame m ρ, frame_reference10,
  frame_kernel11, fun m ρ _ => Cert.Kernel11Ideal.Gen.frame m ρ, frame_reference11,
  frame_kernel12, fun m ρ _ => Cert.Kernel12Ideal.Gen.frame m ρ, frame_reference12,
  frame_kernel13, fun m ρ _ => Cert.Kernel13Ideal.Gen.frame m ρ, frame_reference13,
  frame_kernel14, fun m ρ _ => Cert.Kernel14Ideal.Gen.frame m ρ, frame_reference14,
  frame_kernel15, fun m ρ _ => Cert.Kernel15Ideal.Gen.frame m ρ, frame_reference15,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15⟩

end Cert.Proof

end
